-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6)
      ∧ r.2.mem ((c.tc : Thread Cert.KernelFfn.nD Cert.KernelFfn.τ).loc Cert.KernelFfn.main_arg7) = m ((c.tc : Thread Cert.KernelFfn.nD Cert.KernelFfn.τ).loc Cert.KernelFfn.main_arg7)
      ∧ r.2.mem ((c.tc : Thread Cert.KernelFfn.nD Cert.KernelFfn.τ).loc Cert.KernelFfn.main_arg8) = m ((c.tc : Thread Cert.KernelFfn.nD Cert.KernelFfn.τ).loc Cert.KernelFfn.main_arg8))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
      ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
      ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6)
      ∧ r.2.mem ((c.tc : Thread Cert.ReferenceFfnIdeal.nD Cert.ReferenceFfnIdeal.τ).loc Cert.ReferenceFfnIdeal.main_arg7) = m ((c.tc : Thread Cert.ReferenceFfnIdeal.nD Cert.ReferenceFfnIdeal.τ).loc Cert.ReferenceFfnIdeal.main_arg7)
      ∧ r.2.mem ((c.tc : Thread Cert.ReferenceFfnIdeal.nD Cert.ReferenceFfnIdeal.τ).loc Cert.ReferenceFfnIdeal.main_arg8) = m ((c.tc : Thread Cert.ReferenceFfnIdeal.nD Cert.ReferenceFfnIdeal.τ).loc Cert.ReferenceFfnIdeal.main_arg8))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)
      ∧ m' ((c.tc : Thread Cert.ReferenceFfnIdeal.nD Cert.ReferenceFfnIdeal.τ).loc Cert.ReferenceFfnIdeal.main_arg7) = m ((c.tc : Thread Cert.KernelFfnIdeal.nD Cert.KernelFfnIdeal.τ).loc Cert.KernelFfnIdeal.main_arg7)
      ∧ m' ((c.tc : Thread Cert.ReferenceFfnIdeal.nD Cert.ReferenceFfnIdeal.τ).loc Cert.ReferenceFfnIdeal.main_arg8) = m ((c.tc : Thread Cert.KernelFfnIdeal.nD Cert.KernelFfnIdeal.τ).loc Cert.KernelFfnIdeal.main_arg8)) →
    ∃ (v0 : (c : Dev Cert.KernelFfnIdeal.nD) → Buf (Elt Ideal) ((c.tc : Thread Cert.KernelFfnIdeal.nD Cert.KernelFfnIdeal.τ).loc Cert.KernelFfnIdeal.main_v15)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v15) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
          ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
          ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v49) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6)
          ∧ r.2.mem ((c.tc : Thread Cert.ReferenceFfnIdeal.nD Cert.ReferenceFfnIdeal.τ).loc Cert.ReferenceFfnIdeal.main_arg7) = m' ((c.tc : Thread Cert.ReferenceFfnIdeal.nD Cert.ReferenceFfnIdeal.τ).loc Cert.ReferenceFfnIdeal.main_arg7)
          ∧ r.2.mem ((c.tc : Thread Cert.ReferenceFfnIdeal.nD Cert.ReferenceFfnIdeal.τ).loc Cert.ReferenceFfnIdeal.main_arg8) = m' ((c.tc : Thread Cert.ReferenceFfnIdeal.nD Cert.ReferenceFfnIdeal.τ).loc Cert.ReferenceFfnIdeal.main_arg8))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)) →
    ∃ (v0 : (c : Dev Cert.KernelInIdeal.nD) → Buf (Elt Ideal) ((c.tc : Thread Cert.KernelInIdeal.nD Cert.KernelInIdeal.τ).loc Cert.KernelInIdeal.main_v48_0)) (v1 : (c : Dev Cert.KernelInIdeal.nD) → Buf (Elt Ideal) ((c.tc : Thread Cert.KernelInIdeal.nD Cert.KernelInIdeal.τ).loc Cert.KernelInIdeal.main_v48_1)) (v2 : (c : Dev Cert.KernelInIdeal.nD) → Buf (Elt Ideal) ((c.tc : Thread Cert.KernelInIdeal.nD Cert.KernelInIdeal.τ).loc Cert.KernelInIdeal.main_v48_2)) (v3 : (c : Dev Cert.KernelInIdeal.nD) → Buf (Elt Ideal) ((c.tc : Thread Cert.KernelInIdeal.nD Cert.KernelInIdeal.τ).loc Cert.KernelInIdeal.main_v48_3)) (v4 : (c : Dev Cert.KernelInIdeal.nD) → Buf (Elt Ideal) ((c.tc : Thread Cert.KernelInIdeal.nD Cert.KernelInIdeal.τ).loc Cert.KernelInIdeal.main_v48_4)) (v5 : (c : Dev Cert.KernelInIdeal.nD) → Buf (Elt Ideal) ((c.tc : Thread Cert.KernelInIdeal.nD Cert.KernelInIdeal.τ).loc Cert.KernelInIdeal.main_v48_5)) (v6 : (c : Dev Cert.KernelInIdeal.nD) → Buf (Elt Ideal) ((c.tc : Thread Cert.KernelInIdeal.nD Cert.KernelInIdeal.τ).loc Cert.KernelInIdeal.main_v48_6)) (v7 : (c : Dev Cert.KernelInIdeal.nD) → Buf (Elt Ideal) ((c.tc : Thread Cert.KernelInIdeal.nD Cert.KernelInIdeal.τ).loc Cert.KernelInIdeal.main_v48_7)) (v8 : (c : Dev Cert.KernelInIdeal.nD) → Buf (Elt Ideal) ((c.tc : Thread Cert.KernelInIdeal.nD Cert.KernelInIdeal.τ).loc Cert.KernelInIdeal.main_v48_8)) (v9 : (c : Dev Cert.KernelInIdeal.nD) → Buf (Elt Ideal) ((c.tc : Thread Cert.KernelInIdeal.nD Cert.KernelInIdeal.τ).loc Cert.KernelInIdeal.main_v48_9)) (v10 : (c : Dev Cert.KernelInIdeal.nD) → Buf (Elt Ideal) ((c.tc : Thread Cert.KernelInIdeal.nD Cert.KernelInIdeal.τ).loc Cert.KernelInIdeal.main_v48_10)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v48_0) = v0 c
          ∧ r.2.mem ((c.tc : Thread Cert.KernelInIdeal.nD Cert.KernelInIdeal.τ).loc Cert.KernelInIdeal.main_v48_1) = v1 c
          ∧ r.2.mem ((c.tc : Thread Cert.KernelInIdeal.nD Cert.KernelInIdeal.τ).loc Cert.KernelInIdeal.main_v48_2) = v2 c
          ∧ r.2.mem ((c.tc : Thread Cert.KernelInIdeal.nD Cert.KernelInIdeal.τ).loc Cert.KernelInIdeal.main_v48_3) = v3 c
          ∧ r.2.mem ((c.tc : Thread Cert.KernelInIdeal.nD Cert.KernelInIdeal.τ).loc Cert.KernelInIdeal.main_v48_4) = v4 c
          ∧ r.2.mem ((c.tc : Thread Cert.KernelInIdeal.nD Cert.KernelInIdeal.τ).loc Cert.KernelInIdeal.main_v48_5) = v5 c
          ∧ r.2.mem ((c.tc : Thread Cert.KernelInIdeal.nD Cert.KernelInIdeal.τ).loc Cert.KernelInIdeal.main_v48_6) = v6 c
          ∧ r.2.mem ((c.tc : Thread Cert.KernelInIdeal.nD Cert.KernelInIdeal.τ).loc Cert.KernelInIdeal.main_v48_7) = v7 c
          ∧ r.2.mem ((c.tc : Thread Cert.KernelInIdeal.nD Cert.KernelInIdeal.τ).loc Cert.KernelInIdeal.main_v48_8) = v8 c
          ∧ r.2.mem ((c.tc : Thread Cert.KernelInIdeal.nD Cert.KernelInIdeal.τ).loc Cert.KernelInIdeal.main_v48_9) = v9 c
          ∧ r.2.mem ((c.tc : Thread Cert.KernelInIdeal.nD Cert.KernelInIdeal.τ).loc Cert.KernelInIdeal.main_v48_10) = v10 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v22) = v0 c
          ∧ r.2.mem ((c.tc : Thread Cert.ReferenceInIdeal.nD Cert.ReferenceInIdeal.τ).loc Cert.ReferenceInIdeal.main_v65) = v1 c
          ∧ r.2.mem ((c.tc : Thread Cert.ReferenceInIdeal.nD Cert.ReferenceInIdeal.τ).loc Cert.ReferenceInIdeal.main_v70) = v2 c
          ∧ r.2.mem ((c.tc : Thread Cert.ReferenceInIdeal.nD Cert.ReferenceInIdeal.τ).loc Cert.ReferenceInIdeal.main_v71) = v3 c
          ∧ r.2.mem ((c.tc : Thread Cert.ReferenceInIdeal.nD Cert.ReferenceInIdeal.τ).loc Cert.ReferenceInIdeal.main_v72) = v4 c
          ∧ r.2.mem ((c.tc : Thread Cert.ReferenceInIdeal.nD Cert.ReferenceInIdeal.τ).loc Cert.ReferenceInIdeal.main_v74) = v5 c
          ∧ r.2.mem ((c.tc : Thread Cert.ReferenceInIdeal.nD Cert.ReferenceInIdeal.τ).loc Cert.ReferenceInIdeal.main_v75) = v6 c
          ∧ r.2.mem ((c.tc : Thread Cert.ReferenceInIdeal.nD Cert.ReferenceInIdeal.τ).loc Cert.ReferenceInIdeal.main_v76) = v7 c
          ∧ r.2.mem ((c.tc : Thread Cert.ReferenceInIdeal.nD Cert.ReferenceInIdeal.τ).loc Cert.ReferenceInIdeal.main_v77) = v8 c
          ∧ r.2.mem ((c.tc : Thread Cert.ReferenceInIdeal.nD Cert.ReferenceInIdeal.τ).loc Cert.ReferenceInIdeal.main_v23) = v9 c
          ∧ r.2.mem ((c.tc : Thread Cert.ReferenceInIdeal.nD Cert.ReferenceInIdeal.τ).loc Cert.ReferenceInIdeal.main_v26) = v10 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelIn : Cert.KernelIn.Facts) (hKernelInIdeal : Cert.KernelInIdeal.Facts) (hReferenceInIdeal : Cert.ReferenceInIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelIn_KernelInIdeal
    ∧ algebraic_KernelInIdeal_ReferenceInIdeal (hKernelInIdeal := hKernelInIdeal) (hReferenceInIdeal := hReferenceInIdeal)
-- ==== Pre_finite_qk.lean ====
abbrev S8x4096x384 : Shape := ⟨3, ![8, 4096, 384]⟩
abbrev S6x64 : Shape := ⟨2, ![6, 64]⟩
abbrev S_ : Shape := ⟨0, ![]⟩

class Facts : Prop where
  bcast_S_S8x4096x384 : S_.BroadcastsInDim S8x4096x384 (![] : Fin 0 → Fin S8x4096x384.rank)

variable [Facts]

def fn {F : FTy → Type} [FloatOps F] (main_arg0 : FVec F S8x4096x384 .bf16) (main_arg1 : FVec F S8x4096x384 .bf16) (main_arg2 : FVec F S8x4096x384 .bf16) (main_arg3 : FVec F S6x64 .f32) : IVec S8x4096x384 1 :=
  let main_v0 : FVec F S8x4096x384 .bf16 := Host.absf main_arg0
  let main_cst : FVec F S_ .bf16 := constant S_ .bf16 0x7F80#16
  let main_v1 : FVec F S8x4096x384 .bf16 := broadcastInDim S8x4096x384 ![] bcast_S_S8x4096x384 main_cst
  let main_v2 : IVec S8x4096x384 1 := cmpf .olt main_v0 main_v1
  let main_v3 : FVec F S8x4096x384 .bf16 := Host.absf main_arg1
  let main_cst_0 : FVec F S_ .bf16 := constant S_ .bf16 0x7F80#16
  let main_v4 : FVec F S8x4096x384 .bf16 := broadcastInDim S8x4096x384 ![] bcast_S_S8x4096x384 main_cst_0
  let main_v5 : IVec S8x4096x384 1 := cmpf .olt main_v3 main_v4
  let main_v6 : IVec S8x4096x384 1 := andi main_v2 main_v5
  main_v6
-- ==== Kernel.lean ====
abbrev S8x4096x384 : Shape := ⟨3, ![8, 4096, 384]⟩
abbrev S6x64 : Shape := ⟨2, ![6, 64]⟩
abbrev S3x1x128 : Shape := ⟨3, ![3, 1, 128]⟩
abbrev S1x256x128 : Shape := ⟨3, ![1, 256, 128]⟩
abbrev S1x4096x128 : Shape := ⟨3, ![1, 4096, 128]⟩
abbrev S1x1x128 : Shape := ⟨3, ![1, 1, 128]⟩
abbrev S2x256x128 : Shape := ⟨3, ![2, 256, 128]⟩
abbrev S2x256x1 : Shape := ⟨3, ![2, 256, 1]⟩
abbrev S256x128 : Shape := ⟨2, ![256, 128]⟩
abbrev S256x256 : Shape := ⟨2, ![256, 256]⟩
abbrev S1x256x1 : Shape := ⟨3, ![1, 256, 1]⟩
abbrev S256x1 : Shape := ⟨2, ![256, 1]⟩
abbrev S256 : Shape := ⟨1, ![256]⟩
abbrev S1x128 : Shape := ⟨2, ![1, 128]⟩

abbrev nBuf : Space → Nat
  | .hbm => 6
  | .vmem => 12
  | .smem => 0
  | _ => 0

abbrev bufTy : (tb : Table) → Fin (tcTables nBuf tb) → BufTy
  | .hbm, ⟨0, _⟩ => ⟨S8x4096x384, .bf16⟩
  | .hbm, ⟨1, _⟩ => ⟨S8x4096x384, .bf16⟩
  | .hbm, ⟨2, _⟩ => ⟨S8x4096x384, .bf16⟩
  | .hbm, ⟨3, _⟩ => ⟨S6x64, .f32⟩
  | .hbm, ⟨4, _⟩ => ⟨S3x1x128, .f32⟩
  | .hbm, ⟨5, _⟩ => ⟨S8x4096x384, .bf16⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1x128, .f32⟩
  | .local _ .vmem, ⟨7, _⟩ => ⟨S1x1x128, .f32⟩
  | .local _ .vmem, ⟨8, _⟩ => ⟨S1x256x128, .bf16⟩
  | .local _ .vmem, ⟨9, _⟩ => ⟨S1x256x128, .bf16⟩
  | .local _ .vmem, ⟨10, _⟩ => ⟨S2x256x128, .f32⟩
  | .local _ .vmem, ⟨11, _⟩ => ⟨S2x256x1, .f32⟩
  | _, _ => ⟨S8x4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 3, 16], ![false, false, false]⟩

def k0_mult1 (i : grid0.Coords) : BitVec 32 :=
  let arg2 : BitVec 32 := BitVec.ofNat 32 (i 2).val
  let c256_i32 : BitVec 32 := 256#32
  let v26 : BitVec 32 := Scalar.muli arg2 c256_i32
  v26
def k0_off1 (i : grid0.Coords) : Fin 3 → Nat :=
  let c0_12 : Index := 0#32
  let arg2 : BitVec 32 := BitVec.ofNat 32 (i 2).val
  let c256_i32 : BitVec 32 := 256#32
  let v26 : BitVec 32 := Scalar.muli arg2 c256_i32
  let v27 : BitVec 32 := v26
  let v28 : Index := Scalar.indexCast v27
  let c0_13 : Index := 0#32
  ![0, v28.toNat, 0]
@[reducible] def k0_t1_loop (i : grid0.Coords) : Scf.Loop 32 :=
  let c0_i32_57 : BitVec 32 := 0#32
  let arg2 : BitVec 32 := BitVec.ofNat 32 (i 2).val
  let v116 : BitVec 32 := Scalar.subi arg2 c0_i32_57
  let c1_i32 : BitVec 32 := 1#32
  let v118 : BitVec 32 := Scalar.divsi v116 c1_i32
  let v119 : BitVec 32 := Scalar.muli v118 c1_i32
  let v120 : BitVec 32 := Scalar.addi c0_i32_57 v119
  let c1_i32_58 : BitVec 32 := 1#32
  ⟨c0_i32_57, v120, c1_i32_58⟩
def k0_mult2 (i : grid0.Coords) (k0_t1 : Fin (k0_t1_loop i).trips) : BitVec 32 :=
  let arg2 : BitVec 32 := BitVec.ofNat 32 (i 2).val
  let c1_i32_78 : BitVec 32 := 1#32
  let v154 : BitVec 32 := Scalar.subi arg2 c1_i32_78
  let c0_i32_57 : BitVec 32 := 0#32
  let c1_i32_58 : BitVec 32 := 1#32
  let arg10 : BitVec 32 := Scf.iv c0_i32_57 c1_i32_58 k0_t1
  let v155 : BitVec 32 := Scalar.subi v154 arg10
  let c256_i32_79 : BitVec 32 := 256#32
  let v156 : BitVec 32 := Scalar.muli v155 c256_i32_79
  v156
def k0_off2 (i : grid0.Coords) (k0_t1 : Fin (k0_t1_loop i).trips) : Fin 3 → Nat :=
  let c0_80 : Index := 0#32
  let arg2 : BitVec 32 := BitVec.ofNat 32 (i 2).val
  let c1_i32_78 : BitVec 32 := 1#32
  let v154 : BitVec 32 := Scalar.subi arg2 c1_i32_78
  let c0_i32_57 : BitVec 32 := 0#32
  let c1_i32_58 : BitVec 32 := 1#32
  let arg10 : BitVec 32 := Scf.iv c0_i32_57 c1_i32_58 k0_t1
  let v155 : BitVec 32 := Scalar.subi v154 arg10
  let c256_i32_79 : BitVec 32 := 256#32
  let v156 : BitVec 32 := Scalar.muli v155 c256_i32_79
  let v157 : BitVec 32 := v156
  let v158 : Index := Scalar.indexCast v157
  let c0_81 : Index := 0#32
  ![0, v158.toNat, 0]
@[reducible] def k0_t2_loop (i : grid0.Coords) : Scf.Loop 32 :=
  let c0_i32_57 : BitVec 32 := 0#32
  let arg2 : BitVec 32 := BitVec.ofNat 32 (i 2).val
  let v116 : BitVec 32 := Scalar.subi arg2 c0_i32_57
  let c1_i32 : BitVec 32 := 1#32
  let v118 : BitVec 32 := Scalar.divsi v116 c1_i32
  let v119 : BitVec 32 := Scalar.muli v118 c1_i32
  let v120 : BitVec 32 := Scalar.addi c0_i32_57 v119
  let v117 : BitVec 32 := Scalar.addi c0_i32_57 v116
  let c1_i32_59 : BitVec 32 := 1#32
  ⟨v120, v117, c1_i32_59⟩
def k0_mult3 (i : grid0.Coords) (k0_t2 : Fin (k0_t2_loop i).trips) : BitVec 32 :=
  let arg2 : BitVec 32 := BitVec.ofNat 32 (i 2).val
  let c1_i32_78 : BitVec 32 := 1#32
  let v154 : BitVec 32 := Scalar.subi arg2 c1_i32_78
  let c0_i32_57 : BitVec 32 := 0#32
  let v116 : BitVec 32 := Scalar.subi arg2 c0_i32_57
  let c1_i32 : BitVec 32 := 1#32
  let v118 : BitVec 32 := Scalar.divsi v116 c1_i32
  let v119 : BitVec 32 := Scalar.muli v118 c1_i32
  let v120 : BitVec 32 := Scalar.addi c0_i32_57 v119
  let c1_i32_59 : BitVec 32 := 1#32
  let arg10 : BitVec 32 := Scf.iv v120 c1_i32_59 k0_t2
  let v155 : BitVec 32 := Scalar.subi v154 arg10
  let c256_i32_79 : BitVec 32 := 256#32
  let v156 : BitVec 32 := Scalar.muli v155 c256_i32_79
  v156
def k0_off3 (i : grid0.Coords) (k0_t2 : Fin (k0_t2_loop i).trips) : Fin 3 → Nat :=
  let c0_80 : Index := 0#32
  let arg2 : BitVec 32 := BitVec.ofNat 32 (i 2).val
  let c1_i32_78 : BitVec 32 := 1#32
  let v154 : BitVec 32 := Scalar.subi arg2 c1_i32_78
  let c0_i32_57 : BitVec 32 := 0#32
  let v116 : BitVec 32 := Scalar.subi arg2 c0_i32_57
  let c1_i32 : BitVec 32 := 1#32
  let v118 : BitVec 32 := Scalar.divsi v116 c1_i32
  let v119 : BitVec 32 := Scalar.muli v118 c1_i32
  let v120 : BitVec 32 := Scalar.addi c0_i32_57 v119
  let c1_i32_59 : BitVec 32 := 1#32
  let arg10 : BitVec 32 := Scf.iv v120 c1_i32_59 k0_t2
  let v155 : BitVec 32 := Scalar.subi v154 arg10
  let c256_i32_79 : BitVec 32 := 256#32
  let v156 : BitVec 32 := Scalar.muli v155 c256_i32_79
  let v157 : BitVec 32 := v156
  let v158 : Index := Scalar.indexCast v157
  let c0_81 : Index := 0#32
  ![0, v158.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x4096x384 : Shape := ⟨3, ![8, 4096, 384]⟩
abbrev S6x64 : Shape := ⟨2, ![6, 64]⟩
abbrev S8x4096x6x64 : Shape := ⟨4, ![8, 4096, 6, 64]⟩
abbrev S8x6x4096x4096 : Shape := ⟨4, ![8, 6, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x6x64x4096 : Shape := ⟨4, ![8, 6, 64, 4096]⟩
abbrev S8x4096x6 : Shape := ⟨3, ![8, 4096, 6]⟩
abbrev S8x4096x6x1 : Shape := ⟨4, ![8, 4096, 6, 1]⟩
abbrev S1x1x6x64 : Shape := ⟨4, ![1, 1, 6, 64]⟩

abbrev nBuf : Space → Nat
  | .hbm => 87
  | .vmem => 0
  | .smem => 0
  | _ => 0

abbrev bufTy : (tb : Table) → Fin (tcTables nBuf tb) → BufTy
  | .hbm, ⟨0, _⟩ => ⟨S8x4096x384, .bf16⟩
  | .hbm, ⟨1, _⟩ => ⟨S8x4096x384, .bf16⟩
  | .hbm, ⟨2, _⟩ => ⟨S8x4096x384, .bf16⟩
  | .hbm, ⟨3, _⟩ => ⟨S6x64, .f32⟩
  | .hbm, ⟨4, _⟩ => ⟨S8x4096x384, .f32⟩
  | .hbm, ⟨5, _⟩ => ⟨S8x4096x6x64, .f32⟩
  | .hbm, ⟨6, _⟩ => ⟨S8x4096x384, .f32⟩
  | .hbm, ⟨7, _⟩ => ⟨S8x4096x6x64, .f32⟩
  | .hbm, ⟨8, _⟩ => ⟨S8x4096x384, .f32⟩
  | .hbm, ⟨9, _⟩ => ⟨S8x4096x6x64, .f32⟩
  | .hbm, ⟨10, _⟩ => ⟨S8x6x4096x4096, .f32⟩
  | .hbm, ⟨11, _⟩ => ⟨S4096, .i32⟩
  | .hbm, ⟨12, _⟩ => ⟨S4096, .i32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S8x6x4096x4096, .f32⟩
  | .hbm, ⟨19, _⟩ => ⟨S8x6x4096x4096, .f32⟩
  | .hbm, ⟨20, _⟩ => ⟨S_, .f32⟩
  | .hbm, ⟨21, _⟩ => ⟨S8x6x4096x4096, .f32⟩
  | .hbm, ⟨22, _⟩ => ⟨S8x6x4096x4096, .f32⟩
  | .hbm, ⟨23, _⟩ => ⟨S8x6x4096x4096, .f32⟩
  | .hbm, ⟨24, _⟩ => ⟨S8x6x4096x4096, .f32⟩
  | .hbm, ⟨25, _⟩ => ⟨S8x6x4096x4096, .i1⟩
  | .hbm, ⟨26, _⟩ => ⟨S8x6x4096x4096, .f32⟩
  | .hbm, ⟨27, _⟩ => ⟨S8x6x4096x4096, .f32⟩
  | .hbm, ⟨28, _⟩ => ⟨S8x6x4096x4096, .f32⟩
  | .hbm, ⟨29, _⟩ => ⟨S8x6x4096x4096, .f32⟩
  | .hbm, ⟨30, _⟩ => ⟨S8x6x4096x4096, .f32⟩
  | .hbm, ⟨31, _⟩ => ⟨S8x6x4096x4096, .f32⟩
  | .hbm, ⟨32, _⟩ => ⟨S8x6x4096x4096, .f32⟩
  | .hbm, ⟨33, _⟩ => ⟨S8x6x4096x4096, .f32⟩
  | .hbm, ⟨34, _⟩ => ⟨S8x6x4096x4096, .f32⟩
  | .hbm, ⟨35, _⟩ => ⟨S_, .f32⟩
  | .hbm, ⟨36, _⟩ => ⟨S_, .f32⟩
  | .hbm, ⟨37, _⟩ => ⟨S8x6x4096x4096, .i1⟩
  | .hbm, ⟨38, _⟩ => ⟨S8x6x4096x4096, .f32⟩
  | .hbm, ⟨39, _⟩ => ⟨S8x6x4096x4096, .f32⟩
  | .hbm, ⟨40, _⟩ => ⟨S_, .f32⟩
  | .hbm, ⟨41, _⟩ => ⟨S_, .f32⟩
  | .hbm, ⟨42, _⟩ => ⟨S8x6x4096x4096, .f32⟩
  | .hbm, ⟨43, _⟩ => ⟨S8x6x4096x4096, .f32⟩
  | .hbm, ⟨44, _⟩ => ⟨S8x6x4096x4096, .f32⟩
  | .hbm, ⟨45, _⟩ => ⟨S_, .f32⟩
  | .hbm, ⟨46, _⟩ => ⟨S8x6x4096x4096, .f32⟩
  | .hbm, ⟨47, _⟩ => ⟨S8x6x4096x4096, .f32⟩
  | .hbm, ⟨48, _⟩ => ⟨S8x6x4096x4096, .f32⟩
  | .hbm, ⟨49, _⟩ => ⟨S8x6x4096x4096, .f32⟩
  | .hbm, ⟨50, _⟩ => ⟨S8x6x4096x4096, .i1⟩
  | .hbm, ⟨51, _⟩ => ⟨S8x6x4096x4096, .f32⟩
  | .hbm, ⟨52, _⟩ => ⟨S8x6x4096x4096, .f32⟩
  | .hbm, ⟨53, _⟩ => ⟨S8x6x4096x4096, .f32⟩
  | .hbm, ⟨54, _⟩ => ⟨S8x6x4096x4096, .f32⟩
  | .hbm, ⟨55, _⟩ => ⟨S8x6x4096x4096, .f32⟩
  | .hbm, ⟨56, _⟩ => ⟨S8x6x4096x4096, .f32⟩
  | .hbm, ⟨57, _⟩ => ⟨S8x6x4096x4096, .f32⟩
  | .hbm, ⟨58, _⟩ => ⟨S8x6x4096x4096, .f32⟩
  | .hbm, ⟨59, _⟩ => ⟨S8x6x4096x4096, .f32⟩
  | .hbm, ⟨60, _⟩ => ⟨S8x6x4096x4096, .f32⟩
  | .hbm, ⟨61, _⟩ => ⟨S8x6x4096x4096, .f32⟩
  | .hbm, ⟨62, _⟩ => ⟨S_, .f32⟩
  | .hbm, ⟨63, _⟩ => ⟨S_, .f32⟩
  | .hbm, ⟨64, _⟩ => ⟨S8x6x4096x4096, .i1⟩
  | .hbm, ⟨65, _⟩ => ⟨S8x6x4096x4096, .f32⟩
  | .hbm, ⟨66, _⟩ => ⟨S8x6x4096x4096, .f32⟩
  | .hbm, ⟨67, _⟩ => ⟨S8x6x64x4096, .f32⟩
  | .hbm, ⟨68, _⟩ => ⟨S8x4096x6x64, .f32⟩
  | .hbm, ⟨69, _⟩ => ⟨S8x4096x6x64, .f32⟩
  | .hbm, ⟨70, _⟩ => ⟨S_, .f32⟩
  | .hbm, ⟨71, _⟩ => ⟨S8x4096x6, .f32⟩
  | .hbm, ⟨72, _⟩ => ⟨S8x4096x6x1, .f32⟩
  | .hbm, ⟨73, _⟩ => ⟨S_, .f32⟩
  | .hbm, ⟨74, _⟩ => ⟨S8x4096x6x1, .f32⟩
  | .hbm, ⟨75, _⟩ => ⟨S8x4096x6x1, .f32⟩
  | .hbm, ⟨76, _⟩ => ⟨S_, .f32⟩
  | .hbm, ⟨77, _⟩ => ⟨S8x4096x6x1, .f32⟩
  | .hbm, ⟨78, _⟩ => ⟨S8x4096x6x1, .f32⟩
  | .hbm, ⟨79, _⟩ => ⟨S8x4096x6x1, .f32⟩
  | .hbm, ⟨80, _⟩ => ⟨S8x4096x6x64, .f32⟩
  | .hbm, ⟨81, _⟩ => ⟨S8x4096x6x64, .f32⟩
  | .hbm, ⟨82, _⟩ => ⟨S1x1x6x64, .f32⟩
  | .hbm, ⟨83, _⟩ => ⟨S8x4096x6x64, .f32⟩
  | .hbm, ⟨84, _⟩ => ⟨S8x4096x6x64, .f32⟩
  | .hbm, ⟨85, _⟩ => ⟨S8x4096x384, .f32⟩
  | .hbm, ⟨86, _⟩ => ⟨S8x4096x384, .bf16⟩
  | _, _ => ⟨S8x4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v15 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v16 : Ref sig .tc := ⟨.hbm, 39, rfl⟩
abbrev main_call2_cst : Ref sig .tc := ⟨.hbm, 40, rfl⟩
abbrev main_call2_v0 : Ref sig .tc := ⟨.hbm, 41, rfl⟩
abbrev main_v17 : Ref sig .tc := ⟨.hbm, 42, rfl⟩
abbrev main_v18 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_0 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_cst_1 : Ref sig .tc := ⟨.hbm, 70, rfl⟩
abbrev main_v26 : Ref sig .tc := ⟨.hbm, 71, rfl⟩
abbrev main_v27 : Ref sig .tc := ⟨.hbm, 72, rfl⟩
abbrev main_cst_2 : Ref sig .tc := ⟨.hbm, 73, rfl⟩
abbrev main_v28 : Ref sig .tc := ⟨.hbm, 74, rfl⟩
abbrev main_v29 : Ref sig .tc := ⟨.hbm, 75, rfl⟩
abbrev main_cst_3 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩

abbrev nD : Nat := 1
abbrev τ : Topo := Topo.v7x

variable {F : FTy → Type} [FloatOps F]
-- ==== KernelFfn.lean ====
abbrev S8x4096x1024 : Shape := ⟨3, ![8, 4096, 1024]⟩
abbrev S8x4096x512 : Shape := ⟨3, ![8, 4096, 512]⟩
abbrev S8x4096x384 : Shape := ⟨3, ![8, 4096, 384]⟩
abbrev S8x4096x256 : Shape := ⟨3, ![8, 4096, 256]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816x1024 : Shape := ⟨2, ![2816, 1024]⟩
abbrev S384x1024 : Shape := ⟨2, ![384, 1024]⟩
abbrev S4x96x1024 : Shape := ⟨3, ![4, 96, 1024]⟩
abbrev S_ : Shape := ⟨0, ![]⟩
abbrev S4x128x1024 : Shape := ⟨3, ![4, 128, 1024]⟩
abbrev S512x1024 : Shape := ⟨2, ![512, 1024]⟩
abbrev S256x1024 : Shape := ⟨2, ![256, 1024]⟩
abbrev S1x1024 : Shape := ⟨2, ![1, 1024]⟩
abbrev S1024x2816 : Shape := ⟨2, ![1024, 2816]⟩
abbrev S1x512x1024 : Shape := ⟨3, ![1, 512, 1024]⟩
abbrev S1x512x512 : Shape := ⟨3, ![1, 512, 512]⟩
abbrev S1x512x384 : Shape := ⟨3, ![1, 512, 384]⟩
abbrev S1x512x256 : Shape := ⟨3, ![1, 512, 256]⟩
abbrev S520x256 : Shape := ⟨2, ![520, 256]⟩
abbrev S512x2816 : Shape := ⟨2, ![512, 2816]⟩
abbrev S11x8x256 : Shape := ⟨3, ![11, 8, 256]⟩
abbrev S512x512 : Shape := ⟨2, ![512, 512]⟩
abbrev S512x384 : Shape := ⟨2, ![512, 384]⟩
abbrev S512x256 : Shape := ⟨2, ![512, 256]⟩
abbrev S512 : Shape := ⟨1, ![512]⟩
abbrev S512x1 : Shape := ⟨2, ![512, 1]⟩
abbrev S1024x256 : Shape := ⟨2, ![1024, 256]⟩
abbrev S1x8x256 : Shape := ⟨3, ![1, 8, 256]⟩
abbrev S8x256 : Shape := ⟨2, ![8, 256]⟩
abbrev S1x256 : Shape := ⟨2, ![1, 256]⟩

abbrev nBuf : Space → Nat
  | .hbm => 27
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x384, .bf16⟩
  | .hbm, ⟨3, _⟩ => ⟨S8x4096x256, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x2816, .f32⟩
  | .hbm, ⟨8, _⟩ => ⟨S2816x1024, .f32⟩
  | .hbm, ⟨9, _⟩ => ⟨S384x1024, .f32⟩
  | .hbm, ⟨10, _⟩ => ⟨S4x96x1024, .f32⟩
  | .hbm, ⟨11, _⟩ => ⟨S_, .i32⟩
  | .hbm, ⟨12, _⟩ => ⟨S_, .f32⟩
  | .hbm, ⟨13, _⟩ => ⟨S4x128x1024, .f32⟩
  | .hbm, ⟨14, _⟩ => ⟨S512x1024, .f32⟩
  | .hbm, ⟨15, _⟩ => ⟨S512x1024, .bf16⟩
  | .hbm, ⟨16, _⟩ => ⟨S384x1024, .f32⟩
  | .hbm, ⟨17, _⟩ => ⟨S384x1024, .bf16⟩
  | .hbm, ⟨18, _⟩ => ⟨S256x1024, .f32⟩
  | .hbm, ⟨19, _⟩ => ⟨S256x1024, .bf16⟩
  | .hbm, ⟨20, _⟩ => ⟨S1x1024, .f32⟩
  | .hbm, ⟨21, _⟩ => ⟨S1024x2816, .f32⟩
  | .hbm, ⟨22, _⟩ => ⟨S1024x2816, .bf16⟩
  | .hbm, ⟨23, _⟩ => ⟨S1024x2816, .f32⟩
  | .hbm, ⟨24, _⟩ => ⟨S1024x2816, .bf16⟩
  | .hbm, ⟨25, _⟩ => ⟨S2816x1024, .bf16⟩
  | .hbm, ⟨26, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x384, .bf16⟩
  | .local _ .vmem, ⟨5, _⟩ => ⟨S1x512x384, .bf16⟩
  | .local _ .vmem, ⟨6, _⟩ => ⟨S1x512x256, .bf16⟩
  | .local _ .vmem, ⟨7, _⟩ => ⟨S1x512x256, .bf16⟩
  | .local _ .vmem, ⟨8, _⟩ => ⟨S512x1024, .bf16⟩
  | .local _ .vmem, ⟨9, _⟩ => ⟨S384x1024, .bf16⟩
  | .local _ .vmem, ⟨10, _⟩ => ⟨S256x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S3x2816, .f32⟩
  | .local _ .vmem, ⟨15, _⟩ => ⟨S2816x1024, .bf16⟩
  | .local _ .vmem, ⟨16, _⟩ => ⟨S1x512x1024, .f32⟩
  | .local _ .vmem, ⟨17, _⟩ => ⟨S1x512x1024, .f32⟩
  | .local _ .vmem, ⟨18, _⟩ => ⟨S512x1024, .bf16⟩
  | .local _ .vmem, ⟨19, _⟩ => ⟨S520x256, .f32⟩
  | .local _ .vmem, ⟨20, _⟩ => ⟨S512x2816, .bf16⟩
  | .local _ .vmem, ⟨21, _⟩ => ⟨S11x8x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceFfnIdeal.lean ====
abbrev S8x4096x1024 : Shape := ⟨3, ![8, 4096, 1024]⟩
abbrev S8x4096x512 : Shape := ⟨3, ![8, 4096, 512]⟩
abbrev S8x4096x384 : Shape := ⟨3, ![8, 4096, 384]⟩
abbrev S8x4096x256 : Shape := ⟨3, ![8, 4096, 256]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816x1024 : Shape := ⟨2, ![2816, 1024]⟩
abbrev S8x4096x4x128 : Shape := ⟨4, ![8, 4096, 4, 128]⟩
abbrev S8x4096x4x96 : Shape := ⟨4, ![8, 4096, 4, 96]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S8x4098x2816 : Shape := ⟨3, ![8, 4098, 2816]⟩
abbrev S1x2816 : Shape := ⟨2, ![1, 2816]⟩
abbrev S2816 : Shape := ⟨1, ![2816]⟩
abbrev S1x1x2816 : Shape := ⟨3, ![1, 1, 2816]⟩

abbrev nBuf : Space → Nat
  | .hbm => 72
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x384, .bf16⟩
  | .hbm, ⟨3, _⟩ => ⟨S8x4096x256, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x2816, .f32⟩
  | .hbm, ⟨8, _⟩ => ⟨S2816x1024, .f32⟩
  | .hbm, ⟨9, _⟩ => ⟨S8x4096x512, .f32⟩
  | .hbm, ⟨10, _⟩ => ⟨S8x4096x4x128, .f32⟩
  | .hbm, ⟨11, _⟩ => ⟨S8x4096x4x96, .f32⟩
  | .hbm, ⟨12, _⟩ => ⟨S8x4096x384, .f32⟩
  | .hbm, ⟨13, _⟩ => ⟨S8x4096x384, .f32⟩
  | .hbm, ⟨14, _⟩ => ⟨S8x4096x256, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x1, .f32⟩
  | .hbm, ⟨29, _⟩ => ⟨S8x4096x1024, .f32⟩
  | .hbm, ⟨30, _⟩ => ⟨S8x4096x1024, .f32⟩
  | .hbm, ⟨31, _⟩ => ⟨S1x1x1024, .f32⟩
  | .hbm, ⟨32, _⟩ => ⟨S8x4096x1024, .f32⟩
  | .hbm, ⟨33, _⟩ => ⟨S8x4096x1024, .f32⟩
  | .hbm, ⟨34, _⟩ => ⟨S8x4096x5632, .f32⟩
  | .hbm, ⟨35, _⟩ => ⟨S8x4096x2816, .f32⟩
  | .hbm, ⟨36, _⟩ => ⟨S8x4096x2816, .f32⟩
  | .hbm, ⟨37, _⟩ => ⟨S_, .i32⟩
  | .hbm, ⟨38, _⟩ => ⟨S_, .f32⟩
  | .hbm, ⟨39, _⟩ => ⟨S8x4098x2816, .f32⟩
  | .hbm, ⟨40, _⟩ => ⟨S1x2816, .f32⟩
  | .hbm, ⟨41, _⟩ => ⟨S2816, .f32⟩
  | .hbm, ⟨42, _⟩ => ⟨S8x4096x2816, .f32⟩
  | .hbm, ⟨43, _⟩ => ⟨S1x1x2816, .f32⟩
  | .hbm, ⟨44, _⟩ => ⟨S8x4096x2816, .f32⟩
  | .hbm, ⟨45, _⟩ => ⟨S8x4096x2816, .f32⟩
  | .hbm, ⟨46, _⟩ => ⟨S1x2816, .f32⟩
  | .hbm, ⟨47, _⟩ => ⟨S2816, .f32⟩
  | .hbm, ⟨48, _⟩ => ⟨S8x4096x2816, .f32⟩
  | .hbm, ⟨49, _⟩ => ⟨S1x1x2816, .f32⟩
  | .hbm, ⟨50, _⟩ => ⟨S8x4096x2816, .f32⟩
  | .hbm, ⟨51, _⟩ => ⟨S8x4096x2816, .f32⟩
  | .hbm, ⟨52, _⟩ => ⟨S8x4096x2816, .f32⟩
  | .hbm, ⟨53, _⟩ => ⟨S1x2816, .f32⟩
  | .hbm, ⟨54, _⟩ => ⟨S2816, .f32⟩
  | .hbm, ⟨55, _⟩ => ⟨S8x4096x2816, .f32⟩
  | .hbm, ⟨56, _⟩ => ⟨S1x1x2816, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S8x4096x2816, .f32⟩
  | .hbm, ⟨62, _⟩ => ⟨S_, .f32⟩
  | .hbm, ⟨63, _⟩ => ⟨S8x4096x2816, .f32⟩
  | .hbm, ⟨64, _⟩ => ⟨S8x4096x2816, .f32⟩
  | .hbm, ⟨65, _⟩ => ⟨S_, .f32⟩
  | .hbm, ⟨66, _⟩ => ⟨S8x4096x2816, .f32⟩
  | .hbm, ⟨67, _⟩ => ⟨S8x4096x2816, .f32⟩
  | .hbm, ⟨68, _⟩ => ⟨S8x4096x2816, .f32⟩
  | .hbm, ⟨69, _⟩ => ⟨S8x4096x2816, .f32⟩
  | .hbm, ⟨70, _⟩ => ⟨S8x4096x1024, .f32⟩
  | .hbm, ⟨71, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_call0_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== KernelIn.lean ====
abbrev S8x4096x1024 : Shape := ⟨3, ![8, 4096, 1024]⟩
abbrev S1024 : Shape := ⟨1, ![1024]⟩
abbrev S1024x2952 : Shape := ⟨2, ![1024, 2952]⟩
abbrev S64 : Shape := ⟨1, ![64]⟩
abbrev S6x6 : Shape := ⟨2, ![6, 6]⟩
abbrev S_ : Shape := ⟨0, ![]⟩
abbrev S64x64 : Shape := ⟨2, ![64, 64]⟩
abbrev S6x1x6x1 : Shape := ⟨4, ![6, 1, 6, 1]⟩
abbrev S1x64x1x64 : Shape := ⟨4, ![1, 64, 1, 64]⟩
abbrev S6x64x6x64 : Shape := ⟨4, ![6, 64, 6, 64]⟩
abbrev S384x384 : Shape := ⟨2, ![384, 384]⟩
abbrev S1024x384 : Shape := ⟨2, ![1024, 384]⟩
abbrev S1024x8 : Shape := ⟨2, ![1024, 8]⟩
abbrev S1024x256 : Shape := ⟨2, ![1024, 256]⟩
abbrev S1024x4 : Shape := ⟨2, ![1024, 4]⟩
abbrev S1024x4x96 : Shape := ⟨3, ![1024, 4, 96]⟩
abbrev S1024x4x128 : Shape := ⟨3, ![1024, 4, 128]⟩
abbrev S1024x512 : Shape := ⟨2, ![1024, 512]⟩
abbrev S1024x128 : Shape := ⟨2, ![1024, 128]⟩
abbrev S1024x3712 : Shape := ⟨2, ![1024, 3712]⟩
abbrev S1x64 : Shape := ⟨2, ![1, 64]⟩
abbrev S6x64 : Shape := ⟨2, ![6, 64]⟩
abbrev S384 : Shape := ⟨1, ![384]⟩
abbrev S1x384 : Shape := ⟨2, ![1, 384]⟩
abbrev S1x1024 : Shape := ⟨2, ![1, 1024]⟩
abbrev S8x4096x512 : Shape := ⟨3, ![8, 4096, 512]⟩
abbrev S8x4096x384 : Shape := ⟨3, ![8, 4096, 384]⟩
abbrev S8x4096x256 : Shape := ⟨3, ![8, 4096, 256]⟩
abbrev S8x8x4096 : Shape := ⟨3, ![8, 8, 4096]⟩
abbrev S8x4096x8 : Shape := ⟨3, ![8, 4096, 8]⟩
abbrev S1x512x1024 : Shape := ⟨3, ![1, 512, 1024]⟩
abbrev S1x512x512 : Shape := ⟨3, ![1, 512, 512]⟩
abbrev S1x512x384 : Shape := ⟨3, ![1, 512, 384]⟩
abbrev S1x512x256 : Shape := ⟨3, ![1, 512, 256]⟩
abbrev S1x8x512 : Shape := ⟨3, ![1, 8, 512]⟩
abbrev S1x512x8 : Shape := ⟨3, ![1, 512, 8]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S512x512 : Shape := ⟨2, ![512, 512]⟩
abbrev S512x384 : Shape := ⟨2, ![512, 384]⟩
abbrev S512x256 : Shape := ⟨2, ![512, 256]⟩
abbrev S512x128 : Shape := ⟨2, ![512, 128]⟩
abbrev S512x8 : Shape := ⟨2, ![512, 8]⟩
abbrev S128x512 : Shape := ⟨2, ![128, 512]⟩
abbrev S8x512 : Shape := ⟨2, ![8, 512]⟩

abbrev nBuf : Space → Nat
  | .hbm => 84
  | .vmem => 29
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2952, .f32⟩
  | .hbm, ⟨3, _⟩ => ⟨S64, .f32⟩
  | .hbm, ⟨4, _⟩ => ⟨S64, .f32⟩
  | .hbm, ⟨5, _⟩ => ⟨S6x6, .i32⟩
  | .hbm, ⟨6, _⟩ => ⟨S6x6, .i32⟩
  | .hbm, ⟨7, _⟩ => ⟨S_, .i32⟩
  | .hbm, ⟨8, _⟩ => ⟨S6x6, .i32⟩
  | .hbm, ⟨9, _⟩ => ⟨S6x6, .i32⟩
  | .hbm, ⟨10, _⟩ => ⟨S6x6, .i1⟩
  | .hbm, ⟨11, _⟩ => ⟨S6x6, .f32⟩
  | .hbm, ⟨12, _⟩ => ⟨S_, .f32⟩
  | .hbm, ⟨13, _⟩ => ⟨S64x64, .f32⟩
  | .hbm, ⟨14, _⟩ => ⟨S6x1x6x1, .f32⟩
  | .hbm, ⟨15, _⟩ => ⟨S1x64x1x64, .f32⟩
  | .hbm, ⟨16, _⟩ => ⟨S6x64x6x64, .f32⟩
  | .hbm, ⟨17, _⟩ => ⟨S6x64x6x64, .f32⟩
  | .hbm, ⟨18, _⟩ => ⟨S6x64x6x64, .f32⟩
  | .hbm, ⟨19, _⟩ => ⟨S384x384, .f32⟩
  | .hbm, ⟨20, _⟩ => ⟨S384x384, .bf16⟩
  | .hbm, ⟨21, _⟩ => ⟨S1024x384, .f32⟩
  | .hbm, ⟨22, _⟩ => ⟨S1024x384, .f32⟩
  | .hbm, ⟨23, _⟩ => ⟨S1024x384, .f32⟩
  | .hbm, ⟨24, _⟩ => ⟨S1024x384, .f32⟩
  | .hbm, ⟨25, _⟩ => ⟨S1024x8, .f32⟩
  | .hbm, ⟨26, _⟩ => ⟨S1024x384, .f32⟩
  | .hbm, ⟨27, _⟩ => ⟨S1024x384, .f32⟩
  | .hbm, ⟨28, _⟩ => ⟨S1024x384, .f32⟩
  | .hbm, ⟨29, _⟩ => ⟨S1024x256, .f32⟩
  | .hbm, ⟨30, _⟩ => ⟨S1024x4, .f32⟩
  | .hbm, ⟨31, _⟩ => ⟨S1024x4, .f32⟩
  | .hbm, ⟨32, _⟩ => ⟨S1024x8, .f32⟩
  | .hbm, ⟨33, _⟩ => ⟨S1024x4x96, .f32⟩
  | .hbm, ⟨34, _⟩ => ⟨S_, .i32⟩
  | .hbm, ⟨35, _⟩ => ⟨S_, .f32⟩
  | .hbm, ⟨36, _⟩ => ⟨S1024x4x128, .f32⟩
  | .hbm, ⟨37, _⟩ => ⟨S1024x512, .f32⟩
  | .hbm, ⟨38, _⟩ => ⟨S1024x4x96, .f32⟩
  | .hbm, ⟨39, _⟩ => ⟨S_, .i32⟩
  | .hbm, ⟨40, _⟩ => ⟨S_, .f32⟩
  | .hbm, ⟨41, _⟩ => ⟨S1024x4x128, .f32⟩
  | .hbm, ⟨42, _⟩ => ⟨S1024x512, .f32⟩
  | .hbm, ⟨43, _⟩ => ⟨S1024x4x96, .f32⟩
  | .hbm, ⟨44, _⟩ => ⟨S_, .i32⟩
  | .hbm, ⟨45, _⟩ => ⟨S_, .f32⟩
  | .hbm, ⟨46, _⟩ => ⟨S1024x4x128, .f32⟩
  | .hbm, ⟨47, _⟩ => ⟨S1024x512, .f32⟩
  | .hbm, ⟨48, _⟩ => ⟨S1024x4x96, .f32⟩
  | .hbm, ⟨49, _⟩ => ⟨S_, .i32⟩
  | .hbm, ⟨50, _⟩ => ⟨S_, .f32⟩
  | .hbm, ⟨51, _⟩ => ⟨S1024x4x128, .f32⟩
  | .hbm, ⟨52, _⟩ => ⟨S1024x512, .f32⟩
  | .hbm, ⟨53, _⟩ => ⟨S_, .i32⟩
  | .hbm, ⟨54, _⟩ => ⟨S_, .f32⟩
  | .hbm, ⟨55, _⟩ => ⟨S1024x128, .f32⟩
  | .hbm, ⟨56, _⟩ => ⟨S_, .i32⟩
  | .hbm, ⟨57, _⟩ => ⟨S_, .f32⟩
  | .hbm, ⟨58, _⟩ => ⟨S1024x128, .f32⟩
  | .hbm, ⟨59, _⟩ => ⟨S1024x3712, .f32⟩
  | .hbm, ⟨60, _⟩ => ⟨S1024x3712, .bf16⟩
  | .hbm, ⟨61, _⟩ => ⟨S1x64, .f32⟩
  | .hbm, ⟨62, _⟩ => ⟨S6x64, .f32⟩
  | .hbm, ⟨63, _⟩ => ⟨S384, .f32⟩
  | .hbm, ⟨64, _⟩ => ⟨S1x384, .f32⟩
  | .hbm, ⟨65, _⟩ => ⟨S_, .f32⟩
  | .hbm, ⟨66, _⟩ => ⟨S1x384, .f32⟩
  | .hbm, ⟨67, _⟩ => ⟨S1x384, .f32⟩
  | .hbm, ⟨68, _⟩ => ⟨S1x64, .f32⟩
  | .hbm, ⟨69, _⟩ => ⟨S6x64, .f32⟩
  | .hbm, ⟨70, _⟩ => ⟨S384, .f32⟩
  | .hbm, ⟨71, _⟩ => ⟨S1x384, .f32⟩
  | .hbm, ⟨72, _⟩ => ⟨S1x1024, .f32⟩
  | .hbm, ⟨73, _⟩ => ⟨S8x4096x1024, .f32⟩
  | .hbm, ⟨74, _⟩ => ⟨S8x4096x512, .bf16⟩
  | .hbm, ⟨75, _⟩ => ⟨S8x4096x512, .bf16⟩
  | .hbm, ⟨76, _⟩ => ⟨S8x4096x384, .bf16⟩
  | .hbm, ⟨77, _⟩ => ⟨S8x4096x384, .bf16⟩
  | .hbm, ⟨78, _⟩ => ⟨S8x4096x384, .bf16⟩
  | .hbm, ⟨79, _⟩ => ⟨S8x4096x256, .f32⟩
  | .hbm, ⟨80, _⟩ => ⟨S8x8x4096, .f32⟩
  | .hbm, ⟨81, _⟩ => ⟨S8x8x4096, .f32⟩
  | .hbm, ⟨82, _⟩ => ⟨S8x4096x8, .f32⟩
  | .hbm, ⟨83, _⟩ => ⟨S8x4096x8, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3712, .bf16⟩
  | .local _ .vmem, ⟨4, _⟩ => ⟨S384x384, .bf16⟩
  | .local _ .vmem, ⟨5, _⟩ => ⟨S1x384, .f32⟩
  | .local _ .vmem, ⟨6, _⟩ => ⟨S1x384, .f32⟩
  | .local _ .vmem, ⟨7, _⟩ => ⟨S1x512x1024, .f32⟩
  | .local _ .vmem, ⟨8, _⟩ => ⟨S1x512x1024, .f32⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x384, .bf16⟩
  | .local _ .vmem, ⟨14, _⟩ => ⟨S1x512x384, .bf16⟩
  | .local _ .vmem, ⟨15, _⟩ => ⟨S1x512x384, .bf16⟩
  | .local _ .vmem, ⟨16, _⟩ => ⟨S1x512x384, .bf16⟩
  | .local _ .vmem, ⟨17, _⟩ => ⟨S1x512x384, .bf16⟩
  | .local _ .vmem, ⟨18, _⟩ => ⟨S1x512x384, .bf16⟩
  | .local _ .vmem, ⟨19, _⟩ => ⟨S1x512x256, .f32⟩
  | .local _ .vmem, ⟨20, _⟩ => ⟨S1x512x256, .f32⟩
  | .local _ .vmem, ⟨21, _⟩ => ⟨S1x8x512, .f32⟩
  | .local _ .vmem, ⟨22, _⟩ => ⟨S1x8x512, .f32⟩
  | .local _ .vmem, ⟨23, _⟩ => ⟨S1x8x512, .f32⟩
  | .local _ .vmem, ⟨24, _⟩ => ⟨S1x8x512, .f32⟩
  | .local _ .vmem, ⟨25, _⟩ => ⟨S1x512x8, .f32⟩
  | .local _ .vmem, ⟨26, _⟩ => ⟨S1x512x8, .f32⟩
  | .local _ .vmem, ⟨27, _⟩ => ⟨S1x512x8, .f32⟩
  | .local _ .vmem, ⟨28, _⟩ => ⟨S1x512x8, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_0 : Ref sig .tc := ⟨.hbm, 34, rfl⟩
abbrev main_call1_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_1 : Ref sig .tc := ⟨.hbm, 39, rfl⟩
abbrev main_call2_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_2 : Ref sig .tc := ⟨.hbm, 44, rfl⟩
abbrev main_call3_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_3 : Ref sig .tc := ⟨.hbm, 49, rfl⟩
abbrev main_call4_v0 : Ref sig .tc := ⟨.hbm, 50, rfl⟩
abbrev main_v31 : Ref sig .tc := ⟨.hbm, 51, rfl⟩
abbrev main_v32 : Ref sig .tc := ⟨.hbm, 52, rfl⟩
abbrev main_c_4 : Ref sig .tc := ⟨.hbm, 53, rfl⟩
abbrev main_call5_v0 : Ref sig .tc := ⟨.hbm, 54, rfl⟩
abbrev main_v33 : Ref sig .tc := ⟨.hbm, 55, rfl⟩
abbrev main_c_5 : Ref sig .tc := ⟨.hbm, 56, rfl⟩
abbrev main_call6_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48_0 : Ref sig .tc := ⟨.hbm, 73, rfl⟩
abbrev main_v48_1 : Ref sig .tc := ⟨.hbm, 74, rfl⟩
abbrev main_v48_2 : Ref sig .tc := ⟨.hbm, 75, rfl⟩
abbrev main_v48_3 : Ref sig .tc := ⟨.hbm, 76, rfl⟩
abbrev main_v48_4 : Ref sig .tc := ⟨.hbm, 77, rfl⟩
abbrev main_v48_5 : Ref sig .tc := ⟨.hbm, 78, rfl⟩
abbrev main_v48_6 : Ref sig .tc := ⟨.hbm, 79, rfl⟩
abbrev main_v48_7 : Ref sig .tc := ⟨.hbm, 80, rfl⟩
abbrev main_v48_8 : Ref sig .tc := ⟨.hbm, 81, rfl⟩
abbrev main_v48_9 : Ref sig .tc := ⟨.hbm, 82, rfl⟩
abbrev main_v48_10 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x8 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x8 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceInIdeal.lean ====
abbrev S8x4096x1024 : Shape := ⟨3, ![8, 4096, 1024]⟩
abbrev S1024 : Shape := ⟨1, ![1024]⟩
abbrev S1024x2952 : Shape := ⟨2, ![1024, 2952]⟩
abbrev S64 : Shape := ⟨1, ![64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2952 : Shape := ⟨3, ![8, 4096, 2952]⟩
abbrev S8x4096x384 : Shape := ⟨3, ![8, 4096, 384]⟩
abbrev S8x4096x4x96 : Shape := ⟨4, ![8, 4096, 4, 96]⟩
abbrev S8x4096x4x128 : Shape := ⟨4, ![8, 4096, 4, 128]⟩
abbrev S8x4096x512 : Shape := ⟨3, ![8, 4096, 512]⟩
abbrev S8x4096x8 : Shape := ⟨3, ![8, 4096, 8]⟩
abbrev S8x4096x4 : Shape := ⟨3, ![8, 4096, 4]⟩
abbrev S8x4096x6x64 : Shape := ⟨4, ![8, 4096, 6, 64]⟩
abbrev S8x4096x6 : Shape := ⟨3, ![8, 4096, 6]⟩
abbrev S8x4096x6x1 : Shape := ⟨4, ![8, 4096, 6, 1]⟩
abbrev S1x1x1x64 : Shape := ⟨4, ![1, 1, 1, 64]⟩
abbrev S8x4096x256 : Shape := ⟨3, ![8, 4096, 256]⟩
abbrev S8x8x4096 : Shape := ⟨3, ![8, 8, 4096]⟩

abbrev nBuf : Space → Nat
  | .hbm => 101
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2952, .f32⟩
  | .hbm, ⟨3, _⟩ => ⟨S64, .f32⟩
  | .hbm, ⟨4, _⟩ => ⟨S64, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x2952, .f32⟩
  | .hbm, ⟨22, _⟩ => ⟨S8x4096x384, .f32⟩
  | .hbm, ⟨23, _⟩ => ⟨S8x4096x4x96, .f32⟩
  | .hbm, ⟨24, _⟩ => ⟨S_, .i32⟩
  | .hbm, ⟨25, _⟩ => ⟨S_, .f32⟩
  | .hbm, ⟨26, _⟩ => ⟨S8x4096x4x128, .f32⟩
  | .hbm, ⟨27, _⟩ => ⟨S8x4096x512, .f32⟩
  | .hbm, ⟨28, _⟩ => ⟨S8x4096x384, .f32⟩
  | .hbm, ⟨29, _⟩ => ⟨S8x4096x4x96, .f32⟩
  | .hbm, ⟨30, _⟩ => ⟨S_, .i32⟩
  | .hbm, ⟨31, _⟩ => ⟨S_, .f32⟩
  | .hbm, ⟨32, _⟩ => ⟨S8x4096x4x128, .f32⟩
  | .hbm, ⟨33, _⟩ => ⟨S8x4096x512, .f32⟩
  | .hbm, ⟨34, _⟩ => ⟨S8x4096x1024, .f32⟩
  | .hbm, ⟨35, _⟩ => ⟨S8x4096x8, .f32⟩
  | .hbm, ⟨36, _⟩ => ⟨S8x4096x4, .f32⟩
  | .hbm, ⟨37, _⟩ => ⟨S8x4096x4, .f32⟩
  | .hbm, ⟨38, _⟩ => ⟨S8x4096x8, .f32⟩
  | .hbm, ⟨39, _⟩ => ⟨S8x4096x384, .f32⟩
  | .hbm, ⟨40, _⟩ => ⟨S8x4096x6x64, .f32⟩
  | .hbm, ⟨41, _⟩ => ⟨S8x4096x6x64, .f32⟩
  | .hbm, ⟨42, _⟩ => ⟨S_, .f32⟩
  | .hbm, ⟨43, _⟩ => ⟨S8x4096x6, .f32⟩
  | .hbm, ⟨44, _⟩ => ⟨S8x4096x6x1, .f32⟩
  | .hbm, ⟨45, _⟩ => ⟨S_, .f32⟩
  | .hbm, ⟨46, _⟩ => ⟨S8x4096x6x1, .f32⟩
  | .hbm, ⟨47, _⟩ => ⟨S8x4096x6x1, .f32⟩
  | .hbm, ⟨48, _⟩ => ⟨S_, .f32⟩
  | .hbm, ⟨49, _⟩ => ⟨S8x4096x6x1, .f32⟩
  | .hbm, ⟨50, _⟩ => ⟨S8x4096x6x1, .f32⟩
  | .hbm, ⟨51, _⟩ => ⟨S8x4096x6x1, .f32⟩
  | .hbm, ⟨52, _⟩ => ⟨S8x4096x6x64, .f32⟩
  | .hbm, ⟨53, _⟩ => ⟨S8x4096x6x64, .f32⟩
  | .hbm, ⟨54, _⟩ => ⟨S1x1x1x64, .f32⟩
  | .hbm, ⟨55, _⟩ => ⟨S8x4096x6x64, .f32⟩
  | .hbm, ⟨56, _⟩ => ⟨S8x4096x6x64, .f32⟩
  | .hbm, ⟨57, _⟩ => ⟨S8x4096x384, .f32⟩
  | .hbm, ⟨58, _⟩ => ⟨S_, .f32⟩
  | .hbm, ⟨59, _⟩ => ⟨S8x4096x384, .f32⟩
  | .hbm, ⟨60, _⟩ => ⟨S8x4096x384, .f32⟩
  | .hbm, ⟨61, _⟩ => ⟨S8x4096x384, .f32⟩
  | .hbm, ⟨62, _⟩ => ⟨S8x4096x6x64, .f32⟩
  | .hbm, ⟨63, _⟩ => ⟨S8x4096x6x64, .f32⟩
  | .hbm, ⟨64, _⟩ => ⟨S_, .f32⟩
  | .hbm, ⟨65, _⟩ => ⟨S8x4096x6, .f32⟩
  | .hbm, ⟨66, _⟩ => ⟨S8x4096x6x1, .f32⟩
  | .hbm, ⟨67, _⟩ => ⟨S_, .f32⟩
  | .hbm, ⟨68, _⟩ => ⟨S8x4096x6x1, .f32⟩
  | .hbm, ⟨69, _⟩ => ⟨S8x4096x6x1, .f32⟩
  | .hbm, ⟨70, _⟩ => ⟨S_, .f32⟩
  | .hbm, ⟨71, _⟩ => ⟨S8x4096x6x1, .f32⟩
  | .hbm, ⟨72, _⟩ => ⟨S8x4096x6x1, .f32⟩
  | .hbm, ⟨73, _⟩ => ⟨S8x4096x6x1, .f32⟩
  | .hbm, ⟨74, _⟩ => ⟨S8x4096x6x64, .f32⟩
  | .hbm, ⟨75, _⟩ => ⟨S8x4096x6x64, .f32⟩
  | .hbm, ⟨76, _⟩ => ⟨S1x1x1x64, .f32⟩
  | .hbm, ⟨77, _⟩ => ⟨S8x4096x6x64, .f32⟩
  | .hbm, ⟨78, _⟩ => ⟨S8x4096x6x64, .f32⟩
  | .hbm, ⟨79, _⟩ => ⟨S8x4096x384, .f32⟩
  | .hbm, ⟨80, _⟩ => ⟨S8x4096x384, .f32⟩
  | .hbm, ⟨81, _⟩ => ⟨S8x4096x4x96, .f32⟩
  | .hbm, ⟨82, _⟩ => ⟨S_, .i32⟩
  | .hbm, ⟨83, _⟩ => ⟨S_, .f32⟩
  | .hbm, ⟨84, _⟩ => ⟨S8x4096x4x128, .f32⟩
  | .hbm, ⟨85, _⟩ => ⟨S8x4096x512, .f32⟩
  | .hbm, ⟨86, _⟩ => ⟨S8x4096x512, .bf16⟩
  | .hbm, ⟨87, _⟩ => ⟨S8x4096x384, .f32⟩
  | .hbm, ⟨88, _⟩ => ⟨S8x4096x4x96, .f32⟩
  | .hbm, ⟨89, _⟩ => ⟨S_, .i32⟩
  | .hbm, ⟨90, _⟩ => ⟨S_, .f32⟩
  | .hbm, ⟨91, _⟩ => ⟨S8x4096x4x128, .f32⟩
  | .hbm, ⟨92, _⟩ => ⟨S8x4096x512, .f32⟩
  | .hbm, ⟨93, _⟩ => ⟨S8x4096x512, .bf16⟩
  | .hbm, ⟨94, _⟩ => ⟨S8x4096x384, .bf16⟩
  | .hbm, ⟨95, _⟩ => ⟨S8x4096x384, .bf16⟩
  | .hbm, ⟨96, _⟩ => ⟨S8x4096x384, .f32⟩
  | .hbm, ⟨97, _⟩ => ⟨S8x4096x384, .bf16⟩
  | .hbm, ⟨98, _⟩ => ⟨S8x4096x256, .f32⟩
  | .hbm, ⟨99, _⟩ => ⟨S8x8x4096, .f32⟩
  | .hbm, ⟨100, _⟩ => ⟨S8x8x4096, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_call1_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_c_10 : Ref sig .tc := ⟨.hbm, 82, rfl⟩
abbrev main_call2_v0 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_11 : Ref sig .tc := ⟨.hbm, 89, rfl⟩
abbrev main_call3_v0 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩

abbrev nD : Nat := 1
abbrev τ : Topo := Topo.v7x

variable {F : FTy → Type} [FloatOps F]
-- ==== Proof.SbMath.lean ====
/-
  The arithmetic of stick-breaking attention over the extended reals, with no program in sight: the softplus of a real
  logit, a block's suffix sums as one triangular product, one row's running remainder and running output as sums over an
  interval of positions, and the weight read off the remainder against the weight written with log-sigmoids.
-/
module

public import Idealize.ShloMosaic.PureOps.Ideal
public import Idealize.ShloMosaic.Lib.IdealHost

@[expose] public section

noncomputable section

namespace Cert.SbMath

open Idealize.ShloMosaic
open Finset

/-- The softplus of a real number, written so that the exponential never grows. -/
def sp (x : ℝ) : ℝ := max x 0 + Real.log (1 + Real.exp (-|x|))

/-- softplus x − softplus (−x) = x. -/
theorem sp_sub_sp_neg (x : ℝ) : sp x - sp (-x) = x := by
  unfold sp
  rw [abs_neg]
  rcases le_total 0 x with h | h
  · rw [max_eq_left h, max_eq_right (by linarith : -x ≤ 0)]; ring
  · rw [max_eq_right h, max_eq_left (by linarith : 0 ≤ -x)]; ring

/-- The larger of a real and its negative, as extended reals, is its absolute value. -/
theorem max_neg_coe (x : ℝ) : max (x : EReal) (-(x : EReal)) = ((|x| : ℝ) : EReal) := by
  rw [← EReal.coe_neg, abs_eq_max_neg]
  exact (EReal.coe_strictMono.monotone.map_max).symm

/-- The larger of a real and zero, as extended reals. -/
theorem max_zero_coe (x : ℝ) : max (x : EReal) 0 = ((max x 0 : ℝ) : EReal) := by
  rw [← EReal.coe_zero]
  exact (EReal.coe_strictMono.monotone.map_max).symm

theorem exp_coe (x : ℝ) : Ideal.exp (x : EReal) = ((Real.exp x : ℝ) : EReal) := rfl

theorem log_coe_of_pos {x : ℝ} (h : 0 < x) : Ideal.log (x : EReal) = ((Real.log x : ℝ) : EReal) := by
  show (if x ≤ 0 then (⊥ : EReal) else ((Real.log x : ℝ) : EReal)) = _
  rw [if_neg (not_le.mpr h)]

theorem log_one_add_exp_coe (x : ℝ) :
    Ideal.log (1 + Ideal.exp (x : EReal)) = ((Real.log (1 + Real.exp x) : ℝ) : EReal) := by
  rw [exp_coe, ← EReal.coe_one, ← EReal.coe_add]
  exact log_coe_of_pos (by positivity)

/-- The kernel's softplus of a real logit. -/
theorem softplus_coe (x : ℝ) :
    max (x : EReal) 0 + Ideal.log (1 + Ideal.exp (0 - max (x : EReal) (-(x : EReal)))) = ((sp x : ℝ) : EReal) := by
  rw [max_neg_coe, max_zero_coe, zero_sub, ← EReal.coe_neg, log_one_add_exp_coe, ← EReal.coe_add]
  rfl

/-- The same with the logarithm of one plus, as the reference spells it. -/
theorem softplus_coe' (x : ℝ) :
    max (x : EReal) 0 + Ideal.log1p (Ideal.exp (-(max ((x : EReal) - 0) (-((x : EReal) - 0))))) = ((sp x : ℝ) : EReal) := by
  rw [sub_zero, max_neg_coe, max_zero_coe, ← EReal.coe_neg]
  show _ + Ideal.log (1 + _) = _
  rw [log_one_add_exp_coe, ← EReal.coe_add]
  rfl

/-! ## One block's suffix sums -/

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A product with the lower triangle of ones, split into a high part and the (zero) rest, is the suffix sum. -/
theorem suffix_sum {n : ℕ} (g : Fin n → ℝ) (c : Fin n) :
    (∑ s : Fin n, ((g s : ℝ) : EReal) * (if c ≤ s then 1 else 0))
        + (∑ s : Fin n, (((g s : ℝ) : EReal) - ((g s : ℝ) : EReal)) * (if c ≤ s then 1 else 0))
      = ((∑ s : Fin n, if c ≤ s then g s else 0 : ℝ) : EReal) := by
  have h0 : ∀ s : Fin n, (((g s : ℝ) : EReal) - ((g s : ℝ) : EReal)) * (if c ≤ s then 1 else 0) = 0 := fun s => by
    rw [← EReal.coe_sub, sub_self, EReal.coe_zero, zero_mul]
  rw [Finset.sum_congr rfl fun s _ => h0 s, Finset.sum_const_zero, add_zero, coe_sum]
  refine Finset.sum_congr rfl fun s _ => ?_
  by_cases h : c ≤ s <;> simp [h]

/-- A suffix sum of a block that starts at `b`, as a sum over positions. -/
theorem suffix_Ico {n : ℕ} (f : ℕ → ℝ) (b : ℕ) (c : ℕ) :
    (∑ s : Fin n, if c ≤ s.val then f (b + s.val) else 0) = ∑ j ∈ Ico (b + c) (b + n), f j := by
  rw [Fin.sum_univ_eq_sum_range (fun s => if c ≤ s then f (b + s) else 0) n, ← Finset.sum_filter,
    add_comm b c, add_comm b n, ← Finset.sum_Ico_add f c n b]
  exact Finset.sum_congr (Finset.ext fun j => by simp [and_comm]) fun _ _ => rfl

/-! ## One row: the remainder and the output over an interval of positions -/

/-- The sum of softplus over the positions from `lo` up to, not including, `T`. -/
def rest (z : ℕ → ℝ) (T lo : ℕ) : ℝ := ∑ j ∈ Ico lo T, sp (z j)

/-- The weight of position `s` in row `T`. -/
def wt (z : ℕ → ℝ) (T s : ℕ) : ℝ := Real.exp (z s - rest z T s)

/-- The weighted sum of the values at the positions from `lo` up to, not including, `T`. -/
def out (z : ℕ → ℝ) (v : ℕ → EReal) (T lo : ℕ) : EReal := ∑ s ∈ Ico lo T, ((wt z T s : ℝ) : EReal) * v s

theorem rest_self (z : ℕ → ℝ) (T : ℕ) : rest z T T = 0 := by simp [rest]
theorem out_self (z : ℕ → ℝ) (v : ℕ → EReal) (T : ℕ) : out z v T T = 0 := by simp [out]

theorem rest_step (z : ℕ → ℝ) {T a b : ℕ} (hab : a ≤ b) (hb : b ≤ T) :
    rest z T b + ∑ j ∈ Ico a b, sp (z j) = rest z T a := by
  unfold rest
  rw [add_comm, Finset.sum_Ico_consecutive _ hab hb]

theorem out_step (z : ℕ → ℝ) (v : ℕ → EReal) {T a b : ℕ} (hab : a ≤ b) (hb : b ≤ T) :
    out z v T b + ∑ s ∈ Ico a b, ((wt z T s : ℝ) : EReal) * v s = out z v T a := by
  unfold out
  rw [add_comm, Finset.sum_Ico_consecutive _ hab hb]

/-- The weight a block computes from its own suffix sum and the remainder of the blocks to its right. -/
theorem weight_block (z : ℕ → ℝ) {T b : ℕ} {s : ℕ} (hs : s ≤ b) (hb : b ≤ T) :
    Ideal.exp (((z s : ℝ) : EReal) - (((∑ j ∈ Ico s b, sp (z j) : ℝ) : EReal) + ((rest z T b : ℝ) : EReal)))
      = ((wt z T s : ℝ) : EReal) := by
  rw [← EReal.coe_add, ← EReal.coe_sub, exp_coe, add_comm, rest_step z hs hb]
  rfl

/-- A sum over a block's columns as a sum over positions. -/
theorem sum_block {M : Type} [AddCommMonoid M] {n : ℕ} (f : ℕ → M) (b : ℕ) :
    (∑ s : Fin n, f (b + s.val)) = ∑ j ∈ Ico b (b + n), f j := by
  rw [Fin.sum_univ_eq_sum_range (fun s => f (b + s)) n, Finset.sum_Ico_eq_sum_range]
  simp

/-- A block to the left of the diagonal: the remainder. -/
theorem rest_block {n : ℕ} (z : ℕ → ℝ) {T b : ℕ} (hb : b + n ≤ T) :
    ((rest z T (b + n) : ℝ) : EReal) + ((∑ j ∈ Ico b (b + n), sp (z j) : ℝ) : EReal) = ((rest z T b : ℝ) : EReal) := by
  rw [← EReal.coe_add, rest_step z (Nat.le_add_right _ _) hb]

/-- A block to the left of the diagonal: the output. -/
theorem out_block {n : ℕ} (z : ℕ → ℝ) (v : ℕ → EReal) {T b : ℕ} (hb : b + n ≤ T) :
    out z v T (b + n) + ∑ c : Fin n,
        Ideal.exp (((z (b + c.val) : ℝ) : EReal)
          - (((∑ j ∈ Ico (b + c.val) (b + n), sp (z j) : ℝ) : EReal) + ((rest z T (b + n) : ℝ) : EReal))) * v (b + c.val)
      = out z v T b := by
  rw [← out_step z v (Nat.le_add_right b n) hb, ← sum_block (fun s => ((wt z T s : ℝ) : EReal) * v s) b]
  congr 1
  refine Finset.sum_congr rfl fun c _ => ?_
  rw [weight_block z (by have := c.isLt; omega) hb]

/-- The diagonal block: positions at or after the row are masked to zero. -/
theorem rest_diag {n : ℕ} (z : ℕ → ℝ) (b : ℕ) {r : ℕ} (hr : r ≤ n) (c : ℕ) :
    (∑ s : Fin n, if c ≤ s.val then (if s.val < r then sp (z (b + s.val)) else 0) else 0) = ∑ j ∈ Ico (b + c) (b + r), sp (z j) := by
  have h := suffix_Ico (n := n) (fun j => if j < b + r then sp (z j) else 0) b c
  have hf : (Ico (b + c) (b + n)).filter (fun j => j < b + r) = Ico (b + c) (b + r) := by
    ext j; simp only [mem_filter, mem_Ico]; omega
  rw [(Finset.sum_filter _ _).symm.trans (congrArg (fun S => Finset.sum S _) hf)] at h
  rw [← h]
  exact Finset.sum_congr rfl fun s _ => by simp only [Nat.add_lt_add_iff_left]

/-- The diagonal block: the output. -/
theorem out_diag {n : ℕ} (z : ℕ → ℝ) (v : ℕ → EReal) (b : ℕ) {r : ℕ} (hr : r ≤ n) :
    (∑ c : Fin n,
        (if c.val < r then Ideal.exp (((z (b + c.val) : ℝ) : EReal)
          - (((∑ j ∈ Ico (b + c.val) (b + r), sp (z j) : ℝ) : EReal) + 0)) else 0) * v (b + c.val))
      = out z v (b + r) b := by
  have h := sum_block (n := n) (fun s => if s < b + r then ((wt z (b + r) s : ℝ) : EReal) * v s else 0) b
  have hf : (Ico b (b + n)).filter (fun j => j < b + r) = Ico b (b + r) := by
    ext j; simp only [mem_filter, mem_Ico]; omega
  rw [(Finset.sum_filter _ _).symm.trans (congrArg (fun S => Finset.sum S _) hf)] at h
  refine Eq.trans (Finset.sum_congr rfl fun c _ => ?_) h
  by_cases hc : c.val < r
  · have hw := weight_block z (T := b + r) (b := b + r) (s := b + c.val) (by omega) le_rfl
    rw [rest_self, EReal.coe_zero] at hw
    simp only [hc, if_true, Nat.add_lt_add_iff_left, hw]
  · simp only [hc, if_false, Nat.add_lt_add_iff_left, zero_mul]

/-! ## The reference's weight -/

/-- The weight written with log-sigmoids and a reversed running sum from which the position's own term is taken. -/
theorem weight_ref (z : ℕ → ℝ) {T s : ℕ} (hs : s < T) :
    Ideal.exp (-((sp (-(z s)) : ℝ) : EReal) + (((-rest z T s : ℝ) : EReal) - -((sp (z s) : ℝ) : EReal)))
      = ((wt z T s : ℝ) : EReal) := by
  rw [← EReal.coe_neg, ← EReal.coe_neg, ← EReal.coe_sub, ← EReal.coe_add, exp_coe]
  unfold wt
  have := sp_sub_sp_neg (z s)
  congr 2
  linarith

end Cert.SbMath

end
-- ==== Proof.SbPay.lean ====
/-
  What one block of the attention kernel computes, row by row: the logits of a head, the suffix sums inside the block,
  and from them the new remainder and the new output, for the diagonal block and for a block to its left.
-/
module

public import proofs.«01_k».proof.Proof.SbMath
public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen Cert.SbMath
open Idealize.ShloMosaic Idealize.ShloMosaic.WordCmp

/-! ## Masks -/

theorem select_lt {α : Type} (a b : ℕ) (ha : a < 2 ^ 31) (hb : b < 2 ^ 31) (x y : α) :
    Scalar.select (IntOp.cmpi CmpIPredicate.slt (BitVec.ofNat 32 a) (BitVec.ofNat 32 b)) x y = if a < b then x else y := by
  rw [cmpi_slt_ofNat ha hb]
  by_cases h : a < b <;> simp [h, Scalar.select]

theorem select_ge {α : Type} (a b : ℕ) (ha : a < 2 ^ 31) (hb : b < 2 ^ 31) (x y : α) :
    Scalar.select (IntOp.cmpi CmpIPredicate.sge (BitVec.ofNat 32 a) (BitVec.ofNat 32 b)) x y = if b ≤ a then x else y := by
  rw [cmpi_sge_ofNat ha hb]
  by_cases h : b ≤ a <;> simp [h, Scalar.select]

/-- The causal mask of the diagonal block. -/
theorem select_pay31 {α : Type} (r c : Fin 256) (x y : α) :
    Scalar.select (k0_pay31 (ix2 r c)) x y = if c.val < r.val then x else y := by
  have h : k0_pay31 (ix2 r c) = IntOp.cmpi CmpIPredicate.slt (BitVec.ofNat 32 c.val) (BitVec.ofNat 32 r.val) := by
    pointwise [k0_pay31]
  rw [h, select_lt _ _ (by omega) (by omega)]

/-- The mask of the first head's lanes. -/
theorem select_pay27 {α : Type} (r : Fin 256) (l : Fin 128) (x y : α) :
    Scalar.select (k0_pay27 (ix2 r l)) x y = if l.val < 64 then x else y := by
  have h : k0_pay27 (ix2 r l) = IntOp.cmpi CmpIPredicate.slt (BitVec.ofNat 32 l.val) (BitVec.ofNat 32 64) := by
    pointwise [k0_pay27]
  rw [h, select_lt _ _ (by omega) (by omega)]

/-- The triangle that sums over the columns at or after a column. -/
theorem pay32_apply (s c : Fin 256) : k0_pay32 (F := Ideal) (ix2 s c) = if c ≤ s then (1 : EReal) else 0 := by
  have h : k0_pay32 (F := Ideal) (ix2 s c)
      = Scalar.select (IntOp.cmpi CmpIPredicate.sge (BitVec.ofNat 32 s.val) (BitVec.ofNat 32 c.val)) (1 : EReal) 0 := by
    pointwise [k0_pay32]
  rw [h, select_ge _ _ (by omega) (by omega)]
  rfl

/-! ## Logits -/

/-- Lane `d` of head `h` of the pair. -/
def lane (h : Fin 2) (d : Fin 64) : Fin 128 := ⟨64 * h.val + d.val, by omega⟩

/-- The logit of a query row at a position, for a head of the pair. -/
def logit (qv : Fin 128 → ℝ) (kv : ℕ → Fin 128 → ℝ) (h : Fin 2) (s : ℕ) : ℝ :=
  ∑ d : Fin 64, qv (lane h d) * kv s (lane h d)

/-- A sum over the lanes is the sum over the two heads' lanes. -/
theorem sum_lanes {M : Type} [AddCommMonoid M] (f : Fin 128 → M) :
    ∑ x : Fin 128, f x = (∑ d : Fin 64, f (lane 0 d)) + ∑ d : Fin 64, f (lane 1 d) := by
  rw [Fin.sum_univ_add (a := 64) (b := 64) f]
  refine congrArg₂ _ (Finset.sum_congr rfl fun d _ => congrArg f (Fin.ext ?_)) (Finset.sum_congr rfl fun d _ => congrArg f (Fin.ext ?_))
  · simp [lane]
  · simp [lane, add_comm]

theorem lane_zero_lt (d : Fin 64) : (lane 0 d).val < 64 := by simp [lane]
theorem lane_one_not_lt (d : Fin 64) : ¬ (lane 1 d).val < 64 := by simp [lane]

theorem pay28_apply (r : Fin 256) (l : Fin 128) : k0_pay28 (F := Ideal) (ix2 r l) = (0 : EReal) := by
  pointwise [k0_pay28]

theorem pay29_apply (Q : Vec Ideal S1x256x128 .bf16) (r : Fin 256) (l : Fin 128) :
    k0_pay29 (F := Ideal) Q (ix2 r l) = if l.val < 64 then (Q (ix3 0 r l) : EReal) else 0 := by
  have h : k0_pay29 (F := Ideal) Q (ix2 r l)
      = Scalar.select (IntOp.cmpi CmpIPredicate.slt (BitVec.ofNat 32 l.val) (BitVec.ofNat 32 64)) (Q (ix3 0 r l) : EReal) 0 := by
    pointwise [k0_pay29, k0_pay26, k0_pay27, k0_pay28]
  rw [h, select_lt _ _ (by omega) (by omega)]

theorem pay30_apply (Q : Vec Ideal S1x256x128 .bf16) (r : Fin 256) (l : Fin 128) :
    k0_pay30 (F := Ideal) Q (ix2 r l) = if l.val < 64 then 0 else (Q (ix3 0 r l) : EReal) := by
  have h : k0_pay30 (F := Ideal) Q (ix2 r l)
      = Scalar.select (IntOp.cmpi CmpIPredicate.slt (BitVec.ofNat 32 l.val) (BitVec.ofNat 32 64)) (0 : EReal) (Q (ix3 0 r l)) := by
    pointwise [k0_pay30, k0_pay26, k0_pay27, k0_pay28]
  rw [h, select_lt _ _ (by omega) (by omega)]

/-- Products of reals summed over a head's lanes. -/
theorem logit_coe (qv : Fin 128 → ℝ) (kv : ℕ → Fin 128 → ℝ) (h : Fin 2) (s : ℕ) :
    (∑ d : Fin 64, ((qv (lane h d) : ℝ) : EReal) * ((kv s (lane h d) : ℝ) : EReal)) = ((logit qv kv h s : ℝ) : EReal) := by
  unfold logit
  rw [coe_sum]
  exact Finset.sum_congr rfl fun d _ => (EReal.coe_mul _ _).symm

variable {Q K : Vec Ideal S1x256x128 .bf16} {r : Fin 256} {qv : Fin 128 → ℝ} {kv : ℕ → Fin 128 → ℝ} {b : ℕ}

theorem sum_head0 (hQ : ∀ x, Q (ix3 0 r x) = ((qv x : ℝ) : EReal)) (c : Fin 256)
    (hK : ∀ x, K (ix3 0 c x) = ((kv (b + c.val) x : ℝ) : EReal)) :
    (∑ x : Fin 128, (k0_pay29 (F := Ideal) Q (ix2 r x) : EReal) * K (ix3 0 c x)) = ((logit qv kv 0 (b + c.val) : ℝ) : EReal) := by
  rw [sum_lanes, ← logit_coe]
  conv_rhs => rw [← add_zero (∑ d : Fin 64, _)]
  refine congrArg₂ _ (Finset.sum_congr rfl fun d _ => ?_) ((Finset.sum_congr rfl fun d _ => ?_).trans Finset.sum_const_zero)
  · rw [pay29_apply, if_pos (lane_zero_lt d), hQ, hK]
  · rw [pay29_apply, if_neg (lane_one_not_lt d), zero_mul]

theorem sum_head1 (hQ : ∀ x, Q (ix3 0 r x) = ((qv x : ℝ) : EReal)) (c : Fin 256)
    (hK : ∀ x, K (ix3 0 c x) = ((kv (b + c.val) x : ℝ) : EReal)) :
    (∑ x : Fin 128, (k0_pay30 (F := Ideal) Q (ix2 r x) : EReal) * K (ix3 0 c x)) = ((logit qv kv 1 (b + c.val) : ℝ) : EReal) := by
  rw [sum_lanes, ← logit_coe]
  conv_rhs => rw [← zero_add (∑ d : Fin 64, _)]
  refine congrArg₂ _ ((Finset.sum_congr rfl fun d _ => ?_).trans Finset.sum_const_zero) (Finset.sum_congr rfl fun d _ => ?_)
  · rw [pay30_apply, if_pos (lane_zero_lt d), zero_mul]
  · rw [pay30_apply, if_neg (lane_one_not_lt d), hQ, hK]

/-- The first head's logits. -/
theorem logits0 (hQ : ∀ x, Q (ix3 0 r x) = ((qv x : ℝ) : EReal)) (c : Fin 256)
    (hK : ∀ x, K (ix3 0 c x) = ((kv (b + c.val) x : ℝ) : EReal)) :
    k0_pay4 (F := Ideal) (k0_pay29 Q) K (ix2 r c) = ((logit qv kv 0 (b + c.val) : ℝ) : EReal) := by
  rw [← sum_head0 hQ c hK]
  pointwise [k0_pay4, k0_pay2]

/-- The second head's logits. -/
theorem logits1 (hQ : ∀ x, Q (ix3 0 r x) = ((qv x : ℝ) : EReal)) (c : Fin 256)
    (hK : ∀ x, K (ix3 0 c x) = ((kv (b + c.val) x : ℝ) : EReal)) :
    k0_pay10 (F := Ideal) (k0_pay30 Q) (k0_pay2 K) (ix2 r c) = ((logit qv kv 1 (b + c.val) : ℝ) : EReal) := by
  rw [← sum_head1 hQ c hK]
  pointwise [k0_pay10, k0_pay2]

/-- The first head's logits in the diagonal block. -/
theorem logits0_diag (hQ : ∀ x, Q (ix3 0 r x) = ((qv x : ℝ) : EReal)) (c : Fin 256)
    (hK : ∀ x, K (ix3 0 c x) = ((kv (b + c.val) x : ℝ) : EReal)) :
    k0_pay37 (F := Ideal) (k0_pay29 Q) (k0_pay35 K) (constant S256x256 .f32 0x00000000#32) (ix2 r c)
      = ((logit qv kv 0 (b + c.val) : ℝ) : EReal) := by
  rw [← sum_head0 hQ c hK]
  pointwise [k0_pay37, k0_pay35]

/-- The second head's logits in the diagonal block. -/
theorem logits1_diag (hQ : ∀ x, Q (ix3 0 r x) = ((qv x : ℝ) : EReal)) (c : Fin 256)
    (hK : ∀ x, K (ix3 0 c x) = ((kv (b + c.val) x : ℝ) : EReal)) :
    k0_pay43 (F := Ideal) (k0_pay30 Q) (k0_pay35 K) (ix2 r c) = ((logit qv kv 1 (b + c.val) : ℝ) : EReal) := by
  rw [← sum_head1 hQ c hK]
  pointwise [k0_pay43, k0_pay35]

/-! ## A block to the left of the diagonal -/

variable {V : Vec Ideal S1x256x128 .bf16} {z : ℕ → ℝ} {v : ℕ → EReal} {T : ℕ}

/-- The suffix sums of a block from its logits: the shape both heads print. -/
theorem suffix_of (f : Fin 256 → EReal) (z : ℕ → ℝ) (b : ℕ) (hz : ∀ c, f c = ((z (b + c.val) : ℝ) : EReal)) (c : Fin 256) :
    (∑ x : Fin 256, (max (f x) 0 + Ideal.log (1 + Ideal.exp (0 - max (f x) (-(f x))))) * k0_pay32 (F := Ideal) (ix2 x c))
      + (∑ x : Fin 256, ((max (f x) 0 + Ideal.log (1 + Ideal.exp (0 - max (f x) (-(f x)))))
          - (max (f x) 0 + Ideal.log (1 + Ideal.exp (0 - max (f x) (-(f x)))))) * k0_pay32 (F := Ideal) (ix2 x c))
      = ((∑ j ∈ Finset.Ico (b + c.val) (b + 256), sp (z j) : ℝ) : EReal) := by
  simp only [hz, softplus_coe, pay32_apply]
  refine (suffix_sum (fun x : Fin 256 => sp (z (b + x.val))) c).trans ?_
  exact congrArg (fun x : ℝ => (x : EReal)) (suffix_Ico (n := 256) (fun j => sp (z j)) b c.val)

theorem suffix0 {q : FVec Ideal S256x128 .bf16} (hz : ∀ c, k0_pay4 (F := Ideal) q K (ix2 r c) = ((z (b + c.val) : ℝ) : EReal)) (c : Fin 256) :
    k0_pay5 (F := Ideal) q k0_pay32 K (ix2 r c) = ((∑ j ∈ Finset.Ico (b + c.val) (b + 256), sp (z j) : ℝ) : EReal) := by
  rw [← suffix_of _ z b hz c]
  pointwise [k0_pay5]
  rfl

theorem suffix1 {q k : FVec Ideal S256x128 .bf16} (hz : ∀ c, k0_pay10 (F := Ideal) q k (ix2 r c) = ((z (b + c.val) : ℝ) : EReal)) (c : Fin 256) :
    k0_pay11 (F := Ideal) q k0_pay32 k (ix2 r c) = ((∑ j ∈ Finset.Ico (b + c.val) (b + 256), sp (z j) : ℝ) : EReal) := by
  rw [← suffix_of _ z b hz c]
  pointwise [k0_pay11]
  rfl

variable {ρ : Vec Ideal S1x256x1 .f32} {a : Vec Ideal S1x256x128 .f32} {l : Fin 128}

/-- The first head's new output. -/
theorem acc0 {q : FVec Ideal S256x128 .bf16} (hb : b + 256 ≤ T) (hz : ∀ c, k0_pay4 (F := Ideal) q K (ix2 r c) = ((z (b + c.val) : ℝ) : EReal))
    (hρ : ρ (ix3 0 r 0) = ((rest z T (b + 256) : ℝ) : EReal)) (ha : a (ix3 0 r l) = out z v T (b + 256))
    (hV : ∀ x : Fin 256, V (ix3 0 x l) = v (b + x.val)) :
    k0_pay8 (F := Ideal) (k0_pay7 q k0_pay32 K V ρ a) (ix3 0 r l) = out z v T b := by
  have h : k0_pay8 (F := Ideal) (k0_pay7 q k0_pay32 K V ρ a) (ix3 0 r l)
      = (a (ix3 0 r l) : EReal) + ∑ x : Fin 256, Ideal.exp (k0_pay4 (F := Ideal) q K (ix2 r x)
          - (k0_pay5 (F := Ideal) q k0_pay32 K (ix2 r x) + ρ (ix3 0 r 0))) * V (ix3 0 x l) := by
    pointwise [k0_pay8, k0_pay7, k0_pay6, k0_pay3]
  rw [h, ← out_block z v hb, ha]
  refine congrArg _ (Finset.sum_congr rfl fun x _ => ?_)
  rw [hz, suffix0 hz, hρ, hV]

/-- The first head's new remainder. -/
theorem rem0 {q : FVec Ideal S256x128 .bf16} (hb : b + 256 ≤ T) (hz : ∀ c, k0_pay4 (F := Ideal) q K (ix2 r c) = ((z (b + c.val) : ℝ) : EReal))
    (hρ : ρ (ix3 0 r 0) = ((rest z T (b + 256) : ℝ) : EReal)) :
    k0_pay9 (F := Ideal) (k0_pay5 q k0_pay32 K) (k0_pay6 ρ) (ix3 0 r 0) = ((rest z T b : ℝ) : EReal) := by
  have h : k0_pay9 (F := Ideal) (k0_pay5 q k0_pay32 K) (k0_pay6 ρ) (ix3 0 r 0)
      = (ρ (ix3 0 r 0) : EReal) + k0_pay5 (F := Ideal) q k0_pay32 K (ix2 r 0) := by
    pointwise [k0_pay9, k0_pay6]
  rw [h, hρ, suffix0 hz, ← rest_block z hb]
  rfl

/-- The second head's new output. -/
theorem acc1 {q : FVec Ideal S256x128 .bf16} (hb : b + 256 ≤ T)
    (hz : ∀ c, k0_pay10 (F := Ideal) q (k0_pay2 K) (ix2 r c) = ((z (b + c.val) : ℝ) : EReal))
    (hρ : ρ (ix3 0 r 0) = ((rest z T (b + 256) : ℝ) : EReal)) (ha : a (ix3 0 r l) = out z v T (b + 256))
    (hV : ∀ x : Fin 256, V (ix3 0 x l) = v (b + x.val)) :
    k0_pay49 (F := Ideal) (k0_pay13 q k0_pay32 (k0_pay2 K) (k0_pay3 V) ρ a) (ix3 0 r l) = out z v T b := by
  have h : k0_pay49 (F := Ideal) (k0_pay13 q k0_pay32 (k0_pay2 K) (k0_pay3 V) ρ a) (ix3 0 r l)
      = (a (ix3 0 r l) : EReal) + ∑ x : Fin 256, Ideal.exp (k0_pay10 (F := Ideal) q (k0_pay2 K) (ix2 r x)
          - (k0_pay11 (F := Ideal) q k0_pay32 (k0_pay2 K) (ix2 r x) + ρ (ix3 0 r 0))) * V (ix3 0 x l) := by
    pointwise [k0_pay49, k0_pay13, k0_pay12, k0_pay3]
  rw [h, ← out_block z v hb, ha]
  refine congrArg _ (Finset.sum_congr rfl fun x _ => ?_)
  rw [hz, suffix1 hz, hρ, hV]

/-- The second head's new remainder. -/
theorem rem1 {q : FVec Ideal S256x128 .bf16} (hb : b + 256 ≤ T)
    (hz : ∀ c, k0_pay10 (F := Ideal) q (k0_pay2 K) (ix2 r c) = ((z (b + c.val) : ℝ) : EReal))
    (hρ : ρ (ix3 0 r 0) = ((rest z T (b + 256) : ℝ) : EReal)) :
    k0_pay50 (F := Ideal) (k0_pay11 q k0_pay32 (k0_pay2 K)) (k0_pay12 ρ) (ix3 0 r 0) = ((rest z T b : ℝ) : EReal) := by
  have h : k0_pay50 (F := Ideal) (k0_pay11 q k0_pay32 (k0_pay2 K)) (k0_pay12 ρ) (ix3 0 r 0)
      = (ρ (ix3 0 r 0) : EReal) + k0_pay11 (F := Ideal) q k0_pay32 (k0_pay2 K) (ix2 r 0) := by
    pointwise [k0_pay50, k0_pay12]
  rw [h, hρ, suffix1 hz, ← rest_block z hb]
  rfl

/-! ## The diagonal block -/

/-- The masked suffix sums of the diagonal block from its logits: the shape both heads print. -/
theorem suffix_diag_of (f : Fin 256 → EReal) (z : ℕ → ℝ) (b : ℕ) (hz : ∀ c, f c = ((z (b + c.val) : ℝ) : EReal)) (r c : Fin 256) :
    (∑ x : Fin 256, Scalar.select (k0_pay31 (ix2 r x))
          ((max (f x) 0 + Ideal.log (1 + Ideal.exp (0 - max (f x) (-(f x))))) * k0_pay32 (F := Ideal) (ix2 x c)) 0)
      + (∑ x : Fin 256, (Scalar.select (k0_pay31 (ix2 r x)) (max (f x) 0 + Ideal.log (1 + Ideal.exp (0 - max (f x) (-(f x))))) 0
          - Scalar.select (k0_pay31 (ix2 r x)) (max (f x) 0 + Ideal.log (1 + Ideal.exp (0 - max (f x) (-(f x))))) 0)
          * k0_pay32 (F := Ideal) (ix2 x c))
      = ((∑ j ∈ Finset.Ico (b + c.val) (b + r.val), sp (z j) : ℝ) : EReal) := by
  simp only [hz, softplus_coe, pay32_apply, select_pay31]
  have hm : ∀ x : Fin 256, (if x.val < r.val then ((sp (z (b + x.val)) : ℝ) : EReal) else 0)
      = (((if x.val < r.val then sp (z (b + x.val)) else 0 : ℝ)) : EReal) := fun x => by
    by_cases h : x.val < r.val <;> simp [h]
  have hm' : ∀ x : Fin 256, (if x.val < r.val then ((sp (z (b + x.val)) : ℝ) : EReal) * (if c ≤ x then 1 else 0) else 0)
      = (((if x.val < r.val then sp (z (b + x.val)) else 0 : ℝ)) : EReal) * (if c ≤ x then 1 else 0) := fun x => by
    by_cases h : x.val < r.val <;> simp [h]
  simp only [hm, hm']
  refine (suffix_sum (fun x : Fin 256 => if x.val < r.val then sp (z (b + x.val)) else 0) c).trans ?_
  exact congrArg (fun x : ℝ => (x : EReal)) (rest_diag (n := 256) z b (r := r.val) (by omega) c.val)

variable {k vv : FVec Ideal S256x128 .bf16} {cst : FVec Ideal S256x256 .f32}

theorem suffix0_diag {q : FVec Ideal S256x128 .bf16} (hz : ∀ c, k0_pay37 (F := Ideal) q k cst (ix2 r c) = ((z (b + c.val) : ℝ) : EReal)) (c : Fin 256) :
    k0_pay38 (F := Ideal) q k0_pay31 k0_pay32 k cst (ix2 r c) = ((∑ j ∈ Finset.Ico (b + c.val) (b + r.val), sp (z j) : ℝ) : EReal) := by
  rw [← suffix_diag_of _ z b hz r c]
  pointwise [k0_pay38]
  rfl

theorem suffix1_diag {q : FVec Ideal S256x128 .bf16} (hz : ∀ c, k0_pay43 (F := Ideal) q k (ix2 r c) = ((z (b + c.val) : ℝ) : EReal)) (c : Fin 256) :
    k0_pay44 (F := Ideal) q k0_pay31 k0_pay32 k (ix2 r c) = ((∑ j ∈ Finset.Ico (b + c.val) (b + r.val), sp (z j) : ℝ) : EReal) := by
  rw [← suffix_diag_of _ z b hz r c]
  pointwise [k0_pay44]
  rfl

/-- The first head's output of the diagonal block, from nothing. -/
theorem acc0_diag {q : FVec Ideal S256x128 .bf16} (hz : ∀ c, k0_pay37 (F := Ideal) q k cst (ix2 r c) = ((z (b + c.val) : ℝ) : EReal))
    (hρ : ρ (ix3 0 r 0) = (0 : EReal)) (ha : a (ix3 0 r l) = (0 : EReal)) (hV : ∀ x : Fin 256, V (ix3 0 x l) = v (b + x.val)) :
    k0_pay40 (F := Ideal) q k0_pay31 k0_pay32 k (k0_pay36 V) cst ρ a (ix3 0 r l) = out z v (b + r.val) b := by
  have h : k0_pay40 (F := Ideal) q k0_pay31 k0_pay32 k (k0_pay36 V) cst ρ a (ix3 0 r l)
      = (a (ix3 0 r l) : EReal) + ∑ x : Fin 256, Scalar.select (k0_pay31 (ix2 r x)) (Ideal.exp (k0_pay37 (F := Ideal) q k cst (ix2 r x)
          - (k0_pay38 (F := Ideal) q k0_pay31 k0_pay32 k cst (ix2 r x) + ρ (ix3 0 r 0))) * V (ix3 0 x l)) 0 := by
    pointwise [k0_pay40, k0_pay39, k0_pay36]
  rw [h, ha, hρ, ← out_diag (n := 256) z v b (by omega), zero_add]
  refine Finset.sum_congr rfl fun x _ => ?_
  rw [select_pay31, hz, suffix0_diag hz, hV]
  by_cases hx : x.val < r.val <;> simp [hx]

/-- The first head's remainder of the diagonal block, from nothing. -/
theorem rem0_diag {q : FVec Ideal S256x128 .bf16} (hz : ∀ c, k0_pay37 (F := Ideal) q k cst (ix2 r c) = ((z (b + c.val) : ℝ) : EReal))
    (hρ : ρ (ix3 0 r 0) = (0 : EReal)) :
    k0_pay42 (F := Ideal) (k0_pay41 q k0_pay31 k0_pay32 k cst ρ) (ix3 0 r 0) = ((rest z (b + r.val) b : ℝ) : EReal) := by
  have h : k0_pay42 (F := Ideal) (k0_pay41 q k0_pay31 k0_pay32 k cst ρ) (ix3 0 r 0)
      = (ρ (ix3 0 r 0) : EReal) + k0_pay38 (F := Ideal) q k0_pay31 k0_pay32 k cst (ix2 r 0) := by
    pointwise [k0_pay42, k0_pay41, k0_pay39]
  rw [h, hρ, suffix0_diag hz, zero_add]
  rfl

/-- The second head's output of the diagonal block, from nothing. -/
theorem acc1_diag {q : FVec Ideal S256x128 .bf16} (hz : ∀ c, k0_pay43 (F := Ideal) q k (ix2 r c) = ((z (b + c.val) : ℝ) : EReal))
    (hρ : ρ (ix3 0 r 0) = (0 : EReal)) (ha : a (ix3 0 r l) = (0 : EReal)) (hV : ∀ x : Fin 256, V (ix3 0 x l) = v (b + x.val)) :
    k0_pay46 (F := Ideal) q k0_pay31 k0_pay32 k (k0_pay36 V) ρ a (ix3 0 r l) = out z v (b + r.val) b := by
  have h : k0_pay46 (F := Ideal) q k0_pay31 k0_pay32 k (k0_pay36 V) ρ a (ix3 0 r l)
      = (a (ix3 0 r l) : EReal) + ∑ x : Fin 256, Scalar.select (k0_pay31 (ix2 r x)) (Ideal.exp (k0_pay43 (F := Ideal) q k (ix2 r x)
          - (k0_pay44 (F := Ideal) q k0_pay31 k0_pay32 k (ix2 r x) + ρ (ix3 0 r 0))) * V (ix3 0 x l)) 0 := by
    pointwise [k0_pay46, k0_pay45, k0_pay36]
  rw [h, ha, hρ, ← out_diag (n := 256) z v b (by omega), zero_add]
  refine Finset.sum_congr rfl fun x _ => ?_
  rw [select_pay31, hz, suffix1_diag hz, hV]
  by_cases hx : x.val < r.val <;> simp [hx]

/-- The second head's remainder of the diagonal block, from nothing. -/
theorem rem1_diag {q : FVec Ideal S256x128 .bf16} (hz : ∀ c, k0_pay43 (F := Ideal) q k (ix2 r c) = ((z (b + c.val) : ℝ) : EReal))
    (hρ : ρ (ix3 0 r 0) = (0 : EReal)) :
    k0_pay48 (F := Ideal) (k0_pay47 q k0_pay31 k0_pay32 k ρ) (ix3 0 r 0) = ((rest z (b + r.val) b : ℝ) : EReal) := by
  have h : k0_pay48 (F := Ideal) (k0_pay47 q k0_pay31 k0_pay32 k ρ) (ix3 0 r 0)
      = (ρ (ix3 0 r 0) : EReal) + k0_pay44 (F := Ideal) q k0_pay31 k0_pay32 k (ix2 r 0) := by
    pointwise [k0_pay48, k0_pay47, k0_pay45]
  rw [h, hρ, suffix1_diag hz, zero_add]
  rfl

end Cert.KernelIdeal.Hand

end
-- ==== Proof.SbTrip.lean ====
/-
  One trip of the attention kernel's loop over the blocks left of the diagonal, and the whole loop: what the two running
  buffers hold, row by row.
-/
module

public import proofs.«01_k».proof.Proof.SbPay
public import proofs.«01_k».proof.Proof.Gen.KernelIdeal.Loops
public import Idealize.ShloMosaic.Lib.Pipeline.ValueKit
public import Idealize.ShloMosaic.Lib.WritesUnit
public import Idealize.ShloMosaic.Lib.Tactic

@[expose] public section

set_option maxRecDepth 16384

noncomputable section

namespace Cert.KernelIdeal.Hand

open Cert.KernelIdeal Cert.KernelIdeal.Gen Cert.SbMath
open Idealize.ShloMosaic Idealize.ShloMosaic.TcCoe Idealize.SL.Sem

/-! ## The loop's words -/

theorem t1_trips (i : grid0.Coords) : (k0_t1_loop i).trips = (i 2).val := by
  have h : ∀ n : Fin 16, Scf.trips (0#32) (Scalar.addi (0#32) (Scalar.muli (Scalar.divsi (Scalar.subi (BitVec.ofNat 32 n.val) 0#32) 1#32) 1#32)) 1#32
      = n.val := by decide
  exact h (i 2)

theorem t2_trips (i : grid0.Coords) : (k0_t2_loop i).trips = 0 := by
  have h : ∀ n : Fin 16, Scf.trips (Scalar.addi (0#32) (Scalar.muli (Scalar.divsi (Scalar.subi (BitVec.ofNat 32 n.val) 0#32) 1#32) 1#32))
      (Scalar.addi (0#32) (Scalar.subi (BitVec.ofNat 32 n.val) 0#32)) 1#32 = 0 := by decide
  exact h (i 2)

/-- The diagonal block starts at position 256·i. -/
theorem off1_eq (i : grid0.Coords) : k0_off1 i = ![0, 256 * (i 2).val, 0] := by
  have h : ∀ n : Fin 16, (Scalar.indexCast (Scalar.muli (BitVec.ofNat 32 n.val) 256#32)).toNat = 256 * n.val := by decide
  exact congrArg (fun x : ℕ => (![0, x, 0] : Fin 3 → ℕ)) (h (i 2))

/-- The block of trip `k` starts at position 256·(i − 1 − k). -/
theorem off2_eq (i : grid0.Coords) (k : Fin (k0_t1_loop i).trips) : k0_off2 i k = ![0, 256 * ((i 2).val - 1 - k.val), 0] := by
  have h : ∀ n : Fin 16, ∀ j : Fin 16, j.val < n.val →
      (Scalar.indexCast (Scalar.muli (Scalar.subi (Scalar.subi (BitVec.ofNat 32 n.val) 1#32) (Scf.iv 0#32 1#32 j.val)) 256#32)).toNat
        = 256 * (n.val - 1 - j.val) := by decide
  have hk : k.val < (i 2).val := k.isLt.trans_eq (t1_trips i)
  have hi : (i 2).val < 16 := (i 2).isLt
  exact congrArg (fun x : ℕ => (![0, x, 0] : Fin 3 → ℕ)) (h (i 2) ⟨k.val, by omega⟩ hk)

/-! ## Loads and stores at an index -/

section Mem

variable {κ : Kind} {sp : Space} {s : Shape} {e : EltTy}

/-- A load of a unit-stride block, at an index. -/
theorem load_unit (m : View sig κ sp s e) (f : m.ty.Contents (Elt Ideal)) {off off' : Fin s.rank → ℕ} (heq : off = off') (size : Fin s.rank → ℕ) (inb)
    (x : (Rect.unit off size inb).shape.Idx) (y : s.Idx) (h : ∀ a, (y a : ℕ) = off' a + x a) :
    m.readAt (Elt Ideal) (Rect.unit off size inb).toLoadRect f x = m.read (Elt Ideal) f y :=
  View.ld_unit_apply_of (m.read (Elt Ideal) f) off size inb x y (by subst heq; exact h)

end Mem

/-- The running buffers, with the blocks from position `b` on done: row `r` of head `h` is at position 256·i + r. -/
structure Upto (a8 : Vec Ideal S2x256x128 .f32) (a9 : Vec Ideal S2x256x1 .f32) (qv : Fin 256 → Fin 128 → ℝ) (kv : ℕ → Fin 128 → ℝ)
    (v : Fin 128 → ℕ → EReal) (i b : ℕ) : Prop where
  acc : ∀ (h : Fin 2) (r : Fin 256) (l : Fin 128), a8 (ix3 h r l) = out (logit (qv r) kv h) (v l) (256 * i + r.val) b
  rem : ∀ (h : Fin 2) (r : Fin 256), a9 (ix3 h r 0) = ((rest (logit (qv r) kv h) (256 * i + r.val) b : ℝ) : EReal)

variable {c : Dev nD} {i : grid0.Coords}
variable {arg3 : Memref sig .tc .vmem S1x256x128 .bf16} {harg3 : arg3.IsWhole}
variable {arg4 : Memref sig .tc .vmem S1x4096x128 .bf16} {harg4 : arg4.IsWhole}
variable {arg5 : Memref sig .tc .vmem S1x4096x128 .bf16} {harg5 : arg5.IsWhole}
variable {arg6 : Memref sig .tc .vmem S1x1x128 .f32} {harg6 : arg6.IsWhole}
variable {arg7 : Memref sig .tc .vmem S1x256x128 .bf16} {harg7 : arg7.IsWhole}
variable {arg8 : Memref sig .tc .vmem S2x256x128 .f32} {harg8 : arg8.IsWhole}
variable {arg9 : Memref sig .tc .vmem S2x256x1 .f32} {harg9 : arg9.IsWhole}

/-- One trip moves the running buffers one block to the left. -/
theorem trip_upto {arg2 : BitVec 32} {v4 : IVec S256x128 1} {v112 : FVec Ideal S256x1 .f32} {Q : Vec Ideal S1x256x128 .bf16}
    {X4 : BufTy.Contents (Elt Ideal) arg4.view.ty} {X5 : BufTy.Contents (Elt Ideal) arg5.view.ty}
    {qv : Fin 256 → Fin 128 → ℝ} {kv : ℕ → Fin 128 → ℝ} {v : Fin 128 → ℕ → EReal}
    (hQ : ∀ r x, Q (ix3 0 r x) = ((qv r x : ℝ) : EReal))
    (hK : ∀ (s : Fin 4096) x, arg4.view.read (Elt Ideal) X4 (ix3 0 s x) = ((kv s.val x : ℝ) : EReal))
    (hV : ∀ (s : Fin 4096) x, arg5.view.read (Elt Ideal) X5 (ix3 0 s x) = v x s.val)
    (k : Fin (k0_t1_loop i).trips) (f8 : BufTy.Contents (Elt Ideal) arg8.view.ty) (f9 : BufTy.Contents (Elt Ideal) arg9.view.ty)
    (h : Upto (arg8.view.read (Elt Ideal) f8) (arg9.view.read (Elt Ideal) f9) qv kv v (i 2).val (256 * ((i 2).val - k.val))) :
    Upto
      (arg8.view.read (Elt Ideal) (arg8.view.writes (Elt Ideal) f8 ((trip_k0_t1 (F := Ideal) Variants.none c none i arg3 harg3 arg4 harg4 arg5 harg5 arg6 harg6
        arg7 harg7 arg8 harg8 arg9 harg9 arg2 v4 (k0_pay29 Q) (k0_pay30 Q) k0_pay32 v112 X4 X5 k).1 f8 f9)))
      (arg9.view.read (Elt Ideal) (arg9.view.writes (Elt Ideal) f9 ((trip_k0_t1 (F := Ideal) Variants.none c none i arg3 harg3 arg4 harg4 arg5 harg5 arg6 harg6
        arg7 harg7 arg8 harg8 arg9 harg9 arg2 v4 (k0_pay29 Q) (k0_pay30 Q) k0_pay32 v112 X4 X5 k).2.1 f8 f9)))
      qv kv v (i 2).val (256 * ((i 2).val - (k.val + 1))) := by
  have hk : k.val < (i 2).val := k.isLt.trans_eq (t1_trips i)
  have hi : (i 2).val < 16 := (i 2).isLt
  have hb : 256 * ((i 2).val - k.val) = 256 * ((i 2).val - (k.val + 1)) + 256 := by omega
  rw [hb] at h
  have hoff : k0_off2 i k = ![0, 256 * ((i 2).val - (k.val + 1)), 0] := by
    rw [off2_eq]; congr 3; omega
  generalize hbb : 256 * ((i 2).val - (k.val + 1)) = b at *
  have hb4 : b + 256 ≤ 256 * (i 2).val := by omega
  have hKb : ∀ (s : Fin 256) x, arg4.view.readAt (Elt Ideal) (Rect.unit (s := S1x4096x128) (k0_off2 i k) S1x256x128.size (k0_off2_inb i k)).toLoadRect X4 (ix3 0 s x)
      = ((kv (b + s.val) x : ℝ) : EReal) := fun s x => by
    rw [load_unit _ _ hoff _ _ _ (ix3 0 ⟨b + s.val, by omega⟩ x) (fun a => by match a with | 0 => rfl | 1 => rfl | 2 => exact (Nat.zero_add _).symm)]
    exact hK _ _
  have hVb : ∀ (s : Fin 256) x, arg5.view.readAt (Elt Ideal) (Rect.unit (s := S1x4096x128) (k0_off2 i k) S1x256x128.size (k0_off2_inb i k)).toLoadRect X5 (ix3 0 s x)
      = v x (b + s.val) := fun s x => by
    rw [load_unit _ _ hoff _ _ _ (ix3 0 ⟨b + s.val, by omega⟩ x) (fun a => by match a with | 0 => rfl | 1 => rfl | 2 => exact (Nat.zero_add _).symm)]
    exact hV _ _
  have h9 : ∀ (hd : Fin 2) (inb) (r : Fin 256),
      arg9.view.readAt (Elt Ideal) (Rect.unit (s := S2x256x1) ![hd.val, 0, 0] S1x256x1.size inb).toLoadRect f9 (ix3 0 r 0)
        = ((rest (logit (qv r) kv hd) (256 * (i 2).val + r.val) (b + 256) : ℝ) : EReal) := fun hd inb r => by
    rw [load_unit _ _ rfl _ _ _ (ix3 hd r 0) (fun a => by match a with | 0 => rfl | 1 => exact (Nat.zero_add _).symm | 2 => rfl)]
    exact h.rem hd r
  have h8 : ∀ (hd : Fin 2) (inb) (r : Fin 256) (l : Fin 128),
      arg8.view.readAt (Elt Ideal) (Rect.unit (s := S2x256x128) ![hd.val, 0, 0] S1x256x128.size inb).toLoadRect f8 (ix3 0 r l)
        = out (logit (qv r) kv hd) (v l) (256 * (i 2).val + r.val) (b + 256) := fun hd inb r l => by
    rw [load_unit _ _ rfl _ _ _ (ix3 hd r l) (fun a => by match a with | 0 => rfl | 1 => exact (Nat.zero_add _).symm | 2 => exact (Nat.zero_add _).symm)]
    exact h.acc hd r l
  unfold trip_k0_t1
  dsimp only
  sl_unfold_run_names
  refine ⟨fun hd r l => ?_, fun hd r => ?_⟩
  · match hd with
    | 0 =>
      refine (View.read_writes_cons_unit_of_not_mem _ _ _ _ _ _ rfl (0 : Fin 3) (Or.inl Nat.zero_lt_one)).trans ?_
      refine (View.read_writes_cons_unit_of_mem _ _ _ _ _ _ (ix3 0 r l) rfl (fun a => by match a with | 0 => rfl | 1 => exact (Nat.zero_add _).symm | 2 => exact (Nat.zero_add _).symm)).trans ?_
      exact acc0 (by omega) (fun c => logits0 (hQ r) c (hKb c)) (h9 0 _ r) (h8 0 _ r l) (fun x => hVb x l)
    | 1 =>
      refine (View.read_writes_cons_unit_of_mem _ _ _ _ _ _ (ix3 0 r l) rfl (fun a => by match a with | 0 => rfl | 1 => exact (Nat.zero_add _).symm | 2 => exact (Nat.zero_add _).symm)).trans ?_
      exact acc1 (by omega) (fun c => logits1 (hQ r) c (hKb c)) (h9 1 _ r) (h8 1 _ r l) (fun x => hVb x l)
  · match hd with
    | 0 =>
      refine (View.read_writes_cons_unit_of_not_mem _ _ _ _ _ _ rfl (0 : Fin 3) (Or.inl Nat.zero_lt_one)).trans ?_
      refine (View.read_writes_cons_unit_of_mem _ _ _ _ _ _ (ix3 0 r 0) rfl (fun a => by match a with | 0 => rfl | 1 => exact (Nat.zero_add _).symm | 2 => rfl)).trans ?_
      exact rem0 (by omega) (fun c => logits0 (hQ r) c (hKb c)) (h9 0 _ r)
    | 1 =>
      refine (View.read_writes_cons_unit_of_mem _ _ _ _ _ _ (ix3 0 r 0) rfl (fun a => by match a with | 0 => rfl | 1 => exact (Nat.zero_add _).symm | 2 => rfl)).trans ?_
      exact rem1 (by omega) (fun c => logits1 (hQ r) c (hKb c)) (h9 1 _ r)

/-- The whole loop moves the running buffers to position 0. -/
theorem loop_upto {arg2 : BitVec 32} {v4 : IVec S256x128 1} {v112 : FVec Ideal S256x1 .f32} {Q : Vec Ideal S1x256x128 .bf16}
    {X4 : BufTy.Contents (Elt Ideal) arg4.view.ty} {X5 : BufTy.Contents (Elt Ideal) arg5.view.ty}
    {qv : Fin 256 → Fin 128 → ℝ} {kv : ℕ → Fin 128 → ℝ} {v : Fin 128 → ℕ → EReal}
    (hQ : ∀ r x, Q (ix3 0 r x) = ((qv r x : ℝ) : EReal))
    (hK : ∀ (s : Fin 4096) x, arg4.view.read (Elt Ideal) X4 (ix3 0 s x) = ((kv s.val x : ℝ) : EReal))
    (hV : ∀ (s : Fin 4096) x, arg5.view.read (Elt Ideal) X5 (ix3 0 s x) = v x s.val)
    (G8 : BufTy.Contents (Elt Ideal) arg8.view.ty) (G9 : BufTy.Contents (Elt Ideal) arg9.view.ty)
    (h : Upto (arg8.view.read (Elt Ideal) G8) (arg9.view.read (Elt Ideal) G9) qv kv v (i 2).val (256 * (i 2).val))
    (n : ℕ) (hn : n ≤ (k0_t1_loop i).trips) :
    Upto
      (arg8.view.read (Elt Ideal) (arg8.view.writes (Elt Ideal) G8 (pb_k0_t1 (F := Ideal) Variants.none c none i arg3 harg3 arg4 harg4 arg5 harg5 arg6 harg6
        arg7 harg7 arg8 harg8 arg9 harg9 arg2 v4 (k0_pay29 Q) (k0_pay30 Q) k0_pay32 v112 X4 X5 G8 G9 n).1))
      (arg9.view.read (Elt Ideal) (arg9.view.writes (Elt Ideal) G9 (pb_k0_t1 (F := Ideal) Variants.none c none i arg3 harg3 arg4 harg4 arg5 harg5 arg6 harg6
        arg7 harg7 arg8 harg8 arg9 harg9 arg2 v4 (k0_pay29 Q) (k0_pay30 Q) k0_pay32 v112 X4 X5 G8 G9 n).2))
      qv kv v (i 2).val (256 * ((i 2).val - n)) := by
  induction n with
  | zero => exact h
  | succ n ih =>
    have hs := pb_k0_t1_succ (F := Ideal) Variants.none c none i arg3 harg3 arg4 harg4 arg5 harg5 arg6 harg6
      arg7 harg7 arg8 harg8 arg9 harg9 arg2 v4 (k0_pay29 Q) (k0_pay30 Q) k0_pay32 v112 X4 X5 G8 G9 ⟨n, hn⟩
    have ht := trip_upto (c := c) (i := i) (arg3 := arg3) (harg3 := harg3) (harg4 := harg4) (harg5 := harg5) (arg6 := arg6) (harg6 := harg6)
      (arg7 := arg7) (harg7 := harg7) (harg8 := harg8) (harg9 := harg9) (arg2 := arg2) (v4 := v4) (v112 := v112) hQ hK hV ⟨n, hn⟩ _ _ (ih (Nat.le_of_lt hn))
    rw [← View.writes_append, ← View.writes_append] at ht
    have h1 := congrArg Prod.fst hs
    have h2 := congrArg Prod.snd hs
    dsimp only at h1 h2
    rw [h1, h2]
    exact ht

end Cert.KernelIdeal.Hand

end
-- ==== Proof.SbOut.lean ====
/-
  What one grid point of the attention kernel leaves in its output block, at a row and a lane: the attention output of
  the lane's head, normalized by the root mean square over the head's lanes and multiplied by the gain.
-/
module

public import proofs.«01_k».proof.Proof.SbTrip
public import proofs.«01_k».proof.Proof.Gen.KernelIdeal.Frame

@[expose] public section

set_option maxRecDepth 16384

noncomputable section

namespace Cert.KernelIdeal.Hand

open Cert.KernelIdeal Cert.KernelIdeal.Gen Cert.SbMath
open Idealize.ShloMosaic Idealize.ShloMosaic.TcCoe Idealize.SL.Sem

/-! ## The end of a row -/

/-- The head (of the pair) of a lane. -/
def headOf (l : Fin 128) : Fin 2 := if l.val < 64 then 0 else 1

theorem headOf_lane (h : Fin 2) (d : Fin 64) : headOf (lane h d) = h := by
  unfold headOf
  match h with
  | 0 => rw [if_pos (lane_zero_lt d)]
  | 1 => rw [if_neg (lane_one_not_lt d)]

/-- One head's output normalized over its 64 lanes: `o` by lane of the pair. -/
def normed (o : Fin 128 → EReal) (l : Fin 128) : EReal :=
  o l * Ideal.rsqrt ((∑ d : Fin 64, o (lane (headOf l) d) * o (lane (headOf l) d)) * Ideal.ofBits FTy.f32 0x3C800000#32
    + Ideal.ofBits FTy.f32 0x358637BD#32)

/-- The last step of a row, from the two heads' outputs. -/
theorem pay53_apply (a0 a1 : Vec Ideal S1x256x128 .f32) (o : Fin 128 → EReal) (r : Fin 256)
    (h0 : ∀ l, l.val < 64 → (a0 (ix3 0 r l) : EReal) = o l) (h1 : ∀ l, ¬ l.val < 64 → (a1 (ix3 0 r l) : EReal) = o l) (l : Fin 128) :
    k0_pay53 (F := Ideal) k0_pay27 a0 a1 (ix2 r l) = normed o l := by
  have hs : ∀ x, Scalar.select (k0_pay27 (ix2 r x)) (a0 (ix3 0 r x) : EReal) (a1 (ix3 0 r x)) = o x := fun x => by
    rw [select_pay27]
    by_cases hx : x.val < 64
    · rw [if_pos hx, h0 x hx]
    · rw [if_neg hx, h1 x hx]
  have h : k0_pay53 (F := Ideal) k0_pay27 a0 a1 (ix2 r l)
      = Scalar.select (k0_pay27 (ix2 r l)) (a0 (ix3 0 r l) : EReal) (a1 (ix3 0 r l)) *
      Ideal.rsqrt
        (Scalar.select (k0_pay27 (ix2 r l))
              (∑ x : Fin 128,
                Scalar.select (k0_pay27 (ix2 r x))
                  (Scalar.select (k0_pay27 (ix2 r x)) (a0 (ix3 0 r x) : EReal) (a1 (ix3 0 r x)) *
                    Scalar.select (k0_pay27 (ix2 r x)) (a0 (ix3 0 r x) : EReal) (a1 (ix3 0 r x)))
                  0)
              (∑ x : Fin 128,
                Scalar.select (k0_pay27 (ix2 r x)) 0
                  (Scalar.select (k0_pay27 (ix2 r x)) (a0 (ix3 0 r x) : EReal) (a1 (ix3 0 r x)) *
                    Scalar.select (k0_pay27 (ix2 r x)) (a0 (ix3 0 r x) : EReal) (a1 (ix3 0 r x)))) *
            Ideal.ofBits FTy.f32 0x3C800000#32 + Ideal.ofBits FTy.f32 0x358637BD#32) := by
    pointwise [k0_pay53]
  have e0 : (∑ x : Fin 128, Scalar.select (k0_pay27 (ix2 r x)) (o x * o x) 0) = ∑ d : Fin 64, o (lane 0 d) * o (lane 0 d) := by
    rw [sum_lanes]
    conv_rhs => rw [← add_zero (∑ d : Fin 64, _)]
    refine congrArg₂ _ (Finset.sum_congr rfl fun d _ => ?_) ((Finset.sum_congr rfl fun d _ => ?_).trans Finset.sum_const_zero)
    · rw [select_pay27, if_pos (lane_zero_lt d)]
    · rw [select_pay27, if_neg (lane_one_not_lt d)]
  have e1 : (∑ x : Fin 128, Scalar.select (k0_pay27 (ix2 r x)) 0 (o x * o x)) = ∑ d : Fin 64, o (lane 1 d) * o (lane 1 d) := by
    rw [sum_lanes]
    conv_rhs => rw [← zero_add (∑ d : Fin 64, _)]
    refine congrArg₂ _ ((Finset.sum_congr rfl fun d _ => ?_).trans Finset.sum_const_zero) (Finset.sum_congr rfl fun d _ => ?_)
    · rw [select_pay27, if_pos (lane_zero_lt d)]
    · rw [select_pay27, if_neg (lane_one_not_lt d)]
  rw [h]
  simp only [hs]
  rw [e0, e1, select_pay27]
  unfold normed headOf
  by_cases hl : l.val < 64
  · simp only [if_pos hl]
  · simp only [if_neg hl]

/-! ## The grid point -/

variable {c : Dev nD} {i : grid0.Coords}
variable {arg3 : Memref sig .tc .vmem S1x256x128 .bf16} {harg3 : arg3.IsWhole}
variable {arg4 : Memref sig .tc .vmem S1x4096x128 .bf16} {harg4 : arg4.IsWhole}
variable {arg5 : Memref sig .tc .vmem S1x4096x128 .bf16} {harg5 : arg5.IsWhole}
variable {arg6 : Memref sig .tc .vmem S1x1x128 .f32} {harg6 : arg6.IsWhole}
variable {arg7 : Memref sig .tc .vmem S1x256x128 .bf16} {harg7 : arg7.IsWhole}
variable {arg8 : Memref sig .tc .vmem S2x256x128 .f32} {harg8 : arg8.IsWhole}
variable {arg9 : Memref sig .tc .vmem S2x256x1 .f32} {harg9 : arg9.IsWhole}
variable {x0 : Vec Ideal S1x256x128 .bf16} {x1 x2 : Vec Ideal S1x4096x128 .bf16} {x3 : Vec Ideal S1x1x128 .f32}
variable {qv : Fin 256 → Fin 128 → ℝ} {kv : ℕ → Fin 128 → ℝ} {v : Fin 128 → ℕ → EReal}

/-- The query block is loaded as it is. -/
theorem load_q : arg3.view.readAt (Elt Ideal) (Rect.unit (s := S1x256x128) ![0, 0, 0] S1x256x128.size inb_S1x256x128_S1x256x128_0_0_0).toLoadRect (harg3.unread x0) = x0 := by
  funext x
  rw [load_unit _ _ rfl _ _ _ (x : S1x256x128.Idx) (fun a => by match a with | 0 => exact (Nat.zero_add _).symm | 1 => exact (Nat.zero_add _).symm | 2 => exact (Nat.zero_add _).symm),
    harg3.read_unread]

/-- The gain is loaded as it is. -/
theorem load_g : arg6.view.readAt (Elt Ideal) (Rect.unit (s := S1x1x128) ![0, 0, 0] S1x1x128.size inb_S1x1x128_S1x1x128_0_0_0).toLoadRect (harg6.unread x3) = x3 := by
  funext x
  rw [load_unit _ _ rfl _ _ _ (x : S1x1x128.Idx) (fun a => by match a with | 0 => exact (Nat.zero_add _).symm | 1 => exact (Nat.zero_add _).symm | 2 => exact (Nat.zero_add _).symm),
    harg6.read_unread]

/-- The keys' diagonal block. -/
theorem load_kd (hK : ∀ (s : Fin 4096) x, x1 (ix3 0 s x) = ((kv s.val x : ℝ) : EReal)) (s : Fin 256) (x : Fin 128) :
    arg4.view.readAt (Elt Ideal) (Rect.unit (s := S1x4096x128) (k0_off1 i) S1x256x128.size (k0_off1_inb i)).toLoadRect (harg4.unread x1) (ix3 0 s x)
      = ((kv (256 * (i 2).val + s.val) x : ℝ) : EReal) := by
  have hi : (i 2).val < 16 := (i 2).isLt
  rw [load_unit _ _ (off1_eq i) _ _ _ (ix3 0 ⟨256 * (i 2).val + s.val, by omega⟩ x) (fun a => by match a with | 0 => rfl | 1 => rfl | 2 => exact (Nat.zero_add _).symm),
    harg4.read_unread]
  exact hK _ _

/-- The values' diagonal block. -/
theorem load_vd (hV : ∀ (s : Fin 4096) x, x2 (ix3 0 s x) = v x s.val) (s : Fin 256) (x : Fin 128) :
    arg5.view.readAt (Elt Ideal) (Rect.unit (s := S1x4096x128) (k0_off1 i) S1x256x128.size (k0_off1_inb i)).toLoadRect (harg5.unread x2) (ix3 0 s x)
      = v x (256 * (i 2).val + s.val) := by
  have hi : (i 2).val < 16 := (i 2).isLt
  rw [load_unit _ _ (off1_eq i) _ _ _ (ix3 0 ⟨256 * (i 2).val + s.val, by omega⟩ x) (fun a => by match a with | 0 => rfl | 1 => rfl | 2 => exact (Nat.zero_add _).symm),
    harg5.read_unread]
  exact hV _ _

theorem pay33_apply (h : Fin 2) (r : Fin 256) (l : Fin 128) : k0_pay33 (F := Ideal) (ix3 h r l) = (0 : EReal) := by
  pointwise [k0_pay33]

theorem pay34_apply (h : Fin 2) (r : Fin 256) (l : Fin 1) : k0_pay34 (F := Ideal) (ix3 h r l) = (0 : EReal) := by
  pointwise [k0_pay34]

/-- The running output, filled with zeros. -/
theorem fill8 (h : Fin 2) (r : Fin 256) (l : Fin 128) :
    arg8.view.read (Elt Ideal) (arg8.view.writes (Elt Ideal) arg8.view.junk (kernelRun0_A.sl.HS0_1 (F := Ideal))) (ix3 h r l) = (0 : EReal) := by
  unfold kernelRun0_A.sl.HS0_1
  refine (View.read_writes_cons_unit_of_mem _ _ _ _ _ _ (ix3 h r l) rfl (fun a => by match a with | 0 => exact (Nat.zero_add _).symm | 1 => exact (Nat.zero_add _).symm | 2 => exact (Nat.zero_add _).symm)).trans ?_
  exact pay33_apply h r l

/-- The running remainder, filled with zeros. -/
theorem fill9 (h : Fin 2) (r : Fin 256) :
    arg9.view.read (Elt Ideal) (arg9.view.writes (Elt Ideal) arg9.view.junk (kernelRun0_A.sl.HS1_1 (F := Ideal))) (ix3 h r 0) = (0 : EReal) := by
  unfold kernelRun0_A.sl.HS1_1
  refine (View.read_writes_cons_unit_of_mem _ _ _ _ _ _ (ix3 h r 0) rfl (fun a => by match a with | 0 => exact (Nat.zero_add _).symm | 1 => exact (Nat.zero_add _).symm | 2 => rfl)).trans ?_
  exact pay34_apply h r 0

/-- The running remainder the first head's diagonal step finds. -/
theorem v54_apply (r : Fin 256) : kernelRun0_A.sl.v54 (F := Ideal) c arg9 (ix3 0 r 0) = (0 : EReal) := by
  unfold kernelRun0_A.sl.v54 View.readCov
  exact (load_unit _ _ rfl _ _ _ (ix3 0 r 0) (fun a => by match a with | 0 => rfl | 1 => exact (Nat.zero_add _).symm | 2 => rfl)).trans (fill9 0 r)

/-- The running output the first head's diagonal step finds. -/
theorem v62_apply (r : Fin 256) (l : Fin 128) : kernelRun0_A.sl.v62 (F := Ideal) c arg8 (ix3 0 r l) = (0 : EReal) := by
  unfold kernelRun0_A.sl.v62 View.readCov
  exact (load_unit _ _ rfl _ _ _ (ix3 0 r l) (fun a => by match a with | 0 => rfl | 1 => exact (Nat.zero_add _).symm | 2 => exact (Nat.zero_add _).symm)).trans (fill8 0 r l)

/-- The running remainder the second head's diagonal step finds. -/
theorem v95_apply (r : Fin 256) : kernelRun0_A.sl.v95 (F := Ideal) c i arg3 harg3 arg4 harg4 arg9 x0 x1 (ix3 0 r 0) = (0 : EReal) := by
  unfold kernelRun0_A.sl.v95 View.readCov
  refine (load_unit _ _ rfl _ _ _ (ix3 1 r 0) (fun a => by match a with | 0 => rfl | 1 => exact (Nat.zero_add _).symm | 2 => rfl)).trans ?_
  unfold kernelRun0_A.sl.HS1_2
  exact (View.read_writes_cons_unit_of_not_mem _ _ _ _ _ _ rfl (0 : Fin 3) (Or.inr le_rfl)).trans (fill9 1 r)

/-- The running output the second head's diagonal step finds. -/
theorem v103_apply (r : Fin 256) (l : Fin 128) :
    kernelRun0_A.sl.v103 (F := Ideal) c i arg3 harg3 arg4 harg4 arg5 harg5 arg8 arg9 x0 x1 x2 (ix3 0 r l) = (0 : EReal) := by
  unfold kernelRun0_A.sl.v103 View.readCov
  refine (load_unit _ _ rfl _ _ _ (ix3 1 r l) (fun a => by match a with | 0 => rfl | 1 => exact (Nat.zero_add _).symm | 2 => exact (Nat.zero_add _).symm)).trans ?_
  unfold kernelRun0_A.sl.HS0_2
  exact (View.read_writes_cons_unit_of_not_mem _ _ _ _ _ _ rfl (0 : Fin 3) (Or.inr le_rfl)).trans (fill8 1 r l)

/-- After the diagonal block the running buffers stand at the block's start. -/
theorem diag_upto (hQ : ∀ r x, x0 (ix3 0 r x) = ((qv r x : ℝ) : EReal))
    (hK : ∀ (s : Fin 4096) x, x1 (ix3 0 s x) = ((kv s.val x : ℝ) : EReal)) (hV : ∀ (s : Fin 4096) x, x2 (ix3 0 s x) = v x s.val) :
    Upto
      (arg8.view.read (Elt Ideal) (arg8.view.writes (Elt Ideal) arg8.view.junk
        (kernelRun0_A.sl.HS0_3 (F := Ideal) c i arg3 harg3 arg4 harg4 arg5 harg5 arg8 arg9 x0 x1 x2)))
      (arg9.view.read (Elt Ideal) (arg9.view.writes (Elt Ideal) arg9.view.junk
        (kernelRun0_A.sl.HS1_3 (F := Ideal) c i arg3 harg3 arg4 harg4 arg9 x0 x1)))
      qv kv v (i 2).val (256 * (i 2).val) := by
  have z0 : ∀ r c', k0_pay37 (F := Ideal) (kernelRun0_A.sl.r c arg3 harg3 x0) (kernelRun0_A.sl.r_2 c i arg4 harg4 x1) kernelRun0_A.sl.cst_16 (ix2 r c')
      = ((logit (qv r) kv 0 (256 * (i 2).val + c'.val) : ℝ) : EReal) := fun r c' => by
    unfold kernelRun0_A.sl.r kernelRun0_A.sl.r_2 kernelRun0_A.sl.cst_16
    rw [load_q]
    exact logits0_diag (hQ r) c' (load_kd hK c')
  have z1 : ∀ r c', k0_pay43 (F := Ideal) (kernelRun0_A.sl.r_1 c arg3 harg3 x0) (kernelRun0_A.sl.r_2 c i arg4 harg4 x1) (ix2 r c')
      = ((logit (qv r) kv 1 (256 * (i 2).val + c'.val) : ℝ) : EReal) := fun r c' => by
    unfold kernelRun0_A.sl.r_1 kernelRun0_A.sl.r_2
    rw [load_q]
    exact logits1_diag (hQ r) c' (load_kd hK c')
  refine ⟨fun hd r l => ?_, fun hd r => ?_⟩
  · unfold kernelRun0_A.sl.HS0_3
    match hd with
    | 0 =>
      refine (View.read_writes_cons_unit_of_not_mem _ _ _ _ _ _ rfl (0 : Fin 3) (Or.inl Nat.zero_lt_one)).trans ?_
      unfold kernelRun0_A.sl.HS0_2 kernelRun0_A.sl.r_3
      refine (View.read_writes_cons_unit_of_mem _ _ _ _ _ _ (ix3 0 r l) rfl (fun a => by match a with | 0 => rfl | 1 => exact (Nat.zero_add _).symm | 2 => exact (Nat.zero_add _).symm)).trans ?_
      exact acc0_diag (z0 r) (v54_apply r) (v62_apply r l) (fun x => load_vd hV x l)
    | 1 =>
      unfold kernelRun0_A.sl.r_3
      refine (View.read_writes_cons_unit_of_mem _ _ _ _ _ _ (ix3 0 r l) rfl (fun a => by match a with | 0 => rfl | 1 => exact (Nat.zero_add _).symm | 2 => exact (Nat.zero_add _).symm)).trans ?_
      exact acc1_diag (z1 r) (v95_apply r) (v103_apply r l) (fun x => load_vd hV x l)
  · unfold kernelRun0_A.sl.HS1_3
    match hd with
    | 0 =>
      refine (View.read_writes_cons_unit_of_not_mem _ _ _ _ _ _ rfl (0 : Fin 3) (Or.inl Nat.zero_lt_one)).trans ?_
      unfold kernelRun0_A.sl.HS1_2 kernelRun0_A.sl.r_4
      refine (View.read_writes_cons_unit_of_mem _ _ _ _ _ _ (ix3 0 r 0) rfl (fun a => by match a with | 0 => rfl | 1 => exact (Nat.zero_add _).symm | 2 => rfl)).trans ?_
      exact rem0_diag (z0 r) (v54_apply r)
    | 1 =>
      unfold kernelRun0_A.sl.r_5
      refine (View.read_writes_cons_unit_of_mem _ _ _ _ _ _ (ix3 0 r 0) rfl (fun a => by match a with | 0 => rfl | 1 => exact (Nat.zero_add _).symm | 2 => rfl)).trans ?_
      exact rem1_diag (z1 r) (v95_apply r)

/-- Both loops: the running output at position 0. -/
theorem v121_apply (hQ : ∀ r x, x0 (ix3 0 r x) = ((qv r x : ℝ) : EReal))
    (hK : ∀ (s : Fin 4096) x, x1 (ix3 0 s x) = ((kv s.val x : ℝ) : EReal)) (hV : ∀ (s : Fin 4096) x, x2 (ix3 0 s x) = v x s.val)
    (r : Fin 256) (l : Fin 128) :
    kernelRun0_A.sl.v121 (F := Ideal) c i arg3 harg3 arg4 harg4 arg5 harg5 arg6 harg6 arg7 harg7 arg8 harg8 arg9 harg9 x0 x1 x2 (ix3 0 r l)
        = out (logit (qv r) kv 0) (v l) (256 * (i 2).val + r.val) 0
    ∧ kernelRun0_A.sl.v123 (F := Ideal) c i arg3 harg3 arg4 harg4 arg5 harg5 arg6 harg6 arg7 harg7 arg8 harg8 arg9 harg9 x0 x1 x2 (ix3 0 r l)
        = out (logit (qv r) kv 1) (v l) (256 * (i 2).val + r.val) 0 := by
  have hd := diag_upto (c := c) (i := i) (arg3 := arg3) (harg3 := harg3) (harg4 := harg4) (harg5 := harg5) (arg8 := arg8) (arg9 := arg9) hQ hK hV
  have hl := loop_upto (c := c) (i := i) (arg3 := arg3) (harg3 := harg3) (harg4 := harg4) (harg5 := harg5) (arg6 := arg6) (harg6 := harg6)
      (arg7 := arg7) (harg7 := harg7) (harg8 := harg8) (harg9 := harg9) (arg2 := BitVec.ofNat 32 (i 2).val) (v4 := k0_pay27)
      (v112 := kernelRun0_A.sl.r_5 c i arg3 harg3 arg4 harg4 arg9 x0 x1)
      (X4 := harg4.unread x1) (X5 := harg5.unread x2)
      hQ (fun s x => by rw [harg4.read_unread]; exact hK s x) (fun s x => by rw [harg5.read_unread]; exact hV s x) _ _ hd _ le_rfl
  rw [t1_trips, Nat.sub_self, Nat.mul_zero] at hl
  have h2 : Scf.trips (k0_t2_loop i).lb (k0_t2_loop i).ub (k0_t2_loop i).st = 0 := t2_trips i
  have h1 : Scf.trips (k0_t1_loop i).lb (k0_t1_loop i).ub (k0_t1_loop i).st = (i 2).val := t1_trips i
  have e0 : kernelRun0_A.sl.r (F := Ideal) c arg3 harg3 x0 = k0_pay29 x0 := by unfold kernelRun0_A.sl.r; rw [load_q]
  have e1 : kernelRun0_A.sl.r_1 (F := Ideal) c arg3 harg3 x0 = k0_pay30 x0 := by unfold kernelRun0_A.sl.r_1; rw [load_q]
  unfold kernelRun0_A.sl.v121 kernelRun0_A.sl.v123 View.readCov
  rw [h1, h2, pb_k0_t2, List.nil_append, e0, e1, View.writes_append]
  constructor
  · refine (load_unit _ _ rfl _ _ _ (ix3 0 r l) (fun a => by match a with | 0 => rfl | 1 => exact (Nat.zero_add _).symm | 2 => exact (Nat.zero_add _).symm)).trans ?_
    exact hl.acc 0 r l
  · refine (load_unit _ _ rfl _ _ _ (ix3 1 r l) (fun a => by match a with | 0 => rfl | 1 => exact (Nat.zero_add _).symm | 2 => exact (Nat.zero_add _).symm)).trans ?_
    exact hl.acc 1 r l

/-- The output block of a grid point, at a row and a lane. -/
theorem out_apply (hQ : ∀ r x, x0 (ix3 0 r x) = ((qv r x : ℝ) : EReal))
    (hK : ∀ (s : Fin 4096) x, x1 (ix3 0 s x) = ((kv s.val x : ℝ) : EReal)) (hV : ∀ (s : Fin 4096) x, x2 (ix3 0 s x) = v x s.val)
    (r : Fin 256) (l : Fin 128) :
    out0_A_4 (F := Ideal) c i arg3 harg3 arg4 harg4 arg5 harg5 arg6 harg6 arg7 harg7 arg8 harg8 arg9 harg9 x0 x1 x2 x3 (ix3 0 r l)
      = normed (fun x => out (logit (qv r) kv (headOf x)) (v x) (256 * (i 2).val + r.val) 0) l * x3 (ix3 0 0 l) := by
  unfold out0_A_4
  unfold kernelRun0_A
  dsimp only
  refine (View.read_writes_cons_unit_of_mem _ _ _ _ _ _ (ix3 0 r l) rfl (fun a => by match a with | 0 => exact (Nat.zero_add _).symm | 1 => exact (Nat.zero_add _).symm | 2 => exact (Nat.zero_add _).symm)).trans ?_
  have h : ∀ (w : FVec Ideal S256x128 .f32) (g : Vec Ideal S1x1x128 .f32), k0_pay1 (F := Ideal) w g (ix3 0 r l) = (w (ix2 r l) : EReal) * g (ix3 0 0 l) := fun w g => by
    pointwise [k0_pay1]
  unfold kernelRun0_A.sl.r_6 kernelRun0_A.sl.r_7
  rw [h, load_g]
  refine congrArg (· * (x3 (ix3 0 0 l) : EReal)) (pay53_apply _ _ _ r (fun x hx => ?_) (fun x hx => ?_) l)
  · rw [(v121_apply hQ hK hV r x).1]; unfold headOf; rw [if_pos hx]
  · rw [(v121_apply hQ hK hV r x).2]; unfold headOf; rw [if_neg hx]

end Cert.KernelIdeal.Hand

end
-- ==== Proof.SbSpec.lean ====
/-
  The attention layer as a function of its four argument arrays: at sequence b, position t and channel x, the
  stick-breaking attention output of the channel's head, normalized over the head's 64 channels and multiplied by the gain.
-/
module

public import proofs.«01_k».proof.Proof.SbMath
public import Idealize.ShloMosaic.Lib.Pointwise

@[expose] public section

noncomputable section

namespace Cert.SbMath

open Idealize.ShloMosaic

/-- The channel of dimension `d` of head `h`: the 384 channels are 6 heads of 64. -/
def ch (h : Fin 6) (d : Fin 64) : Fin 384 := ⟨64 * h.val + d.val, by have := h.isLt; have := d.isLt; omega⟩

/-- The head of a channel. -/
def hd (x : Fin 384) : Fin 6 := ⟨x.val / 64, by have := x.isLt; omega⟩

/-- A channel's dimension within its head. -/
def dm (x : Fin 384) : Fin 64 := ⟨x.val % 64, Nat.mod_lt _ (by decide)⟩

/-- Position `s` of a sequence of 4096. -/
def pos (s : ℕ) : Fin 4096 := ⟨s % 4096, Nat.mod_lt _ (by decide)⟩

theorem pos_val (s : Fin 4096) : pos s.val = s := Fin.ext (Nat.mod_eq_of_lt s.isLt)

theorem ch_hd_dm (x : Fin 384) : ch (hd x) (dm x) = x := Fin.ext (by show 64 * (x.val / 64) + x.val % 64 = x.val; omega)

theorem hd_ch (h : Fin 6) (d : Fin 64) : hd (ch h d) = h :=
  Fin.ext (by show (64 * h.val + d.val) / 64 = h.val; have := d.isLt; omega)

theorem dm_ch (h : Fin 6) (d : Fin 64) : dm (ch h d) = d :=
  Fin.ext (by show (64 * h.val + d.val) % 64 = d.val; have := d.isLt; omega)

/-- The shape of the activations: 8 sequences, 4096 positions, 384 channels. -/
abbrev Act : Shape := ⟨3, ![8, 4096, 384]⟩

variable (q k : Fin 8 → Fin 4096 → Fin 384 → ℝ) (v : Act.Idx → EReal)

/-- The logit of query position `t` and key position `s` in head `h`. -/
def lg (b : Fin 8) (t : Fin 4096) (h : Fin 6) (s : ℕ) : ℝ := ∑ d : Fin 64, q b t (ch h d) * k b (pos s) (ch h d)

/-- The attention output at position `t`, channel `x`, before the normalization. -/
def att (b : Fin 8) (t : Fin 4096) (x : Fin 384) : EReal :=
  out (lg q k b t (hd x)) (fun s => v (ix3 b (pos s) x)) t.val 0

/-- The layer's result. -/
def layer (g : (⟨2, ![6, 64]⟩ : Shape).Idx → EReal) (b : Fin 8) (t : Fin 4096) (x : Fin 384) : EReal :=
  att q k v b t x * Ideal.rsqrt ((∑ d : Fin 64, att q k v b t (ch (hd x) d) * att q k v b t (ch (hd x) d))
      * Ideal.ofBits FTy.f32 0x3C800000#32 + Ideal.ofBits FTy.f32 0x358637BD#32) * g (ix2 (hd x) (dm x))

end Cert.SbMath

end
-- ==== Proof.SbArray.lean ====
/-
  The attention kernel's result array: every element is written by one grid point, and it is the layer of the arguments.
-/
module

public import proofs.«01_k».proof.Proof.SbOut
public import proofs.«01_k».proof.Proof.SbSpec
public import proofs.«01_k».proof.Proof.Gen.KernelIdeal.Value
public import Idealize.ShloMosaic.Lib.Pipeline.Covers

@[expose] public section

set_option maxRecDepth 16384

noncomputable section

namespace Cert.KernelIdeal.Hand

open Cert.KernelIdeal Cert.KernelIdeal.Gen Cert.SbMath
open Idealize.ShloMosaic Idealize.ShloMosaic.TcCoe Idealize.SL.Sem

variable (m : (ℓ : Loc nD τ sig) → Buf (Elt Ideal) ℓ) (c : Dev nD)

/-- The sequence of a grid point. -/
abbrev bAt (t : Fin cfg0.N) : Fin 8 := grid0.coords t 0
/-- The pair of heads of a grid point. -/
abbrev pAt (t : Fin cfg0.N) : Fin 3 := grid0.coords t 1
/-- The block of query rows of a grid point. -/
abbrev iAt (t : Fin cfg0.N) : Fin 16 := grid0.coords t 2

/-- The gain as the kernel's region finds it: the 6×64 argument in three rows of 128. -/
theorem V_gain (p : Fin 3) (l : Fin 128) :
    V m c main_v0 (ix3 p 0 l) = m ((c : Thread nD τ).loc main_arg3) (ix2 ⟨2 * p.val + l.val / 64, by have := p.isLt; have := l.isLt; omega⟩ ⟨l.val % 64, Nat.mod_lt _ (by decide)⟩) := by
  have h : V m c main_v0 = shapeCast S3x1x128 (m ((c : Thread nD τ).loc main_arg3)) shapeCasts_S6x64_S3x1x128 := by
    show StableHlo.after hostOps0 (fun b => m (c, b)) _ = _
    after_region_results
    rfl
  rw [h]
  refine shapeCast_apply (s := S6x64) (t := S3x1x128) _ _ (ix3 p 0 l) (ix2 ⟨2 * p.val + l.val / 64, by have := p.isLt; have := l.isLt; omega⟩ ⟨l.val % 64, Nat.mod_lt _ (by decide)⟩) ?_
  rw [Shape.rowMajor_val_three, Shape.rowMajor_val_two]
  show (2 * p.val + l.val / 64) * 64 + l.val % 64 = (p.val * 1 + 0) * 128 + l.val
  omega

/-- The block of queries of a grid point. -/
theorem iblk_q (t : Fin cfg0.N) (r : Fin 256) (l : Fin 128) :
    (iblk m c 0 t : Vec Ideal S1x256x128 .bf16) (ix3 0 r l)
      = m ((c : Thread nD τ).loc main_arg0) (ix3 (bAt t)
          ⟨256 * (iAt t).val + r.val, by have : (iAt t).val < 16 := (iAt t).isLt; have := r.isLt; omega⟩
          ⟨128 * (pAt t).val + l.val, by have : (pAt t).val < 3 := (pAt t).isLt; have := l.isLt; omega⟩) := by
  have h0 : (bAt t).val < 8 := (bAt t).isLt
  have h1 : (pAt t).val < 3 := (pAt t).isLt
  have h2 : (iAt t).val < 16 := (iAt t).isLt
  unfold iblk
  rw [View.read_apply]
  show V m c main_arg0 _ = _
  rw [V_main_arg0]
  congr 1
  funext a
  apply Fin.ext
  match a with
  | ⟨0, _⟩ =>
    show (BitVec.ofNat 32 (bAt t).val).toNat * 1 + 1 * 0 = (bAt t).val
    rw [BitVec.toNat_ofNat]; omega
  | ⟨1, _⟩ =>
    show (BitVec.ofNat 32 (iAt t).val).toNat * 256 + 1 * r.val = 256 * (iAt t).val + r.val
    rw [BitVec.toNat_ofNat]; omega
  | ⟨2, _⟩ =>
    show (BitVec.ofNat 32 (pAt t).val).toNat * 128 + 1 * l.val = 128 * (pAt t).val + l.val
    rw [BitVec.toNat_ofNat]; omega

/-- The block of keys of a grid point: the whole sequence of its pair of heads. -/
theorem iblk_k (t : Fin cfg0.N) (s : Fin 4096) (l : Fin 128) :
    (iblk m c 1 t : Vec Ideal S1x4096x128 .bf16) (ix3 0 s l)
      = m ((c : Thread nD τ).loc main_arg1) (ix3 (bAt t) s
          ⟨128 * (pAt t).val + l.val, by have : (pAt t).val < 3 := (pAt t).isLt; have := l.isLt; omega⟩) := by
  have h0 : (bAt t).val < 8 := (bAt t).isLt
  have h1 : (pAt t).val < 3 := (pAt t).isLt
  unfold iblk
  rw [View.read_apply]
  show V m c main_arg1 _ = _
  rw [V_main_arg1]
  congr 1
  funext a
  apply Fin.ext
  match a with
  | ⟨0, _⟩ =>
    show (BitVec.ofNat 32 (bAt t).val).toNat * 1 + 1 * 0 = (bAt t).val
    rw [BitVec.toNat_ofNat]; omega
  | ⟨1, _⟩ =>
    show 0 * 4096 + 1 * s.val = s.val
    omega
  | ⟨2, _⟩ =>
    show (BitVec.ofNat 32 (pAt t).val).toNat * 128 + 1 * l.val = 128 * (pAt t).val + l.val
    rw [BitVec.toNat_ofNat]; omega

/-- The block of values of a grid point: the whole sequence of its pair of heads. -/
theorem iblk_v (t : Fin cfg0.N) (s : Fin 4096) (l : Fin 128) :
    (iblk m c 2 t : Vec Ideal S1x4096x128 .bf16) (ix3 0 s l)
      = m ((c : Thread nD τ).loc main_arg2) (ix3 (bAt t) s
          ⟨128 * (pAt t).val + l.val, by have : (pAt t).val < 3 := (pAt t).isLt; have := l.isLt; omega⟩) := by
  have h0 : (bAt t).val < 8 := (bAt t).isLt
  have h1 : (pAt t).val < 3 := (pAt t).isLt
  unfold iblk
  rw [View.read_apply]
  show V m c main_arg2 _ = _
  rw [V_main_arg2]
  congr 1
  funext a
  apply Fin.ext
  match a with
  | ⟨0, _⟩ =>
    show (BitVec.ofNat 32 (bAt t).val).toNat * 1 + 1 * 0 = (bAt t).val
    rw [BitVec.toNat_ofNat]; omega
  | ⟨1, _⟩ =>
    show 0 * 4096 + 1 * s.val = s.val
    omega
  | ⟨2, _⟩ =>
    show (BitVec.ofNat 32 (pAt t).val).toNat * 128 + 1 * l.val = 128 * (pAt t).val + l.val
    rw [BitVec.toNat_ofNat]; omega

/-- The block of gains of a grid point: the row of its pair of heads. -/
theorem iblk_g (t : Fin cfg0.N) (l : Fin 128) :
    (iblk m c 3 t : Vec Ideal S1x1x128 .f32) (ix3 0 0 l) = V m c main_v0 (ix3 (pAt t) 0 l) := by
  have h1 : (pAt t).val < 3 := (pAt t).isLt
  unfold iblk
  rw [View.read_apply]
  show V m c main_v0 _ = _
  congr 1
  funext a
  apply Fin.ext
  match a with
  | ⟨0, _⟩ =>
    show (BitVec.ofNat 32 (pAt t).val).toNat * 1 + 1 * 0 = (pAt t).val
    rw [BitVec.toNat_ofNat]; omega
  | ⟨1, _⟩ => rfl
  | ⟨2, _⟩ =>
    show 0 * 128 + 1 * l.val = l.val
    omega

/-- What a grid point leaves in its output block, at a row and a lane, is the layer at the element's position and channel. -/
theorem out_layer (q k : Fin 8 → Fin 4096 → Fin 384 → ℝ)
    (hq : ∀ b t x, m ((c : Thread nD τ).loc main_arg0) (ix3 b t x) = ((q b t x : ℝ) : EReal))
    (hk : ∀ b t x, m ((c : Thread nD τ).loc main_arg1) (ix3 b t x) = ((k b t x : ℝ) : EReal))
    (t : Fin cfg0.N) (r : Fin 256) (l : Fin 128) (T : Fin 4096) (x : Fin 384)
    (hT : T.val = 256 * (iAt t).val + r.val) (hx : x.val = 128 * (pAt t).val + l.val) :
    out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (ix3 0 r l)
      = layer q k (m ((c : Thread nD τ).loc main_arg2)) (m ((c : Thread nD τ).loc main_arg3)) (bAt t) T x := by
  have h1 : (pAt t).val < 3 := (pAt t).isLt
  have hr := r.isLt
  have hl := l.isLt
  have h2 : (iAt t).val < 16 := (iAt t).isLt
  refine (out_apply (qv := fun r l => q (bAt t) ⟨256 * (iAt t).val + r.val, by have := r.isLt; omega⟩ ⟨128 * (pAt t).val + l.val, by have := l.isLt; omega⟩)
    (kv := fun s l => k (bAt t) (pos s) ⟨128 * (pAt t).val + l.val, by have := l.isLt; omega⟩)
    (v := fun l s => m ((c : Thread nD τ).loc main_arg2) (ix3 (bAt t) (pos s) ⟨128 * (pAt t).val + l.val, by have := l.isLt; omega⟩))
    (fun r l => (iblk_q m c t r l).trans (hq _ _ _)) (fun s l => (iblk_k m c t s l).trans ((hk _ _ _).trans (by rw [pos_val])))
    (fun s l => (iblk_v m c t s l).trans (by rw [pos_val])) r l).trans ?_
  rw [iblk_g, V_gain]
  have hb1 : 256 * (iAt t).val + r.val < 4096 := by clear hT hx; omega
  have hb2 : ∀ y : Fin 128, 128 * (pAt t).val + y.val < 384 := fun y => by clear hT hx; have := y.isLt; omega
  have hatt : ∀ (y : Fin 128) (z : Fin 384), z.val = 128 * (pAt t).val + y.val →
      out (logit (fun l => q (bAt t) ⟨256 * (iAt t).val + r.val, hb1⟩ ⟨128 * (pAt t).val + l.val, hb2 l⟩)
        (fun s l => k (bAt t) (pos s) ⟨128 * (pAt t).val + l.val, hb2 l⟩) (headOf y))
        (fun s => m ((c : Thread nD τ).loc main_arg2) (ix3 (bAt t) (pos s) ⟨128 * (pAt t).val + y.val, hb2 y⟩))
        (256 * (grid0.coords t 2).val + r.val) 0 = att q k (m ((c : Thread nD τ).loc main_arg2)) (bAt t) T z := by
    intro y z hz
    unfold att
    have hT' : T = ⟨256 * (iAt t).val + r.val, hb1⟩ := Fin.ext hT
    have hz' : z = ⟨128 * (pAt t).val + y.val, hb2 y⟩ := Fin.ext hz
    rw [hT', hz']
    refine congrArg (fun f : ℕ → ℝ => out f _ _ 0) (funext fun s => ?_)
    unfold logit lg
    refine Finset.sum_congr rfl fun d _ => ?_
    have hc : (⟨128 * (pAt t).val + (lane (headOf y) d).val, hb2 _⟩ : Fin 384)
        = ch (hd ⟨128 * (pAt t).val + y.val, hb2 y⟩) d := Fin.ext (by
      show 128 * (pAt t).val + (64 * (headOf y).val + d.val) = 64 * ((128 * (pAt t).val + y.val) / 64) + d.val
      have hy := y.isLt
      unfold headOf
      split
      · show _ + (64 * 0 + _) = _; omega
      · show _ + (64 * 1 + _) = _; omega)
    beta_reduce; rw [hc]
  unfold normed layer
  beta_reduce
  have hg : (ix2 (⟨2 * (pAt t).val + l.val / 64, by omega⟩ : Fin 6) (⟨l.val % 64, Nat.mod_lt _ (by decide)⟩ : Fin 64) : S6x64.Idx) = ix2 (hd x) (dm x) := by
    congr 1
    · exact Fin.ext (by show 2 * (pAt t).val + l.val / 64 = x.val / 64; omega)
    · exact Fin.ext (by show l.val % 64 = x.val % 64; omega)
  rw [hg, hatt l x hx]
  have hsum : ∀ d : Fin 64, (ch (hd x) d).val = 128 * (pAt t).val + (lane (headOf l) d).val := fun d => by
    show 64 * (x.val / 64) + d.val = 128 * (pAt t).val + (64 * (headOf l).val + d.val)
    unfold headOf
    split
    · show _ = _ + (64 * 0 + _); omega
    · show _ = _ + (64 * 1 + _); omega
  congr 4
  refine congrArg (· * Ideal.ofBits FTy.f32 0x3C800000#32) (Finset.sum_congr rfl fun d _ => ?_)
  rw [hatt (lane (headOf l) d) (ch (hd x) d) (hsum d)]

/-- The kernel's result array. -/
theorem arrAt_layer (q k : Fin 8 → Fin 4096 → Fin 384 → ℝ)
    (hq : ∀ b t x, m ((c : Thread nD τ).loc main_arg0) (ix3 b t x) = ((q b t x : ℝ) : EReal))
    (hk : ∀ b t x, m ((c : Thread nD τ).loc main_arg1) (ix3 b t x) = ((k b t x : ℝ) : EReal)) :
    (dats m 0 c).arrAt 4 cfg0.N
      = (fun y => layer q k (m ((c : Thread nD τ).loc main_arg2)) (m ((c : Thread nD τ).loc main_arg3)) (y 0) (y 1) (y 2) : S8x4096x384.Idx → EReal) := by
  refine (dats m 0 c).arrAt_eq_of_cover 4 (fun y => layer q k (m ((c : Thread nD τ).loc main_arg2)) (m ((c : Thread nD τ).loc main_arg3)) (y 0) (y 1) (y 2) : S8x4096x384.Idx → EReal) (fun t _ => ?_) fun y => ?_
  · rw [Cert.KernelIdeal.Value.flushed4_A]
    have h0 : (bAt t).val < 8 := (bAt t).isLt
    have h1 : (pAt t).val < 3 := (pAt t).isLt
    have h2 : (iAt t).val < 16 := (iAt t).isLt
    funext j
    rw [View.read_apply]
    show out0_A_4 (F := Ideal) c (grid0.coords t) _ _ _ _ _ _ _ _ _ _ _ _ _ _ _ _ _ _ (j : S1x256x128.Idx) = _
    obtain ⟨a, r, l, rfl⟩ : ∃ (a : Fin 1) (r : Fin 256) (l : Fin 128), (j : S1x256x128.Idx) = ix3 a r l := ⟨j 0, j 1, j 2, by funext d; match d with | 0 => rfl | 1 => rfl | 2 => rfl⟩
    obtain rfl : a = 0 := Fin.eq_zero a
    have hr := r.isLt
    have hl := l.isLt
    refine (out_layer m c q k hq hk t r l ⟨256 * (iAt t).val + r.val, by omega⟩ ⟨128 * (pAt t).val + l.val, by omega⟩ rfl rfl).trans ?_
    congr 1
    · apply Fin.ext
      show (bAt t).val = (BitVec.ofNat 32 (bAt t).val).toNat * 1 + 1 * 0
      rw [BitVec.toNat_ofNat]; omega
    · apply Fin.ext
      show 256 * (iAt t).val + r.val = (BitVec.ofNat 32 (iAt t).val).toNat * 256 + 1 * r.val
      rw [BitVec.toNat_ofNat]; omega
    · apply Fin.ext
      show 128 * (pAt t).val + l.val = (BitVec.ofNat 32 (pAt t).val).toNat * 128 + 1 * l.val
      rw [BitVec.toNat_ofNat]; omega
  · have h0 : (y 0 : Nat) < 8 := (y 0).isLt
    have h1 : (y 1 : Nat) < 4096 := (y 1).isLt
    have h2 : (y 2 : Nat) < 384 := (y 2).isLt
    obtain ⟨t, ht⟩ := Pipeline.Grid.coords_surjective grid0 (fun a => match a with
      | 0 => (⟨(y 0 : Nat), h0⟩ : Fin 8)
      | 1 => (⟨(y 2 : Nat) / 128, by omega⟩ : Fin 3)
      | 2 => (⟨(y 1 : Nat) / 256, by omega⟩ : Fin 16))
    refine ⟨t, flush0_4 t, ?_⟩
    have e0 : (bAt t).val = (y 0 : Nat) := by show (grid0.coords t 0).val = _; rw [ht]
    have e1 : (pAt t).val = (y 2 : Nat) / 128 := by show (grid0.coords t 1).val = _; rw [ht]
    have e2 : (iAt t).val = (y 1 : Nat) / 256 := by show (grid0.coords t 2).val = _; rw [ht]
    show y ∈ ((View.whole main_v1).slice (win0_4.rect t)).set
    rw [View.set_slice_whole, Rect.mem_set_unit]
    intro a
    match a with
    | ⟨0, _⟩ =>
      show (BitVec.ofNat 32 (bAt t).val).toNat * 1 ≤ (y 0 : Nat) ∧ (y 0 : Nat) < (BitVec.ofNat 32 (bAt t).val).toNat * 1 + 1
      rw [BitVec.toNat_ofNat]; omega
    | ⟨1, _⟩ =>
      show (BitVec.ofNat 32 (iAt t).val).toNat * 256 ≤ (y 1 : Nat) ∧ (y 1 : Nat) < (BitVec.ofNat 32 (iAt t).val).toNat * 256 + 256
      rw [BitVec.toNat_ofNat]; omega
    | ⟨2, _⟩ =>
      show (BitVec.ofNat 32 (pAt t).val).toNat * 128 ≤ (y 2 : Nat) ∧ (y 2 : Nat) < (BitVec.ofNat 32 (pAt t).val).toNat * 128 + 128
      rw [BitVec.toNat_ofNat]; omega

end Cert.KernelIdeal.Hand

end
-- ==== Proof.SbRef.lean ====
/-
  The attention reference at an index: where queries and keys are real, it is the layer of the arguments.
-/
module

public import proofs.«01_k».proof.Proof.SbSpec
public import proofs.«01_k».proof.Proof.Gen.ReferenceIdeal.Read
public import Idealize.ShloMosaic.Lib.WordCmp

@[expose] public section

set_option maxRecDepth 16384

noncomputable section

namespace Cert.ReferenceIdeal.Hand

open Cert.ReferenceIdeal Cert.ReferenceIdeal.Gen Cert.ReferenceIdeal.Read Cert.SbMath
open Idealize.ShloMosaic Idealize.ShloMosaic.TcCoe Idealize.SL.Sem

/-- Division by 64 is the product with the word of 1/64. -/
theorem div_64 (x : EReal) : Ideal.div x (Ideal.ofBits FTy.f32 0x42800000#32) = x * Ideal.ofBits FTy.f32 0x3C800000#32 := by
  have h1 : Ideal.ofBits FTy.f32 0x42800000#32 = ((64 : ℝ) : EReal) := by
    simp [Ideal.ofBits, Ideal.ieee, -EReal.coe_mul]; norm_num
  have h2 : Ideal.ofBits FTy.f32 0x3C800000#32 = (((64 : ℝ)⁻¹ : ℝ) : EReal) := by
    simp [Ideal.ofBits, Ideal.ieee, -EReal.coe_mul]; norm_num
  rw [h1, h2, EReal.coe_inv]
  unfold Ideal.div
  rw [if_neg (by norm_num)]

/-- No value differs from itself. -/
theorem une_self (x : EReal) : FloatOps.cmpf (F := Ideal) (φ := .f32) .une x x = 0#1 := by
  show BitVec.ofBool (decide (x ≠ x)) = 0#1
  simp

/-- A left fold of additions over the numbers below `n` is the first value plus the sum. -/
theorem foldl_add (n : ℕ) (f : Fin n → EReal) (z : EReal) :
    (List.finRange n).foldl (fun r i => r + f i) z = z + ∑ i, f i := by
  have h : ∀ (l : List (Fin n)) (z : EReal), l.foldl (fun r i => r + f i) z = z + (l.map f).sum := by
    intro l
    induction l with
    | nil => intro z; simp
    | cons a l ih => intro z; rw [List.foldl_cons, ih, List.map_cons, List.sum_cons, add_assoc]
  rw [h, Fin.sum_univ_def]

/-- The window of the running sum: one position of each axis but the last, all 4096 of the last. -/
abbrev Win : Shape := ⟨4, ![1, 1, 1, 4096]⟩

/-- A window's index is its last coordinate. -/
def winEquiv : Fin 4096 ≃ Win.Idx where
  toFun w := ix4 0 0 0 w
  invFun y := y 3
  left_inv _ := rfl
  right_inv y := by
    funext a
    match a with
    | ⟨0, _⟩ => exact (Subsingleton.elim (α := Fin 1) 0 (y 0))
    | ⟨1, _⟩ => exact (Subsingleton.elim (α := Fin 1) 0 (y 1))
    | ⟨2, _⟩ => exact (Subsingleton.elim (α := Fin 1) 0 (y 2))
    | ⟨3, _⟩ => rfl

/-- The reverse running sum along the last axis: from position `s` on to the end. -/
theorem runsum_apply (x : S8x6x4096x4096.Idx → EReal) (v : S_.Idx → EReal) (hv : v (Shape.Idx.first h_S_) = 0)
    (b : Fin 8) (h : Fin 6) (t s : Fin 4096) :
    Host.reduceWindowAdd (F := Ideal) (φ := .f32) ![1, 1, 1, 4096] ![1, 1, 1, 1] ![0, 0, 0, 0] ![0, 0, 0, 4095] x v reduceWindows_S8x6x4096x4096_S8x6x4096x4096_w1s1p0_0_w1s1p0_0_w1s1p0_0_w4096s1p0_4095 h_S_ (ix4 b h t s)
      = ∑ w : Fin 4096, if hw : s.val + w.val < 4096 then x (ix4 b h t ⟨s.val + w.val, hw⟩) else 0 := by
  unfold Host.reduceWindowAdd
  rw [hv]
  rw [Ideal.hostReduceWindowAdd_def]
  unfold Ideal.hostReduceWindowAdd Host.reduceWindow
  dsimp only
  refine (foldl_add _ _ _).trans ?_
  rw [zero_add]
  refine (Equiv.sum_comp (winEquiv.trans Win.rowMajor) _).symm.trans ?_
  refine Finset.sum_congr rfl fun w _ => ?_
  have hy : Win.rowMajor.symm ((winEquiv.trans Win.rowMajor) w) = winEquiv w := Win.rowMajor.symm_apply_apply _
  have y0 : (Win.rowMajor.symm ((winEquiv.trans Win.rowMajor) w) 0).val = 0 := by rw [hy]; rfl
  have y1 : (Win.rowMajor.symm ((winEquiv.trans Win.rowMajor) w) 1).val = 0 := by rw [hy]; rfl
  have y2 : (Win.rowMajor.symm ((winEquiv.trans Win.rowMajor) w) 2).val = 0 := by rw [hy]; rfl
  have y3 : (Win.rowMajor.symm ((winEquiv.trans Win.rowMajor) w) 3).val = w.val := by rw [hy]; rfl
  by_cases hw : s.val + w.val < 4096
  · rw [dif_pos hw, dif_pos]
    · congr 1
      funext a
      apply Fin.ext
      match a with
      | ⟨0, _⟩ => show b.val * 1 + (Win.rowMajor.symm ((winEquiv.trans Win.rowMajor) w) 0).val - 0 = b.val; omega
      | ⟨1, _⟩ => show h.val * 1 + (Win.rowMajor.symm ((winEquiv.trans Win.rowMajor) w) 1).val - 0 = h.val; omega
      | ⟨2, _⟩ => show t.val * 1 + (Win.rowMajor.symm ((winEquiv.trans Win.rowMajor) w) 2).val - 0 = t.val; omega
      | ⟨3, _⟩ => show s.val * 1 + (Win.rowMajor.symm ((winEquiv.trans Win.rowMajor) w) 3).val - 0 = s.val + w.val; omega
    · have hb := b.isLt
      have hh := h.isLt
      have ht := t.isLt
      intro a
      match a with
      | ⟨0, _⟩ => show 0 ≤ b.val * 1 + (Win.rowMajor.symm ((winEquiv.trans Win.rowMajor) w) 0).val ∧ b.val * 1 + (Win.rowMajor.symm ((winEquiv.trans Win.rowMajor) w) 0).val - 0 < 8; omega
      | ⟨1, _⟩ => show 0 ≤ h.val * 1 + (Win.rowMajor.symm ((winEquiv.trans Win.rowMajor) w) 1).val ∧ h.val * 1 + (Win.rowMajor.symm ((winEquiv.trans Win.rowMajor) w) 1).val - 0 < 6; omega
      | ⟨2, _⟩ => show 0 ≤ t.val * 1 + (Win.rowMajor.symm ((winEquiv.trans Win.rowMajor) w) 2).val ∧ t.val * 1 + (Win.rowMajor.symm ((winEquiv.trans Win.rowMajor) w) 2).val - 0 < 4096; omega
      | ⟨3, _⟩ => show 0 ≤ s.val * 1 + (Win.rowMajor.symm ((winEquiv.trans Win.rowMajor) w) 3).val ∧ s.val * 1 + (Win.rowMajor.symm ((winEquiv.trans Win.rowMajor) w) 3).val - 0 < 4096; omega
  · rw [dif_neg hw, dif_neg]
    intro hc
    have h3 := hc 3
    have h4 : 0 ≤ s.val * 1 + (Win.rowMajor.symm ((winEquiv.trans Win.rowMajor) w) 3).val ∧ s.val * 1 + (Win.rowMajor.symm ((winEquiv.trans Win.rowMajor) w) 3).val - 0 < 4096 := h3
    omega

/-- The sum from `s` on of a sequence that is zero from `T` on. -/
theorem sum_shift (f : ℕ → ℝ) {T : ℕ} (hT : T ≤ 4096) (s : Fin 4096) :
    (∑ w : Fin 4096, if s.val + w.val < 4096 then (if s.val + w.val < T then f (s.val + w.val) else 0) else 0)
      = ∑ j ∈ Finset.Ico s.val T, f j := by
  have h1 : ∀ w : Fin 4096, (if s.val + w.val < 4096 then (if s.val + w.val < T then f (s.val + w.val) else 0) else 0)
      = (fun w : ℕ => if s.val + w < T then f (s.val + w) else 0) w.val := fun w => by
    dsimp only
    split
    · rfl
    · rw [if_neg (by omega)]
  rw [Finset.sum_congr rfl fun w _ => h1 w, Fin.sum_univ_eq_sum_range (fun w : ℕ => if s.val + w < T then f (s.val + w) else 0) 4096,
    ← Finset.sum_filter, Finset.sum_Ico_eq_sum_range]
  refine Finset.sum_congr (Finset.ext fun w => ?_) fun _ _ => rfl
  rw [Finset.mem_filter, Finset.mem_range, Finset.mem_range]
  omega

variable (x0 x1 x2 : (⟨S8x4096x384, .bf16⟩ : BufTy).Contents (Elt Ideal)) (x3 : (⟨S6x64, .f32⟩ : BufTy).Contents (Elt Ideal))

/-- The heads of the first argument. -/
theorem v1_apply (b : Fin 8) (t : Fin 4096) (h : Fin 6) (d : Fin 64) :
    val_main_v1 (F := Ideal) x0 (ix4 b t h d) = x0 (ix3 b t (ch h d)) := by
  rw [val_main_v1_apply, val_main_v0_apply]
  refine congrArg x0 (funext fun a => Fin.ext ?_)
  have hb := b.isLt
  have ht := t.isLt
  have hh := h.isLt
  have hd := d.isLt
  match a with
  | ⟨0, _⟩ => show (((b.val * 4096 + t.val) * 6 + h.val) * 64 + d.val) / 1572864 = b.val; omega
  | ⟨1, _⟩ => show (((b.val * 4096 + t.val) * 6 + h.val) * 64 + d.val) / 384 % 4096 = t.val; omega
  | ⟨2, _⟩ => show (((b.val * 4096 + t.val) * 6 + h.val) * 64 + d.val) % 384 = 64 * h.val + d.val; omega

/-- The heads of the second argument. -/
theorem v3_apply (b : Fin 8) (t : Fin 4096) (h : Fin 6) (d : Fin 64) :
    val_main_v3 (F := Ideal) x1 (ix4 b t h d) = x1 (ix3 b t (ch h d)) := v1_apply x1 b t h d

/-- The heads of the third argument. -/
theorem v5_apply (b : Fin 8) (t : Fin 4096) (h : Fin 6) (d : Fin 64) :
    val_main_v5 (F := Ideal) x2 (ix4 b t h d) = x2 (ix3 b t (ch h d)) := v1_apply x2 b t h d

/-- The causal mask: key position below query position. -/
theorem v13_apply (t s : Fin 4096) :
    val_main_v13 (F := Ideal) (ix2 t s) = if s.val < t.val then 1#1 else 0#1 := by
  have hs := s.isLt
  have ht := t.isLt
  show IntOp.cmpi .slt (BitVec.ofNat 32 s.val) (BitVec.ofNat 32 t.val) = _
  rw [WordCmp.cmpi_slt_ofNat (by omega) (by omega)]
  by_cases h : s.val < t.val
  · rw [if_pos h, decide_eq_true h]; rfl
  · rw [if_neg h, decide_eq_false h]; rfl

variable {x0 x1} (q k : Fin 8 → Fin 4096 → Fin 384 → ℝ)
  (hq : ∀ b t x, x0 (ix3 b t x) = ((q b t x : ℝ) : EReal)) (hk : ∀ b t x, x1 (ix3 b t x) = ((k b t x : ℝ) : EReal))
include hq hk

/-- The logits. -/
theorem v6_apply (b : Fin 8) (h : Fin 6) (t s : Fin 4096) :
    val_main_v6 (F := Ideal) x0 x1 (ix4 b h t s) = ((lg q k b t h s.val : ℝ) : EReal) := by
  rw [val_main_v6_apply]
  unfold lg
  rw [coe_sum, pos_val]
  refine Finset.sum_congr rfl fun d _ => ?_
  have e0 : lidx_main_v6 (ix4 b h t s) d = ix4 b t h d := by funext a; match a with | ⟨0, _⟩ => rfl | ⟨1, _⟩ => rfl | ⟨2, _⟩ => rfl | ⟨3, _⟩ => rfl
  have e1 : ridx_main_v6 (ix4 b h t s) d = ix4 b s h d := by funext a; match a with | ⟨0, _⟩ => rfl | ⟨1, _⟩ => rfl | ⟨2, _⟩ => rfl | ⟨3, _⟩ => rfl
  rw [e0, e1, v1_apply, v3_apply, hq, hk, EReal.coe_mul]

/-- The logarithm of one minus the sigmoid of a logit. -/
theorem v15_apply (b : Fin 8) (h : Fin 6) (t s : Fin 4096) :
    val_main_v15 (F := Ideal) x0 x1 (ix4 b h t s) = -((sp (lg q k b t h s.val) : ℝ) : EReal) := by
  have hz := v6_apply q k hq hk b h t s
  have h0 : val_main_call0_v0 (F := Ideal) x0 x1 (ix4 b h t s) = ((lg q k b t h s.val : ℝ) : EReal) := by
    show -(-(val_main_v6 (F := Ideal) x0 x1 (ix4 b h t s) : EReal)) = _
    rw [neg_neg, hz]
  rw [← softplus_coe', ← h0]
  have h3 : val_main_call0_call0_v3 (F := Ideal) x0 x1 (ix4 b h t s) = (val_main_call0_v0 (F := Ideal) x0 x1 (ix4 b h t s) : EReal) - 0 := by
    show (val_main_call0_v0 (F := Ideal) x0 x1 (ix4 b h t s) : EReal) - Ideal.ofBits FTy.f32 0x00000000#32 = _
    rw [Ideal.ofBits_zero_f32]
  have h4 : val_main_call0_call0_v4 (F := Ideal) x0 x1 (ix4 b h t s) = 0#1 := by
    rw [val_main_call0_call0_v4_apply]; exact une_self _
  rw [val_main_v15_apply, val_main_call0_v1_apply, h4, val_main_call0_call0_v11_apply, val_main_call0_call0_v10_apply,
    val_main_call0_call0_v9_apply, val_main_call0_call0_v8_apply, val_main_call0_call0_v7_apply, val_main_call0_call0_v1_apply, h3]
  have hm : val_main_call0_call0_v0 (F := Ideal) (ix4 b h t s) = (0 : EReal) := Ideal.ofBits_zero_f32
  rw [hm]
  rfl

/-- The logarithm of the sigmoid of a logit. -/
theorem v19_apply (b : Fin 8) (h : Fin 6) (t s : Fin 4096) :
    val_main_v19 (F := Ideal) x0 x1 (ix4 b h t s) = -((sp (-lg q k b t h s.val) : ℝ) : EReal) := by
  have hz := v6_apply q k hq hk b h t s
  have h0 : val_main_call3_v0 (F := Ideal) x0 x1 (ix4 b h t s) = ((-lg q k b t h s.val : ℝ) : EReal) := by
    show -(val_main_v6 (F := Ideal) x0 x1 (ix4 b h t s) : EReal) = _
    rw [hz, EReal.coe_neg]
  rw [← softplus_coe', ← h0]
  have h3 : val_main_call3_call0_v3 (F := Ideal) x0 x1 (ix4 b h t s) = (val_main_call3_v0 (F := Ideal) x0 x1 (ix4 b h t s) : EReal) - 0 := by
    show (val_main_call3_v0 (F := Ideal) x0 x1 (ix4 b h t s) : EReal) - Ideal.ofBits FTy.f32 0x00000000#32 = _
    rw [Ideal.ofBits_zero_f32]
  have h4 : val_main_call3_call0_v4 (F := Ideal) x0 x1 (ix4 b h t s) = 0#1 := by
    rw [val_main_call3_call0_v4_apply]; exact une_self _
  rw [val_main_v19_apply, val_main_call3_v1_apply, h4, val_main_call3_call0_v11_apply, val_main_call3_call0_v10_apply,
    val_main_call3_call0_v9_apply, val_main_call3_call0_v8_apply, val_main_call3_call0_v7_apply, val_main_call3_call0_v1_apply, h3]
  have hm : val_main_call3_call0_v0 (F := Ideal) (ix4 b h t s) = (0 : EReal) := Ideal.ofBits_zero_f32
  rw [hm]
  rfl

/-- The masked logarithms: zero at and behind the query's own position. -/
theorem v16_apply (b : Fin 8) (h : Fin 6) (t s : Fin 4096) :
    val_main_v16 (F := Ideal) x0 x1 (ix4 b h t s)
      = (((if s.val < t.val then -sp (lg q k b t h s.val) else 0 : ℝ)) : EReal) := by
  rw [val_main_v16_apply, v15_apply q k hq hk, val_main_call1_v1_apply]
  have e : idx_main_call1_v1 (ix4 b h t s) = ix2 t s := by funext a; match a with | ⟨0, _⟩ => rfl | ⟨1, _⟩ => rfl
  have hm : val_main_call1_v2 (F := Ideal) (ix4 b h t s) = (0 : EReal) := Ideal.ofBits_zero_f32
  rw [e, v13_apply, hm]
  by_cases hs : s.val < t.val
  · rw [if_pos hs, if_pos hs, EReal.coe_neg]; rfl
  · rw [if_neg hs, if_neg hs]; rfl

/-- The running sum from a key position to the query's position. -/
theorem v17_apply (b : Fin 8) (h : Fin 6) (t s : Fin 4096) :
    val_main_v17 (F := Ideal) x0 x1 (ix4 b h t s) = ((-rest (lg q k b t h) t.val s.val : ℝ) : EReal) := by
  unfold val_main_v17
  rw [runsum_apply _ _ (show (val_main_call2_v0 (F := Ideal) (Shape.Idx.first h_S_) : EReal) = 0 from Ideal.ofBits_zero_f32)]
  have hf : ∀ w : Fin 4096, (if hw : s.val + w.val < 4096 then (val_main_v16 (F := Ideal) x0 x1 (ix4 b h t ⟨s.val + w.val, hw⟩) : EReal) else 0)
      = (((if s.val + w.val < 4096 then (if s.val + w.val < t.val then -sp (lg q k b t h (s.val + w.val)) else 0) else 0 : ℝ)) : EReal) := fun w => by
    by_cases hw : s.val + w.val < 4096
    · rw [dif_pos hw, if_pos hw, v16_apply q k hq hk]
    · rw [dif_neg hw, if_neg hw]; rfl
  rw [Finset.sum_congr rfl fun w _ => hf w, ← coe_sum, sum_shift (fun j => -sp (lg q k b t h j)) t.isLt.le s, Finset.sum_neg_distrib]
  rfl

/-- The weights: zero at and behind the query's own position. -/
theorem v22_apply (b : Fin 8) (h : Fin 6) (t s : Fin 4096) :
    val_main_v22 (F := Ideal) x0 x1 (ix4 b h t s)
      = if s.val < t.val then ((wt (lg q k b t h) t.val s.val : ℝ) : EReal) else 0 := by
  rw [val_main_v22_apply, val_main_call4_v1_apply]
  have e : idx_main_call4_v1 (ix4 b h t s) = ix2 t s := by funext a; match a with | ⟨0, _⟩ => rfl | ⟨1, _⟩ => rfl
  have hm : val_main_call4_v2 (F := Ideal) (ix4 b h t s) = (0 : EReal) := Ideal.ofBits_zero_f32
  rw [e, v13_apply, hm]
  by_cases hs : s.val < t.val
  · rw [if_pos hs, if_pos hs, ← weight_ref _ hs, val_main_v21_apply, val_main_v20_apply, val_main_v18_apply,
      v19_apply q k hq hk, v17_apply q k hq hk, v16_apply q k hq hk, if_pos hs, EReal.coe_neg (sp _)]
    rfl
  · rw [if_neg hs, if_neg hs]; rfl

/-- The attention output by head and dimension. -/
theorem v24_apply (b : Fin 8) (t : Fin 4096) (h : Fin 6) (d : Fin 64) :
    val_main_v24 (F := Ideal) x0 x1 x2 (ix4 b t h d) = att q k x2 b t (ch h d) := by
  have e : idx_main_v24 (ix4 b t h d) = ix4 b h d t := by funext a; match a with | ⟨0, _⟩ => rfl | ⟨1, _⟩ => rfl | ⟨2, _⟩ => rfl | ⟨3, _⟩ => rfl
  rw [val_main_v24_apply, e, val_main_v23_apply]
  unfold att out
  rw [hd_ch]
  have hf : ∀ s : Fin 4096, (val_main_v5 (F := Ideal) x2 (lidx_main_v23 (ix4 b h d t) s) * val_main_v22 (F := Ideal) x0 x1 (ridx_main_v23 (ix4 b h d t) s) : EReal)
      = (fun s : ℕ => if s < t.val then ((wt (lg q k b t h) t.val s : ℝ) : EReal) * x2 (ix3 b (pos s) (ch h d)) else 0) s.val := fun s => by
    have e0 : lidx_main_v23 (ix4 b h d t) s = ix4 b s h d := by funext a; match a with | ⟨0, _⟩ => rfl | ⟨1, _⟩ => rfl | ⟨2, _⟩ => rfl | ⟨3, _⟩ => rfl
    have e1 : ridx_main_v23 (ix4 b h d t) s = ix4 b h t s := by funext a; match a with | ⟨0, _⟩ => rfl | ⟨1, _⟩ => rfl | ⟨2, _⟩ => rfl | ⟨3, _⟩ => rfl
    rw [e0, e1, v5_apply, v22_apply q k hq hk]
    dsimp only
    rw [pos_val]
    by_cases hs : s.val < t.val
    · rw [if_pos hs, if_pos hs, mul_comm]
    · rw [if_neg hs, if_neg hs, mul_zero]
  rw [Finset.sum_congr rfl fun s _ => hf s, Fin.sum_univ_eq_sum_range (fun s : ℕ => if s < t.val then ((wt (lg q k b t h) t.val s : ℝ) : EReal) * x2 (ix3 b (pos s) (ch h d)) else 0) 4096,
    ← Finset.sum_filter]
  refine Finset.sum_congr (Finset.ext fun s => ?_) fun _ _ => rfl
  have := t.isLt
  rw [Finset.mem_filter, Finset.mem_range, Finset.mem_Ico]
  omega

/-- The reference's result at an index. -/
theorem v39_apply (b : Fin 8) (t : Fin 4096) (x : Fin 384) :
    val_main_v39 (F := Ideal) x0 x1 x2 x3 (ix3 b t x) = layer q k x2 x3 b t x := by
  have e38 : idx_main_v38 (ix3 b t x) = ix4 b t (hd x) (dm x) := by
    have hb := b.isLt
    have ht := t.isLt
    have hx := x.isLt
    funext a
    match a with
    | ⟨0, _⟩ => exact Fin.ext (by show ((b.val * 4096 + t.val) * 384 + x.val) / 1572864 = b.val; omega)
    | ⟨1, _⟩ => exact Fin.ext (by show ((b.val * 4096 + t.val) * 384 + x.val) / 384 % 4096 = t.val; omega)
    | ⟨2, _⟩ => exact Fin.ext (by show ((b.val * 4096 + t.val) * 384 + x.val) / 64 % 6 = x.val / 64; omega)
    | ⟨3, _⟩ => exact Fin.ext (by show ((b.val * 4096 + t.val) * 384 + x.val) % 64 = x.val % 64; omega)
  have e36 : idx_main_v35 (idx_main_v36 (ix4 b t (hd x) (dm x))) = ix2 (hd x) (dm x) := by funext a; match a with | ⟨0, _⟩ => rfl | ⟨1, _⟩ => rfl
  have e33 : idx_main_v27 (idx_main_v33 (ix4 b t (hd x) (dm x))) = ix3 b t (hd x) := by funext a; match a with | ⟨0, _⟩ => rfl | ⟨1, _⟩ => rfl | ⟨2, _⟩ => rfl
  have e26 : ∀ d, idx_main_v26 (ix3 b t (hd x)) d = ix4 b t (hd x) d := fun d => by funext a; match a with | ⟨0, _⟩ => rfl | ⟨1, _⟩ => rfl | ⟨2, _⟩ => rfl | ⟨3, _⟩ => rfl
  have h26 : val_main_v26 (F := Ideal) x0 x1 x2 (ix3 b t (hd x))
      = ∑ d : Fin 64, att q k x2 b t (ch (hd x) d) * att q k x2 b t (ch (hd x) d) := by
    rw [val_main_v26_apply, show (val_main_cst_1 (F := Ideal) (Shape.Idx.first h_S_) : EReal) = 0 from Ideal.ofBits_zero_f32, zero_add]
    refine Finset.sum_congr rfl fun d _ => ?_
    rw [e26, val_main_v25_apply, v24_apply x2 q k hq hk]
    rfl
  rw [val_main_v39_apply, val_main_v38_apply, e38, val_main_v37_apply, val_main_v36_apply, val_main_v35_apply, e36,
    val_main_v34_apply, v24_apply x2 q k hq hk, val_main_v33_apply, val_main_v32_apply, val_main_v31_apply, val_main_v29_apply,
    val_main_v27_apply, e33, h26, ch_hd_dm]
  unfold layer
  refine congrArg (fun y : EReal => att q k x2 b t x * Ideal.rsqrt (y + Ideal.ofBits FTy.f32 0x358637BD#32) * x3 (ix2 (hd x) (dm x))) ?_
  exact div_64 _

end Cert.ReferenceIdeal.Hand

end
-- ==== Proof.SbClaim.lean ====
/-
  The attention call's claims: what the precondition says of an element, the reference's frame, and the equality of
  the two programs' results.
-/
module

public import proofs.«01_k».proof.Defs
public import proofs.«01_k».proof.Proof.SbArray
public import proofs.«01_k».proof.Proof.SbRef
public import proofs.«01_k».proof.Proof.Gen.ReferenceIdeal.Run

@[expose] public section

noncomputable section

namespace Cert.SbClaim

open Idealize.ShloMosaic Idealize.ShloMosaic.TcCoe Idealize.SL.Sem
open Cert.SbMath

/-- The one side condition of the precondition's operations: a scalar spreads over the array. -/
theorem preFacts : Cert.Pre_finite_qk.Facts := ⟨by decide⟩

/-- An extended real whose absolute value is below infinity is a real. -/
theorem real_of_abs_lt (x : EReal) (h : max x (-x) < ⊤) : x = ((x.toReal : ℝ) : EReal) := by
  refine (EReal.coe_toReal (fun hx => ?_) (fun hx => ?_)).symm
  · rw [hx] at h; exact absurd h (by simp)
  · rw [hx] at h; exact absurd h (by simp)

/-- The word of the precondition's bound is infinity. -/
theorem inf_word : Ideal.ofBits FTy.bf16 0x7F80#16 = ⊤ := by
  simp [Ideal.ofBits, Ideal.ieee]

/-- A comparison whose word is one holds. -/
theorem lt_of_word (x : EReal) (h : FloatOps.cmpf (F := Ideal) (φ := .bf16) .olt (max x (-x)) (Ideal.ofBits FTy.bf16 0x7F80#16) = 1#1) :
    max x (-x) < ⊤ := by
  rw [inf_word] at h
  have h' : BitVec.ofBool (decide (max x (-x) < ⊤)) = 1#1 := h
  by_contra hc
  rw [decide_eq_false hc] at h'
  exact absurd h' (by decide)

/-- Where the precondition is all ones, every element of the first two arrays is a real. -/
theorem reals (x0 x1 x2 : Cert.Pre_finite_qk.S8x4096x384.Idx → EReal) (x3 : Cert.Pre_finite_qk.S6x64.Idx → EReal)
    (h : @Cert.Pre_finite_qk.fn preFacts Ideal _ x0 x1 x2 x3 = fun _ => 1#1) (j : Cert.Pre_finite_qk.S8x4096x384.Idx) :
    x0 j = (((x0 j).toReal : ℝ) : EReal) ∧ x1 j = (((x1 j).toReal : ℝ) : EReal) := by
  have hj := congrFun h j
  have hj' : IntOp.andi (FloatOps.cmpf (F := Ideal) (φ := .bf16) .olt (max (x0 j) (-(x0 j))) (Ideal.ofBits FTy.bf16 0x7F80#16))
      (FloatOps.cmpf (F := Ideal) (φ := .bf16) .olt (max (x1 j) (-(x1 j))) (Ideal.ofBits FTy.bf16 0x7F80#16)) = 1#1 := hj
  have hand : ∀ a b : BitVec 1, IntOp.andi a b = 1#1 → a = 1#1 ∧ b = 1#1 := by decide
  obtain ⟨h0, h1⟩ := hand _ _ hj'
  exact ⟨real_of_abs_lt _ (lt_of_word _ h0), real_of_abs_lt _ (lt_of_word _ h1)⟩

/-- The reference runs, leaves its arguments unchanged and holds no semaphore. -/
theorem frame_ref : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with equal results where queries and keys are finite. -/
theorem algebraic : @Cert.algebraic_KernelIdeal_ReferenceIdeal_pre_finite_qk Cert.KernelIdeal.Gen.facts Cert.ReferenceIdeal.Gen.facts preFacts := by
  intro m ρ m' ρ' hpre hag
  have hq : ∀ (c : Dev Cert.KernelIdeal.nD) b t x, m ((c : Thread Cert.KernelIdeal.nD Cert.KernelIdeal.τ).loc Cert.KernelIdeal.main_arg0) (ix3 b t x)
      = (((fun b t x => (m ((c : Thread Cert.KernelIdeal.nD Cert.KernelIdeal.τ).loc Cert.KernelIdeal.main_arg0) (ix3 b t x)).toReal : Fin 8 → Fin 4096 → Fin 384 → ℝ) b t x : ℝ) : EReal) :=
    fun c b t x => (reals _ _ _ _ (hpre c) (ix3 b t x)).1
  have hk : ∀ (c : Dev Cert.KernelIdeal.nD) b t x, m ((c : Thread Cert.KernelIdeal.nD Cert.KernelIdeal.τ).loc Cert.KernelIdeal.main_arg1) (ix3 b t x)
      = (((fun b t x => (m ((c : Thread Cert.KernelIdeal.nD Cert.KernelIdeal.τ).loc Cert.KernelIdeal.main_arg1) (ix3 b t x)).toReal : Fin 8 → Fin 4096 → Fin 384 → ℝ) b t x : ℝ) : EReal) :=
    fun c b t x => (reals _ _ _ _ (hpre c) (ix3 b t x)).2
  refine ⟨fun c => (Cert.KernelIdeal.Gen.dats m 0 c).arrAt 4 Cert.KernelIdeal.cfg0.N, Cert.KernelIdeal.Value.run_blocks m ρ,
    (θ_run Cert.ReferenceIdeal.defs _ _).mono (fun r h c => ⟨(h c).1.trans ?_, (h c).2⟩) (Cert.ReferenceIdeal.Value.run (F := Ideal) m' ρ')⟩
  refine Eq.trans ?_ (Cert.KernelIdeal.Hand.arrAt_layer m c _ _ (hq c) (hk c)).symm
  rw [Cert.ReferenceIdeal.Read.val_main_v39_eq, (hag c).1, (hag c).2.1, (hag c).2.2.1, (hag c).2.2.2]
  funext y
  obtain ⟨b, t, x, rfl⟩ : ∃ (b : Fin 8) (t : Fin 4096) (x : Fin 384), y = ix3 b t x := ⟨y 0, y 1, y 2, by
    funext a
    match a with
    | 0 => rfl
    | 1 => rfl
    | 2 => rfl⟩
  exact Cert.ReferenceIdeal.Hand.v39_apply _ _ _ _ (hq c) (hk c) b t x

end Cert.SbClaim

end
-- ==== Proof.FfnSpec.lean ====
/-
  The output projection and the gated MLP of a layer as one function of the call's nine argument arrays, and the regrouping
  of the projection's sum: the kernel takes it in three products, the first over heads padded from 96 to 128 channels.
-/
module

public import Idealize.ShloMosaic.Lib.Pointwise

@[expose] public section

noncomputable section

namespace Cert.FfnMath

open Idealize.ShloMosaic

/-- The call's arguments: the residual stream, the three mixers' outputs, the output projection, the norm's gain, the two
    halves of the up projection side by side, the three taps of the convolution, and the down projection. -/
structure Args where
  x : (⟨3, ![8, 4096, 1024]⟩ : Shape).Idx → EReal
  hm : (⟨3, ![8, 4096, 512]⟩ : Shape).Idx → EReal
  hs : (⟨3, ![8, 4096, 384]⟩ : Shape).Idx → EReal
  h5 : (⟨3, ![8, 4096, 256]⟩ : Shape).Idx → EReal
  wo : (⟨2, ![1024, 1024]⟩ : Shape).Idx → EReal
  g : (⟨1, ![1024]⟩ : Shape).Idx → EReal
  wu : (⟨2, ![1024, 5632]⟩ : Shape).Idx → EReal
  cw : (⟨2, ![3, 2816]⟩ : Shape).Idx → EReal
  wd : (⟨2, ![2816, 1024]⟩ : Shape).Idx → EReal

/-- Channel `r` of the 384 unpadded channels, among the 512 padded ones. -/
def padCh (r : ℕ) : Fin 512 := ⟨128 * (r / 96 % 4) + r % 96, by have := Nat.mod_lt r (show 0 < 96 by decide); have := Nat.mod_lt (r / 96) (show 0 < 4 by decide); omega⟩

/-- Row `r` of the output projection, counted modulo 1024. -/
def woRow (r : ℕ) : Fin 1024 := ⟨r % 1024, Nat.mod_lt _ (by decide)⟩

theorem woRow_val (r : Fin 1024) : woRow r.val = r := Fin.ext (Nat.mod_eq_of_lt r.isLt)

/-- The three mixers' outputs side by side, without the padding. -/
def mix (hm : Fin 512 → EReal) (hs : Fin 384 → EReal) (h5 : Fin 256 → EReal) (r : Fin 1024) : EReal :=
  if r.val < 384 then hm (padCh r.val)
  else if r.val < 768 then hs ⟨(r.val - 384) % 384, Nat.mod_lt _ (by decide)⟩
  else h5 ⟨(r.val - 768) % 256, Nat.mod_lt _ (by decide)⟩

theorem mix_first (hm : Fin 512 → EReal) (hs : Fin 384 → EReal) (h5 : Fin 256 → EReal) (r : Fin 1024) (h : r.val < 384) :
    mix hm hs h5 r = hm (padCh r.val) := if_pos h

theorem mix_second (hm : Fin 512 → EReal) (hs : Fin 384 → EReal) (h5 : Fin 256 → EReal) (r : Fin 1024) (s : Fin 384)
    (h : r.val = 384 + s.val) : mix hm hs h5 r = hs s := by
  have hs' := s.isLt
  unfold mix
  rw [if_neg (by omega), if_pos (by omega)]
  exact congrArg hs (Fin.ext (by show (r.val - 384) % 384 = s.val; omega))

theorem mix_third (hm : Fin 512 → EReal) (hs : Fin 384 → EReal) (h5 : Fin 256 → EReal) (r : Fin 1024) (s : Fin 256)
    (h : r.val = 768 + s.val) : mix hm hs h5 r = h5 s := by
  have hs' := s.isLt
  unfold mix
  rw [if_neg (by omega), if_neg (by omega)]
  exact congrArg h5 (Fin.ext (by show (r.val - 768) % 256 = s.val; omega))

theorem woRow_of (r : Fin 1024) (n : ℕ) (h : r.val = n) : r = woRow n :=
  Fin.ext (by subst h; exact (Nat.mod_eq_of_lt r.isLt).symm)

/-- The rows of the output projection for the padded channels: zero where a channel is padding. -/
def padRow (w : Fin 1024 → EReal) (r : Fin 512) : EReal :=
  if r.val % 128 < 96 then w (woRow (96 * (r.val / 128) + r.val % 128)) else 0

/-- A sum over 512 padded channels whose padding rows are zero is the sum over the 384 channels. -/
theorem sum_pad (hm : Fin 512 → EReal) (w : Fin 1024 → EReal) :
    ∑ r : Fin 512, hm r * padRow w r = ∑ r : Fin 384, hm (padCh r.val) * w (woRow r.val) := by
  rw [← (finProdFinEquiv (m := 4) (n := 128)).sum_comp, ← (finProdFinEquiv (m := 4) (n := 96)).sum_comp,
    Fintype.sum_prod_type, Fintype.sum_prod_type]
  refine Finset.sum_congr rfl fun a _ => ?_
  have ha := a.isLt
  have hsplit := Fin.sum_univ_add (M := EReal) (a := 96) (b := 32) (fun d : Fin 128 => hm (finProdFinEquiv (a, d)) * padRow w (finProdFinEquiv (a, d)))
  refine hsplit.trans ?_
  rw [Finset.sum_eq_zero (s := (Finset.univ : Finset (Fin 32))), add_zero]
  · refine Finset.sum_congr rfl fun d _ => ?_
    have hd := d.isLt
    have e1 : (finProdFinEquiv (a, Fin.castAdd 32 d) : Fin 512).val = d.val + 128 * a.val := rfl
    have e2 : (finProdFinEquiv (a, d) : Fin 384).val = d.val + 96 * a.val := rfl
    unfold padRow
    rw [if_pos (by rw [e1]; omega)]
    congr 1
    · congr 1
      apply Fin.ext
      show (finProdFinEquiv (a, Fin.castAdd 32 d) : Fin 512).val = 128 * ((finProdFinEquiv (a, d) : Fin 384).val / 96 % 4) + (finProdFinEquiv (a, d) : Fin 384).val % 96
      rw [e1, e2]; omega
    · congr 2
      rw [e1, e2]; omega
  · intro d _
    have hd := d.isLt
    have e1 : (finProdFinEquiv (a, Fin.natAdd 96 d) : Fin 512).val = 96 + d.val + 128 * a.val := rfl
    have hz : padRow w (finProdFinEquiv (a, Fin.natAdd 96 d)) = 0 := by
      unfold padRow
      rw [if_neg (by rw [e1]; omega)]
    show hm _ * padRow w (finProdFinEquiv (a, Fin.natAdd 96 d)) = 0
    rw [hz, mul_zero]

/-- The projection's sum over the 1024 channels, in the kernel's three parts. -/
theorem sum_mix (hm : Fin 512 → EReal) (hs : Fin 384 → EReal) (h5 : Fin 256 → EReal) (w : Fin 1024 → EReal) :
    ∑ r : Fin 1024, mix hm hs h5 r * w r
      = (∑ r : Fin 512, hm r * padRow w r + ∑ r : Fin 384, hs r * w (woRow (384 + r.val)))
        + ∑ r : Fin 256, h5 r * w (woRow (768 + r.val)) := by
  rw [sum_pad]
  have h1 := Fin.sum_univ_add (M := EReal) (a := 768) (b := 256) (fun r : Fin 1024 => mix hm hs h5 r * w r)
  have h2 := Fin.sum_univ_add (M := EReal) (a := 384) (b := 384) (fun r : Fin 768 => mix hm hs h5 (Fin.castAdd (n := 768) 256 r : Fin 1024) * w (Fin.castAdd (n := 768) 256 r : Fin 1024))
  refine h1.trans (congrArg₂ (· + ·) (h2.trans (congrArg₂ (· + ·) ?_ ?_)) ?_)
  · exact Finset.sum_congr rfl fun r _ => congrArg₂ (· * ·) (mix_first hm hs h5 _ r.isLt) (congrArg w (woRow_of _ _ rfl))
  · exact Finset.sum_congr rfl fun r _ => congrArg₂ (· * ·) (mix_second hm hs h5 _ r rfl) (congrArg w (woRow_of _ _ rfl))
  · exact Finset.sum_congr rfl fun r _ => congrArg₂ (· * ·) (mix_third hm hs h5 _ r rfl) (congrArg w (woRow_of _ _ rfl))

/-- A row normalized by its root mean square and multiplied by the gain, at one channel. -/
def normed (x g : Fin 1024 → EReal) (j : Fin 1024) : EReal :=
  x j * Ideal.rsqrt (Ideal.div (∑ k, x k * x k) (Ideal.ofBits FTy.f32 0x44800000#32) + Ideal.ofBits FTy.f32 0x358637BD#32) * g j

/-- The gated activation of a convolved gate `z` and a value `v`. -/
def gated (z v : EReal) : EReal := z * Ideal.div 1 (1 + Ideal.exp (-z)) * v

namespace Args

variable (a : Args) (b : Fin 8)

/-- The residual stream after the output projection. -/
def res (t : Fin 4096) (j : Fin 1024) : EReal :=
  a.x (ix3 b t j) + ∑ r : Fin 1024, mix (fun r => a.hm (ix3 b t r)) (fun r => a.hs (ix3 b t r)) (fun r => a.h5 (ix3 b t r)) r * a.wo (ix2 r j)

/-- Column `f` of the up projection of the normalized stream. -/
def up (t : Fin 4096) (f : Fin 5632) : EReal :=
  ∑ j : Fin 1024, normed (a.res b t) (fun j => a.g (ix1 j)) j * a.wu (ix2 j f)

/-- The gate before its convolution. -/
def gate (t : Fin 4096) (f : Fin 2816) : EReal := a.up b t ⟨f.val, by have := f.isLt; omega⟩

/-- The value the gate multiplies. -/
def val (t : Fin 4096) (f : Fin 2816) : EReal := a.up b t ⟨2816 + f.val, by have := f.isLt; omega⟩

/-- The gate with two rows of zeros before the first position: row `n` is position `n - 2`. -/
def padded (n : ℕ) (f : Fin 2816) : EReal := if n < 2 then 0 else a.gate b ⟨(n - 2) % 4096, Nat.mod_lt _ (by decide)⟩ f

/-- The causal convolution of the gate: the position and the two before it. -/
def conv (t : Fin 4096) (f : Fin 2816) : EReal :=
  a.cw (ix2 0 f) * a.padded b t.val f + a.cw (ix2 1 f) * a.padded b (t.val + 1) f + a.cw (ix2 2 f) * a.padded b (t.val + 2) f

/-- The layer's new residual stream. -/
def layer (t : Fin 4096) (j : Fin 1024) : EReal :=
  a.res b t j + ∑ f : Fin 2816, gated (a.conv b t f) (a.val b t f) * a.wd (ix2 f j)

end Args

end Cert.FfnMath

end
-- ==== Proof.FfnPay.lean ====
/-
  The parts of one grid point of the output-projection-and-MLP kernel, as functions of the point's operand blocks: what
  each stored value holds at a row and a channel, and what a load of the convolution's extended buffer finds.
-/
module

public import proofs.«01_k».proof.Proof.FfnSpec
public import proofs.«01_k».proof.Proof.Gen.KernelFfnIdeal.Skeleton
public import Idealize.ShloMosaic.Lib.Pipeline.ValueKit
public import Idealize.ShloMosaic.Lib.WritesUnit
public import Idealize.ShloMosaic.Lib.Tactic
public import Idealize.ShloMosaic.Lib.Pointwise

@[expose] public section

set_option maxRecDepth 16384

noncomputable section

namespace Cert.KernelFfnIdeal.Hand

open Cert.KernelFfnIdeal Cert.KernelFfnIdeal.Gen Cert.FfnMath
open Idealize.ShloMosaic Idealize.ShloMosaic.TcCoe Idealize.SL.Sem

/-! ## The blocks of a grid point, and what the point computes of them -/

/-- The operand blocks of one grid point. -/
structure Blk where
  x0 : Vec Ideal S1x512x1024 .f32
  x1 : Vec Ideal S1x512x512 .bf16
  x2 : Vec Ideal S1x512x384 .bf16
  x3 : Vec Ideal S1x512x256 .bf16
  x4 : Vec Ideal S512x1024 .bf16
  x5 : Vec Ideal S384x1024 .bf16
  x6 : Vec Ideal S256x1024 .bf16
  x7 : Vec Ideal S1x1024 .f32
  x8 : Vec Ideal S1024x2816 .bf16
  x9 : Vec Ideal S1024x2816 .bf16
  x10 : Vec Ideal S3x2816 .f32
  x11 : Vec Ideal S2816x1024 .bf16

namespace Blk

variable (b : Blk)

/-- The residual stream after the output projection. -/
def res (r : Fin 512) (j : Fin 1024) : EReal :=
  b.x0 (ix3 0 r j) + (∑ k : Fin 512, b.x1 (ix3 0 r k) * b.x4 (ix2 k j)) + (∑ k : Fin 384, b.x2 (ix3 0 r k) * b.x5 (ix2 k j))
    + ∑ k : Fin 256, b.x3 (ix3 0 r k) * b.x6 (ix2 k j)

/-- The normalized row. -/
def nrm (r : Fin 512) (j : Fin 1024) : EReal := normed (b.res r) (fun j => b.x7 (ix2 0 j)) j

/-- The gate's half of the up projection. -/
def gate (r : Fin 512) (f : Fin 2816) : EReal := ∑ j : Fin 1024, b.nrm r j * b.x8 (ix2 j f)

/-- The value's half of the up projection. -/
def val (r : Fin 512) (f : Fin 2816) : EReal := ∑ j : Fin 1024, b.nrm r j * b.x9 (ix2 j f)

/-- The gate behind the eight rows `cin` carried over from the block before. -/
def ext (cin : ℕ → Fin 2816 → EReal) (n : ℕ) (f : Fin 2816) : EReal :=
  if n < 8 then cin n f else b.gate ⟨(n - 8) % 512, Nat.mod_lt _ (by decide)⟩ f

/-- The convolved gate through its nonlinearity, times the value. -/
def act (cin : ℕ → Fin 2816 → EReal) (r : Fin 512) (f : Fin 2816) : EReal :=
  gated (b.x10 (ix2 2 f) * b.gate r f + b.x10 (ix2 1 f) * b.ext cin (7 + r.val) f + b.x10 (ix2 0 f) * b.ext cin (6 + r.val) f) (b.val r f)

/-- The output row. -/
def out (cin : ℕ → Fin 2816 → EReal) (r : Fin 512) (j : Fin 1024) : EReal :=
  b.res r j + ∑ f : Fin 2816, b.act cin r f * b.x11 (ix2 f j)

end Blk

/-- Channel `f` of chunk `c`, among all channels. -/
def col (c : Fin 11) (f : Fin 256) : Fin 2816 := ⟨256 * c.val + f.val, by omega⟩

/-! ## Loads -/

section Mem

variable {κ : Kind} {sp : Space} {s : Shape} {e : EltTy}

/-- A load of a unit-stride block, at an index. -/
theorem load_unit (m : View sig κ sp s e) (f : m.ty.Contents (Elt Ideal)) (off : Fin s.rank → ℕ) (size : Fin s.rank → ℕ) (inb)
    (x : (Rect.unit off size inb).shape.Idx) (y : s.Idx) (h : ∀ a, (y a : ℕ) = off a + x a) :
    m.readAt (Elt Ideal) (Rect.unit off size inb).toLoadRect f x = m.read (Elt Ideal) f y :=
  View.ld_unit_apply_of (m.read (Elt Ideal) f) off size inb x y h

/-- A load of a whole operand gives the operand. -/
theorem load_whole (m : Memref sig κ sp s e) (hm : m.IsWhole) (x : Vec Ideal s e) (off : Fin s.rank → ℕ) (h0 : ∀ a, off a = 0) (inb) :
    m.view.readAt (Elt Ideal) (Rect.unit (s := s) off s.size inb).toLoadRect (hm.unread x) = x := by
  funext y
  rw [load_unit _ _ _ _ _ _ (y : s.Idx) (fun a => by rw [h0 a]; exact (Nat.zero_add _).symm), hm.read_unread]

/-- A load of a block of an operand, at an index. -/
theorem load_block (m : Memref sig κ sp s e) (hm : m.IsWhole) (x : Vec Ideal s e) (off : Fin s.rank → ℕ) (size : Fin s.rank → ℕ) (inb)
    (i : (Rect.unit off size inb).shape.Idx) (y : s.Idx) (h : ∀ a, (y a : ℕ) = off a + i a) :
    m.view.readAt (Elt Ideal) (Rect.unit (s := s) off size inb).toLoadRect (hm.unread x) i = x y := by
  rw [load_unit _ _ _ _ _ _ y h, hm.read_unread]

end Mem

/-- A load of a chunk of an up projection's half. -/
theorem load_up (m : Memref sig .tc .vmem S1024x2816 .bf16) (hm : m.IsWhole) (x : Vec Ideal S1024x2816 .bf16) (c : Fin 11) (o : ℕ) (ho : o = 256 * c.val)
    (inb) (j : Fin 1024) (f : Fin 256) :
    m.view.readAt (Elt Ideal) (Rect.unit (s := S1024x2816) ![0, o] S1024x256.size inb).toLoadRect (hm.unread x) (ix2 j f) = x (ix2 j (col c f)) := by
  subst ho
  exact load_block m hm x _ _ inb (ix2 j f) (ix2 j (col c f)) (fun a => by match a with | 0 => exact (Nat.zero_add _).symm | 1 => rfl)

/-- A load of a chunk of a tap. -/
theorem load_tap (m : Memref sig .tc .vmem S3x2816 .f32) (hm : m.IsWhole) (x : Vec Ideal S3x2816 .f32) (k : Fin 3) (n : ℕ) (hn : n = k.val) (c : Fin 11)
    (o : ℕ) (ho : o = 256 * c.val) (inb) (f : Fin 256) :
    m.view.readAt (Elt Ideal) (Rect.unit (s := S3x2816) ![n, o] S1x256.size inb).toLoadRect (hm.unread x) (ix2 0 f) = x (ix2 k (col c f)) := by
  subst hn ho
  exact load_block m hm x _ _ inb (ix2 0 f) (ix2 k (col c f)) (fun a => by match a with | 0 => rfl | 1 => rfl)

/-- A load of 512 rows of the extended buffer, from row 6 or 7: the carried rows first, then the gate's. -/
theorem ext_read (m : Memref sig .tc .vmem S520x256 .f32) (G : Vec Ideal S512x256 .f32) (C : Vec Ideal S8x256 .f32)
    (rest : List (View.Piece (Elt Ideal) S520x256 .f32)) (o : ℕ) (ho : o < 8) (h8) (h0) (inb) (r : Fin 512) (f : Fin 256) :
    m.view.readCov ((⟨Rect.unit (s := S520x256) ![8, 0] S512x256.size h8, G⟩ : View.Piece (Elt Ideal) S520x256 .f32)
        :: (⟨Rect.unit (s := S520x256) ![0, 0] S8x256.size h0, C⟩ : View.Piece (Elt Ideal) S520x256 .f32) :: rest)
      (Rect.unit (s := S520x256) ![o, 0] S512x256.size inb).toLoadRect (ix2 r f)
      = if h : o + r.val < 8 then C (ix2 ⟨o + r.val, h⟩ f) else G (ix2 ⟨(o + r.val - 8) % 512, Nat.mod_lt _ (by decide)⟩ f) := by
  have hr := r.isLt
  unfold View.readCov
  refine (load_unit _ _ _ _ _ _ (ix2 (⟨o + r.val, by omega⟩ : Fin 520) f) (fun a => by match a with | 0 => rfl | 1 => exact (Nat.zero_add _).symm)).trans ?_
  by_cases h : o + r.val < 8
  · rw [dif_pos h]
    refine (View.read_writes_cons_unit_of_not_mem _ _ _ _ _ _ rfl (0 : Fin 2) (Or.inl h)).trans ?_
    refine (View.read_writes_cons_unit_of_mem _ _ _ _ _ _ (ix2 (⟨o + r.val, h⟩ : Fin 8) f) rfl
      (fun a => by match a with | 0 => exact (Nat.zero_add _).symm | 1 => exact (Nat.zero_add _).symm)).trans ?_
    rfl
  · rw [dif_neg h]
    have hq : o + r.val = 8 + (o + r.val - 8) % 512 := by omega
    refine (View.read_writes_cons_unit_of_mem _ _ _ _ _ _ (ix2 (⟨(o + r.val - 8) % 512, Nat.mod_lt _ (by decide)⟩ : Fin 512) f) rfl
      (fun a => by match a with | 0 => exact hq | 1 => exact (Nat.zero_add _).symm)).trans ?_
    rfl

/-! ## The stored values -/

/-- The residual stream of a block. -/
theorem pay3_apply (b : Blk) (r : Fin 512) (j : Fin 1024) :
    k0_pay3 (F := Ideal) b.x0 b.x1 b.x4 b.x2 b.x5 b.x3 b.x6 (ix2 r j) = b.res r j := by
  unfold Blk.res
  pointwise [k0_pay3]

/-- The same, as the output block first holds it. -/
theorem pay4_apply (b : Blk) (r : Fin 512) (j : Fin 1024) :
    k0_pay4 (F := Ideal) b.x0 b.x1 b.x4 b.x2 b.x5 b.x3 b.x6 (ix3 0 r j) = b.res r j := by
  rw [← pay3_apply]
  pointwise [k0_pay4]

/-- The sums of squares of the rows. -/
theorem pay5_apply (b : Blk) (r : Fin 512) :
    k0_pay5 (F := Ideal) b.x0 b.x1 b.x4 b.x2 b.x5 b.x3 b.x6 (ix2 r 0) = ∑ k : Fin 1024, b.res r k * b.res r k := by
  have h : k0_pay5 (F := Ideal) b.x0 b.x1 b.x4 b.x2 b.x5 b.x3 b.x6 (ix2 r 0)
      = ∑ k : Fin 1024, (k0_pay3 (F := Ideal) b.x0 b.x1 b.x4 b.x2 b.x5 b.x3 b.x6 (ix2 r k) : EReal)
        * k0_pay3 (F := Ideal) b.x0 b.x1 b.x4 b.x2 b.x5 b.x3 b.x6 (ix2 r k) := by
    pointwise [k0_pay5]
  rw [h]
  simp only [pay3_apply]

/-- The normalized rows. -/
theorem pay6_apply (b : Blk) (r : Fin 512) (j : Fin 1024) :
    k0_pay6 (F := Ideal) (k0_pay3 b.x0 b.x1 b.x4 b.x2 b.x5 b.x3 b.x6) (k0_pay5 b.x0 b.x1 b.x4 b.x2 b.x5 b.x3 b.x6) b.x7 (ix2 r j) = b.nrm r j := by
  have h : ∀ (p : FVec Ideal S512x1024 .f32) (q : FVec Ideal S512x1 .f32), k0_pay6 (F := Ideal) p q b.x7 (ix2 r j)
      = (p (ix2 r j) : EReal) * Ideal.rsqrt (Ideal.div (q (ix2 r 0)) (Ideal.ofBits FTy.f32 0x44800000#32) + Ideal.ofBits FTy.f32 0x358637BD#32)
        * b.x7 (ix2 0 j) := fun p q => by
    pointwise [k0_pay6]
  rw [h, pay3_apply, pay5_apply]
  rfl

/-- A chunk's product. -/
theorem pay7_apply (H : Vec Ideal S512x1024 .bf16) (W : Vec Ideal S1024x256 .bf16) (r : Fin 512) (f : Fin 256) :
    k0_pay7 (F := Ideal) H W (ix2 r f) = ∑ j : Fin 1024, (H (ix2 r j) : EReal) * W (ix2 j f) := by
  pointwise [k0_pay7]

theorem pay8_apply (H : Vec Ideal S512x1024 .bf16) (W : Vec Ideal S1024x256 .bf16) (r : Fin 512) (f : Fin 256) :
    k0_pay8 (F := Ideal) H W (ix2 r f) = ∑ j : Fin 1024, (H (ix2 r j) : EReal) * W (ix2 j f) := by
  pointwise [k0_pay8]

/-- The carried rows, stored into the extended buffer. -/
theorem pay9_apply (C : Vec Ideal S1x8x256 .f32) (r : Fin 8) (f : Fin 256) : k0_pay9 (F := Ideal) C (ix2 r f) = C (ix3 0 r f) := by
  pointwise [k0_pay9]

/-- A chunk's product, stored into the extended buffer. -/
theorem pay10_apply (H : Vec Ideal S512x1024 .bf16) (W : Vec Ideal S1024x256 .bf16) (r : Fin 512) (f : Fin 256) :
    k0_pay10 (F := Ideal) H W (ix2 r f) = k0_pay7 (F := Ideal) H W (ix2 r f) := by
  pointwise [k0_pay10]

/-- The chunk's last eight rows, carried over. -/
theorem pay12_apply (H : Vec Ideal S512x1024 .bf16) (W : Vec Ideal S1024x256 .bf16) (r : Fin 8) (f : Fin 256) :
    k0_pay12 (F := Ideal) (k0_pay11 H W) (ix3 0 r f) = k0_pay7 (F := Ideal) H W (ix2 ⟨504 + r.val, by omega⟩ f) := by
  pointwise [k0_pay12, k0_pay11]

/-- The convolution of a chunk through its nonlinearity, times the value. -/
theorem pay13_apply (g v : FVec Ideal S512x256 .f32) (w2 w1 w0 : Vec Ideal S1x256 .f32) (s7 s6 : Vec Ideal S512x256 .f32) (r : Fin 512) (f : Fin 256) :
    k0_pay13 (F := Ideal) g v w2 w1 s7 w0 s6 (ix2 r f)
      = gated ((w2 (ix2 0 f) : EReal) * g (ix2 r f) + w1 (ix2 0 f) * s7 (ix2 r f) + w0 (ix2 0 f) * s6 (ix2 r f)) (v (ix2 r f)) := by
  have h : k0_pay13 (F := Ideal) g v w2 w1 s7 w0 s6 (ix2 r f)
      = ((w2 (ix2 0 f) : EReal) * g (ix2 r f) + w1 (ix2 0 f) * s7 (ix2 r f) + w0 (ix2 0 f) * s6 (ix2 r f))
        * Ideal.div 1 (1 + Ideal.exp (0 - ((w2 (ix2 0 f) : EReal) * g (ix2 r f) + w1 (ix2 0 f) * s7 (ix2 r f) + w0 (ix2 0 f) * s6 (ix2 r f))))
        * v (ix2 r f) := by
    pointwise [k0_pay13]
  rw [h, zero_sub]
  rfl

/-- The output block. -/
theorem pay1_apply (R : Vec Ideal S1x512x1024 .f32) (A : Vec Ideal S512x2816 .bf16) (W : Vec Ideal S2816x1024 .bf16) (r : Fin 512) (j : Fin 1024) :
    k0_pay1 (F := Ideal) R A W (ix3 0 r j) = (R (ix3 0 r j) : EReal) + ∑ f : Fin 2816, (A (ix2 r f) : EReal) * W (ix2 f j) := by
  pointwise [k0_pay1]

/-- The rows carried into the first block are zero. -/
theorem pay2_apply (k : Fin 11) (r : Fin 8) (f : Fin 256) : k0_pay2 (F := Ideal) (ix3 k r f) = (0 : EReal) := by
  pointwise [k0_pay2]

/-! ## A chunk -/

section Chunk

variable (b : Blk) {H : Vec Ideal S512x1024 .bf16} (hH : ∀ r j, H (ix2 r j) = b.nrm r j)
variable (m10 : Memref sig .tc .vmem S1024x2816 .bf16) (h10 : m10.IsWhole) (m11 : Memref sig .tc .vmem S1024x2816 .bf16) (h11 : m11.IsWhole)
variable (m12 : Memref sig .tc .vmem S3x2816 .f32) (h12 : m12.IsWhole) (m16 : Memref sig .tc .vmem S520x256 .f32)
variable (c : Fin 11) {o : ℕ} (ho : o = 256 * c.val)

include hH ho in
/-- The gate of a chunk. -/
theorem gate_chunk (inb) (r : Fin 512) (f : Fin 256) :
    k0_pay7 (F := Ideal) H (m10.view.readAt (Elt Ideal) (Rect.unit (s := S1024x2816) ![0, o] S1024x256.size inb).toLoadRect (h10.unread b.x8)) (ix2 r f)
      = b.gate r (col c f) := by
  rw [pay7_apply]
  exact Finset.sum_congr rfl fun j _ => congrArg₂ _ (hH r j) (load_up m10 h10 b.x8 c o ho inb j f)

include hH ho in
/-- The value of a chunk. -/
theorem val_chunk (inb) (r : Fin 512) (f : Fin 256) :
    k0_pay8 (F := Ideal) H (m11.view.readAt (Elt Ideal) (Rect.unit (s := S1024x2816) ![0, o] S1024x256.size inb).toLoadRect (h11.unread b.x9)) (ix2 r f)
      = b.val r (col c f) := by
  rw [pay8_apply]
  exact Finset.sum_congr rfl fun j _ => congrArg₂ _ (hH r j) (load_up m11 h11 b.x9 c o ho inb j f)

include hH ho in
/-- The rows a chunk carries over to the next block. -/
theorem carry_chunk (inb) (r : Fin 8) (f : Fin 256) :
    k0_pay12 (F := Ideal) (k0_pay11 H (m10.view.readAt (Elt Ideal) (Rect.unit (s := S1024x2816) ![0, o] S1024x256.size inb).toLoadRect (h10.unread b.x8)))
      (ix3 0 r f) = b.gate ⟨504 + r.val, by omega⟩ (col c f) := by
  rw [pay12_apply, gate_chunk b hH m10 h10 c ho]

variable {cin : ℕ → Fin 2816 → EReal} {C : Vec Ideal S1x8x256 .f32} (hC : ∀ (r : Fin 8) (f : Fin 256), C (ix3 0 r f) = cin r.val (col c f))

include hH ho hC in
/-- A load of the extended buffer of a chunk. -/
theorem ext_chunk (rest : List (View.Piece (Elt Ideal) S520x256 .f32)) (n : ℕ) (hn : n < 8) (inb) (h8) (h0) (hinb) (r : Fin 512) (f : Fin 256) :
    m16.view.readCov ((⟨Rect.unit (s := S520x256) ![8, 0] S512x256.size h8, k0_pay10 H
          (m10.view.readAt (Elt Ideal) (Rect.unit (s := S1024x2816) ![0, o] S1024x256.size inb).toLoadRect (h10.unread b.x8))⟩ : View.Piece (Elt Ideal) S520x256 .f32)
        :: (⟨Rect.unit (s := S520x256) ![0, 0] S8x256.size h0, k0_pay9 C⟩ : View.Piece (Elt Ideal) S520x256 .f32) :: rest)
      (Rect.unit (s := S520x256) ![n, 0] S512x256.size hinb).toLoadRect (ix2 r f) = b.ext cin (n + r.val) (col c f) := by
  rw [ext_read m16 _ _ rest n hn]
  unfold Blk.ext
  by_cases h : n + r.val < 8
  · rw [dif_pos h, if_pos h, pay9_apply, hC]
  · rw [dif_neg h, if_neg h, pay10_apply, gate_chunk b hH m10 h10 c ho]

include hH ho in
/-- What a chunk stores for the down projection, from what its two loads of the extended buffer found. -/
theorem act_chunk {s7 s6 : Vec Ideal S512x256 .f32} (h7 : ∀ r f, s7 (ix2 r f) = b.ext cin (7 + r.val) (col c f))
    (h6 : ∀ r f, s6 (ix2 r f) = b.ext cin (6 + r.val) (col c f)) (inb inb' i2 i1 i0) (r : Fin 512) (f : Fin 256) :
    k0_pay13 (F := Ideal)
      (k0_pay7 H (m10.view.readAt (Elt Ideal) (Rect.unit (s := S1024x2816) ![0, o] S1024x256.size inb).toLoadRect (h10.unread b.x8)))
      (k0_pay8 H (m11.view.readAt (Elt Ideal) (Rect.unit (s := S1024x2816) ![0, o] S1024x256.size inb').toLoadRect (h11.unread b.x9)))
      (m12.view.readAt (Elt Ideal) (Rect.unit (s := S3x2816) ![2, o] S1x256.size i2).toLoadRect (h12.unread b.x10))
      (m12.view.readAt (Elt Ideal) (Rect.unit (s := S3x2816) ![1, o] S1x256.size i1).toLoadRect (h12.unread b.x10)) s7
      (m12.view.readAt (Elt Ideal) (Rect.unit (s := S3x2816) ![0, o] S1x256.size i0).toLoadRect (h12.unread b.x10)) s6 (ix2 r f)
      = b.act cin r (col c f) := by
  rw [pay13_apply, gate_chunk b hH m10 h10 c ho, val_chunk b hH m11 h11 c ho, load_tap m12 h12 b.x10 2 2 rfl c o ho, load_tap m12 h12 b.x10 1 1 rfl c o ho,
    load_tap m12 h12 b.x10 0 0 rfl c o ho, h7, h6]
  rfl

end Chunk

end Cert.KernelFfnIdeal.Hand

end

end
-- ==== Proof.FfnFirst.lean ====
/-
  One grid point of the output-projection-and-MLP kernel at the first block of a sequence: the rows carried in are zero.
-/
module

public import proofs.«01_k».proof.Proof.FfnPay
public import proofs.«01_k».proof.Proof.Gen.KernelFfnIdeal.Frame

@[expose] public section

set_option maxRecDepth 16384

noncomputable section

namespace Cert.KernelFfnIdeal.Hand.First

open Cert.KernelFfnIdeal Cert.KernelFfnIdeal.Gen Cert.FfnMath
open Idealize.ShloMosaic Idealize.ShloMosaic.TcCoe Idealize.SL.Sem

variable {c : Dev nD} {i : grid0.Coords}
variable {arg2 : Memref sig .tc .vmem S1x512x1024 .f32} {harg2 : arg2.IsWhole}
variable {arg3 : Memref sig .tc .vmem S1x512x512 .bf16} {harg3 : arg3.IsWhole}
variable {arg4 : Memref sig .tc .vmem S1x512x384 .bf16} {harg4 : arg4.IsWhole}
variable {arg5 : Memref sig .tc .vmem S1x512x256 .bf16} {harg5 : arg5.IsWhole}
variable {arg6 : Memref sig .tc .vmem S512x1024 .bf16} {harg6 : arg6.IsWhole}
variable {arg7 : Memref sig .tc .vmem S384x1024 .bf16} {harg7 : arg7.IsWhole}
variable {arg8 : Memref sig .tc .vmem S256x1024 .bf16} {harg8 : arg8.IsWhole}
variable {arg9 : Memref sig .tc .vmem S1x1024 .f32} {harg9 : arg9.IsWhole}
variable {arg10 : Memref sig .tc .vmem S1024x2816 .bf16} {harg10 : arg10.IsWhole}
variable {arg11 : Memref sig .tc .vmem S1024x2816 .bf16} {harg11 : arg11.IsWhole}
variable {arg12 : Memref sig .tc .vmem S3x2816 .f32} {harg12 : arg12.IsWhole}
variable {arg13 : Memref sig .tc .vmem S2816x1024 .bf16} {harg13 : arg13.IsWhole}
variable {arg14 : Memref sig .tc .vmem S1x512x1024 .f32} {harg14 : arg14.IsWhole}
variable {arg15 : Memref sig .tc .vmem S512x1024 .bf16} {harg15 : arg15.IsWhole}
variable {arg16 : Memref sig .tc .vmem S520x256 .f32} {harg16 : arg16.IsWhole}
variable {arg17 : Memref sig .tc .vmem S512x2816 .bf16} {harg17 : arg17.IsWhole}
variable {arg18 : Memref sig .tc .vmem S11x8x256 .f32} {harg18 : arg18.IsWhole}
variable (b : Blk)

/-- The residual stream of the block. -/
theorem r_eq : kernelRun0_A.sl.r (F := Ideal) c arg2 harg2 arg3 harg3 arg4 harg4 arg5 harg5 arg6 harg6 arg7 harg7 arg8 harg8 b.x0 b.x1 b.x2 b.x3 b.x4 b.x5 b.x6 = k0_pay3 b.x0 b.x1 b.x4 b.x2 b.x5 b.x3 b.x6 := by
  unfold kernelRun0_A.sl.r
  rw [load_whole arg2 harg2 b.x0 _ (fun a => by match a with | 0 => rfl | 1 => rfl | 2 => rfl), load_whole arg3 harg3 b.x1 _ (fun a => by match a with | 0 => rfl | 1 => rfl | 2 => rfl), load_whole arg6 harg6 b.x4 _ (fun a => by match a with | 0 => rfl | 1 => rfl), load_whole arg4 harg4 b.x2 _ (fun a => by match a with | 0 => rfl | 1 => rfl | 2 => rfl), load_whole arg7 harg7 b.x5 _ (fun a => by match a with | 0 => rfl | 1 => rfl), load_whole arg5 harg5 b.x3 _ (fun a => by match a with | 0 => rfl | 1 => rfl | 2 => rfl), load_whole arg8 harg8 b.x6 _ (fun a => by match a with | 0 => rfl | 1 => rfl)]

/-- The sums of squares of its rows. -/
theorem r_1_eq : kernelRun0_A.sl.r_1 (F := Ideal) c arg2 harg2 arg3 harg3 arg4 harg4 arg5 harg5 arg6 harg6 arg7 harg7 arg8 harg8 b.x0 b.x1 b.x2 b.x3 b.x4 b.x5 b.x6 = k0_pay5 b.x0 b.x1 b.x4 b.x2 b.x5 b.x3 b.x6 := by
  unfold kernelRun0_A.sl.r_1
  rw [load_whole arg2 harg2 b.x0 _ (fun a => by match a with | 0 => rfl | 1 => rfl | 2 => rfl), load_whole arg3 harg3 b.x1 _ (fun a => by match a with | 0 => rfl | 1 => rfl | 2 => rfl), load_whole arg6 harg6 b.x4 _ (fun a => by match a with | 0 => rfl | 1 => rfl), load_whole arg4 harg4 b.x2 _ (fun a => by match a with | 0 => rfl | 1 => rfl | 2 => rfl), load_whole arg7 harg7 b.x5 _ (fun a => by match a with | 0 => rfl | 1 => rfl), load_whole arg5 harg5 b.x3 _ (fun a => by match a with | 0 => rfl | 1 => rfl | 2 => rfl), load_whole arg8 harg8 b.x6 _ (fun a => by match a with | 0 => rfl | 1 => rfl)]

/-- The normalized rows, as every chunk loads them. -/
theorem nrm_apply (r : Fin 512) (j : Fin 1024) :
    kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7 (ix2 r j) = b.nrm r j := by
  unfold kernelRun0_A.sl.v44 View.readCov
  refine (load_unit _ _ _ _ _ _ (ix2 r j) (fun a => by match a with | 0 => exact (Nat.zero_add _).symm | 1 => exact (Nat.zero_add _).symm)).trans ?_
  unfold kernelRun0_A.sl.HS0_1
  refine (View.read_writes_cons_unit_of_mem _ _ _ _ _ _ (ix2 r j) rfl (fun a => by match a with | 0 => exact (Nat.zero_add _).symm | 1 => exact (Nat.zero_add _).symm)).trans ?_
  rw [r_eq, r_1_eq, load_whole arg9 harg9 b.x7 _ (fun a => by match a with | 0 => rfl | 1 => rfl)]
  exact pay6_apply b r j

/-- The residual stream, as the last step loads it. -/
theorem res_apply (r : Fin 512) (j : Fin 1024) :
    kernelRun0_A.sl.v550 (F := Ideal) c arg2 harg2 arg3 harg3 arg4 harg4 arg5 harg5 arg6 harg6 arg7 harg7 arg8 harg8 arg14 b.x0 b.x1 b.x2 b.x3 b.x4 b.x5 b.x6 (ix3 0 r j) = b.res r j := by
  unfold kernelRun0_A.sl.v550 View.readCov
  refine (load_unit _ _ _ _ _ _ (ix3 0 r j) (fun a => by match a with | 0 => rfl | 1 => exact (Nat.zero_add _).symm | 2 => exact (Nat.zero_add _).symm)).trans ?_
  unfold kernelRun0_A.sl.H12_1
  refine (View.read_writes_cons_unit_of_mem _ _ _ _ _ _ (ix3 0 r j) rfl (fun a => by match a with | 0 => rfl | 1 => exact (Nat.zero_add _).symm | 2 => exact (Nat.zero_add _).symm)).trans ?_
  rw [load_whole arg2 harg2 b.x0 _ (fun a => by match a with | 0 => rfl | 1 => rfl | 2 => rfl), load_whole arg3 harg3 b.x1 _ (fun a => by match a with | 0 => rfl | 1 => rfl | 2 => rfl), load_whole arg6 harg6 b.x4 _ (fun a => by match a with | 0 => rfl | 1 => rfl), load_whole arg4 harg4 b.x2 _ (fun a => by match a with | 0 => rfl | 1 => rfl | 2 => rfl), load_whole arg7 harg7 b.x5 _ (fun a => by match a with | 0 => rfl | 1 => rfl), load_whole arg5 harg5 b.x3 _ (fun a => by match a with | 0 => rfl | 1 => rfl | 2 => rfl), load_whole arg8 harg8 b.x6 _ (fun a => by match a with | 0 => rfl | 1 => rfl)]
  exact pay4_apply b r j

/-! ## The rows carried in -/

/-- The zeroed carry. -/
theorem zero_1 (k : Fin 11) (r : Fin 8) (f : Fin 256) :
    arg18.view.read (Elt Ideal) (arg18.view.writes (Elt Ideal) arg18.view.junk (kernelRun0_A.sl.HS3_1 (F := Ideal)))
      (ix3 k r f) = (0 : EReal) := by
  unfold kernelRun0_A.sl.HS3_1
  refine (View.read_writes_cons_unit_of_mem _ _ _ _ _ _ (ix3 k r f) rfl (fun a => by match a with | 0 => exact (Nat.zero_add _).symm | 1 => exact (Nat.zero_add _).symm | 2 => exact (Nat.zero_add _).symm)).trans ?_
  exact pay2_apply k r f

/-- The carry of the chunks after the first 1 stays zero. -/
theorem zero_2 (k : Fin 11) (hk : 1 ≤ k.val) (r : Fin 8) (f : Fin 256) :
    arg18.view.read (Elt Ideal) (arg18.view.writes (Elt Ideal) arg18.view.junk (kernelRun0_A.sl.HS3_2 (F := Ideal) c arg2 harg2 arg3 harg3 arg4 harg4 arg5 harg5 arg6 harg6 arg7 harg7 arg8 harg8 arg9 harg9 arg10 harg10 arg15 b.x0 b.x1 b.x2 b.x3 b.x4 b.x5 b.x6 b.x7 b.x8))
      (ix3 k r f) = (0 : EReal) := by
  unfold kernelRun0_A.sl.HS3_2
  exact (View.read_writes_cons_unit_of_not_mem _ _ _ _ _ _ rfl (0 : Fin 3) (Or.inr hk)).trans (zero_1 k  r f)

/-- The carry of the chunks after the first 2 stays zero. -/
theorem zero_3 (k : Fin 11) (hk : 2 ≤ k.val) (r : Fin 8) (f : Fin 256) :
    arg18.view.read (Elt Ideal) (arg18.view.writes (Elt Ideal) arg18.view.junk (kernelRun0_A.sl.HS3_3 (F := Ideal) c arg2 harg2 arg3 harg3 arg4 harg4 arg5 harg5 arg6 harg6 arg7 harg7 arg8 harg8 arg9 harg9 arg10 harg10 arg15 b.x0 b.x1 b.x2 b.x3 b.x4 b.x5 b.x6 b.x7 b.x8))
      (ix3 k r f) = (0 : EReal) := by
  unfold kernelRun0_A.sl.HS3_3
  exact (View.read_writes_cons_unit_of_not_mem _ _ _ _ _ _ rfl (0 : Fin 3) (Or.inr hk)).trans (zero_2 b k (by omega) r f)

/-- The carry of the chunks after the first 3 stays zero. -/
theorem zero_4 (k : Fin 11) (hk : 3 ≤ k.val) (r : Fin 8) (f : Fin 256) :
    arg18.view.read (Elt Ideal) (arg18.view.writes (Elt Ideal) arg18.view.junk (kernelRun0_A.sl.HS3_4 (F := Ideal) c arg2 harg2 arg3 harg3 arg4 harg4 arg5 harg5 arg6 harg6 arg7 harg7 arg8 harg8 arg9 harg9 arg10 harg10 arg15 b.x0 b.x1 b.x2 b.x3 b.x4 b.x5 b.x6 b.x7 b.x8))
      (ix3 k r f) = (0 : EReal) := by
  unfold kernelRun0_A.sl.HS3_4
  exact (View.read_writes_cons_unit_of_not_mem _ _ _ _ _ _ rfl (0 : Fin 3) (Or.inr hk)).trans (zero_3 b k (by omega) r f)

/-- The carry of the chunks after the first 4 stays zero. -/
theorem zero_5 (k : Fin 11) (hk : 4 ≤ k.val) (r : Fin 8) (f : Fin 256) :
    arg18.view.read (Elt Ideal) (arg18.view.writes (Elt Ideal) arg18.view.junk (kernelRun0_A.sl.HS3_5 (F := Ideal) c arg2 harg2 arg3 harg3 arg4 harg4 arg5 harg5 arg6 harg6 arg7 harg7 arg8 harg8 arg9 harg9 arg10 harg10 arg15 b.x0 b.x1 b.x2 b.x3 b.x4 b.x5 b.x6 b.x7 b.x8))
      (ix3 k r f) = (0 : EReal) := by
  unfold kernelRun0_A.sl.HS3_5
  exact (View.read_writes_cons_unit_of_not_mem _ _ _ _ _ _ rfl (0 : Fin 3) (Or.inr hk)).trans (zero_4 b k (by omega) r f)

/-- The carry of the chunks after the first 5 stays zero. -/
theorem zero_6 (k : Fin 11) (hk : 5 ≤ k.val) (r : Fin 8) (f : Fin 256) :
    arg18.view.read (Elt Ideal) (arg18.view.writes (Elt Ideal) arg18.view.junk (kernelRun0_A.sl.HS3_6 (F := Ideal) c arg2 harg2 arg3 harg3 arg4 harg4 arg5 harg5 arg6 harg6 arg7 harg7 arg8 harg8 arg9 harg9 arg10 harg10 arg15 b.x0 b.x1 b.x2 b.x3 b.x4 b.x5 b.x6 b.x7 b.x8))
      (ix3 k r f) = (0 : EReal) := by
  unfold kernelRun0_A.sl.HS3_6
  exact (View.read_writes_cons_unit_of_not_mem _ _ _ _ _ _ rfl (0 : Fin 3) (Or.inr hk)).trans (zero_5 b k (by omega) r f)

/-- The carry of the chunks after the first 6 stays zero. -/
theorem zero_7 (k : Fin 11) (hk : 6 ≤ k.val) (r : Fin 8) (f : Fin 256) :
    arg18.view.read (Elt Ideal) (arg18.view.writes (Elt Ideal) arg18.view.junk (kernelRun0_A.sl.HS3_7 (F := Ideal) c arg2 harg2 arg3 harg3 arg4 harg4 arg5 harg5 arg6 harg6 arg7 harg7 arg8 harg8 arg9 harg9 arg10 harg10 arg15 b.x0 b.x1 b.x2 b.x3 b.x4 b.x5 b.x6 b.x7 b.x8))
      (ix3 k r f) = (0 : EReal) := by
  unfold kernelRun0_A.sl.HS3_7
  exact (View.read_writes_cons_unit_of_not_mem _ _ _ _ _ _ rfl (0 : Fin 3) (Or.inr hk)).trans (zero_6 b k (by omega) r f)

/-- The carry of the chunks after the first 7 stays zero. -/
theorem zero_8 (k : Fin 11) (hk : 7 ≤ k.val) (r : Fin 8) (f : Fin 256) :
    arg18.view.read (Elt Ideal) (arg18.view.writes (Elt Ideal) arg18.view.junk (kernelRun0_A.sl.HS3_8 (F := Ideal) c arg2 harg2 arg3 harg3 arg4 harg4 arg5 harg5 arg6 harg6 arg7 harg7 arg8 harg8 arg9 harg9 arg10 harg10 arg15 b.x0 b.x1 b.x2 b.x3 b.x4 b.x5 b.x6 b.x7 b.x8))
      (ix3 k r f) = (0 : EReal) := by
  unfold kernelRun0_A.sl.HS3_8
  exact (View.read_writes_cons_unit_of_not_mem _ _ _ _ _ _ rfl (0 : Fin 3) (Or.inr hk)).trans (zero_7 b k (by omega) r f)

/-- The carry of the chunks after the first 8 stays zero. -/
theorem zero_9 (k : Fin 11) (hk : 8 ≤ k.val) (r : Fin 8) (f : Fin 256) :
    arg18.view.read (Elt Ideal) (arg18.view.writes (Elt Ideal) arg18.view.junk (kernelRun0_A.sl.HS3_9 (F := Ideal) c arg2 harg2 arg3 harg3 arg4 harg4 arg5 harg5 arg6 harg6 arg7 harg7 arg8 harg8 arg9 harg9 arg10 harg10 arg15 b.x0 b.x1 b.x2 b.x3 b.x4 b.x5 b.x6 b.x7 b.x8))
      (ix3 k r f) = (0 : EReal) := by
  unfold kernelRun0_A.sl.HS3_9
  exact (View.read_writes_cons_unit_of_not_mem _ _ _ _ _ _ rfl (0 : Fin 3) (Or.inr hk)).trans (zero_8 b k (by omega) r f)

/-- The carry of the chunks after the first 9 stays zero. -/
theorem zero_10 (k : Fin 11) (hk : 9 ≤ k.val) (r : Fin 8) (f : Fin 256) :
    arg18.view.read (Elt Ideal) (arg18.view.writes (Elt Ideal) arg18.view.junk (kernelRun0_A.sl.HS3_10 (F := Ideal) c arg2 harg2 arg3 harg3 arg4 harg4 arg5 harg5 arg6 harg6 arg7 harg7 arg8 harg8 arg9 harg9 arg10 harg10 arg15 b.x0 b.x1 b.x2 b.x3 b.x4 b.x5 b.x6 b.x7 b.x8))
      (ix3 k r f) = (0 : EReal) := by
  unfold kernelRun0_A.sl.HS3_10
  exact (View.read_writes_cons_unit_of_not_mem _ _ _ _ _ _ rfl (0 : Fin 3) (Or.inr hk)).trans (zero_9 b k (by omega) r f)

/-- The carry of the chunks after the first 10 stays zero. -/
theorem zero_11 (k : Fin 11) (hk : 10 ≤ k.val) (r : Fin 8) (f : Fin 256) :
    arg18.view.read (Elt Ideal) (arg18.view.writes (Elt Ideal) arg18.view.junk (kernelRun0_A.sl.HS3_11 (F := Ideal) c arg2 harg2 arg3 harg3 arg4 harg4 arg5 harg5 arg6 harg6 arg7 harg7 arg8 harg8 arg9 harg9 arg10 harg10 arg15 b.x0 b.x1 b.x2 b.x3 b.x4 b.x5 b.x6 b.x7 b.x8))
      (ix3 k r f) = (0 : EReal) := by
  unfold kernelRun0_A.sl.HS3_11
  exact (View.read_writes_cons_unit_of_not_mem _ _ _ _ _ _ rfl (0 : Fin 3) (Or.inr hk)).trans (zero_10 b k (by omega) r f)

theorem carry_0 (r : Fin 8) (f : Fin 256) : kernelRun0_A.sl.v52 (F := Ideal) c arg18 (ix3 0 r f) = (0 : EReal) := by
  unfold kernelRun0_A.sl.v52 View.readCov
  exact (load_unit _ _ _ _ _ _ (ix3 (0 : Fin 11) r f) (fun a => by match a with | 0 => rfl | 1 => exact (Nat.zero_add _).symm | 2 => exact (Nat.zero_add _).symm)).trans (zero_1 0 r f)

theorem carry_1 (r : Fin 8) (f : Fin 256) : kernelRun0_A.sl.v98 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8 (ix3 0 r f) = (0 : EReal) := by
  unfold kernelRun0_A.sl.v98 View.readCov
  exact (load_unit _ _ _ _ _ _ (ix3 (1 : Fin 11) r f) (fun a => by match a with | 0 => rfl | 1 => exact (Nat.zero_add _).symm | 2 => exact (Nat.zero_add _).symm)).trans (zero_2 b 1 (by decide) r f)

theorem carry_2 (r : Fin 8) (f : Fin 256) : kernelRun0_A.sl.v144 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8 (ix3 0 r f) = (0 : EReal) := by
  unfold kernelRun0_A.sl.v144 View.readCov
  exact (load_unit _ _ _ _ _ _ (ix3 (2 : Fin 11) r f) (fun a => by match a with | 0 => rfl | 1 => exact (Nat.zero_add _).symm | 2 => exact (Nat.zero_add _).symm)).trans (zero_3 b 2 (by decide) r f)

theorem carry_3 (r : Fin 8) (f : Fin 256) : kernelRun0_A.sl.v190 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8 (ix3 0 r f) = (0 : EReal) := by
  unfold kernelRun0_A.sl.v190 View.readCov
  exact (load_unit _ _ _ _ _ _ (ix3 (3 : Fin 11) r f) (fun a => by match a with | 0 => rfl | 1 => exact (Nat.zero_add _).symm | 2 => exact (Nat.zero_add _).symm)).trans (zero_4 b 3 (by decide) r f)

theorem carry_4 (r : Fin 8) (f : Fin 256) : kernelRun0_A.sl.v236 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8 (ix3 0 r f) = (0 : EReal) := by
  unfold kernelRun0_A.sl.v236 View.readCov
  exact (load_unit _ _ _ _ _ _ (ix3 (4 : Fin 11) r f) (fun a => by match a with | 0 => rfl | 1 => exact (Nat.zero_add _).symm | 2 => exact (Nat.zero_add _).symm)).trans (zero_5 b 4 (by decide) r f)

theorem carry_5 (r : Fin 8) (f : Fin 256) : kernelRun0_A.sl.v282 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8 (ix3 0 r f) = (0 : EReal) := by
  unfold kernelRun0_A.sl.v282 View.readCov
  exact (load_unit _ _ _ _ _ _ (ix3 (5 : Fin 11) r f) (fun a => by match a with | 0 => rfl | 1 => exact (Nat.zero_add _).symm | 2 => exact (Nat.zero_add _).symm)).trans (zero_6 b 5 (by decide) r f)

theorem carry_6 (r : Fin 8) (f : Fin 256) : kernelRun0_A.sl.v328 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8 (ix3 0 r f) = (0 : EReal) := by
  unfold kernelRun0_A.sl.v328 View.readCov
  exact (load_unit _ _ _ _ _ _ (ix3 (6 : Fin 11) r f) (fun a => by match a with | 0 => rfl | 1 => exact (Nat.zero_add _).symm | 2 => exact (Nat.zero_add _).symm)).trans (zero_7 b 6 (by decide) r f)

theorem carry_7 (r : Fin 8) (f : Fin 256) : kernelRun0_A.sl.v374 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8 (ix3 0 r f) = (0 : EReal) := by
  unfold kernelRun0_A.sl.v374 View.readCov
  exact (load_unit _ _ _ _ _ _ (ix3 (7 : Fin 11) r f) (fun a => by match a with | 0 => rfl | 1 => exact (Nat.zero_add _).symm | 2 => exact (Nat.zero_add _).symm)).trans (zero_8 b 7 (by decide) r f)

theorem carry_8 (r : Fin 8) (f : Fin 256) : kernelRun0_A.sl.v420 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8 (ix3 0 r f) = (0 : EReal) := by
  unfold kernelRun0_A.sl.v420 View.readCov
  exact (load_unit _ _ _ _ _ _ (ix3 (8 : Fin 11) r f) (fun a => by match a with | 0 => rfl | 1 => exact (Nat.zero_add _).symm | 2 => exact (Nat.zero_add _).symm)).trans (zero_9 b 8 (by decide) r f)

theorem carry_9 (r : Fin 8) (f : Fin 256) : kernelRun0_A.sl.v466 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8 (ix3 0 r f) = (0 : EReal) := by
  unfold kernelRun0_A.sl.v466 View.readCov
  exact (load_unit _ _ _ _ _ _ (ix3 (9 : Fin 11) r f) (fun a => by match a with | 0 => rfl | 1 => exact (Nat.zero_add _).symm | 2 => exact (Nat.zero_add _).symm)).trans (zero_10 b 9 (by decide) r f)

theorem carry_10 (r : Fin 8) (f : Fin 256) : kernelRun0_A.sl.v512 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8 (ix3 0 r f) = (0 : EReal) := by
  unfold kernelRun0_A.sl.v512 View.readCov
  exact (load_unit _ _ _ _ _ _ (ix3 (10 : Fin 11) r f) (fun a => by match a with | 0 => rfl | 1 => exact (Nat.zero_add _).symm | 2 => exact (Nat.zero_add _).symm)).trans (zero_11 b 10 (by decide) r f)

/-! ## The convolution's loads -/

theorem back1_0 (r : Fin 512) (f : Fin 256) :
    kernelRun0_A.sl.v68 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (7 + r.val) (col 0 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 0 (o := 0) rfl (cin := (fun _ _ => 0))
    (C := kernelRun0_A.sl.v52 (F := Ideal) c arg18) (carry_0) [] 7 (by decide) inb_S1024x2816_S1024x256_0_0
    inb_S520x256_S512x256_8_0 inb_S520x256_S8x256_0_0 inb_S520x256_S512x256_7_0 r f)
  rfl

theorem back2_0 (r : Fin 512) (f : Fin 256) :
    kernelRun0_A.sl.v73 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (6 + r.val) (col 0 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 0 (o := 0) rfl (cin := (fun _ _ => 0))
    (C := kernelRun0_A.sl.v52 (F := Ideal) c arg18) (carry_0) [] 6 (by decide) inb_S1024x2816_S1024x256_0_0
    inb_S520x256_S512x256_8_0 inb_S520x256_S8x256_0_0 inb_S520x256_S512x256_6_0 r f)
  rfl

theorem back1_1 (r : Fin 512) (f : Fin 256) :
    kernelRun0_A.sl.v114 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (7 + r.val) (col 1 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 1 (o := 256) rfl (cin := (fun _ _ => 0))
    (C := kernelRun0_A.sl.v98 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) (carry_1 b) (kernelRun0_A.sl.HS1_2 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) 7 (by decide) inb_S1024x2816_S1024x256_0_256
    inb_S520x256_S512x256_8_0 inb_S520x256_S8x256_0_0 inb_S520x256_S512x256_7_0 r f)
  rfl

theorem back2_1 (r : Fin 512) (f : Fin 256) :
    kernelRun0_A.sl.v119 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (6 + r.val) (col 1 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 1 (o := 256) rfl (cin := (fun _ _ => 0))
    (C := kernelRun0_A.sl.v98 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) (carry_1 b) (kernelRun0_A.sl.HS1_2 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) 6 (by decide) inb_S1024x2816_S1024x256_0_256
    inb_S520x256_S512x256_8_0 inb_S520x256_S8x256_0_0 inb_S520x256_S512x256_6_0 r f)
  rfl

theorem back1_2 (r : Fin 512) (f : Fin 256) :
    kernelRun0_A.sl.v160 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (7 + r.val) (col 2 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 2 (o := 512) rfl (cin := (fun _ _ => 0))
    (C := kernelRun0_A.sl.v144 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) (carry_2 b) (kernelRun0_A.sl.HS1_4 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) 7 (by decide) inb_S1024x2816_S1024x256_0_512
    inb_S520x256_S512x256_8_0 inb_S520x256_S8x256_0_0 inb_S520x256_S512x256_7_0 r f)
  rfl

theorem back2_2 (r : Fin 512) (f : Fin 256) :
    kernelRun0_A.sl.v165 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (6 + r.val) (col 2 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 2 (o := 512) rfl (cin := (fun _ _ => 0))
    (C := kernelRun0_A.sl.v144 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) (carry_2 b) (kernelRun0_A.sl.HS1_4 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) 6 (by decide) inb_S1024x2816_S1024x256_0_512
    inb_S520x256_S512x256_8_0 inb_S520x256_S8x256_0_0 inb_S520x256_S512x256_6_0 r f)
  rfl

theorem back1_3 (r : Fin 512) (f : Fin 256) :
    kernelRun0_A.sl.v206 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (7 + r.val) (col 3 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 3 (o := 768) rfl (cin := (fun _ _ => 0))
    (C := kernelRun0_A.sl.v190 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) (carry_3 b) (kernelRun0_A.sl.HS1_6 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) 7 (by decide) inb_S1024x2816_S1024x256_0_768
    inb_S520x256_S512x256_8_0 inb_S520x256_S8x256_0_0 inb_S520x256_S512x256_7_0 r f)
  rfl

theorem back2_3 (r : Fin 512) (f : Fin 256) :
    kernelRun0_A.sl.v211 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (6 + r.val) (col 3 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 3 (o := 768) rfl (cin := (fun _ _ => 0))
    (C := kernelRun0_A.sl.v190 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) (carry_3 b) (kernelRun0_A.sl.HS1_6 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) 6 (by decide) inb_S1024x2816_S1024x256_0_768
    inb_S520x256_S512x256_8_0 inb_S520x256_S8x256_0_0 inb_S520x256_S512x256_6_0 r f)
  rfl

theorem back1_4 (r : Fin 512) (f : Fin 256) :
    kernelRun0_A.sl.v252 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (7 + r.val) (col 4 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 4 (o := 1024) rfl (cin := (fun _ _ => 0))
    (C := kernelRun0_A.sl.v236 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) (carry_4 b) (kernelRun0_A.sl.HS1_8 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) 7 (by decide) inb_S1024x2816_S1024x256_0_1024
    inb_S520x256_S512x256_8_0 inb_S520x256_S8x256_0_0 inb_S520x256_S512x256_7_0 r f)
  rfl

theorem back2_4 (r : Fin 512) (f : Fin 256) :
    kernelRun0_A.sl.v257 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (6 + r.val) (col 4 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 4 (o := 1024) rfl (cin := (fun _ _ => 0))
    (C := kernelRun0_A.sl.v236 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) (carry_4 b) (kernelRun0_A.sl.HS1_8 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) 6 (by decide) inb_S1024x2816_S1024x256_0_1024
    inb_S520x256_S512x256_8_0 inb_S520x256_S8x256_0_0 inb_S520x256_S512x256_6_0 r f)
  rfl

theorem back1_5 (r : Fin 512) (f : Fin 256) :
    kernelRun0_A.sl.v298 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (7 + r.val) (col 5 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 5 (o := 1280) rfl (cin := (fun _ _ => 0))
    (C := kernelRun0_A.sl.v282 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) (carry_5 b) (kernelRun0_A.sl.HS1_10 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) 7 (by decide) inb_S1024x2816_S1024x256_0_1280
    inb_S520x256_S512x256_8_0 inb_S520x256_S8x256_0_0 inb_S520x256_S512x256_7_0 r f)
  rfl

theorem back2_5 (r : Fin 512) (f : Fin 256) :
    kernelRun0_A.sl.v303 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (6 + r.val) (col 5 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 5 (o := 1280) rfl (cin := (fun _ _ => 0))
    (C := kernelRun0_A.sl.v282 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) (carry_5 b) (kernelRun0_A.sl.HS1_10 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) 6 (by decide) inb_S1024x2816_S1024x256_0_1280
    inb_S520x256_S512x256_8_0 inb_S520x256_S8x256_0_0 inb_S520x256_S512x256_6_0 r f)
  rfl

theorem back1_6 (r : Fin 512) (f : Fin 256) :
    kernelRun0_A.sl.v344 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (7 + r.val) (col 6 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 6 (o := 1536) rfl (cin := (fun _ _ => 0))
    (C := kernelRun0_A.sl.v328 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) (carry_6 b) (kernelRun0_A.sl.HS1_12 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) 7 (by decide) inb_S1024x2816_S1024x256_0_1536
    inb_S520x256_S512x256_8_0 inb_S520x256_S8x256_0_0 inb_S520x256_S512x256_7_0 r f)
  rfl

theorem back2_6 (r : Fin 512) (f : Fin 256) :
    kernelRun0_A.sl.v349 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (6 + r.val) (col 6 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 6 (o := 1536) rfl (cin := (fun _ _ => 0))
    (C := kernelRun0_A.sl.v328 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) (carry_6 b) (kernelRun0_A.sl.HS1_12 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) 6 (by decide) inb_S1024x2816_S1024x256_0_1536
    inb_S520x256_S512x256_8_0 inb_S520x256_S8x256_0_0 inb_S520x256_S512x256_6_0 r f)
  rfl

theorem back1_7 (r : Fin 512) (f : Fin 256) :
    kernelRun0_A.sl.v390 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (7 + r.val) (col 7 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 7 (o := 1792) rfl (cin := (fun _ _ => 0))
    (C := kernelRun0_A.sl.v374 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) (carry_7 b) (kernelRun0_A.sl.HS1_14 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) 7 (by decide) inb_S1024x2816_S1024x256_0_1792
    inb_S520x256_S512x256_8_0 inb_S520x256_S8x256_0_0 inb_S520x256_S512x256_7_0 r f)
  rfl

theorem back2_7 (r : Fin 512) (f : Fin 256) :
    kernelRun0_A.sl.v395 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (6 + r.val) (col 7 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 7 (o := 1792) rfl (cin := (fun _ _ => 0))
    (C := kernelRun0_A.sl.v374 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) (carry_7 b) (kernelRun0_A.sl.HS1_14 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) 6 (by decide) inb_S1024x2816_S1024x256_0_1792
    inb_S520x256_S512x256_8_0 inb_S520x256_S8x256_0_0 inb_S520x256_S512x256_6_0 r f)
  rfl

theorem back1_8 (r : Fin 512) (f : Fin 256) :
    kernelRun0_A.sl.v436 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (7 + r.val) (col 8 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 8 (o := 2048) rfl (cin := (fun _ _ => 0))
    (C := kernelRun0_A.sl.v420 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) (carry_8 b) (kernelRun0_A.sl.HS1_16 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) 7 (by decide) inb_S1024x2816_S1024x256_0_2048
    inb_S520x256_S512x256_8_0 inb_S520x256_S8x256_0_0 inb_S520x256_S512x256_7_0 r f)
  rfl

theorem back2_8 (r : Fin 512) (f : Fin 256) :
    kernelRun0_A.sl.v441 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (6 + r.val) (col 8 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 8 (o := 2048) rfl (cin := (fun _ _ => 0))
    (C := kernelRun0_A.sl.v420 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) (carry_8 b) (kernelRun0_A.sl.HS1_16 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) 6 (by decide) inb_S1024x2816_S1024x256_0_2048
    inb_S520x256_S512x256_8_0 inb_S520x256_S8x256_0_0 inb_S520x256_S512x256_6_0 r f)
  rfl

theorem back1_9 (r : Fin 512) (f : Fin 256) :
    kernelRun0_A.sl.v482 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (7 + r.val) (col 9 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 9 (o := 2304) rfl (cin := (fun _ _ => 0))
    (C := kernelRun0_A.sl.v466 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) (carry_9 b) (kernelRun0_A.sl.HS1_18 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) 7 (by decide) inb_S1024x2816_S1024x256_0_2304
    inb_S520x256_S512x256_8_0 inb_S520x256_S8x256_0_0 inb_S520x256_S512x256_7_0 r f)
  rfl

theorem back2_9 (r : Fin 512) (f : Fin 256) :
    kernelRun0_A.sl.v487 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (6 + r.val) (col 9 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 9 (o := 2304) rfl (cin := (fun _ _ => 0))
    (C := kernelRun0_A.sl.v466 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) (carry_9 b) (kernelRun0_A.sl.HS1_18 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) 6 (by decide) inb_S1024x2816_S1024x256_0_2304
    inb_S520x256_S512x256_8_0 inb_S520x256_S8x256_0_0 inb_S520x256_S512x256_6_0 r f)
  rfl

theorem back1_10 (r : Fin 512) (f : Fin 256) :
    kernelRun0_A.sl.v528 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (7 + r.val) (col 10 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 10 (o := 2560) rfl (cin := (fun _ _ => 0))
    (C := kernelRun0_A.sl.v512 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) (carry_10 b) (kernelRun0_A.sl.HS1_20 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) 7 (by decide) inb_S1024x2816_S1024x256_0_2560
    inb_S520x256_S512x256_8_0 inb_S520x256_S8x256_0_0 inb_S520x256_S512x256_7_0 r f)
  rfl

theorem back2_10 (r : Fin 512) (f : Fin 256) :
    kernelRun0_A.sl.v533 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8 (ix2 r f) = b.ext (fun _ _ => 0) (6 + r.val) (col 10 f) := by
  refine Eq.trans ?_ (ext_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 10 (o := 2560) rfl (cin := (fun _ _ => 0))
    (C := kernelRun0_A.sl.v512 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) (carry_10 b) (kernelRun0_A.sl.HS1_20 (F := Ideal) c arg2 harg2 arg3 harg3 arg4 harg4 arg5 harg5 arg6 harg6 arg7 harg7 arg8 harg8 arg9 harg9 arg10 harg10 arg15 arg18 b.x0 b.x1 b.x2 b.x3 b.x4 b.x5 b.x6 b.x7 b.x8) 6 (by decide) inb_S1024x2816_S1024x256_0_2560
    inb_S520x256_S512x256_8_0 inb_S520x256_S8x256_0_0 inb_S520x256_S512x256_6_0 r f)
  rfl

/-! ## The whole block -/

/-- What the down projection loads, by chunk and channel. -/
theorem act_apply (k : Fin 11) (r : Fin 512) (f : Fin 256) :
    kernelRun0_A.sl.v552 (F := Ideal) c arg2 harg2 arg3 harg3 arg4 harg4 arg5 harg5 arg6 harg6 arg7 harg7 arg8 harg8 arg9 harg9 arg10 harg10 arg11 harg11 arg12 harg12 arg15 arg16 arg17 arg18 b.x0 b.x1 b.x2 b.x3 b.x4 b.x5 b.x6 b.x7 b.x8 b.x9 b.x10 (ix2 r (col k f)) = b.act (fun _ _ => 0) r (col k f) := by
  have hk := k.isLt
  have hf := f.isLt
  unfold kernelRun0_A.sl.v552 View.readCov
  refine (load_unit _ _ _ _ _ _ (ix2 r (col k f)) (fun a => by match a with | 0 => exact (Nat.zero_add _).symm | 1 => exact (Nat.zero_add _).symm)).trans ?_
  unfold kernelRun0_A.sl.HS2_11
  by_cases h10 : k.val = 10
  · obtain rfl : k = 10 := Fin.ext h10
    refine (View.read_writes_cons_unit_of_mem _ _ _ _ _ _ (ix2 r f) rfl (fun a => by match a with | 0 => exact (Nat.zero_add _).symm | 1 => rfl)).trans ?_
    refine Eq.trans ?_ (act_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 10 (o := 2560) rfl
      (s7 := kernelRun0_A.sl.v528 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8) (s6 := kernelRun0_A.sl.v533 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8)
      (back1_10 b) (back2_10 b) inb_S1024x2816_S1024x256_0_2560 inb_S1024x2816_S1024x256_0_2560
      inb_S3x2816_S1x256_2_2560 inb_S3x2816_S1x256_1_2560 inb_S3x2816_S1x256_0_2560 r f)
    rfl
  refine (View.read_writes_cons_unit_of_not_mem _ _ _ _ _ _ rfl (1 : Fin 2) (Or.inl (by show 256 * k.val + f.val < 2560; omega))).trans ?_
  by_cases h9 : k.val = 9
  · obtain rfl : k = 9 := Fin.ext h9
    refine (View.read_writes_cons_unit_of_mem _ _ _ _ _ _ (ix2 r f) rfl (fun a => by match a with | 0 => exact (Nat.zero_add _).symm | 1 => rfl)).trans ?_
    refine Eq.trans ?_ (act_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 9 (o := 2304) rfl
      (s7 := kernelRun0_A.sl.v482 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8) (s6 := kernelRun0_A.sl.v487 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8)
      (back1_9 b) (back2_9 b) inb_S1024x2816_S1024x256_0_2304 inb_S1024x2816_S1024x256_0_2304
      inb_S3x2816_S1x256_2_2304 inb_S3x2816_S1x256_1_2304 inb_S3x2816_S1x256_0_2304 r f)
    rfl
  refine (View.read_writes_cons_unit_of_not_mem _ _ _ _ _ _ rfl (1 : Fin 2) (Or.inl (by show 256 * k.val + f.val < 2304; omega))).trans ?_
  by_cases h8 : k.val = 8
  · obtain rfl : k = 8 := Fin.ext h8
    refine (View.read_writes_cons_unit_of_mem _ _ _ _ _ _ (ix2 r f) rfl (fun a => by match a with | 0 => exact (Nat.zero_add _).symm | 1 => rfl)).trans ?_
    refine Eq.trans ?_ (act_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 8 (o := 2048) rfl
      (s7 := kernelRun0_A.sl.v436 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8) (s6 := kernelRun0_A.sl.v441 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8)
      (back1_8 b) (back2_8 b) inb_S1024x2816_S1024x256_0_2048 inb_S1024x2816_S1024x256_0_2048
      inb_S3x2816_S1x256_2_2048 inb_S3x2816_S1x256_1_2048 inb_S3x2816_S1x256_0_2048 r f)
    rfl
  refine (View.read_writes_cons_unit_of_not_mem _ _ _ _ _ _ rfl (1 : Fin 2) (Or.inl (by show 256 * k.val + f.val < 2048; omega))).trans ?_
  by_cases h7 : k.val = 7
  · obtain rfl : k = 7 := Fin.ext h7
    refine (View.read_writes_cons_unit_of_mem _ _ _ _ _ _ (ix2 r f) rfl (fun a => by match a with | 0 => exact (Nat.zero_add _).symm | 1 => rfl)).trans ?_
    refine Eq.trans ?_ (act_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 7 (o := 1792) rfl
      (s7 := kernelRun0_A.sl.v390 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8) (s6 := kernelRun0_A.sl.v395 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8)
      (back1_7 b) (back2_7 b) inb_S1024x2816_S1024x256_0_1792 inb_S1024x2816_S1024x256_0_1792
      inb_S3x2816_S1x256_2_1792 inb_S3x2816_S1x256_1_1792 inb_S3x2816_S1x256_0_1792 r f)
    rfl
  refine (View.read_writes_cons_unit_of_not_mem _ _ _ _ _ _ rfl (1 : Fin 2) (Or.inl (by show 256 * k.val + f.val < 1792; omega))).trans ?_
  by_cases h6 : k.val = 6
  · obtain rfl : k = 6 := Fin.ext h6
    refine (View.read_writes_cons_unit_of_mem _ _ _ _ _ _ (ix2 r f) rfl (fun a => by match a with | 0 => exact (Nat.zero_add _).symm | 1 => rfl)).trans ?_
    refine Eq.trans ?_ (act_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 6 (o := 1536) rfl
      (s7 := kernelRun0_A.sl.v344 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8) (s6 := kernelRun0_A.sl.v349 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8)
      (back1_6 b) (back2_6 b) inb_S1024x2816_S1024x256_0_1536 inb_S1024x2816_S1024x256_0_1536
      inb_S3x2816_S1x256_2_1536 inb_S3x2816_S1x256_1_1536 inb_S3x2816_S1x256_0_1536 r f)
    rfl
  refine (View.read_writes_cons_unit_of_not_mem _ _ _ _ _ _ rfl (1 : Fin 2) (Or.inl (by show 256 * k.val + f.val < 1536; omega))).trans ?_
  by_cases h5 : k.val = 5
  · obtain rfl : k = 5 := Fin.ext h5
    refine (View.read_writes_cons_unit_of_mem _ _ _ _ _ _ (ix2 r f) rfl (fun a => by match a with | 0 => exact (Nat.zero_add _).symm | 1 => rfl)).trans ?_
    refine Eq.trans ?_ (act_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 5 (o := 1280) rfl
      (s7 := kernelRun0_A.sl.v298 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8) (s6 := kernelRun0_A.sl.v303 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8)
      (back1_5 b) (back2_5 b) inb_S1024x2816_S1024x256_0_1280 inb_S1024x2816_S1024x256_0_1280
      inb_S3x2816_S1x256_2_1280 inb_S3x2816_S1x256_1_1280 inb_S3x2816_S1x256_0_1280 r f)
    rfl
  refine (View.read_writes_cons_unit_of_not_mem _ _ _ _ _ _ rfl (1 : Fin 2) (Or.inl (by show 256 * k.val + f.val < 1280; omega))).trans ?_
  by_cases h4 : k.val = 4
  · obtain rfl : k = 4 := Fin.ext h4
    refine (View.read_writes_cons_unit_of_mem _ _ _ _ _ _ (ix2 r f) rfl (fun a => by match a with | 0 => exact (Nat.zero_add _).symm | 1 => rfl)).trans ?_
    refine Eq.trans ?_ (act_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 4 (o := 1024) rfl
      (s7 := kernelRun0_A.sl.v252 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8) (s6 := kernelRun0_A.sl.v257 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8)
      (back1_4 b) (back2_4 b) inb_S1024x2816_S1024x256_0_1024 inb_S1024x2816_S1024x256_0_1024
      inb_S3x2816_S1x256_2_1024 inb_S3x2816_S1x256_1_1024 inb_S3x2816_S1x256_0_1024 r f)
    rfl
  refine (View.read_writes_cons_unit_of_not_mem _ _ _ _ _ _ rfl (1 : Fin 2) (Or.inl (by show 256 * k.val + f.val < 1024; omega))).trans ?_
  by_cases h3 : k.val = 3
  · obtain rfl : k = 3 := Fin.ext h3
    refine (View.read_writes_cons_unit_of_mem _ _ _ _ _ _ (ix2 r f) rfl (fun a => by match a with | 0 => exact (Nat.zero_add _).symm | 1 => rfl)).trans ?_
    refine Eq.trans ?_ (act_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 3 (o := 768) rfl
      (s7 := kernelRun0_A.sl.v206 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8) (s6 := kernelRun0_A.sl.v211 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8)
      (back1_3 b) (back2_3 b) inb_S1024x2816_S1024x256_0_768 inb_S1024x2816_S1024x256_0_768
      inb_S3x2816_S1x256_2_768 inb_S3x2816_S1x256_1_768 inb_S3x2816_S1x256_0_768 r f)
    rfl
  refine (View.read_writes_cons_unit_of_not_mem _ _ _ _ _ _ rfl (1 : Fin 2) (Or.inl (by show 256 * k.val + f.val < 768; omega))).trans ?_
  by_cases h2 : k.val = 2
  · obtain rfl : k = 2 := Fin.ext h2
    refine (View.read_writes_cons_unit_of_mem _ _ _ _ _ _ (ix2 r f) rfl (fun a => by match a with | 0 => exact (Nat.zero_add _).symm | 1 => rfl)).trans ?_
    refine Eq.trans ?_ (act_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 2 (o := 512) rfl
      (s7 := kernelRun0_A.sl.v160 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8) (s6 := kernelRun0_A.sl.v165 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8)
      (back1_2 b) (back2_2 b) inb_S1024x2816_S1024x256_0_512 inb_S1024x2816_S1024x256_0_512
      inb_S3x2816_S1x256_2_512 inb_S3x2816_S1x256_1_512 inb_S3x2816_S1x256_0_512 r f)
    rfl
  refine (View.read_writes_cons_unit_of_not_mem _ _ _ _ _ _ rfl (1 : Fin 2) (Or.inl (by show 256 * k.val + f.val < 512; omega))).trans ?_
  by_cases h1 : k.val = 1
  · obtain rfl : k = 1 := Fin.ext h1
    refine (View.read_writes_cons_unit_of_mem _ _ _ _ _ _ (ix2 r f) rfl (fun a => by match a with | 0 => exact (Nat.zero_add _).symm | 1 => rfl)).trans ?_
    refine Eq.trans ?_ (act_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 1 (o := 256) rfl
      (s7 := kernelRun0_A.sl.v114 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8) (s6 := kernelRun0_A.sl.v119 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8)
      (back1_1 b) (back2_1 b) inb_S1024x2816_S1024x256_0_256 inb_S1024x2816_S1024x256_0_256
      inb_S3x2816_S1x256_2_256 inb_S3x2816_S1x256_1_256 inb_S3x2816_S1x256_0_256 r f)
    rfl
  refine (View.read_writes_cons_unit_of_not_mem _ _ _ _ _ _ rfl (1 : Fin 2) (Or.inl (by show 256 * k.val + f.val < 256; omega))).trans ?_
  obtain rfl : k = 0 := Fin.ext (by show k.val = 0; omega)
  refine (View.read_writes_cons_unit_of_mem _ _ _ _ _ _ (ix2 r f) rfl (fun a => by match a with | 0 => exact (Nat.zero_add _).symm | 1 => rfl)).trans ?_
  refine Eq.trans ?_ (act_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 0 (o := 0) rfl
    (s7 := kernelRun0_A.sl.v68 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8) (s6 := kernelRun0_A.sl.v73 (F := Ideal) c arg2 harg2 arg3 harg3 arg4 harg4 arg5 harg5 arg6 harg6 arg7 harg7 arg8 harg8 arg9 harg9 arg10 harg10 arg15 arg16 arg18 b.x0 b.x1 b.x2 b.x3 b.x4 b.x5 b.x6 b.x7 b.x8)
    (back1_0 b) (back2_0 b) inb_S1024x2816_S1024x256_0_0 inb_S1024x2816_S1024x256_0_0
    inb_S3x2816_S1x256_2_0 inb_S3x2816_S1x256_1_0 inb_S3x2816_S1x256_0_0 r f)
  rfl

/-- The output block of the grid point. -/
theorem out_apply (hc0 : cond0_0 i) (r : Fin 512) (j : Fin 1024) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 b.x0 b.x1 b.x2 b.x3 b.x4 b.x5 b.x6 b.x7 b.x8 b.x9 b.x10 b.x11 (ix3 0 r j)
      = b.out (fun _ _ => 0) r j := by
  unfold out0_A_12
  refine (View.read_writes_cons_unit_of_mem _ _ _ _ _ _ (ix3 0 r j) rfl (fun a => by match a with | 0 => rfl | 1 => exact (Nat.zero_add _).symm | 2 => exact (Nat.zero_add _).symm)).trans ?_
  rw [pay1_apply, res_apply]
  refine congrArg₂ _ rfl (Finset.sum_congr rfl fun f _ => congrArg₂ _ ?_ ?_)
  · have hf : f = col ⟨f.val / 256, by omega⟩ ⟨f.val % 256, Nat.mod_lt _ (by decide)⟩ := Fin.ext (Nat.div_add_mod f.val 256).symm
    rw [hf]
    exact act_apply b _ r _
  · exact congrFun (load_whole arg13 harg13 b.x11 _ (fun a => by match a with | 0 => rfl | 1 => rfl) _) (ix2 f j)

/-- The rows the grid point carries over. -/
theorem carry_apply (hc0 : cond0_0 i) (k : Fin 11) (r : Fin 8) (f : Fin 256) :
    sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 b.x0 b.x1 b.x2 b.x3 b.x4 b.x5 b.x6 b.x7 b.x8 b.x9 b.x10 b.x11 (ix3 k r f)
      = b.gate ⟨504 + r.val, by omega⟩ (col k f) := by
  have hk := k.isLt
  unfold sout0_A_3
  by_cases h10 : k.val = 10
  · obtain rfl : k = 10 := Fin.ext h10
    refine (View.read_writes_cons_unit_of_mem _ _ _ _ _ _ (ix3 0 r f) rfl (fun a => by match a with | 0 => rfl | 1 => exact (Nat.zero_add _).symm | 2 => exact (Nat.zero_add _).symm)).trans ?_
    refine Eq.trans ?_ (carry_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 10 (o := 2560) rfl inb_S1024x2816_S1024x256_0_2560 r f)
    rfl
  refine (View.read_writes_cons_unit_of_not_mem _ _ _ _ _ _ rfl (0 : Fin 3) (Or.inl (by show k.val < 10; omega))).trans ?_
  unfold kernelRun0_A.sl.HS3_11
  by_cases h9 : k.val = 9
  · obtain rfl : k = 9 := Fin.ext h9
    refine (View.read_writes_cons_unit_of_mem _ _ _ _ _ _ (ix3 0 r f) rfl (fun a => by match a with | 0 => rfl | 1 => exact (Nat.zero_add _).symm | 2 => exact (Nat.zero_add _).symm)).trans ?_
    refine Eq.trans ?_ (carry_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 9 (o := 2304) rfl inb_S1024x2816_S1024x256_0_2304 r f)
    rfl
  refine (View.read_writes_cons_unit_of_not_mem _ _ _ _ _ _ rfl (0 : Fin 3) (Or.inl (by show k.val < 9; omega))).trans ?_
  unfold kernelRun0_A.sl.HS3_10
  by_cases h8 : k.val = 8
  · obtain rfl : k = 8 := Fin.ext h8
    refine (View.read_writes_cons_unit_of_mem _ _ _ _ _ _ (ix3 0 r f) rfl (fun a => by match a with | 0 => rfl | 1 => exact (Nat.zero_add _).symm | 2 => exact (Nat.zero_add _).symm)).trans ?_
    refine Eq.trans ?_ (carry_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 8 (o := 2048) rfl inb_S1024x2816_S1024x256_0_2048 r f)
    rfl
  refine (View.read_writes_cons_unit_of_not_mem _ _ _ _ _ _ rfl (0 : Fin 3) (Or.inl (by show k.val < 8; omega))).trans ?_
  unfold kernelRun0_A.sl.HS3_9
  by_cases h7 : k.val = 7
  · obtain rfl : k = 7 := Fin.ext h7
    refine (View.read_writes_cons_unit_of_mem _ _ _ _ _ _ (ix3 0 r f) rfl (fun a => by match a with | 0 => rfl | 1 => exact (Nat.zero_add _).symm | 2 => exact (Nat.zero_add _).symm)).trans ?_
    refine Eq.trans ?_ (carry_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 7 (o := 1792) rfl inb_S1024x2816_S1024x256_0_1792 r f)
    rfl
  refine (View.read_writes_cons_unit_of_not_mem _ _ _ _ _ _ rfl (0 : Fin 3) (Or.inl (by show k.val < 7; omega))).trans ?_
  unfold kernelRun0_A.sl.HS3_8
  by_cases h6 : k.val = 6
  · obtain rfl : k = 6 := Fin.ext h6
    refine (View.read_writes_cons_unit_of_mem _ _ _ _ _ _ (ix3 0 r f) rfl (fun a => by match a with | 0 => rfl | 1 => exact (Nat.zero_add _).symm | 2 => exact (Nat.zero_add _).symm)).trans ?_
    refine Eq.trans ?_ (carry_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 6 (o := 1536) rfl inb_S1024x2816_S1024x256_0_1536 r f)
    rfl
  refine (View.read_writes_cons_unit_of_not_mem _ _ _ _ _ _ rfl (0 : Fin 3) (Or.inl (by show k.val < 6; omega))).trans ?_
  unfold kernelRun0_A.sl.HS3_7
  by_cases h5 : k.val = 5
  · obtain rfl : k = 5 := Fin.ext h5
    refine (View.read_writes_cons_unit_of_mem _ _ _ _ _ _ (ix3 0 r f) rfl (fun a => by match a with | 0 => rfl | 1 => exact (Nat.zero_add _).symm | 2 => exact (Nat.zero_add _).symm)).trans ?_
    refine Eq.trans ?_ (carry_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 5 (o := 1280) rfl inb_S1024x2816_S1024x256_0_1280 r f)
    rfl
  refine (View.read_writes_cons_unit_of_not_mem _ _ _ _ _ _ rfl (0 : Fin 3) (Or.inl (by show k.val < 5; omega))).trans ?_
  unfold kernelRun0_A.sl.HS3_6
  by_cases h4 : k.val = 4
  · obtain rfl : k = 4 := Fin.ext h4
    refine (View.read_writes_cons_unit_of_mem _ _ _ _ _ _ (ix3 0 r f) rfl (fun a => by match a with | 0 => rfl | 1 => exact (Nat.zero_add _).symm | 2 => exact (Nat.zero_add _).symm)).trans ?_
    refine Eq.trans ?_ (carry_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 4 (o := 1024) rfl inb_S1024x2816_S1024x256_0_1024 r f)
    rfl
  refine (View.read_writes_cons_unit_of_not_mem _ _ _ _ _ _ rfl (0 : Fin 3) (Or.inl (by show k.val < 4; omega))).trans ?_
  unfold kernelRun0_A.sl.HS3_5
  by_cases h3 : k.val = 3
  · obtain rfl : k = 3 := Fin.ext h3
    refine (View.read_writes_cons_unit_of_mem _ _ _ _ _ _ (ix3 0 r f) rfl (fun a => by match a with | 0 => rfl | 1 => exact (Nat.zero_add _).symm | 2 => exact (Nat.zero_add _).symm)).trans ?_
    refine Eq.trans ?_ (carry_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 3 (o := 768) rfl inb_S1024x2816_S1024x256_0_768 r f)
    rfl
  refine (View.read_writes_cons_unit_of_not_mem _ _ _ _ _ _ rfl (0 : Fin 3) (Or.inl (by show k.val < 3; omega))).trans ?_
  unfold kernelRun0_A.sl.HS3_4
  by_cases h2 : k.val = 2
  · obtain rfl : k = 2 := Fin.ext h2
    refine (View.read_writes_cons_unit_of_mem _ _ _ _ _ _ (ix3 0 r f) rfl (fun a => by match a with | 0 => rfl | 1 => exact (Nat.zero_add _).symm | 2 => exact (Nat.zero_add _).symm)).trans ?_
    refine Eq.trans ?_ (carry_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 2 (o := 512) rfl inb_S1024x2816_S1024x256_0_512 r f)
    rfl
  refine (View.read_writes_cons_unit_of_not_mem _ _ _ _ _ _ rfl (0 : Fin 3) (Or.inl (by show k.val < 2; omega))).trans ?_
  unfold kernelRun0_A.sl.HS3_3
  by_cases h1 : k.val = 1
  · obtain rfl : k = 1 := Fin.ext h1
    refine (View.read_writes_cons_unit_of_mem _ _ _ _ _ _ (ix3 0 r f) rfl (fun a => by match a with | 0 => rfl | 1 => exact (Nat.zero_add _).symm | 2 => exact (Nat.zero_add _).symm)).trans ?_
    refine Eq.trans ?_ (carry_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 1 (o := 256) rfl inb_S1024x2816_S1024x256_0_256 r f)
    rfl
  refine (View.read_writes_cons_unit_of_not_mem _ _ _ _ _ _ rfl (0 : Fin 3) (Or.inl (by show k.val < 1; omega))).trans ?_
  unfold kernelRun0_A.sl.HS3_2
  obtain rfl : k = 0 := Fin.ext (by show k.val = 0; omega)
  refine (View.read_writes_cons_unit_of_mem _ _ _ _ _ _ (ix3 0 r f) rfl (fun a => by match a with | 0 => rfl | 1 => exact (Nat.zero_add _).symm | 2 => exact (Nat.zero_add _).symm)).trans ?_
  refine Eq.trans ?_ (carry_chunk b (H := kernelRun0_A.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 0 (o := 0) rfl inb_S1024x2816_S1024x256_0_0 r f)
  rfl

end Cert.KernelFfnIdeal.Hand.First

end

end
-- ==== Proof.FfnLater.lean ====
/-
  One grid point of the output-projection-and-MLP kernel at a later block of a sequence: the rows carried in are those the
  block before left.
-/
module

public import proofs.«01_k».proof.Proof.FfnPay
public import proofs.«01_k».proof.Proof.Gen.KernelFfnIdeal.Frame

@[expose] public section

set_option maxRecDepth 16384

noncomputable section

namespace Cert.KernelFfnIdeal.Hand.Later

open Cert.KernelFfnIdeal Cert.KernelFfnIdeal.Gen Cert.FfnMath
open Idealize.ShloMosaic Idealize.ShloMosaic.TcCoe Idealize.SL.Sem

variable {c : Dev nD} {i : grid0.Coords}
variable {arg2 : Memref sig .tc .vmem S1x512x1024 .f32} {harg2 : arg2.IsWhole}
variable {arg3 : Memref sig .tc .vmem S1x512x512 .bf16} {harg3 : arg3.IsWhole}
variable {arg4 : Memref sig .tc .vmem S1x512x384 .bf16} {harg4 : arg4.IsWhole}
variable {arg5 : Memref sig .tc .vmem S1x512x256 .bf16} {harg5 : arg5.IsWhole}
variable {arg6 : Memref sig .tc .vmem S512x1024 .bf16} {harg6 : arg6.IsWhole}
variable {arg7 : Memref sig .tc .vmem S384x1024 .bf16} {harg7 : arg7.IsWhole}
variable {arg8 : Memref sig .tc .vmem S256x1024 .bf16} {harg8 : arg8.IsWhole}
variable {arg9 : Memref sig .tc .vmem S1x1024 .f32} {harg9 : arg9.IsWhole}
variable {arg10 : Memref sig .tc .vmem S1024x2816 .bf16} {harg10 : arg10.IsWhole}
variable {arg11 : Memref sig .tc .vmem S1024x2816 .bf16} {harg11 : arg11.IsWhole}
variable {arg12 : Memref sig .tc .vmem S3x2816 .f32} {harg12 : arg12.IsWhole}
variable {arg13 : Memref sig .tc .vmem S2816x1024 .bf16} {harg13 : arg13.IsWhole}
variable {arg14 : Memref sig .tc .vmem S1x512x1024 .f32} {harg14 : arg14.IsWhole}
variable {arg15 : Memref sig .tc .vmem S512x1024 .bf16} {harg15 : arg15.IsWhole}
variable {arg16 : Memref sig .tc .vmem S520x256 .f32} {harg16 : arg16.IsWhole}
variable {arg17 : Memref sig .tc .vmem S512x2816 .bf16} {harg17 : arg17.IsWhole}
variable {arg18 : Memref sig .tc .vmem S11x8x256 .f32} {harg18 : arg18.IsWhole}
variable (b : Blk)
variable {xs3 : Vec Ideal S11x8x256 .f32} {cin : ℕ → Fin 2816 → EReal}
variable (hx : ∀ (k : Fin 11) (r : Fin 8) (f : Fin 256), xs3 (ix3 k r f) = cin r.val (col k f))

/-- The residual stream of the block. -/
theorem r_eq : kernelRun0_B.sl.r (F := Ideal) c arg2 harg2 arg3 harg3 arg4 harg4 arg5 harg5 arg6 harg6 arg7 harg7 arg8 harg8 b.x0 b.x1 b.x2 b.x3 b.x4 b.x5 b.x6 = k0_pay3 b.x0 b.x1 b.x4 b.x2 b.x5 b.x3 b.x6 := by
  unfold kernelRun0_B.sl.r
  rw [load_whole arg2 harg2 b.x0 _ (fun a => by match a with | 0 => rfl | 1 => rfl | 2 => rfl), load_whole arg3 harg3 b.x1 _ (fun a => by match a with | 0 => rfl | 1 => rfl | 2 => rfl), load_whole arg6 harg6 b.x4 _ (fun a => by match a with | 0 => rfl | 1 => rfl), load_whole arg4 harg4 b.x2 _ (fun a => by match a with | 0 => rfl | 1 => rfl | 2 => rfl), load_whole arg7 harg7 b.x5 _ (fun a => by match a with | 0 => rfl | 1 => rfl), load_whole arg5 harg5 b.x3 _ (fun a => by match a with | 0 => rfl | 1 => rfl | 2 => rfl), load_whole arg8 harg8 b.x6 _ (fun a => by match a with | 0 => rfl | 1 => rfl)]

/-- The sums of squares of its rows. -/
theorem r_1_eq : kernelRun0_B.sl.r_1 (F := Ideal) c arg2 harg2 arg3 harg3 arg4 harg4 arg5 harg5 arg6 harg6 arg7 harg7 arg8 harg8 b.x0 b.x1 b.x2 b.x3 b.x4 b.x5 b.x6 = k0_pay5 b.x0 b.x1 b.x4 b.x2 b.x5 b.x3 b.x6 := by
  unfold kernelRun0_B.sl.r_1
  rw [load_whole arg2 harg2 b.x0 _ (fun a => by match a with | 0 => rfl | 1 => rfl | 2 => rfl), load_whole arg3 harg3 b.x1 _ (fun a => by match a with | 0 => rfl | 1 => rfl | 2 => rfl), load_whole arg6 harg6 b.x4 _ (fun a => by match a with | 0 => rfl | 1 => rfl), load_whole arg4 harg4 b.x2 _ (fun a => by match a with | 0 => rfl | 1 => rfl | 2 => rfl), load_whole arg7 harg7 b.x5 _ (fun a => by match a with | 0 => rfl | 1 => rfl), load_whole arg5 harg5 b.x3 _ (fun a => by match a with | 0 => rfl | 1 => rfl | 2 => rfl), load_whole arg8 harg8 b.x6 _ (fun a => by match a with | 0 => rfl | 1 => rfl)]

/-- The normalized rows, as every chunk loads them. -/
theorem nrm_apply (r : Fin 512) (j : Fin 1024) :
    kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7 (ix2 r j) = b.nrm r j := by
  unfold kernelRun0_B.sl.v44 View.readCov
  refine (load_unit _ _ _ _ _ _ (ix2 r j) (fun a => by match a with | 0 => exact (Nat.zero_add _).symm | 1 => exact (Nat.zero_add _).symm)).trans ?_
  unfold kernelRun0_B.sl.HS0_1
  refine (View.read_writes_cons_unit_of_mem _ _ _ _ _ _ (ix2 r j) rfl (fun a => by match a with | 0 => exact (Nat.zero_add _).symm | 1 => exact (Nat.zero_add _).symm)).trans ?_
  rw [r_eq, r_1_eq, load_whole arg9 harg9 b.x7 _ (fun a => by match a with | 0 => rfl | 1 => rfl)]
  exact pay6_apply b r j

/-- The residual stream, as the last step loads it. -/
theorem res_apply (r : Fin 512) (j : Fin 1024) :
    kernelRun0_B.sl.v550 (F := Ideal) c arg2 harg2 arg3 harg3 arg4 harg4 arg5 harg5 arg6 harg6 arg7 harg7 arg8 harg8 arg14 b.x0 b.x1 b.x2 b.x3 b.x4 b.x5 b.x6 (ix3 0 r j) = b.res r j := by
  unfold kernelRun0_B.sl.v550 View.readCov
  refine (load_unit _ _ _ _ _ _ (ix3 0 r j) (fun a => by match a with | 0 => rfl | 1 => exact (Nat.zero_add _).symm | 2 => exact (Nat.zero_add _).symm)).trans ?_
  unfold kernelRun0_B.sl.H12_1
  refine (View.read_writes_cons_unit_of_mem _ _ _ _ _ _ (ix3 0 r j) rfl (fun a => by match a with | 0 => rfl | 1 => exact (Nat.zero_add _).symm | 2 => exact (Nat.zero_add _).symm)).trans ?_
  rw [load_whole arg2 harg2 b.x0 _ (fun a => by match a with | 0 => rfl | 1 => rfl | 2 => rfl), load_whole arg3 harg3 b.x1 _ (fun a => by match a with | 0 => rfl | 1 => rfl | 2 => rfl), load_whole arg6 harg6 b.x4 _ (fun a => by match a with | 0 => rfl | 1 => rfl), load_whole arg4 harg4 b.x2 _ (fun a => by match a with | 0 => rfl | 1 => rfl | 2 => rfl), load_whole arg7 harg7 b.x5 _ (fun a => by match a with | 0 => rfl | 1 => rfl), load_whole arg5 harg5 b.x3 _ (fun a => by match a with | 0 => rfl | 1 => rfl | 2 => rfl), load_whole arg8 harg8 b.x6 _ (fun a => by match a with | 0 => rfl | 1 => rfl)]
  exact pay4_apply b r j

/-! ## The rows carried in -/

include hx in
theorem carry_0 (r : Fin 8) (f : Fin 256) :
    arg18.view.readAt (Elt Ideal) (Rect.unit (s := S11x8x256) ![0, 0, 0] S1x8x256.size inb_S11x8x256_S1x8x256_0_0_0).toLoadRect (harg18.unread xs3) (ix3 0 r f) = cin r.val (col 0 f) := by
  exact (load_block arg18 harg18 xs3 _ _ _ (ix3 0 r f) (ix3 (0 : Fin 11) r f) (fun a => by match a with | 0 => rfl | 1 => exact (Nat.zero_add _).symm | 2 => exact (Nat.zero_add _).symm)).trans (hx 0 r f)

include hx in
theorem carry_1 (r : Fin 8) (f : Fin 256) :
    kernelRun0_B.sl.v98 (F := Ideal) c arg18 harg18 xs3 (ix3 0 r f) = cin r.val (col 1 f) := by
  unfold kernelRun0_B.sl.v98
  exact (load_block arg18 harg18 xs3 _ _ _ (ix3 0 r f) (ix3 (1 : Fin 11) r f) (fun a => by match a with | 0 => rfl | 1 => exact (Nat.zero_add _).symm | 2 => exact (Nat.zero_add _).symm)).trans (hx 1 r f)

include hx in
theorem carry_2 (r : Fin 8) (f : Fin 256) :
    kernelRun0_B.sl.v144 (F := Ideal) c arg18 harg18 xs3 (ix3 0 r f) = cin r.val (col 2 f) := by
  unfold kernelRun0_B.sl.v144
  exact (load_block arg18 harg18 xs3 _ _ _ (ix3 0 r f) (ix3 (2 : Fin 11) r f) (fun a => by match a with | 0 => rfl | 1 => exact (Nat.zero_add _).symm | 2 => exact (Nat.zero_add _).symm)).trans (hx 2 r f)

include hx in
theorem carry_3 (r : Fin 8) (f : Fin 256) :
    kernelRun0_B.sl.v190 (F := Ideal) c arg18 harg18 xs3 (ix3 0 r f) = cin r.val (col 3 f) := by
  unfold kernelRun0_B.sl.v190
  exact (load_block arg18 harg18 xs3 _ _ _ (ix3 0 r f) (ix3 (3 : Fin 11) r f) (fun a => by match a with | 0 => rfl | 1 => exact (Nat.zero_add _).symm | 2 => exact (Nat.zero_add _).symm)).trans (hx 3 r f)

include hx in
theorem carry_4 (r : Fin 8) (f : Fin 256) :
    kernelRun0_B.sl.v236 (F := Ideal) c arg18 harg18 xs3 (ix3 0 r f) = cin r.val (col 4 f) := by
  unfold kernelRun0_B.sl.v236
  exact (load_block arg18 harg18 xs3 _ _ _ (ix3 0 r f) (ix3 (4 : Fin 11) r f) (fun a => by match a with | 0 => rfl | 1 => exact (Nat.zero_add _).symm | 2 => exact (Nat.zero_add _).symm)).trans (hx 4 r f)

include hx in
theorem carry_5 (r : Fin 8) (f : Fin 256) :
    kernelRun0_B.sl.v282 (F := Ideal) c arg18 harg18 xs3 (ix3 0 r f) = cin r.val (col 5 f) := by
  unfold kernelRun0_B.sl.v282
  exact (load_block arg18 harg18 xs3 _ _ _ (ix3 0 r f) (ix3 (5 : Fin 11) r f) (fun a => by match a with | 0 => rfl | 1 => exact (Nat.zero_add _).symm | 2 => exact (Nat.zero_add _).symm)).trans (hx 5 r f)

include hx in
theorem carry_6 (r : Fin 8) (f : Fin 256) :
    kernelRun0_B.sl.v328 (F := Ideal) c arg18 harg18 xs3 (ix3 0 r f) = cin r.val (col 6 f) := by
  unfold kernelRun0_B.sl.v328
  exact (load_block arg18 harg18 xs3 _ _ _ (ix3 0 r f) (ix3 (6 : Fin 11) r f) (fun a => by match a with | 0 => rfl | 1 => exact (Nat.zero_add _).symm | 2 => exact (Nat.zero_add _).symm)).trans (hx 6 r f)

include hx in
theorem carry_7 (r : Fin 8) (f : Fin 256) :
    kernelRun0_B.sl.v374 (F := Ideal) c arg18 harg18 xs3 (ix3 0 r f) = cin r.val (col 7 f) := by
  unfold kernelRun0_B.sl.v374
  exact (load_block arg18 harg18 xs3 _ _ _ (ix3 0 r f) (ix3 (7 : Fin 11) r f) (fun a => by match a with | 0 => rfl | 1 => exact (Nat.zero_add _).symm | 2 => exact (Nat.zero_add _).symm)).trans (hx 7 r f)

include hx in
theorem carry_8 (r : Fin 8) (f : Fin 256) :
    kernelRun0_B.sl.v420 (F := Ideal) c arg18 harg18 xs3 (ix3 0 r f) = cin r.val (col 8 f) := by
  unfold kernelRun0_B.sl.v420
  exact (load_block arg18 harg18 xs3 _ _ _ (ix3 0 r f) (ix3 (8 : Fin 11) r f) (fun a => by match a with | 0 => rfl | 1 => exact (Nat.zero_add _).symm | 2 => exact (Nat.zero_add _).symm)).trans (hx 8 r f)

include hx in
theorem carry_9 (r : Fin 8) (f : Fin 256) :
    kernelRun0_B.sl.v466 (F := Ideal) c arg18 harg18 xs3 (ix3 0 r f) = cin r.val (col 9 f) := by
  unfold kernelRun0_B.sl.v466
  exact (load_block arg18 harg18 xs3 _ _ _ (ix3 0 r f) (ix3 (9 : Fin 11) r f) (fun a => by match a with | 0 => rfl | 1 => exact (Nat.zero_add _).symm | 2 => exact (Nat.zero_add _).symm)).trans (hx 9 r f)

include hx in
theorem carry_10 (r : Fin 8) (f : Fin 256) :
    kernelRun0_B.sl.v512 (F := Ideal) c arg18 harg18 xs3 (ix3 0 r f) = cin r.val (col 10 f) := by
  unfold kernelRun0_B.sl.v512
  exact (load_block arg18 harg18 xs3 _ _ _ (ix3 0 r f) (ix3 (10 : Fin 11) r f) (fun a => by match a with | 0 => rfl | 1 => exact (Nat.zero_add _).symm | 2 => exact (Nat.zero_add _).symm)).trans (hx 10 r f)

/-! ## The convolution's loads -/

include hx in
theorem back1_0 (r : Fin 512) (f : Fin 256) :
    kernelRun0_B.sl.v68 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (7 + r.val) (col 0 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 0 (o := 0) rfl (cin := cin)
    (C := arg18.view.readAt (Elt Ideal) (Rect.unit (s := S11x8x256) ![0, 0, 0] S1x8x256.size inb_S11x8x256_S1x8x256_0_0_0).toLoadRect (harg18.unread xs3)) (carry_0 hx) [] 7 (by decide) inb_S1024x2816_S1024x256_0_0
    inb_S520x256_S512x256_8_0 inb_S520x256_S8x256_0_0 inb_S520x256_S512x256_7_0 r f)
  rfl

include hx in
theorem back2_0 (r : Fin 512) (f : Fin 256) :
    kernelRun0_B.sl.v73 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (6 + r.val) (col 0 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 0 (o := 0) rfl (cin := cin)
    (C := arg18.view.readAt (Elt Ideal) (Rect.unit (s := S11x8x256) ![0, 0, 0] S1x8x256.size inb_S11x8x256_S1x8x256_0_0_0).toLoadRect (harg18.unread xs3)) (carry_0 hx) [] 6 (by decide) inb_S1024x2816_S1024x256_0_0
    inb_S520x256_S512x256_8_0 inb_S520x256_S8x256_0_0 inb_S520x256_S512x256_6_0 r f)
  rfl

include hx in
theorem back1_1 (r : Fin 512) (f : Fin 256) :
    kernelRun0_B.sl.v114 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (7 + r.val) (col 1 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 1 (o := 256) rfl (cin := cin)
    (C := kernelRun0_B.sl.v98 (F := Ideal) c arg18 harg18 xs3) (carry_1 hx) (kernelRun0_B.sl.HS1_2 (F := Ideal) c arg2 harg2 arg3 harg3 arg4 harg4 arg5 harg5 arg6 harg6 arg7 harg7 arg8 harg8 arg9 harg9 arg10 harg10 arg15 arg18 harg18 b.x0 b.x1 b.x2 b.x3 b.x4 b.x5 b.x6 b.x7 b.x8 xs3) 7 (by decide) inb_S1024x2816_S1024x256_0_256
    inb_S520x256_S512x256_8_0 inb_S520x256_S8x256_0_0 inb_S520x256_S512x256_7_0 r f)
  rfl

include hx in
theorem back2_1 (r : Fin 512) (f : Fin 256) :
    kernelRun0_B.sl.v119 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (6 + r.val) (col 1 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 1 (o := 256) rfl (cin := cin)
    (C := kernelRun0_B.sl.v98 (F := Ideal) c arg18 harg18 xs3) (carry_1 hx) (kernelRun0_B.sl.HS1_2 (F := Ideal) c arg2 harg2 arg3 harg3 arg4 harg4 arg5 harg5 arg6 harg6 arg7 harg7 arg8 harg8 arg9 harg9 arg10 harg10 arg15 arg18 harg18 b.x0 b.x1 b.x2 b.x3 b.x4 b.x5 b.x6 b.x7 b.x8 xs3) 6 (by decide) inb_S1024x2816_S1024x256_0_256
    inb_S520x256_S512x256_8_0 inb_S520x256_S8x256_0_0 inb_S520x256_S512x256_6_0 r f)
  rfl

include hx in
theorem back1_2 (r : Fin 512) (f : Fin 256) :
    kernelRun0_B.sl.v160 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (7 + r.val) (col 2 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 2 (o := 512) rfl (cin := cin)
    (C := kernelRun0_B.sl.v144 (F := Ideal) c arg18 harg18 xs3) (carry_2 hx) (kernelRun0_B.sl.HS1_4 (F := Ideal) c arg2 harg2 arg3 harg3 arg4 harg4 arg5 harg5 arg6 harg6 arg7 harg7 arg8 harg8 arg9 harg9 arg10 harg10 arg15 arg18 harg18 b.x0 b.x1 b.x2 b.x3 b.x4 b.x5 b.x6 b.x7 b.x8 xs3) 7 (by decide) inb_S1024x2816_S1024x256_0_512
    inb_S520x256_S512x256_8_0 inb_S520x256_S8x256_0_0 inb_S520x256_S512x256_7_0 r f)
  rfl

include hx in
theorem back2_2 (r : Fin 512) (f : Fin 256) :
    kernelRun0_B.sl.v165 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (6 + r.val) (col 2 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 2 (o := 512) rfl (cin := cin)
    (C := kernelRun0_B.sl.v144 (F := Ideal) c arg18 harg18 xs3) (carry_2 hx) (kernelRun0_B.sl.HS1_4 (F := Ideal) c arg2 harg2 arg3 harg3 arg4 harg4 arg5 harg5 arg6 harg6 arg7 harg7 arg8 harg8 arg9 harg9 arg10 harg10 arg15 arg18 harg18 b.x0 b.x1 b.x2 b.x3 b.x4 b.x5 b.x6 b.x7 b.x8 xs3) 6 (by decide) inb_S1024x2816_S1024x256_0_512
    inb_S520x256_S512x256_8_0 inb_S520x256_S8x256_0_0 inb_S520x256_S512x256_6_0 r f)
  rfl

include hx in
theorem back1_3 (r : Fin 512) (f : Fin 256) :
    kernelRun0_B.sl.v206 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (7 + r.val) (col 3 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 3 (o := 768) rfl (cin := cin)
    (C := kernelRun0_B.sl.v190 (F := Ideal) c arg18 harg18 xs3) (carry_3 hx) (kernelRun0_B.sl.HS1_6 (F := Ideal) c arg2 harg2 arg3 harg3 arg4 harg4 arg5 harg5 arg6 harg6 arg7 harg7 arg8 harg8 arg9 harg9 arg10 harg10 arg15 arg18 harg18 b.x0 b.x1 b.x2 b.x3 b.x4 b.x5 b.x6 b.x7 b.x8 xs3) 7 (by decide) inb_S1024x2816_S1024x256_0_768
    inb_S520x256_S512x256_8_0 inb_S520x256_S8x256_0_0 inb_S520x256_S512x256_7_0 r f)
  rfl

include hx in
theorem back2_3 (r : Fin 512) (f : Fin 256) :
    kernelRun0_B.sl.v211 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (6 + r.val) (col 3 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 3 (o := 768) rfl (cin := cin)
    (C := kernelRun0_B.sl.v190 (F := Ideal) c arg18 harg18 xs3) (carry_3 hx) (kernelRun0_B.sl.HS1_6 (F := Ideal) c arg2 harg2 arg3 harg3 arg4 harg4 arg5 harg5 arg6 harg6 arg7 harg7 arg8 harg8 arg9 harg9 arg10 harg10 arg15 arg18 harg18 b.x0 b.x1 b.x2 b.x3 b.x4 b.x5 b.x6 b.x7 b.x8 xs3) 6 (by decide) inb_S1024x2816_S1024x256_0_768
    inb_S520x256_S512x256_8_0 inb_S520x256_S8x256_0_0 inb_S520x256_S512x256_6_0 r f)
  rfl

include hx in
theorem back1_4 (r : Fin 512) (f : Fin 256) :
    kernelRun0_B.sl.v252 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (7 + r.val) (col 4 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 4 (o := 1024) rfl (cin := cin)
    (C := kernelRun0_B.sl.v236 (F := Ideal) c arg18 harg18 xs3) (carry_4 hx) (kernelRun0_B.sl.HS1_8 (F := Ideal) c arg2 harg2 arg3 harg3 arg4 harg4 arg5 harg5 arg6 harg6 arg7 harg7 arg8 harg8 arg9 harg9 arg10 harg10 arg15 arg18 harg18 b.x0 b.x1 b.x2 b.x3 b.x4 b.x5 b.x6 b.x7 b.x8 xs3) 7 (by decide) inb_S1024x2816_S1024x256_0_1024
    inb_S520x256_S512x256_8_0 inb_S520x256_S8x256_0_0 inb_S520x256_S512x256_7_0 r f)
  rfl

include hx in
theorem back2_4 (r : Fin 512) (f : Fin 256) :
    kernelRun0_B.sl.v257 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (6 + r.val) (col 4 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 4 (o := 1024) rfl (cin := cin)
    (C := kernelRun0_B.sl.v236 (F := Ideal) c arg18 harg18 xs3) (carry_4 hx) (kernelRun0_B.sl.HS1_8 (F := Ideal) c arg2 harg2 arg3 harg3 arg4 harg4 arg5 harg5 arg6 harg6 arg7 harg7 arg8 harg8 arg9 harg9 arg10 harg10 arg15 arg18 harg18 b.x0 b.x1 b.x2 b.x3 b.x4 b.x5 b.x6 b.x7 b.x8 xs3) 6 (by decide) inb_S1024x2816_S1024x256_0_1024
    inb_S520x256_S512x256_8_0 inb_S520x256_S8x256_0_0 inb_S520x256_S512x256_6_0 r f)
  rfl

include hx in
theorem back1_5 (r : Fin 512) (f : Fin 256) :
    kernelRun0_B.sl.v298 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (7 + r.val) (col 5 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 5 (o := 1280) rfl (cin := cin)
    (C := kernelRun0_B.sl.v282 (F := Ideal) c arg18 harg18 xs3) (carry_5 hx) (kernelRun0_B.sl.HS1_10 (F := Ideal) c arg2 harg2 arg3 harg3 arg4 harg4 arg5 harg5 arg6 harg6 arg7 harg7 arg8 harg8 arg9 harg9 arg10 harg10 arg15 arg18 harg18 b.x0 b.x1 b.x2 b.x3 b.x4 b.x5 b.x6 b.x7 b.x8 xs3) 7 (by decide) inb_S1024x2816_S1024x256_0_1280
    inb_S520x256_S512x256_8_0 inb_S520x256_S8x256_0_0 inb_S520x256_S512x256_7_0 r f)
  rfl

include hx in
theorem back2_5 (r : Fin 512) (f : Fin 256) :
    kernelRun0_B.sl.v303 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (6 + r.val) (col 5 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 5 (o := 1280) rfl (cin := cin)
    (C := kernelRun0_B.sl.v282 (F := Ideal) c arg18 harg18 xs3) (carry_5 hx) (kernelRun0_B.sl.HS1_10 (F := Ideal) c arg2 harg2 arg3 harg3 arg4 harg4 arg5 harg5 arg6 harg6 arg7 harg7 arg8 harg8 arg9 harg9 arg10 harg10 arg15 arg18 harg18 b.x0 b.x1 b.x2 b.x3 b.x4 b.x5 b.x6 b.x7 b.x8 xs3) 6 (by decide) inb_S1024x2816_S1024x256_0_1280
    inb_S520x256_S512x256_8_0 inb_S520x256_S8x256_0_0 inb_S520x256_S512x256_6_0 r f)
  rfl

include hx in
theorem back1_6 (r : Fin 512) (f : Fin 256) :
    kernelRun0_B.sl.v344 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (7 + r.val) (col 6 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 6 (o := 1536) rfl (cin := cin)
    (C := kernelRun0_B.sl.v328 (F := Ideal) c arg18 harg18 xs3) (carry_6 hx) (kernelRun0_B.sl.HS1_12 (F := Ideal) c arg2 harg2 arg3 harg3 arg4 harg4 arg5 harg5 arg6 harg6 arg7 harg7 arg8 harg8 arg9 harg9 arg10 harg10 arg15 arg18 harg18 b.x0 b.x1 b.x2 b.x3 b.x4 b.x5 b.x6 b.x7 b.x8 xs3) 7 (by decide) inb_S1024x2816_S1024x256_0_1536
    inb_S520x256_S512x256_8_0 inb_S520x256_S8x256_0_0 inb_S520x256_S512x256_7_0 r f)
  rfl

include hx in
theorem back2_6 (r : Fin 512) (f : Fin 256) :
    kernelRun0_B.sl.v349 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (6 + r.val) (col 6 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 6 (o := 1536) rfl (cin := cin)
    (C := kernelRun0_B.sl.v328 (F := Ideal) c arg18 harg18 xs3) (carry_6 hx) (kernelRun0_B.sl.HS1_12 (F := Ideal) c arg2 harg2 arg3 harg3 arg4 harg4 arg5 harg5 arg6 harg6 arg7 harg7 arg8 harg8 arg9 harg9 arg10 harg10 arg15 arg18 harg18 b.x0 b.x1 b.x2 b.x3 b.x4 b.x5 b.x6 b.x7 b.x8 xs3) 6 (by decide) inb_S1024x2816_S1024x256_0_1536
    inb_S520x256_S512x256_8_0 inb_S520x256_S8x256_0_0 inb_S520x256_S512x256_6_0 r f)
  rfl

include hx in
theorem back1_7 (r : Fin 512) (f : Fin 256) :
    kernelRun0_B.sl.v390 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (7 + r.val) (col 7 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 7 (o := 1792) rfl (cin := cin)
    (C := kernelRun0_B.sl.v374 (F := Ideal) c arg18 harg18 xs3) (carry_7 hx) (kernelRun0_B.sl.HS1_14 (F := Ideal) c arg2 harg2 arg3 harg3 arg4 harg4 arg5 harg5 arg6 harg6 arg7 harg7 arg8 harg8 arg9 harg9 arg10 harg10 arg15 arg18 harg18 b.x0 b.x1 b.x2 b.x3 b.x4 b.x5 b.x6 b.x7 b.x8 xs3) 7 (by decide) inb_S1024x2816_S1024x256_0_1792
    inb_S520x256_S512x256_8_0 inb_S520x256_S8x256_0_0 inb_S520x256_S512x256_7_0 r f)
  rfl

include hx in
theorem back2_7 (r : Fin 512) (f : Fin 256) :
    kernelRun0_B.sl.v395 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (6 + r.val) (col 7 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 7 (o := 1792) rfl (cin := cin)
    (C := kernelRun0_B.sl.v374 (F := Ideal) c arg18 harg18 xs3) (carry_7 hx) (kernelRun0_B.sl.HS1_14 (F := Ideal) c arg2 harg2 arg3 harg3 arg4 harg4 arg5 harg5 arg6 harg6 arg7 harg7 arg8 harg8 arg9 harg9 arg10 harg10 arg15 arg18 harg18 b.x0 b.x1 b.x2 b.x3 b.x4 b.x5 b.x6 b.x7 b.x8 xs3) 6 (by decide) inb_S1024x2816_S1024x256_0_1792
    inb_S520x256_S512x256_8_0 inb_S520x256_S8x256_0_0 inb_S520x256_S512x256_6_0 r f)
  rfl

include hx in
theorem back1_8 (r : Fin 512) (f : Fin 256) :
    kernelRun0_B.sl.v436 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (7 + r.val) (col 8 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 8 (o := 2048) rfl (cin := cin)
    (C := kernelRun0_B.sl.v420 (F := Ideal) c arg18 harg18 xs3) (carry_8 hx) (kernelRun0_B.sl.HS1_16 (F := Ideal) c arg2 harg2 arg3 harg3 arg4 harg4 arg5 harg5 arg6 harg6 arg7 harg7 arg8 harg8 arg9 harg9 arg10 harg10 arg15 arg18 harg18 b.x0 b.x1 b.x2 b.x3 b.x4 b.x5 b.x6 b.x7 b.x8 xs3) 7 (by decide) inb_S1024x2816_S1024x256_0_2048
    inb_S520x256_S512x256_8_0 inb_S520x256_S8x256_0_0 inb_S520x256_S512x256_7_0 r f)
  rfl

include hx in
theorem back2_8 (r : Fin 512) (f : Fin 256) :
    kernelRun0_B.sl.v441 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (6 + r.val) (col 8 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 8 (o := 2048) rfl (cin := cin)
    (C := kernelRun0_B.sl.v420 (F := Ideal) c arg18 harg18 xs3) (carry_8 hx) (kernelRun0_B.sl.HS1_16 (F := Ideal) c arg2 harg2 arg3 harg3 arg4 harg4 arg5 harg5 arg6 harg6 arg7 harg7 arg8 harg8 arg9 harg9 arg10 harg10 arg15 arg18 harg18 b.x0 b.x1 b.x2 b.x3 b.x4 b.x5 b.x6 b.x7 b.x8 xs3) 6 (by decide) inb_S1024x2816_S1024x256_0_2048
    inb_S520x256_S512x256_8_0 inb_S520x256_S8x256_0_0 inb_S520x256_S512x256_6_0 r f)
  rfl

include hx in
theorem back1_9 (r : Fin 512) (f : Fin 256) :
    kernelRun0_B.sl.v482 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (7 + r.val) (col 9 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 9 (o := 2304) rfl (cin := cin)
    (C := kernelRun0_B.sl.v466 (F := Ideal) c arg18 harg18 xs3) (carry_9 hx) (kernelRun0_B.sl.HS1_18 (F := Ideal) c arg2 harg2 arg3 harg3 arg4 harg4 arg5 harg5 arg6 harg6 arg7 harg7 arg8 harg8 arg9 harg9 arg10 harg10 arg15 arg18 harg18 b.x0 b.x1 b.x2 b.x3 b.x4 b.x5 b.x6 b.x7 b.x8 xs3) 7 (by decide) inb_S1024x2816_S1024x256_0_2304
    inb_S520x256_S512x256_8_0 inb_S520x256_S8x256_0_0 inb_S520x256_S512x256_7_0 r f)
  rfl

include hx in
theorem back2_9 (r : Fin 512) (f : Fin 256) :
    kernelRun0_B.sl.v487 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (6 + r.val) (col 9 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 9 (o := 2304) rfl (cin := cin)
    (C := kernelRun0_B.sl.v466 (F := Ideal) c arg18 harg18 xs3) (carry_9 hx) (kernelRun0_B.sl.HS1_18 (F := Ideal) c arg2 harg2 arg3 harg3 arg4 harg4 arg5 harg5 arg6 harg6 arg7 harg7 arg8 harg8 arg9 harg9 arg10 harg10 arg15 arg18 harg18 b.x0 b.x1 b.x2 b.x3 b.x4 b.x5 b.x6 b.x7 b.x8 xs3) 6 (by decide) inb_S1024x2816_S1024x256_0_2304
    inb_S520x256_S512x256_8_0 inb_S520x256_S8x256_0_0 inb_S520x256_S512x256_6_0 r f)
  rfl

include hx in
theorem back1_10 (r : Fin 512) (f : Fin 256) :
    kernelRun0_B.sl.v528 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (7 + r.val) (col 10 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 10 (o := 2560) rfl (cin := cin)
    (C := kernelRun0_B.sl.v512 (F := Ideal) c arg18 harg18 xs3) (carry_10 hx) (kernelRun0_B.sl.HS1_20 (F := Ideal) c arg2 harg2 arg3 harg3 arg4 harg4 arg5 harg5 arg6 harg6 arg7 harg7 arg8 harg8 arg9 harg9 arg10 harg10 arg15 arg18 harg18 b.x0 b.x1 b.x2 b.x3 b.x4 b.x5 b.x6 b.x7 b.x8 xs3) 7 (by decide) inb_S1024x2816_S1024x256_0_2560
    inb_S520x256_S512x256_8_0 inb_S520x256_S8x256_0_0 inb_S520x256_S512x256_7_0 r f)
  rfl

include hx in
theorem back2_10 (r : Fin 512) (f : Fin 256) :
    kernelRun0_B.sl.v533 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3 (ix2 r f) = b.ext cin (6 + r.val) (col 10 f) := by
  refine Eq.trans ?_ (ext_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg16 10 (o := 2560) rfl (cin := cin)
    (C := kernelRun0_B.sl.v512 (F := Ideal) c arg18 harg18 xs3) (carry_10 hx) (kernelRun0_B.sl.HS1_20 (F := Ideal) c arg2 harg2 arg3 harg3 arg4 harg4 arg5 harg5 arg6 harg6 arg7 harg7 arg8 harg8 arg9 harg9 arg10 harg10 arg15 arg18 harg18 b.x0 b.x1 b.x2 b.x3 b.x4 b.x5 b.x6 b.x7 b.x8 xs3) 6 (by decide) inb_S1024x2816_S1024x256_0_2560
    inb_S520x256_S512x256_8_0 inb_S520x256_S8x256_0_0 inb_S520x256_S512x256_6_0 r f)
  rfl

/-! ## The whole block -/

include hx in
/-- What the down projection loads, by chunk and channel. -/
theorem act_apply (k : Fin 11) (r : Fin 512) (f : Fin 256) :
    kernelRun0_B.sl.v552 (F := Ideal) c arg2 harg2 arg3 harg3 arg4 harg4 arg5 harg5 arg6 harg6 arg7 harg7 arg8 harg8 arg9 harg9 arg10 harg10 arg11 harg11 arg12 harg12 arg15 arg16 arg17 arg18 harg18 b.x0 b.x1 b.x2 b.x3 b.x4 b.x5 b.x6 b.x7 b.x8 b.x9 b.x10 xs3 (ix2 r (col k f)) = b.act cin r (col k f) := by
  have hk := k.isLt
  have hf := f.isLt
  unfold kernelRun0_B.sl.v552 View.readCov
  refine (load_unit _ _ _ _ _ _ (ix2 r (col k f)) (fun a => by match a with | 0 => exact (Nat.zero_add _).symm | 1 => exact (Nat.zero_add _).symm)).trans ?_
  unfold kernelRun0_B.sl.HS2_11
  by_cases h10 : k.val = 10
  · obtain rfl : k = 10 := Fin.ext h10
    refine (View.read_writes_cons_unit_of_mem _ _ _ _ _ _ (ix2 r f) rfl (fun a => by match a with | 0 => exact (Nat.zero_add _).symm | 1 => rfl)).trans ?_
    refine Eq.trans ?_ (act_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 10 (o := 2560) rfl
      (s7 := kernelRun0_B.sl.v528 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3) (s6 := kernelRun0_B.sl.v533 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3)
      (back1_10 b hx) (back2_10 b hx) inb_S1024x2816_S1024x256_0_2560 inb_S1024x2816_S1024x256_0_2560
      inb_S3x2816_S1x256_2_2560 inb_S3x2816_S1x256_1_2560 inb_S3x2816_S1x256_0_2560 r f)
    rfl
  refine (View.read_writes_cons_unit_of_not_mem _ _ _ _ _ _ rfl (1 : Fin 2) (Or.inl (by show 256 * k.val + f.val < 2560; omega))).trans ?_
  by_cases h9 : k.val = 9
  · obtain rfl : k = 9 := Fin.ext h9
    refine (View.read_writes_cons_unit_of_mem _ _ _ _ _ _ (ix2 r f) rfl (fun a => by match a with | 0 => exact (Nat.zero_add _).symm | 1 => rfl)).trans ?_
    refine Eq.trans ?_ (act_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 9 (o := 2304) rfl
      (s7 := kernelRun0_B.sl.v482 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3) (s6 := kernelRun0_B.sl.v487 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3)
      (back1_9 b hx) (back2_9 b hx) inb_S1024x2816_S1024x256_0_2304 inb_S1024x2816_S1024x256_0_2304
      inb_S3x2816_S1x256_2_2304 inb_S3x2816_S1x256_1_2304 inb_S3x2816_S1x256_0_2304 r f)
    rfl
  refine (View.read_writes_cons_unit_of_not_mem _ _ _ _ _ _ rfl (1 : Fin 2) (Or.inl (by show 256 * k.val + f.val < 2304; omega))).trans ?_
  by_cases h8 : k.val = 8
  · obtain rfl : k = 8 := Fin.ext h8
    refine (View.read_writes_cons_unit_of_mem _ _ _ _ _ _ (ix2 r f) rfl (fun a => by match a with | 0 => exact (Nat.zero_add _).symm | 1 => rfl)).trans ?_
    refine Eq.trans ?_ (act_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 8 (o := 2048) rfl
      (s7 := kernelRun0_B.sl.v436 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3) (s6 := kernelRun0_B.sl.v441 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3)
      (back1_8 b hx) (back2_8 b hx) inb_S1024x2816_S1024x256_0_2048 inb_S1024x2816_S1024x256_0_2048
      inb_S3x2816_S1x256_2_2048 inb_S3x2816_S1x256_1_2048 inb_S3x2816_S1x256_0_2048 r f)
    rfl
  refine (View.read_writes_cons_unit_of_not_mem _ _ _ _ _ _ rfl (1 : Fin 2) (Or.inl (by show 256 * k.val + f.val < 2048; omega))).trans ?_
  by_cases h7 : k.val = 7
  · obtain rfl : k = 7 := Fin.ext h7
    refine (View.read_writes_cons_unit_of_mem _ _ _ _ _ _ (ix2 r f) rfl (fun a => by match a with | 0 => exact (Nat.zero_add _).symm | 1 => rfl)).trans ?_
    refine Eq.trans ?_ (act_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 7 (o := 1792) rfl
      (s7 := kernelRun0_B.sl.v390 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3) (s6 := kernelRun0_B.sl.v395 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3)
      (back1_7 b hx) (back2_7 b hx) inb_S1024x2816_S1024x256_0_1792 inb_S1024x2816_S1024x256_0_1792
      inb_S3x2816_S1x256_2_1792 inb_S3x2816_S1x256_1_1792 inb_S3x2816_S1x256_0_1792 r f)
    rfl
  refine (View.read_writes_cons_unit_of_not_mem _ _ _ _ _ _ rfl (1 : Fin 2) (Or.inl (by show 256 * k.val + f.val < 1792; omega))).trans ?_
  by_cases h6 : k.val = 6
  · obtain rfl : k = 6 := Fin.ext h6
    refine (View.read_writes_cons_unit_of_mem _ _ _ _ _ _ (ix2 r f) rfl (fun a => by match a with | 0 => exact (Nat.zero_add _).symm | 1 => rfl)).trans ?_
    refine Eq.trans ?_ (act_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 6 (o := 1536) rfl
      (s7 := kernelRun0_B.sl.v344 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3) (s6 := kernelRun0_B.sl.v349 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3)
      (back1_6 b hx) (back2_6 b hx) inb_S1024x2816_S1024x256_0_1536 inb_S1024x2816_S1024x256_0_1536
      inb_S3x2816_S1x256_2_1536 inb_S3x2816_S1x256_1_1536 inb_S3x2816_S1x256_0_1536 r f)
    rfl
  refine (View.read_writes_cons_unit_of_not_mem _ _ _ _ _ _ rfl (1 : Fin 2) (Or.inl (by show 256 * k.val + f.val < 1536; omega))).trans ?_
  by_cases h5 : k.val = 5
  · obtain rfl : k = 5 := Fin.ext h5
    refine (View.read_writes_cons_unit_of_mem _ _ _ _ _ _ (ix2 r f) rfl (fun a => by match a with | 0 => exact (Nat.zero_add _).symm | 1 => rfl)).trans ?_
    refine Eq.trans ?_ (act_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 5 (o := 1280) rfl
      (s7 := kernelRun0_B.sl.v298 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3) (s6 := kernelRun0_B.sl.v303 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3)
      (back1_5 b hx) (back2_5 b hx) inb_S1024x2816_S1024x256_0_1280 inb_S1024x2816_S1024x256_0_1280
      inb_S3x2816_S1x256_2_1280 inb_S3x2816_S1x256_1_1280 inb_S3x2816_S1x256_0_1280 r f)
    rfl
  refine (View.read_writes_cons_unit_of_not_mem _ _ _ _ _ _ rfl (1 : Fin 2) (Or.inl (by show 256 * k.val + f.val < 1280; omega))).trans ?_
  by_cases h4 : k.val = 4
  · obtain rfl : k = 4 := Fin.ext h4
    refine (View.read_writes_cons_unit_of_mem _ _ _ _ _ _ (ix2 r f) rfl (fun a => by match a with | 0 => exact (Nat.zero_add _).symm | 1 => rfl)).trans ?_
    refine Eq.trans ?_ (act_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 4 (o := 1024) rfl
      (s7 := kernelRun0_B.sl.v252 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3) (s6 := kernelRun0_B.sl.v257 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3)
      (back1_4 b hx) (back2_4 b hx) inb_S1024x2816_S1024x256_0_1024 inb_S1024x2816_S1024x256_0_1024
      inb_S3x2816_S1x256_2_1024 inb_S3x2816_S1x256_1_1024 inb_S3x2816_S1x256_0_1024 r f)
    rfl
  refine (View.read_writes_cons_unit_of_not_mem _ _ _ _ _ _ rfl (1 : Fin 2) (Or.inl (by show 256 * k.val + f.val < 1024; omega))).trans ?_
  by_cases h3 : k.val = 3
  · obtain rfl : k = 3 := Fin.ext h3
    refine (View.read_writes_cons_unit_of_mem _ _ _ _ _ _ (ix2 r f) rfl (fun a => by match a with | 0 => exact (Nat.zero_add _).symm | 1 => rfl)).trans ?_
    refine Eq.trans ?_ (act_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 3 (o := 768) rfl
      (s7 := kernelRun0_B.sl.v206 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3) (s6 := kernelRun0_B.sl.v211 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3)
      (back1_3 b hx) (back2_3 b hx) inb_S1024x2816_S1024x256_0_768 inb_S1024x2816_S1024x256_0_768
      inb_S3x2816_S1x256_2_768 inb_S3x2816_S1x256_1_768 inb_S3x2816_S1x256_0_768 r f)
    rfl
  refine (View.read_writes_cons_unit_of_not_mem _ _ _ _ _ _ rfl (1 : Fin 2) (Or.inl (by show 256 * k.val + f.val < 768; omega))).trans ?_
  by_cases h2 : k.val = 2
  · obtain rfl : k = 2 := Fin.ext h2
    refine (View.read_writes_cons_unit_of_mem _ _ _ _ _ _ (ix2 r f) rfl (fun a => by match a with | 0 => exact (Nat.zero_add _).symm | 1 => rfl)).trans ?_
    refine Eq.trans ?_ (act_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 2 (o := 512) rfl
      (s7 := kernelRun0_B.sl.v160 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3) (s6 := kernelRun0_B.sl.v165 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3)
      (back1_2 b hx) (back2_2 b hx) inb_S1024x2816_S1024x256_0_512 inb_S1024x2816_S1024x256_0_512
      inb_S3x2816_S1x256_2_512 inb_S3x2816_S1x256_1_512 inb_S3x2816_S1x256_0_512 r f)
    rfl
  refine (View.read_writes_cons_unit_of_not_mem _ _ _ _ _ _ rfl (1 : Fin 2) (Or.inl (by show 256 * k.val + f.val < 512; omega))).trans ?_
  by_cases h1 : k.val = 1
  · obtain rfl : k = 1 := Fin.ext h1
    refine (View.read_writes_cons_unit_of_mem _ _ _ _ _ _ (ix2 r f) rfl (fun a => by match a with | 0 => exact (Nat.zero_add _).symm | 1 => rfl)).trans ?_
    refine Eq.trans ?_ (act_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 1 (o := 256) rfl
      (s7 := kernelRun0_B.sl.v114 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3) (s6 := kernelRun0_B.sl.v119 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3)
      (back1_1 b hx) (back2_1 b hx) inb_S1024x2816_S1024x256_0_256 inb_S1024x2816_S1024x256_0_256
      inb_S3x2816_S1x256_2_256 inb_S3x2816_S1x256_1_256 inb_S3x2816_S1x256_0_256 r f)
    rfl
  refine (View.read_writes_cons_unit_of_not_mem _ _ _ _ _ _ rfl (1 : Fin 2) (Or.inl (by show 256 * k.val + f.val < 256; omega))).trans ?_
  obtain rfl : k = 0 := Fin.ext (by show k.val = 0; omega)
  refine (View.read_writes_cons_unit_of_mem _ _ _ _ _ _ (ix2 r f) rfl (fun a => by match a with | 0 => exact (Nat.zero_add _).symm | 1 => rfl)).trans ?_
  refine Eq.trans ?_ (act_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 arg11 harg11 arg12 harg12 0 (o := 0) rfl
    (s7 := kernelRun0_B.sl.v68 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3) (s6 := kernelRun0_B.sl.v73 (F := Ideal) c arg2 harg2 arg3 harg3 arg4 harg4 arg5 harg5 arg6 harg6 arg7 harg7 arg8 harg8 arg9 harg9 arg10 harg10 arg15 arg16 arg18 harg18 b.x0 b.x1 b.x2 b.x3 b.x4 b.x5 b.x6 b.x7 b.x8 xs3)
    (back1_0 b hx) (back2_0 b hx) inb_S1024x2816_S1024x256_0_0 inb_S1024x2816_S1024x256_0_0
    inb_S3x2816_S1x256_2_0 inb_S3x2816_S1x256_1_0 inb_S3x2816_S1x256_0_0 r f)
  rfl

include hx in
/-- The output block of the grid point. -/
theorem out_apply (hc0 : ¬cond0_0 i) (r : Fin 512) (j : Fin 1024) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 b.x0 b.x1 b.x2 b.x3 b.x4 b.x5 b.x6 b.x7 b.x8 b.x9 b.x10 b.x11 xs3 (ix3 0 r j)
      = b.out cin r j := by
  unfold out0_B_12
  refine (View.read_writes_cons_unit_of_mem _ _ _ _ _ _ (ix3 0 r j) rfl (fun a => by match a with | 0 => rfl | 1 => exact (Nat.zero_add _).symm | 2 => exact (Nat.zero_add _).symm)).trans ?_
  rw [pay1_apply, res_apply]
  refine congrArg₂ _ rfl (Finset.sum_congr rfl fun f _ => congrArg₂ _ ?_ ?_)
  · have hf : f = col ⟨f.val / 256, by omega⟩ ⟨f.val % 256, Nat.mod_lt _ (by decide)⟩ := Fin.ext (Nat.div_add_mod f.val 256).symm
    rw [hf]
    exact act_apply b hx _ r _
  · exact congrFun (load_whole arg13 harg13 b.x11 _ (fun a => by match a with | 0 => rfl | 1 => rfl) _) (ix2 f j)

/-- The rows the grid point carries over. -/
theorem carry_apply (hc0 : ¬cond0_0 i) (k : Fin 11) (r : Fin 8) (f : Fin 256) :
    sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 b.x0 b.x1 b.x2 b.x3 b.x4 b.x5 b.x6 b.x7 b.x8 b.x9 b.x10 b.x11 xs3 (ix3 k r f)
      = b.gate ⟨504 + r.val, by omega⟩ (col k f) := by
  have hk := k.isLt
  unfold sout0_B_3
  by_cases h10 : k.val = 10
  · obtain rfl : k = 10 := Fin.ext h10
    refine (View.read_writes_cons_unit_of_mem _ _ _ _ _ _ (ix3 0 r f) rfl (fun a => by match a with | 0 => rfl | 1 => exact (Nat.zero_add _).symm | 2 => exact (Nat.zero_add _).symm)).trans ?_
    refine Eq.trans ?_ (carry_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 10 (o := 2560) rfl inb_S1024x2816_S1024x256_0_2560 r f)
    rfl
  refine (View.read_writes_cons_unit_of_not_mem _ _ _ _ _ _ rfl (0 : Fin 3) (Or.inl (by show k.val < 10; omega))).trans ?_
  by_cases h9 : k.val = 9
  · obtain rfl : k = 9 := Fin.ext h9
    refine (View.read_writes_cons_unit_of_mem _ _ _ _ _ _ (ix3 0 r f) rfl (fun a => by match a with | 0 => rfl | 1 => exact (Nat.zero_add _).symm | 2 => exact (Nat.zero_add _).symm)).trans ?_
    refine Eq.trans ?_ (carry_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 9 (o := 2304) rfl inb_S1024x2816_S1024x256_0_2304 r f)
    rfl
  refine (View.read_writes_cons_unit_of_not_mem _ _ _ _ _ _ rfl (0 : Fin 3) (Or.inl (by show k.val < 9; omega))).trans ?_
  by_cases h8 : k.val = 8
  · obtain rfl : k = 8 := Fin.ext h8
    refine (View.read_writes_cons_unit_of_mem _ _ _ _ _ _ (ix3 0 r f) rfl (fun a => by match a with | 0 => rfl | 1 => exact (Nat.zero_add _).symm | 2 => exact (Nat.zero_add _).symm)).trans ?_
    refine Eq.trans ?_ (carry_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 8 (o := 2048) rfl inb_S1024x2816_S1024x256_0_2048 r f)
    rfl
  refine (View.read_writes_cons_unit_of_not_mem _ _ _ _ _ _ rfl (0 : Fin 3) (Or.inl (by show k.val < 8; omega))).trans ?_
  by_cases h7 : k.val = 7
  · obtain rfl : k = 7 := Fin.ext h7
    refine (View.read_writes_cons_unit_of_mem _ _ _ _ _ _ (ix3 0 r f) rfl (fun a => by match a with | 0 => rfl | 1 => exact (Nat.zero_add _).symm | 2 => exact (Nat.zero_add _).symm)).trans ?_
    refine Eq.trans ?_ (carry_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 7 (o := 1792) rfl inb_S1024x2816_S1024x256_0_1792 r f)
    rfl
  refine (View.read_writes_cons_unit_of_not_mem _ _ _ _ _ _ rfl (0 : Fin 3) (Or.inl (by show k.val < 7; omega))).trans ?_
  by_cases h6 : k.val = 6
  · obtain rfl : k = 6 := Fin.ext h6
    refine (View.read_writes_cons_unit_of_mem _ _ _ _ _ _ (ix3 0 r f) rfl (fun a => by match a with | 0 => rfl | 1 => exact (Nat.zero_add _).symm | 2 => exact (Nat.zero_add _).symm)).trans ?_
    refine Eq.trans ?_ (carry_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 6 (o := 1536) rfl inb_S1024x2816_S1024x256_0_1536 r f)
    rfl
  refine (View.read_writes_cons_unit_of_not_mem _ _ _ _ _ _ rfl (0 : Fin 3) (Or.inl (by show k.val < 6; omega))).trans ?_
  by_cases h5 : k.val = 5
  · obtain rfl : k = 5 := Fin.ext h5
    refine (View.read_writes_cons_unit_of_mem _ _ _ _ _ _ (ix3 0 r f) rfl (fun a => by match a with | 0 => rfl | 1 => exact (Nat.zero_add _).symm | 2 => exact (Nat.zero_add _).symm)).trans ?_
    refine Eq.trans ?_ (carry_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 5 (o := 1280) rfl inb_S1024x2816_S1024x256_0_1280 r f)
    rfl
  refine (View.read_writes_cons_unit_of_not_mem _ _ _ _ _ _ rfl (0 : Fin 3) (Or.inl (by show k.val < 5; omega))).trans ?_
  by_cases h4 : k.val = 4
  · obtain rfl : k = 4 := Fin.ext h4
    refine (View.read_writes_cons_unit_of_mem _ _ _ _ _ _ (ix3 0 r f) rfl (fun a => by match a with | 0 => rfl | 1 => exact (Nat.zero_add _).symm | 2 => exact (Nat.zero_add _).symm)).trans ?_
    refine Eq.trans ?_ (carry_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 4 (o := 1024) rfl inb_S1024x2816_S1024x256_0_1024 r f)
    rfl
  refine (View.read_writes_cons_unit_of_not_mem _ _ _ _ _ _ rfl (0 : Fin 3) (Or.inl (by show k.val < 4; omega))).trans ?_
  by_cases h3 : k.val = 3
  · obtain rfl : k = 3 := Fin.ext h3
    refine (View.read_writes_cons_unit_of_mem _ _ _ _ _ _ (ix3 0 r f) rfl (fun a => by match a with | 0 => rfl | 1 => exact (Nat.zero_add _).symm | 2 => exact (Nat.zero_add _).symm)).trans ?_
    refine Eq.trans ?_ (carry_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 3 (o := 768) rfl inb_S1024x2816_S1024x256_0_768 r f)
    rfl
  refine (View.read_writes_cons_unit_of_not_mem _ _ _ _ _ _ rfl (0 : Fin 3) (Or.inl (by show k.val < 3; omega))).trans ?_
  by_cases h2 : k.val = 2
  · obtain rfl : k = 2 := Fin.ext h2
    refine (View.read_writes_cons_unit_of_mem _ _ _ _ _ _ (ix3 0 r f) rfl (fun a => by match a with | 0 => rfl | 1 => exact (Nat.zero_add _).symm | 2 => exact (Nat.zero_add _).symm)).trans ?_
    refine Eq.trans ?_ (carry_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 2 (o := 512) rfl inb_S1024x2816_S1024x256_0_512 r f)
    rfl
  refine (View.read_writes_cons_unit_of_not_mem _ _ _ _ _ _ rfl (0 : Fin 3) (Or.inl (by show k.val < 2; omega))).trans ?_
  by_cases h1 : k.val = 1
  · obtain rfl : k = 1 := Fin.ext h1
    refine (View.read_writes_cons_unit_of_mem _ _ _ _ _ _ (ix3 0 r f) rfl (fun a => by match a with | 0 => rfl | 1 => exact (Nat.zero_add _).symm | 2 => exact (Nat.zero_add _).symm)).trans ?_
    refine Eq.trans ?_ (carry_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 1 (o := 256) rfl inb_S1024x2816_S1024x256_0_256 r f)
    rfl
  refine (View.read_writes_cons_unit_of_not_mem _ _ _ _ _ _ rfl (0 : Fin 3) (Or.inl (by show k.val < 1; omega))).trans ?_
  obtain rfl : k = 0 := Fin.ext (by show k.val = 0; omega)
  refine (View.read_writes_cons_unit_of_mem _ _ _ _ _ _ (ix3 0 r f) rfl (fun a => by match a with | 0 => rfl | 1 => exact (Nat.zero_add _).symm | 2 => exact (Nat.zero_add _).symm)).trans ?_
  refine Eq.trans ?_ (carry_chunk b (H := kernelRun0_B.sl.v44 (F := Ideal) c arg2 harg2 arg3 harg3 arg4 harg4 arg5 harg5 arg6 harg6 arg7 harg7 arg8 harg8 arg9 harg9 arg15 b.x0 b.x1 b.x2 b.x3 b.x4 b.x5 b.x6 b.x7) (nrm_apply b) arg10 harg10 0 (o := 0) rfl inb_S1024x2816_S1024x256_0_0 r f)
  rfl

end Cert.KernelFfnIdeal.Hand.Later

end

end
-- ==== Proof.FfnHost.lean ====
/-
  The operands the host prepares for the output-projection-and-MLP kernel: the output projection in three parts, the first
  with rows of zeros behind every 96, and the two halves of the up projection.
-/
module

public import proofs.«01_k».proof.Proof.FfnSpec
public import proofs.«01_k».proof.Proof.Gen.KernelFfnIdeal.Frame
public import Idealize.ShloMosaic.Lib.KernelVsHost
public import Idealize.ShloMosaic.Lib.Tactic

@[expose] public section

set_option maxRecDepth 16384

noncomputable section

namespace Cert.KernelFfnIdeal.Hand

open Cert.KernelFfnIdeal Cert.KernelFfnIdeal.Gen Cert.FfnMath
open Idealize.ShloMosaic Idealize.ShloMosaic.TcCoe Idealize.SL.Sem

variable (m : (ℓ : Loc nD τ sig) → Buf (Elt Ideal) ℓ) (c : Dev nD)

/-- The call's arguments. -/
def argsOf : Args where
  x := m ((c : Thread nD τ).loc main_arg0)
  hm := m ((c : Thread nD τ).loc main_arg1)
  hs := m ((c : Thread nD τ).loc main_arg2)
  h5 := m ((c : Thread nD τ).loc main_arg3)
  wo := m ((c : Thread nD τ).loc main_arg4)
  g := m ((c : Thread nD τ).loc main_arg5)
  wu := m ((c : Thread nD τ).loc main_arg6)
  cw := m ((c : Thread nD τ).loc main_arg7)
  wd := m ((c : Thread nD τ).loc main_arg8)

/-- The gain, as one row. -/
theorem V_g (j : Fin 1024) : V m c main_v9 (ix2 0 j) = (argsOf m c).g (ix1 j) := by
  have h : V m c main_v9 = broadcastInDim S1x1024 ![1] bcast_S1024_S1x1024_1 (m ((c : Thread nD τ).loc main_arg5)) := by
    show StableHlo.after (List.flatten [hostOps0, hostOps0_1, hostOps0_2]) (fun b => m (c, b)) _ = _
    after_region_results
    rfl
  rw [h]
  show m ((c : Thread nD τ).loc main_arg5) _ = m ((c : Thread nD τ).loc main_arg5) _
  congr 1
  funext d
  match d with
  | ⟨0, _⟩ => rfl

/-- The gate's half of the up projection. -/
theorem V_wg (j : Fin 1024) (f : Fin 2816) : V m c main_v11 (ix2 j f) = (argsOf m c).wu (ix2 j ⟨f.val, by have := f.isLt; omega⟩) := by
  have h : V m c main_v11 = truncf (F := Ideal) (φ := .f32) .bf16 (extractStridedSlice S1024x2816 ![0, 0] (m ((c : Thread nD τ).loc main_arg6)) slices_S1024x5632_S1024x2816_0_0) bitsLt_bf16_f32 := by
    show StableHlo.after (List.flatten [hostOps0, hostOps0_1, hostOps0_2]) (fun b => m (c, b)) _ = _
    after_region_results
    rfl
  rw [h]
  show m ((c : Thread nD τ).loc main_arg6) _ = m ((c : Thread nD τ).loc main_arg6) _
  congr 1
  funext d
  match d with
  | ⟨0, _⟩ => exact Fin.ext (by show 0 + j.val = j.val; omega)
  | ⟨1, _⟩ => exact Fin.ext (by show 0 + f.val = f.val; omega)

/-- The value's half of the up projection. -/
theorem V_wv (j : Fin 1024) (f : Fin 2816) : V m c main_v13 (ix2 j f) = (argsOf m c).wu (ix2 j ⟨2816 + f.val, by have := f.isLt; omega⟩) := by
  have h : V m c main_v13 = truncf (F := Ideal) (φ := .f32) .bf16 (extractStridedSlice S1024x2816 ![0, 2816] (m ((c : Thread nD τ).loc main_arg6)) slices_S1024x5632_S1024x2816_0_2816) bitsLt_bf16_f32 := by
    show StableHlo.after (List.flatten [hostOps0, hostOps0_1, hostOps0_2]) (fun b => m (c, b)) _ = _
    after_region_results
    rfl
  rw [h]
  show m ((c : Thread nD τ).loc main_arg6) _ = m ((c : Thread nD τ).loc main_arg6) _
  congr 1
  funext d
  match d with
  | ⟨0, _⟩ => exact Fin.ext (by show 0 + j.val = j.val; omega)
  | ⟨1, _⟩ => rfl

/-- The down projection. -/
theorem V_wd : V m c main_v14 = (argsOf m c).wd := by
  show StableHlo.after (List.flatten [hostOps0, hostOps0_1, hostOps0_2]) (fun b => m (c, b)) _ = _
  after_region_results
  rfl

/-- The output projection's rows of the second mixer. -/
theorem V_wos (r : Fin 384) (j : Fin 1024) : V m c main_v6 (ix2 r j) = (argsOf m c).wo (ix2 (woRow (384 + r.val)) j) := by
  have hr := r.isLt
  have h : V m c main_v6 = truncf (F := Ideal) (φ := .f32) .bf16 (extractStridedSlice S384x1024 ![384, 0] (m ((c : Thread nD τ).loc main_arg4)) slices_S1024x1024_S384x1024_384_0) bitsLt_bf16_f32 := by
    show StableHlo.after (List.flatten [hostOps0, hostOps0_1, hostOps0_2]) (fun b => m (c, b)) _ = _
    after_region_results
    rfl
  rw [h]
  show m ((c : Thread nD τ).loc main_arg4) _ = m ((c : Thread nD τ).loc main_arg4) _
  congr 1
  funext d
  match d with
  | ⟨0, _⟩ => exact Fin.ext (by show 384 + r.val = (384 + r.val) % 1024; omega)
  | ⟨1, _⟩ => exact Fin.ext (by show 0 + j.val = j.val; omega)

/-- The output projection's rows of the third mixer. -/
theorem V_wo5 (r : Fin 256) (j : Fin 1024) : V m c main_v8 (ix2 r j) = (argsOf m c).wo (ix2 (woRow (768 + r.val)) j) := by
  have hr := r.isLt
  have h : V m c main_v8 = truncf (F := Ideal) (φ := .f32) .bf16 (extractStridedSlice S256x1024 ![768, 0] (m ((c : Thread nD τ).loc main_arg4)) slices_S1024x1024_S256x1024_768_0) bitsLt_bf16_f32 := by
    show StableHlo.after (List.flatten [hostOps0, hostOps0_1, hostOps0_2]) (fun b => m (c, b)) _ = _
    after_region_results
    rfl
  rw [h]
  show m ((c : Thread nD τ).loc main_arg4) _ = m ((c : Thread nD τ).loc main_arg4) _
  congr 1
  funext d
  match d with
  | ⟨0, _⟩ => exact Fin.ext (by show 768 + r.val = (768 + r.val) % 1024; omega)
  | ⟨1, _⟩ => exact Fin.ext (by show 0 + j.val = j.val; omega)

/-- The output projection's rows of the first mixer, four heads of 96 rows each followed by 32 rows of zeros. -/
theorem V_wom (r : Fin 512) (j : Fin 1024) : V m c main_v4 (ix2 r j) = padRow (fun k => (argsOf m c).wo (ix2 k j)) r := by
  have hr := r.isLt
  have hj := j.isLt
  have h : (V m c main_v4 : S512x1024.Idx → EReal) = (shapeCast S512x1024 (pad S4x128x1024 ![0, 0, 0] ![0, 32, 0] ![0, 0, 0]
      (shapeCast S4x96x1024 (extractStridedSlice S384x1024 ![0, 0] (m ((c : Thread nD τ).loc main_arg4)) slices_S1024x1024_S384x1024_0_0) shapeCasts_S384x1024_S4x96x1024)
      (sitofp (F := Ideal) .f32 (constantI S_ 32 0#32)) pads_S4x96x1024_S4x128x1024_000_0320_000 h_S_) shapeCasts_S4x128x1024_S512x1024 : S512x1024.Idx → EReal) := by
    show StableHlo.after (List.flatten [hostOps0, hostOps0_1, hostOps0_2]) (fun b => m (c, b)) _ = _
    after_region_results
    rfl
  rw [h]
  refine (shapeCast_apply (s := S4x128x1024) (t := S512x1024) _ _ (ix2 r j) (ix3 (⟨r.val / 128, by omega⟩ : Fin 4) (⟨r.val % 128, Nat.mod_lt _ (by decide)⟩ : Fin 128) j) ?_).trans ?_
  · rw [Shape.rowMajor_val_three, Shape.rowMajor_val_two]
    show (r.val / 128 * 128 + r.val % 128) * 1024 + j.val = r.val * 1024 + j.val
    omega
  unfold padRow
  by_cases hp : r.val % 128 < 96
  · rw [if_pos hp]
    refine (pad_apply_of_inside (t := S4x128x1024) ![0, 0, 0] ![0, 32, 0] ![0, 0, 0] _ _ pads_S4x96x1024_S4x128x1024_000_0320_000 h_S_ _
      (ix3 (⟨r.val / 128, by omega⟩ : Fin 4) (⟨r.val % 128, hp⟩ : Fin 96) j) (fun d => by
        match d with
        | ⟨0, _⟩ => show r.val / 128 = 0 + r.val / 128 * (0 + 1); omega
        | ⟨1, _⟩ => show r.val % 128 = 0 + r.val % 128 * (0 + 1); omega
        | ⟨2, _⟩ => show j.val = 0 + j.val * (0 + 1); omega)).trans ?_
    refine (shapeCast_apply (s := S384x1024) (t := S4x96x1024) _ _ _ (ix2 (⟨r.val / 128 * 96 + r.val % 128, by omega⟩ : Fin 384) j) ?_).trans ?_
    · rw [Shape.rowMajor_val_three, Shape.rowMajor_val_two]
      rfl
    show m ((c : Thread nD τ).loc main_arg4) _ = m ((c : Thread nD τ).loc main_arg4) _
    congr 1
    funext d
    match d with
    | ⟨0, _⟩ => exact Fin.ext (by show 0 + (r.val / 128 * 96 + r.val % 128) = (96 * (r.val / 128) + r.val % 128) % 1024; omega)
    | ⟨1, _⟩ => exact Fin.ext (by show 0 + j.val = j.val; omega)
  · rw [if_neg hp]
    refine (pad_apply_of_not_inside (s := S4x96x1024) (t := S4x128x1024) ![0, 0, 0] ![0, 32, 0] ![0, 0, 0] _ _ pads_S4x96x1024_S4x128x1024_000_0320_000 h_S_ _ 1
      (fun hc => by
        have h2 : (r.val % 128 - 0) / (0 + 1) < 96 := hc.2.2
        omega)).trans ?_
    show ((((0#32 : BitVec 32).toInt : ℤ) : ℝ) : EReal) = 0
    simp

end Cert.KernelFfnIdeal.Hand

end

end
-- ==== Proof.FfnArray.lean ====
/-
  The output-projection-and-MLP kernel's result array: a grid point's blocks are blocks of the call's arguments, the rows
  carried from one block of a sequence to the next are the convolution's two rows of history, and the output blocks tile
  the array.
-/
module

public import proofs.«01_k».proof.Proof.FfnFirst
public import proofs.«01_k».proof.Proof.FfnLater
public import proofs.«01_k».proof.Proof.FfnHost
public import proofs.«01_k».proof.Proof.Gen.KernelFfnIdeal.Value
public import Idealize.ShloMosaic.Lib.Pipeline.Covers

@[expose] public section

set_option maxRecDepth 16384

noncomputable section

namespace Cert.KernelFfnIdeal.Hand

open Cert.KernelFfnIdeal Cert.KernelFfnIdeal.Gen Cert.FfnMath
open Idealize.ShloMosaic Idealize.ShloMosaic.TcCoe Idealize.SL.Sem

variable (m : (ℓ : Loc nD τ sig) → Buf (Elt Ideal) ℓ) (c : Dev nD)

/-- The sequence of a grid point. -/
abbrev bAt (t : Fin cfg0.N) : Fin 8 := grid0.coords t 0
/-- The block of rows of a grid point. -/
abbrev iAt (t : Fin cfg0.N) : Fin 8 := grid0.coords t 1

/-- Grid point `t` is block `t % 8` of sequence `t / 8`. -/
theorem coords_val : ∀ t : Fin cfg0.N, (bAt t).val = t.val / 8 ∧ (iAt t).val = t.val % 8 :=
  (by decide +kernel : ∀ t : Fin grid0.N, (grid0.coords t 0).val = t.val / 8 ∧ (grid0.coords t 1).val = t.val % 8)

/-- The position of a row of a grid point. -/
def pos (t : Fin cfg0.N) (r : Fin 512) : Fin 4096 := ⟨512 * (iAt t).val + r.val, by have : (iAt t).val < 8 := (iAt t).isLt; have := r.isLt; omega⟩

/-- The operand blocks of a grid point. -/
def blkOf (t : Fin cfg0.N) : Blk :=
  ⟨iblk m c 0 t, iblk m c 1 t, iblk m c 2 t, iblk m c 3 t, iblk m c 4 t, iblk m c 5 t, iblk m c 6 t, iblk m c 7 t, iblk m c 8 t, iblk m c 9 t,
    iblk m c 10 t, iblk m c 11 t⟩

/-! ## The blocks at an index -/

theorem blk_x0 (t : Fin cfg0.N) (r : Fin 512) (j : Fin 1024) : (blkOf m c t).x0 (ix3 0 r j) = (argsOf m c).x (ix3 (bAt t) (pos t r) j) := by
  have h0 : (bAt t).val < 8 := (bAt t).isLt
  have h1 : (iAt t).val < 8 := (iAt t).isLt
  show (iblk m c 0 t : Vec Ideal S1x512x1024 .f32) (ix3 0 r j) = m ((c : Thread nD τ).loc main_arg0) _
  unfold iblk
  rw [View.read_apply]
  show V m c main_arg0 _ = _
  rw [V_main_arg0]
  congr 1
  funext a
  apply Fin.ext
  match a with
  | ⟨0, _⟩ =>
    show (BitVec.ofNat 32 (bAt t).val).toNat * 1 + 1 * 0 = (bAt t).val
    rw [BitVec.toNat_ofNat]; omega
  | ⟨1, _⟩ =>
    show (BitVec.ofNat 32 (iAt t).val).toNat * 512 + 1 * r.val = 512 * (iAt t).val + r.val
    rw [BitVec.toNat_ofNat]; omega
  | ⟨2, _⟩ =>
    show 0 * 1024 + 1 * j.val = j.val
    omega

theorem blk_x1 (t : Fin cfg0.N) (r : Fin 512) (j : Fin 512) : (blkOf m c t).x1 (ix3 0 r j) = (argsOf m c).hm (ix3 (bAt t) (pos t r) j) := by
  have h0 : (bAt t).val < 8 := (bAt t).isLt
  have h1 : (iAt t).val < 8 := (iAt t).isLt
  show (iblk m c 1 t : Vec Ideal S1x512x512 .bf16) (ix3 0 r j) = m ((c : Thread nD τ).loc main_arg1) _
  unfold iblk
  rw [View.read_apply]
  show V m c main_arg1 _ = _
  rw [V_main_arg1]
  congr 1
  funext a
  apply Fin.ext
  match a with
  | ⟨0, _⟩ =>
    show (BitVec.ofNat 32 (bAt t).val).toNat * 1 + 1 * 0 = (bAt t).val
    rw [BitVec.toNat_ofNat]; omega
  | ⟨1, _⟩ =>
    show (BitVec.ofNat 32 (iAt t).val).toNat * 512 + 1 * r.val = 512 * (iAt t).val + r.val
    rw [BitVec.toNat_ofNat]; omega
  | ⟨2, _⟩ =>
    show 0 * 512 + 1 * j.val = j.val
    omega

theorem blk_x2 (t : Fin cfg0.N) (r : Fin 512) (j : Fin 384) : (blkOf m c t).x2 (ix3 0 r j) = (argsOf m c).hs (ix3 (bAt t) (pos t r) j) := by
  have h0 : (bAt t).val < 8 := (bAt t).isLt
  have h1 : (iAt t).val < 8 := (iAt t).isLt
  show (iblk m c 2 t : Vec Ideal S1x512x384 .bf16) (ix3 0 r j) = m ((c : Thread nD τ).loc main_arg2) _
  unfold iblk
  rw [View.read_apply]
  show V m c main_arg2 _ = _
  rw [V_main_arg2]
  congr 1
  funext a
  apply Fin.ext
  match a with
  | ⟨0, _⟩ =>
    show (BitVec.ofNat 32 (bAt t).val).toNat * 1 + 1 * 0 = (bAt t).val
    rw [BitVec.toNat_ofNat]; omega
  | ⟨1, _⟩ =>
    show (BitVec.ofNat 32 (iAt t).val).toNat * 512 + 1 * r.val = 512 * (iAt t).val + r.val
    rw [BitVec.toNat_ofNat]; omega
  | ⟨2, _⟩ =>
    show 0 * 384 + 1 * j.val = j.val
    omega

theorem blk_x3 (t : Fin cfg0.N) (r : Fin 512) (j : Fin 256) : (blkOf m c t).x3 (ix3 0 r j) = (argsOf m c).h5 (ix3 (bAt t) (pos t r) j) := by
  have h0 : (bAt t).val < 8 := (bAt t).isLt
  have h1 : (iAt t).val < 8 := (iAt t).isLt
  show (iblk m c 3 t : Vec Ideal S1x512x256 .bf16) (ix3 0 r j) = m ((c : Thread nD τ).loc main_arg3) _
  unfold iblk
  rw [View.read_apply]
  show V m c main_arg3 _ = _
  rw [V_main_arg3]
  congr 1
  funext a
  apply Fin.ext
  match a with
  | ⟨0, _⟩ =>
    show (BitVec.ofNat 32 (bAt t).val).toNat * 1 + 1 * 0 = (bAt t).val
    rw [BitVec.toNat_ofNat]; omega
  | ⟨1, _⟩ =>
    show (BitVec.ofNat 32 (iAt t).val).toNat * 512 + 1 * r.val = 512 * (iAt t).val + r.val
    rw [BitVec.toNat_ofNat]; omega
  | ⟨2, _⟩ =>
    show 0 * 256 + 1 * j.val = j.val
    omega

theorem blk_x4 (t : Fin cfg0.N) (r : Fin 512) (j : Fin 1024) : (blkOf m c t).x4 (ix2 r j) = padRow (fun k => (argsOf m c).wo (ix2 k j)) r := by
  show (iblk m c 4 t : Vec Ideal S512x1024 .bf16) (ix2 r j) = _
  unfold iblk
  rw [View.read_apply]
  have e : V m c main_v4 (ix2 r j) = padRow (fun k => (argsOf m c).wo (ix2 k j)) r := by exact V_wom m c r j
  refine Eq.trans ?_ e
  show V m c main_v4 _ = _
  congr 1
  funext a
  apply Fin.ext
  match a with
  | ⟨0, _⟩ => show 0 * 512 + 1 * r.val = r.val; omega
  | ⟨1, _⟩ => show 0 * 1024 + 1 * j.val = j.val; omega

theorem blk_x5 (t : Fin cfg0.N) (r : Fin 384) (j : Fin 1024) : (blkOf m c t).x5 (ix2 r j) = (argsOf m c).wo (ix2 (woRow (384 + r.val)) j) := by
  show (iblk m c 5 t : Vec Ideal S384x1024 .bf16) (ix2 r j) = _
  unfold iblk
  rw [View.read_apply]
  have e : V m c main_v6 (ix2 r j) = (argsOf m c).wo (ix2 (woRow (384 + r.val)) j) := by exact V_wos m c r j
  refine Eq.trans ?_ e
  show V m c main_v6 _ = _
  congr 1
  funext a
  apply Fin.ext
  match a with
  | ⟨0, _⟩ => show 0 * 384 + 1 * r.val = r.val; omega
  | ⟨1, _⟩ => show 0 * 1024 + 1 * j.val = j.val; omega

theorem blk_x6 (t : Fin cfg0.N) (r : Fin 256) (j : Fin 1024) : (blkOf m c t).x6 (ix2 r j) = (argsOf m c).wo (ix2 (woRow (768 + r.val)) j) := by
  show (iblk m c 6 t : Vec Ideal S256x1024 .bf16) (ix2 r j) = _
  unfold iblk
  rw [View.read_apply]
  have e : V m c main_v8 (ix2 r j) = (argsOf m c).wo (ix2 (woRow (768 + r.val)) j) := by exact V_wo5 m c r j
  refine Eq.trans ?_ e
  show V m c main_v8 _ = _
  congr 1
  funext a
  apply Fin.ext
  match a with
  | ⟨0, _⟩ => show 0 * 256 + 1 * r.val = r.val; omega
  | ⟨1, _⟩ => show 0 * 1024 + 1 * j.val = j.val; omega

theorem blk_x7 (t : Fin cfg0.N) (j : Fin 1024) : (blkOf m c t).x7 (ix2 0 j) = (argsOf m c).g (ix1 j) := by
  show (iblk m c 7 t : Vec Ideal S1x1024 .f32) (ix2 0 j) = _
  unfold iblk
  rw [View.read_apply]
  have e : V m c main_v9 (ix2 0 j) = (argsOf m c).g (ix1 j) := by exact V_g m c j
  refine Eq.trans ?_ e
  show V m c main_v9 _ = _
  congr 1
  funext a
  apply Fin.ext
  match a with
  | ⟨0, _⟩ => show 0 * 1 + 1 * 0 = 0; omega
  | ⟨1, _⟩ => show 0 * 1024 + 1 * j.val = j.val; omega

theorem blk_x8 (t : Fin cfg0.N) (r : Fin 1024) (j : Fin 2816) : (blkOf m c t).x8 (ix2 r j) = (argsOf m c).wu (ix2 r ⟨j.val, by have := j.isLt; omega⟩) := by
  show (iblk m c 8 t : Vec Ideal S1024x2816 .bf16) (ix2 r j) = _
  unfold iblk
  rw [View.read_apply]
  have e : V m c main_v11 (ix2 r j) = (argsOf m c).wu (ix2 r ⟨j.val, by have := j.isLt; omega⟩) := by exact V_wg m c r j
  refine Eq.trans ?_ e
  show V m c main_v11 _ = _
  congr 1
  funext a
  apply Fin.ext
  match a with
  | ⟨0, _⟩ => show 0 * 1024 + 1 * r.val = r.val; omega
  | ⟨1, _⟩ => show 0 * 2816 + 1 * j.val = j.val; omega

theorem blk_x9 (t : Fin cfg0.N) (r : Fin 1024) (j : Fin 2816) : (blkOf m c t).x9 (ix2 r j) = (argsOf m c).wu (ix2 r ⟨2816 + j.val, by have := j.isLt; omega⟩) := by
  show (iblk m c 9 t : Vec Ideal S1024x2816 .bf16) (ix2 r j) = _
  unfold iblk
  rw [View.read_apply]
  have e : V m c main_v13 (ix2 r j) = (argsOf m c).wu (ix2 r ⟨2816 + j.val, by have := j.isLt; omega⟩) := by exact V_wv m c r j
  refine Eq.trans ?_ e
  show V m c main_v13 _ = _
  congr 1
  funext a
  apply Fin.ext
  match a with
  | ⟨0, _⟩ => show 0 * 1024 + 1 * r.val = r.val; omega
  | ⟨1, _⟩ => show 0 * 2816 + 1 * j.val = j.val; omega

theorem blk_x10 (t : Fin cfg0.N) (r : Fin 3) (j : Fin 2816) : (blkOf m c t).x10 (ix2 r j) = (argsOf m c).cw (ix2 r j) := by
  show (iblk m c 10 t : Vec Ideal S3x2816 .f32) (ix2 r j) = _
  unfold iblk
  rw [View.read_apply]
  have e : V m c main_arg7 (ix2 r j) = (argsOf m c).cw (ix2 r j) := by exact congrFun (V_main_arg7 m c) (ix2 r j)
  refine Eq.trans ?_ e
  show V m c main_arg7 _ = _
  congr 1
  funext a
  apply Fin.ext
  match a with
  | ⟨0, _⟩ => show 0 * 3 + 1 * r.val = r.val; omega
  | ⟨1, _⟩ => show 0 * 2816 + 1 * j.val = j.val; omega

theorem blk_x11 (t : Fin cfg0.N) (r : Fin 2816) (j : Fin 1024) : (blkOf m c t).x11 (ix2 r j) = (argsOf m c).wd (ix2 r j) := by
  show (iblk m c 11 t : Vec Ideal S2816x1024 .bf16) (ix2 r j) = _
  unfold iblk
  rw [View.read_apply]
  have e : V m c main_v14 (ix2 r j) = (argsOf m c).wd (ix2 r j) := by exact congrFun (V_wd m c) (ix2 r j)
  refine Eq.trans ?_ e
  show V m c main_v14 _ = _
  congr 1
  funext a
  apply Fin.ext
  match a with
  | ⟨0, _⟩ => show 0 * 2816 + 1 * r.val = r.val; omega
  | ⟨1, _⟩ => show 0 * 1024 + 1 * j.val = j.val; omega

/-! ## What a grid point computes, in terms of the arguments -/

theorem res_eq (t : Fin cfg0.N) (r : Fin 512) (j : Fin 1024) : (blkOf m c t).res r j = (argsOf m c).res (bAt t) (pos t r) j := by
  unfold Blk.res Args.res
  rw [sum_mix, ← add_assoc, ← add_assoc]
  simp only [blk_x0, blk_x1, blk_x2, blk_x3, blk_x4, blk_x5, blk_x6]

theorem nrm_eq (t : Fin cfg0.N) (r : Fin 512) (j : Fin 1024) :
    (blkOf m c t).nrm r j = normed ((argsOf m c).res (bAt t) (pos t r)) (fun j => (argsOf m c).g (ix1 j)) j := by
  unfold Blk.nrm
  rw [show (blkOf m c t).res r = (argsOf m c).res (bAt t) (pos t r) from funext fun k => res_eq m c t r k]
  simp only [blk_x7]

theorem gate_eq (t : Fin cfg0.N) (r : Fin 512) (f : Fin 2816) : (blkOf m c t).gate r f = (argsOf m c).gate (bAt t) (pos t r) f := by
  unfold Blk.gate Args.gate Args.up
  simp only [nrm_eq, blk_x8]

theorem val_eq (t : Fin cfg0.N) (r : Fin 512) (f : Fin 2816) : (blkOf m c t).val r f = (argsOf m c).val (bAt t) (pos t r) f := by
  unfold Blk.val Args.val Args.up
  simp only [nrm_eq, blk_x9]

variable (cin : ℕ → Fin 2816 → EReal) (t : Fin cfg0.N)
variable (hc : ∀ n f, 6 ≤ n → n < 8 → cin n f = (argsOf m c).padded (bAt t) (512 * (iAt t).val + n - 6) f)

include hc in
/-- The extended gate of a block is the padded gate of its sequence. -/
theorem ext_eq (n : ℕ) (h6 : 6 ≤ n) (hn : n < 520) (f : Fin 2816) :
    (blkOf m c t).ext cin n f = (argsOf m c).padded (bAt t) (512 * (iAt t).val + n - 6) f := by
  have h1 : (iAt t).val < 8 := (iAt t).isLt
  unfold Blk.ext
  by_cases h : n < 8
  · rw [if_pos h, hc n f h6 h]
  · rw [if_neg h, gate_eq]
    unfold Args.padded
    rw [if_neg (by omega)]
    congr 1
    apply Fin.ext
    show 512 * (iAt t).val + (n - 8) % 512 = (512 * (iAt t).val + n - 6 - 2) % 4096
    omega

include hc in
/-- The output block of a grid point is the layer at its positions. -/
theorem out_layer (r : Fin 512) (j : Fin 1024) :
    (blkOf m c t).out cin r j = (argsOf m c).layer (bAt t) (pos t r) j := by
  have h1 : (iAt t).val < 8 := (iAt t).isLt
  have hr := r.isLt
  have hp : (pos t r).val = 512 * (iAt t).val + r.val := rfl
  unfold Blk.out Args.layer
  refine congrArg₂ _ (res_eq m c t r j) (Finset.sum_congr rfl fun f _ => congrArg₂ _ ?_ (blk_x11 m c t f j))
  unfold Blk.act
  refine congrArg₂ gated ?_ (val_eq m c t r f)
  unfold Args.conv
  have e2 : (blkOf m c t).gate r f = (argsOf m c).padded (bAt t) ((pos t r).val + 2) f := by
    rw [gate_eq]
    unfold Args.padded
    rw [if_neg (by omega)]
    congr 1
    apply Fin.ext
    show (pos t r).val = ((pos t r).val + 2 - 2) % 4096
    omega
  rw [ext_eq m c cin t hc _ (by omega) (by omega), ext_eq m c cin t hc _ (by omega) (by omega), e2, blk_x10, blk_x10, blk_x10,
    show 512 * (iAt t).val + (7 + r.val) - 6 = (pos t r).val + 1 by omega, show 512 * (iAt t).val + (6 + r.val) - 6 = (pos t r).val by omega]
  rw [add_comm (_ + _) ((argsOf m c).cw (ix2 0 f) * _), add_comm ((argsOf m c).cw (ix2 2 f) * _), ← add_assoc]

/-! ## What a grid point leaves, in each of the two cases -/

theorem out_A (t : Fin cfg0.N) (h0 : t.val % 8 = 0) :
    (outsAt0 m c t.val t.isLt).1 = out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (blkOf m c t).x0 (blkOf m c t).x1 (blkOf m c t).x2 (blkOf m c t).x3 (blkOf m c t).x4 (blkOf m c t).x5 (blkOf m c t).x6 (blkOf m c t).x7 (blkOf m c t).x8 (blkOf m c t).x9 (blkOf m c t).x10 (blkOf m c t).x11 := by
  simp only [outsAt0_A m c t h0, blkOf]

theorem carry_A (t : Fin cfg0.N) (h0 : t.val % 8 = 0) :
    (outsAt0 m c t.val t.isLt).2 = sout0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (blkOf m c t).x0 (blkOf m c t).x1 (blkOf m c t).x2 (blkOf m c t).x3 (blkOf m c t).x4 (blkOf m c t).x5 (blkOf m c t).x6 (blkOf m c t).x7 (blkOf m c t).x8 (blkOf m c t).x9 (blkOf m c t).x10 (blkOf m c t).x11 := by
  simp only [outsAt0_A m c t h0, blkOf]

theorem out_B (t : Fin cfg0.N) (h0 : ¬ t.val % 8 = 0) :
    (outsAt0 m c t.val t.isLt).1 = out0_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (blkOf m c t).x0 (blkOf m c t).x1 (blkOf m c t).x2 (blkOf m c t).x3 (blkOf m c t).x4 (blkOf m c t).x5 (blkOf m c t).x6 (blkOf m c t).x7 (blkOf m c t).x8 (blkOf m c t).x9 (blkOf m c t).x10 (blkOf m c t).x11 (outsAt0 m c (t.val - 1) (Nat.lt_of_le_of_lt (Nat.sub_le _ _) t.isLt)).2 := by
  simp only [outsAt0_B m c t h0, blkOf]

theorem carry_B (t : Fin cfg0.N) (h0 : ¬ t.val % 8 = 0) :
    (outsAt0 m c t.val t.isLt).2 = sout0_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (blkOf m c t).x0 (blkOf m c t).x1 (blkOf m c t).x2 (blkOf m c t).x3 (blkOf m c t).x4 (blkOf m c t).x5 (blkOf m c t).x6 (blkOf m c t).x7 (blkOf m c t).x8 (blkOf m c t).x9 (blkOf m c t).x10 (blkOf m c t).x11 (outsAt0 m c (t.val - 1) (Nat.lt_of_le_of_lt (Nat.sub_le _ _) t.isLt)).2 := by
  simp only [outsAt0_B m c t h0, blkOf]

/-! ## The carry -/

/-- The rows a grid point leaves for the next: the last eight of its gate. -/
theorem carry_eq (t : Fin cfg0.N) (k : Fin 11) (r : Fin 8) (f : Fin 256) :
    (outsAt0 m c t.val t.isLt).2 (ix3 k r f) = (blkOf m c t).gate ⟨504 + r.val, by omega⟩ (col k f) := by
  by_cases h0 : t.val % 8 = 0
  · refine (congrFun (carry_A m c t h0) (ix3 k r f)).trans ?_
    have e := First.carry_apply (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (arg15 := scM0_0) (harg15 := Memref.isWhole_whole _) (arg16 := scM0_1) (harg16 := Memref.isWhole_whole _) (arg17 := scM0_2) (harg17 := Memref.isWhole_whole _) (arg18 := scM0_3) (harg18 := Memref.isWhole_whole _) (blkOf m c t) ((hcond0_0 t).mpr h0) k r f
    exact e
  · refine (congrFun (carry_B m c t h0) (ix3 k r f)).trans ?_
    have e := Later.carry_apply (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (arg15 := scM0_0) (harg15 := Memref.isWhole_whole _) (arg16 := scM0_1) (harg16 := Memref.isWhole_whole _) (arg17 := scM0_2) (harg17 := Memref.isWhole_whole _) (arg18 := scM0_3) (harg18 := Memref.isWhole_whole _) (xs3 := (outsAt0 m c (t.val - 1) (Nat.lt_of_le_of_lt (Nat.sub_le _ _) t.isLt)).2) (blkOf m c t) (fun h => h0 ((hcond0_0 t).mp h)) k r f
    exact e

/-- The rows carried into a grid point that is not the first of its sequence. -/
def carried (t : Fin cfg0.N) (n : ℕ) (f : Fin 2816) : EReal :=
  (blkOf m c ⟨t.val - 1, Nat.lt_of_le_of_lt (Nat.sub_le _ _) t.isLt⟩).gate ⟨(504 + n) % 512, Nat.mod_lt _ (by decide)⟩ f

theorem carried_padded (t : Fin cfg0.N) (h0 : ¬ t.val % 8 = 0) (n : ℕ) (f : Fin 2816) (h6 : 6 ≤ n) (h8 : n < 8) :
    carried m c t n f = (argsOf m c).padded (bAt t) (512 * (iAt t).val + n - 6) f := by
  have hN : t.val < 64 := lt_of_lt_of_eq t.isLt N_0
  have e := coords_val t
  have e' := coords_val ⟨t.val - 1, Nat.lt_of_le_of_lt (Nat.sub_le _ _) t.isLt⟩
  have eb : bAt ⟨t.val - 1, Nat.lt_of_le_of_lt (Nat.sub_le _ _) t.isLt⟩ = bAt t := Fin.ext (by
    rw [e.1, e'.1]; show (t.val - 1) / 8 = t.val / 8; omega)
  have ei : (iAt ⟨t.val - 1, Nat.lt_of_le_of_lt (Nat.sub_le _ _) t.isLt⟩).val + 1 = (iAt t).val := by
    rw [e.2, e'.2]; show (t.val - 1) % 8 + 1 = t.val % 8; omega
  have h1 : (iAt t).val < 8 := (iAt t).isLt
  unfold carried
  rw [gate_eq, eb]
  unfold Args.padded
  rw [if_neg (by omega)]
  congr 1
  apply Fin.ext
  show 512 * (iAt ⟨t.val - 1, Nat.lt_of_le_of_lt (Nat.sub_le _ _) t.isLt⟩).val + (504 + n) % 512 = (512 * (iAt t).val + n - 6 - 2) % 4096
  omega

theorem zero_padded (t : Fin cfg0.N) (h0 : t.val % 8 = 0) (n : ℕ) (f : Fin 2816) (h6 : 6 ≤ n) (h8 : n < 8) :
    (0 : EReal) = (argsOf m c).padded (bAt t) (512 * (iAt t).val + n - 6) f := by
  have e := (coords_val t).2
  unfold Args.padded
  rw [if_pos (by omega)]

/-- The output block of every grid point. -/
theorem outs_layer (t : Fin cfg0.N) (r : Fin 512) (j : Fin 1024) :
    (outsAt0 m c t.val t.isLt).1 (ix3 0 r j) = (argsOf m c).layer (bAt t) (pos t r) j := by
  by_cases h0 : t.val % 8 = 0
  · refine (congrFun (out_A m c t h0) (ix3 0 r j)).trans (Eq.trans ?_ (out_layer m c _ t (zero_padded m c t h0) r j))
    have e := First.out_apply (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (arg15 := scM0_0) (harg15 := Memref.isWhole_whole _) (arg16 := scM0_1) (harg16 := Memref.isWhole_whole _) (arg17 := scM0_2) (harg17 := Memref.isWhole_whole _) (arg18 := scM0_3) (harg18 := Memref.isWhole_whole _) (blkOf m c t) ((hcond0_0 t).mpr h0) r j
    exact e
  · refine (congrFun (out_B m c t h0) (ix3 0 r j)).trans (Eq.trans ?_ (out_layer m c _ t (carried_padded m c t h0) r j))
    have hx : ∀ (k : Fin 11) (r : Fin 8) (f : Fin 256),
        (outsAt0 m c (t.val - 1) (Nat.lt_of_le_of_lt (Nat.sub_le _ _) t.isLt)).2 (ix3 k r f) = carried m c t r.val (col k f) := by
      intro k r f
      have e := carry_eq m c ⟨t.val - 1, Nat.lt_of_le_of_lt (Nat.sub_le _ _) t.isLt⟩ k r f
      refine e.trans ?_
      unfold carried
      congr 1
      apply Fin.ext
      show 504 + r.val = (504 + r.val) % 512
      have := r.isLt
      omega
    have e := Later.out_apply (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (arg15 := scM0_0) (harg15 := Memref.isWhole_whole _) (arg16 := scM0_1) (harg16 := Memref.isWhole_whole _) (arg17 := scM0_2) (harg17 := Memref.isWhole_whole _) (arg18 := scM0_3) (harg18 := Memref.isWhole_whole _) (blkOf m c t) hx (fun h => h0 ((hcond0_0 t).mp h)) r j
    exact e

/-- The kernel's result array. -/
theorem arrAt_layer :
    (dats m 0 c).arrAt 12 cfg0.N = (fun y => (argsOf m c).layer (y 0) (y 1) (y 2) : S8x4096x1024.Idx → EReal) := by
  refine (dats m 0 c).arrAt_eq_of_cover 12 (fun y => (argsOf m c).layer (y 0) (y 1) (y 2) : S8x4096x1024.Idx → EReal) (fun t _ => ?_) fun y => ?_
  · rw [Cert.KernelFfnIdeal.Value.flushed12]
    have h0 : (bAt t).val < 8 := (bAt t).isLt
    have h1 : (iAt t).val < 8 := (iAt t).isLt
    funext j
    rw [View.read_apply]
    show (outsAt0 m c t.val t.isLt).1 (j : S1x512x1024.Idx) = _
    obtain ⟨a, r, l, rfl⟩ : ∃ (a : Fin 1) (r : Fin 512) (l : Fin 1024), (j : S1x512x1024.Idx) = ix3 a r l := ⟨j 0, j 1, j 2, by funext d; match d with | 0 => rfl | 1 => rfl | 2 => rfl⟩
    obtain rfl : a = 0 := Fin.eq_zero a
    have hr := r.isLt
    have hl := l.isLt
    refine (outs_layer m c t r l).trans ?_
    congr 1
    · apply Fin.ext
      show (bAt t).val = (BitVec.ofNat 32 (bAt t).val).toNat * 1 + 1 * 0
      rw [BitVec.toNat_ofNat]; omega
    · apply Fin.ext
      show 512 * (iAt t).val + r.val = (BitVec.ofNat 32 (iAt t).val).toNat * 512 + 1 * r.val
      rw [BitVec.toNat_ofNat]; omega
    · apply Fin.ext
      show l.val = 0 * 1024 + 1 * l.val
      omega
  · have h0 : (y 0 : Nat) < 8 := (y 0).isLt
    have h1 : (y 1 : Nat) < 4096 := (y 1).isLt
    have h2 : (y 2 : Nat) < 1024 := (y 2).isLt
    obtain ⟨t, ht⟩ := Pipeline.Grid.coords_surjective grid0 (fun a => match a with
      | 0 => (⟨(y 0 : Nat), h0⟩ : Fin 8)
      | 1 => (⟨(y 1 : Nat) / 512, by omega⟩ : Fin 8))
    refine ⟨t, flush0_12 t, ?_⟩
    have e0 : (bAt t).val = (y 0 : Nat) := by show (grid0.coords t 0).val = _; rw [ht]
    have e1 : (iAt t).val = (y 1 : Nat) / 512 := by show (grid0.coords t 1).val = _; rw [ht]
    show y ∈ ((View.whole main_v15).slice (win0_12.rect t)).set
    rw [View.set_slice_whole, Rect.mem_set_unit]
    intro a
    match a with
    | ⟨0, _⟩ =>
      show (BitVec.ofNat 32 (bAt t).val).toNat * 1 ≤ (y 0 : Nat) ∧ (y 0 : Nat) < (BitVec.ofNat 32 (bAt t).val).toNat * 1 + 1
      rw [BitVec.toNat_ofNat]; omega
    | ⟨1, _⟩ =>
      show (BitVec.ofNat 32 (iAt t).val).toNat * 512 ≤ (y 1 : Nat) ∧ (y 1 : Nat) < (BitVec.ofNat 32 (iAt t).val).toNat * 512 + 512
      rw [BitVec.toNat_ofNat]; omega
    | ⟨2, _⟩ =>
      show 0 * 1024 ≤ (y 2 : Nat) ∧ (y 2 : Nat) < 0 * 1024 + 1024
      omega

end Cert.KernelFfnIdeal.Hand

end

end
-- ==== Proof.FfnRef.lean ====
/-
  The feed-forward reference at an index is the layer of the arguments.
-/
module

public import proofs.«01_k».proof.Proof.FfnSpec
public import proofs.«01_k».proof.Proof.Gen.ReferenceFfnIdeal.Read
public import Idealize.ShloMosaic.Lib.Pipeline.Value
public import Idealize.ShloMosaic.Lib.KernelVsHost

@[expose] public section

set_option maxRecDepth 16384

noncomputable section

namespace Cert.ReferenceFfnIdeal.Hand

open Cert.ReferenceFfnIdeal Cert.ReferenceFfnIdeal.Gen Cert.ReferenceFfnIdeal.Read Cert.FfnMath
open Idealize.ShloMosaic Idealize.ShloMosaic.TcCoe Idealize.SL.Sem

variable (a : Args)

/-- The three pieces of the mixers' outputs. -/
abbrev pieces : List ((s : Shape) × (s.Idx → EReal)) :=
  [⟨S8x4096x384, val_main_v3 (F := Ideal) a.hm⟩, ⟨S8x4096x384, val_main_v4 (F := Ideal) a.hs⟩, ⟨S8x4096x256, val_main_v5 (F := Ideal) a.h5⟩]

/-- The first mixer's output without its padding. -/
theorem v3_apply (b : Fin 8) (t : Fin 4096) (r : Fin 384) : val_main_v3 (F := Ideal) a.hm (ix3 b t r) = a.hm (ix3 b t (padCh r.val)) := by
  rw [val_main_v3_apply, val_main_v2_apply, val_main_v1_apply, val_main_v0_apply]
  have hb := b.isLt
  have ht := t.isLt
  have hr := r.isLt
  show a.hm _ = _
  congr 1
  funext d
  apply Fin.ext
  match d with
  | ⟨0, _⟩ =>
    show ((((((b.val * 4096 + t.val) * 384 + r.val) / 1572864) * 4096 + ((b.val * 4096 + t.val) * 384 + r.val) / 384 % 4096) * 4
      + ((b.val * 4096 + t.val) * 384 + r.val) / 96 % 4) * 128 + ((b.val * 4096 + t.val) * 384 + r.val) % 96) / 2097152 = b.val
    omega
  | ⟨1, _⟩ =>
    show ((((((b.val * 4096 + t.val) * 384 + r.val) / 1572864) * 4096 + ((b.val * 4096 + t.val) * 384 + r.val) / 384 % 4096) * 4
      + ((b.val * 4096 + t.val) * 384 + r.val) / 96 % 4) * 128 + ((b.val * 4096 + t.val) * 384 + r.val) % 96) / 512 % 4096 = t.val
    omega
  | ⟨2, _⟩ =>
    show ((((((b.val * 4096 + t.val) * 384 + r.val) / 1572864) * 4096 + ((b.val * 4096 + t.val) * 384 + r.val) / 384 % 4096) * 4
      + ((b.val * 4096 + t.val) * 384 + r.val) / 96 % 4) * 128 + ((b.val * 4096 + t.val) * 384 + r.val) % 96) % 512 = 128 * (r.val / 96 % 4) + r.val % 96
    omega

/-- The mixers' outputs side by side. -/
theorem v6_apply (b : Fin 8) (t : Fin 4096) (r : Fin 1024) : val_main_v6 (F := Ideal) a.hm a.hs a.h5 (ix3 b t r)
    = mix (fun r => a.hm (ix3 b t r)) (fun r => a.hs (ix3 b t r)) (fun r => a.h5 (ix3 b t r)) r := by
  have hr := r.isLt
  unfold val_main_v6
  by_cases h1 : r.val < 384
  · rw [mix_first _ _ _ _ h1]
    refine (concatenate_apply_piece (t := S8x4096x1024) 2 (pieces a) concatenates_S8x4096x384_S8x4096x384_S8x4096x256_S8x4096x1024_d2 (ix3 b t r) 0 (by show 0 < 3; decide) S8x4096x384 (val_main_v3 (F := Ideal) a.hm) rfl rfl 0 rfl
      (ix3 b t (⟨r.val, h1⟩ : Fin 384)) (fun d hd => ?_) (Nat.zero_add _)).trans (v3_apply a b t _)
    match d with
    | ⟨0, _⟩ => rfl
    | ⟨1, _⟩ => rfl
    | ⟨2, _⟩ => exact absurd rfl hd
  · by_cases h2 : r.val < 768
    · rw [mix_second _ _ _ _ ⟨r.val - 384, by omega⟩ (by show r.val = 384 + (r.val - 384); omega)]
      refine (concatenate_apply_piece (t := S8x4096x1024) 2 (pieces a) concatenates_S8x4096x384_S8x4096x384_S8x4096x256_S8x4096x1024_d2 (ix3 b t r) 1 (by show 1 < 3; decide) S8x4096x384 (val_main_v4 (F := Ideal) a.hs) rfl rfl 384 rfl
        (ix3 b t (⟨r.val - 384, by omega⟩ : Fin 384)) (fun d hd => ?_) (by show 384 + (r.val - 384) = r.val; omega)).trans rfl
      match d with
      | ⟨0, _⟩ => rfl
      | ⟨1, _⟩ => rfl
      | ⟨2, _⟩ => exact absurd rfl hd
    · rw [mix_third _ _ _ _ ⟨r.val - 768, by omega⟩ (by show r.val = 768 + (r.val - 768); omega)]
      refine (concatenate_apply_piece (t := S8x4096x1024) 2 (pieces a) concatenates_S8x4096x384_S8x4096x384_S8x4096x256_S8x4096x1024_d2 (ix3 b t r) 2 (by show 2 < 3; decide) S8x4096x256 (val_main_v5 (F := Ideal) a.h5) rfl rfl 768 rfl
        (ix3 b t (⟨r.val - 768, by omega⟩ : Fin 256)) (fun d hd => ?_) (by show 768 + (r.val - 768) = r.val; omega)).trans rfl
      match d with
      | ⟨0, _⟩ => rfl
      | ⟨1, _⟩ => rfl
      | ⟨2, _⟩ => exact absurd rfl hd

/-- The residual stream after the output projection. -/
theorem v8_apply (b : Fin 8) (t : Fin 4096) (j : Fin 1024) : val_main_v8 (F := Ideal) a.x a.hm a.hs a.h5 a.wo (ix3 b t j) = a.res b t j := by
  rw [val_main_v8_apply, val_main_v7_apply]
  unfold Args.res
  refine congrArg (fun y : EReal => a.x (ix3 b t j) + y) (Finset.sum_congr rfl fun r _ => ?_)
  have e0 : lidx_main_v7 (ix3 b t j) r = ix3 b t r := by funext d; match d with | ⟨0, _⟩ => rfl | ⟨1, _⟩ => rfl | ⟨2, _⟩ => rfl
  have e1 : ridx_main_v7 (ix3 b t j) r = ix2 r j := by funext d; match d with | ⟨0, _⟩ => rfl | ⟨1, _⟩ => rfl
  rw [e0, e1, v6_apply]

/-- The normalized stream. -/
theorem v21_apply (b : Fin 8) (t : Fin 4096) (j : Fin 1024) : val_main_v21 (F := Ideal) a.x a.hm a.hs a.h5 a.wo a.g (ix3 b t j)
    = normed (a.res b t) (fun j => a.g (ix1 j)) j := by
  have e17 : idx_main_v17 (ix3 b t j) = ix3 b t (0 : Fin 1) := by funext d; match d with | ⟨0, _⟩ => rfl | ⟨1, _⟩ => rfl | ⟨2, _⟩ => rfl
  have e11 : idx_main_v11 (ix3 b t (0 : Fin 1)) = ix2 b t := by funext d; match d with | ⟨0, _⟩ => rfl | ⟨1, _⟩ => rfl
  have e10 : ∀ k : Fin 1024, idx_main_v10 (ix2 b t) k = ix3 b t k := fun k => by funext d; match d with | ⟨0, _⟩ => rfl | ⟨1, _⟩ => rfl | ⟨2, _⟩ => rfl
  have e19 : idx_main_v19 (idx_main_v20 (ix3 b t j)) = ix1 j := by funext d; match d with | ⟨0, _⟩ => rfl
  have hs : val_main_v10 (F := Ideal) a.x a.hm a.hs a.h5 a.wo (ix2 b t) = ∑ k, a.res b t k * a.res b t k := by
    rw [val_main_v10_apply, show (val_main_cst (F := Ideal) (Shape.Idx.first h_S_) : EReal) = 0 from Ideal.ofBits_zero_f32, zero_add]
    refine Finset.sum_congr rfl fun k _ => ?_
    rw [e10, val_main_v9_apply, v8_apply]
    rfl
  rw [val_main_v21_apply, val_main_v18_apply, val_main_v20_apply, val_main_v19_apply, e19, v8_apply, val_main_v17_apply, e17,
    val_main_v16_apply, val_main_v15_apply, val_main_v13_apply, val_main_v11_apply, e11, hs]
  rfl

/-- A column of the up projection. -/
theorem v22_apply (b : Fin 8) (t : Fin 4096) (f : Fin 5632) :
    val_main_v22 (F := Ideal) a.x a.hm a.hs a.h5 a.wo a.g a.wu (ix3 b t f) = a.up b t f := by
  rw [val_main_v22_apply]
  unfold Args.up
  refine Finset.sum_congr rfl fun j _ => ?_
  have e0 : lidx_main_v22 (ix3 b t f) j = ix3 b t j := by funext d; match d with | ⟨0, _⟩ => rfl | ⟨1, _⟩ => rfl | ⟨2, _⟩ => rfl
  have e1 : ridx_main_v22 (ix3 b t f) j = ix2 j f := by funext d; match d with | ⟨0, _⟩ => rfl | ⟨1, _⟩ => rfl
  rw [e0, e1, v21_apply]

/-- The gate half. -/
theorem v23_apply (b : Fin 8) (t : Fin 4096) (f : Fin 2816) :
    val_main_v23 (F := Ideal) a.x a.hm a.hs a.h5 a.wo a.g a.wu (ix3 b t f) = a.gate b t f := by
  have e : idx_main_v23 (ix3 b t f) = ix3 b t (⟨f.val, by have := f.isLt; omega⟩ : Fin 5632) := by funext d; match d with | ⟨0, _⟩ => rfl | ⟨1, _⟩ => rfl | ⟨2, _⟩ => rfl
  rw [val_main_v23_apply, e, v22_apply]
  rfl

/-- The value half. -/
theorem v24_apply (b : Fin 8) (t : Fin 4096) (f : Fin 2816) :
    val_main_v24 (F := Ideal) a.x a.hm a.hs a.h5 a.wo a.g a.wu (ix3 b t f) = a.val b t f := by
  have e : idx_main_v24 (ix3 b t f) = ix3 b t (⟨2816 + f.val, by have := f.isLt; omega⟩ : Fin 5632) := by funext d; match d with | ⟨0, _⟩ => rfl | ⟨1, _⟩ => rfl | ⟨2, _⟩ => rfl
  rw [val_main_v24_apply, e, v22_apply]
  rfl

/-- The gate behind two rows of zeros. -/
theorem v25_apply (b : Fin 8) (n : Fin 4098) (f : Fin 2816) :
    val_main_v25 (F := Ideal) a.x a.hm a.hs a.h5 a.wo a.g a.wu (ix3 b n f) = a.padded b n.val f := by
  have hb := b.isLt
  have hn := n.isLt
  have hf := f.isLt
  unfold val_main_v25 Args.padded
  by_cases h : n.val < 2
  · rw [if_pos h]
    have e := pad_apply_of_not_inside (t := S8x4098x2816) ![0, 2, 0] ![0, 0, 0] ![0, 0, 0] (val_main_v23 (F := Ideal) a.x a.hm a.hs a.h5 a.wo a.g a.wu) (val_main_call0_v0 (F := Ideal)) pads_S8x4096x2816_S8x4098x2816_000_200_000 h_S_ (ix3 b n f) 1
      (fun hc => by have h2 : 2 ≤ n.val := hc.1; omega)
    rw [e]
    show ((((0#32 : BitVec 32).toInt : ℤ) : ℝ) : EReal) = 0
    simp
  · rw [if_neg h]
    have e := pad_apply_of_inside (t := S8x4098x2816) ![0, 2, 0] ![0, 0, 0] ![0, 0, 0] (val_main_v23 (F := Ideal) a.x a.hm a.hs a.h5 a.wo a.g a.wu) (val_main_call0_v0 (F := Ideal)) pads_S8x4096x2816_S8x4098x2816_000_200_000 h_S_ (ix3 b n f)
      (ix3 b (⟨(n.val - 2) % 4096, Nat.mod_lt _ (by decide)⟩ : Fin 4096) f) (fun d => by
        match d with
        | ⟨0, _⟩ => show b.val = 0 + b.val * (0 + 1); omega
        | ⟨1, _⟩ => show n.val = 2 + (n.val - 2) % 4096 * (0 + 1); omega
        | ⟨2, _⟩ => show f.val = 0 + f.val * (0 + 1); omega)
    rw [e, v23_apply]

/-- The convolved gate. -/
theorem v45_apply (b : Fin 8) (t : Fin 4096) (f : Fin 2816) :
    val_main_v45 (F := Ideal) a.x a.hm a.hs a.h5 a.wo a.g a.wu a.cw (ix3 b t f) = a.conv b t f := by
  have ht := t.isLt
  have k0 : idx_main_v26 (idx_main_v27 (idx_main_v29 (idx_main_v30 (ix3 b t f)))) = ix2 (0 : Fin 3) f := by
    funext d; match d with | ⟨0, _⟩ => rfl | ⟨1, _⟩ => exact Fin.ext (Nat.mod_eq_of_lt f.isLt)
  have k1 : idx_main_v32 (idx_main_v33 (idx_main_v35 (idx_main_v36 (ix3 b t f)))) = ix2 (1 : Fin 3) f := by
    funext d; match d with | ⟨0, _⟩ => rfl | ⟨1, _⟩ => exact Fin.ext (Nat.mod_eq_of_lt f.isLt)
  have k2 : idx_main_v39 (idx_main_v40 (idx_main_v42 (idx_main_v43 (ix3 b t f)))) = ix2 (2 : Fin 3) f := by
    funext d; match d with | ⟨0, _⟩ => rfl | ⟨1, _⟩ => exact Fin.ext (Nat.mod_eq_of_lt f.isLt)
  have g0 : idx_main_v28 (ix3 b t f) = ix3 b (⟨t.val, by omega⟩ : Fin 4098) f := by funext d; match d with | ⟨0, _⟩ => rfl | ⟨1, _⟩ => rfl | ⟨2, _⟩ => rfl
  have g1 : idx_main_v34 (ix3 b t f) = ix3 b (⟨t.val + 1, by omega⟩ : Fin 4098) f := by funext d; match d with | ⟨0, _⟩ => rfl | ⟨1, _⟩ => exact Fin.ext (Nat.add_comm _ _) | ⟨2, _⟩ => rfl
  have g2 : idx_main_v41 (ix3 b t f) = ix3 b (⟨t.val + 2, by omega⟩ : Fin 4098) f := by funext d; match d with | ⟨0, _⟩ => rfl | ⟨1, _⟩ => exact Fin.ext (Nat.add_comm _ _) | ⟨2, _⟩ => rfl
  rw [val_main_v45_apply, val_main_v38_apply, val_main_v31_apply, val_main_v30_apply, val_main_v29_apply, val_main_v27_apply,
    val_main_v26_apply, k0, val_main_v28_apply, g0, v25_apply, val_main_v37_apply, val_main_v36_apply, val_main_v35_apply,
    val_main_v33_apply, val_main_v32_apply, k1, val_main_v34_apply, g1, v25_apply, val_main_v44_apply, val_main_v43_apply,
    val_main_v42_apply, val_main_v40_apply, val_main_v39_apply, k2, val_main_v41_apply, g2, v25_apply]
  rfl

/-- The gated activation. -/
theorem v47_apply (b : Fin 8) (t : Fin 4096) (f : Fin 2816) :
    val_main_v47 (F := Ideal) a.x a.hm a.hs a.h5 a.wo a.g a.wu a.cw (ix3 b t f) = gated (a.conv b t f) (a.val b t f) := by
  have h1 : ∀ i, (val_main_call1_cst (F := Ideal) i : EReal) = 1 := fun _ => Ideal.ofBits_one_f32
  have h2 : ∀ i, (val_main_call1_cst_0 (F := Ideal) i : EReal) = 1 := fun _ => Ideal.ofBits_one_f32
  rw [val_main_v47_apply, v24_apply, val_main_v46_apply, val_main_call1_v5_apply, val_main_call1_v4_apply, h2, val_main_call1_v3_apply,
    val_main_call1_v2_apply, h1, val_main_call1_v1_apply, val_main_call1_v0_apply, v45_apply]
  rfl

/-- The reference's result. -/
theorem v49_apply (b : Fin 8) (t : Fin 4096) (j : Fin 1024) :
    val_main_v49 (F := Ideal) a.x a.hm a.hs a.h5 a.wo a.g a.wu a.cw a.wd (ix3 b t j) = a.layer b t j := by
  rw [val_main_v49_apply, v8_apply, val_main_v48_apply]
  unfold Args.layer
  refine congrArg (fun y : EReal => a.res b t j + y) (Finset.sum_congr rfl fun f _ => ?_)
  have e0 : lidx_main_v48 (ix3 b t j) f = ix3 b t f := by funext d; match d with | ⟨0, _⟩ => rfl | ⟨1, _⟩ => rfl | ⟨2, _⟩ => rfl
  have e1 : ridx_main_v48 (ix3 b t j) f = ix2 f j := by funext d; match d with | ⟨0, _⟩ => rfl | ⟨1, _⟩ => rfl
  rw [e0, e1, v47_apply]

end Cert.ReferenceFfnIdeal.Hand

end
-- ==== Proof.FfnClaim.lean ====
/-
  The output-projection-and-MLP call's value claim: the kernel's result array is its reference's.
-/
module

public import proofs.«01_k».proof.Defs
public import proofs.«01_k».proof.Proof.FfnArray
public import proofs.«01_k».proof.Proof.FfnRef
public import proofs.«01_k».proof.Proof.Gen.ReferenceFfnIdeal.Run

@[expose] public section

noncomputable section

namespace Cert.FfnClaim

open Idealize.ShloMosaic Idealize.ShloMosaic.TcCoe Idealize.SL.Sem
open Cert.FfnMath

/-- Kernel and reference end with equal results, whatever the arguments. -/
theorem algebraic : @Cert.algebraic_KernelFfnIdeal_ReferenceFfnIdeal Cert.KernelFfnIdeal.Gen.facts Cert.ReferenceFfnIdeal.Gen.facts := by
  intro m ρ m' ρ' _ hag
  refine ⟨fun c => (Cert.KernelFfnIdeal.Gen.dats m 0 c).arrAt 12 Cert.KernelFfnIdeal.cfg0.N, Cert.KernelFfnIdeal.Value.run_blocks m ρ,
    (θ_run Cert.ReferenceFfnIdeal.defs _ _).mono (fun r h c => ⟨(h c).1.trans ?_, (h c).2⟩) (Cert.ReferenceFfnIdeal.Value.run (F := Ideal) m' ρ')⟩
  refine Eq.trans ?_ (Cert.KernelFfnIdeal.Hand.arrAt_layer m c).symm
  rw [Cert.ReferenceFfnIdeal.Read.val_main_v49_eq, (hag c).1, (hag c).2.1, (hag c).2.2.1, (hag c).2.2.2.1, (hag c).2.2.2.2.1,
    (hag c).2.2.2.2.2.1, (hag c).2.2.2.2.2.2.1, (hag c).2.2.2.2.2.2.2.1, (hag c).2.2.2.2.2.2.2.2]
  funext y
  obtain ⟨b, t, x, rfl⟩ : ∃ (b : Fin 8) (t : Fin 4096) (x : Fin 1024), y = ix3 b t x := ⟨y 0, y 1, y 2, by
    funext a
    match a with
    | 0 => rfl
    | 1 => rfl
    | 2 => rfl⟩
  exact Cert.ReferenceFfnIdeal.Hand.v49_apply (Cert.KernelFfnIdeal.Hand.argsOf m c) b t x

end Cert.FfnClaim

end
-- ==== Proof.InSpec.lean ====
/-
  The input projection of a layer as functions of the call's five argument arrays: the normalized rows times the
  projection, its columns sorted into the eleven results, and the per-head norms of two of them.
-/
module

public import proofs.«01_k».proof.Proof.FfnSpec

@[expose] public section

noncomputable section

namespace Cert.InMath

open Idealize.ShloMosaic Cert.FfnMath

/-- The call's arguments: the residual stream, the norm's gain, the projection, and the gains of the per-head norms of the
    queries and of the keys. -/
structure Args where
  x : (⟨3, ![8, 4096, 1024]⟩ : Shape).Idx → EReal
  g : (⟨1, ![1024]⟩ : Shape).Idx → EReal
  w : (⟨2, ![1024, 2952]⟩ : Shape).Idx → EReal
  qg : (⟨1, ![64]⟩ : Shape).Idx → EReal
  kg : (⟨1, ![64]⟩ : Shape).Idx → EReal

/-- Column `n` of the projection, counted modulo 2952. -/
def col (n : ℕ) : Fin 2952 := ⟨n % 2952, Nat.mod_lt _ (by decide)⟩

/-- Channel `n` of a head, counted modulo 64. -/
def ch (n : ℕ) : Fin 64 := ⟨n % 64, Nat.mod_lt _ (by decide)⟩

/-- A value divided by the root mean square of a head's 64 values, given their sum of squares. -/
def scaled (z s : EReal) : EReal := z * Ideal.rsqrt (s * Ideal.ofBits FTy.f32 0x3C800000#32 + Ideal.ofBits FTy.f32 0x358637BD#32)

/-- Division by 64 is the product with the word of 1/64. -/
theorem div_head (x : EReal) : Ideal.div x (Ideal.ofBits FTy.f32 0x42800000#32) = x * Ideal.ofBits FTy.f32 0x3C800000#32 := by
  have h1 : Ideal.ofBits FTy.f32 0x42800000#32 = ((64 : ℝ) : EReal) := by
    simp [Ideal.ofBits, Ideal.ieee, -EReal.coe_mul]; norm_num
  have h2 : Ideal.ofBits FTy.f32 0x3C800000#32 = (((64 : ℝ)⁻¹ : ℝ) : EReal) := by
    simp [Ideal.ofBits, Ideal.ieee, -EReal.coe_mul]; norm_num
  rw [h1, h2, EReal.coe_inv]
  unfold Ideal.div
  rw [if_neg (by norm_num)]

namespace Args

variable (a : Args)

/-- The normalized row of a position. -/
def row (b : Fin 8) (t : Fin 4096) (k : Fin 1024) : EReal := normed (fun k => a.x (ix3 b t k)) (fun k => a.g (ix1 k)) k

/-- The projection of a position, at a column. -/
def z (b : Fin 8) (t : Fin 4096) (n : ℕ) : EReal := ∑ k : Fin 1024, a.row b t k * a.w (ix2 k (col n))

/-- The columns of the projection from column `o` on. -/
def cols (o : ℕ) (b : Fin 8) (t : Fin 4096) (j : ℕ) : EReal := a.z b t (o + j)

/-- Heads of 96 columns from column `o` on, each in 128 lanes. -/
def lanes (o : ℕ) (b : Fin 8) (t : Fin 4096) (p : ℕ) : EReal := if p % 128 < 96 then a.z b t (o + (96 * (p / 128) + p % 128)) else 0

/-- The sum of squares of the head of column `o + j`, of the heads of 64 columns from column `o` on. -/
def headSq (o : ℕ) (b : Fin 8) (t : Fin 4096) (j : ℕ) : EReal :=
  ∑ i : Fin 64, a.z b t (o + (64 * (j / 64) + i.val)) * a.z b t (o + (64 * (j / 64) + i.val))

/-- The normalized and scaled queries. -/
def sq (b : Fin 8) (t : Fin 4096) (j : ℕ) : EReal :=
  scaled (a.z b t (1544 + j)) (a.headSq 1544 b t j) * a.qg (ix1 (ch j)) * Ideal.ofBits FTy.f32 0x3E000000#32

/-- The normalized keys. -/
def sk (b : Fin 8) (t : Fin 4096) (j : ℕ) : EReal := scaled (a.z b t (1928 + j)) (a.headSq 1928 b t j) * a.kg (ix1 (ch j))

/-- The gates with their two halves exchanged. -/
def swapped (b : Fin 8) (t : Fin 4096) (r : ℕ) : EReal := a.z b t (1536 + (r + 4) % 8)

/-- The projection's columns as the kernel lays them out: padded heads first, then the unpadded columns, then the gates
    and the exchanged gates, each padded to 128 columns. -/
def wide (f : ℕ → EReal) (n : ℕ) : EReal :=
  if n < 2048 then if n % 128 < 96 then f (96 * (n / 128) + n % 128) else 0
  else if n < 3456 then f (n - 504)
  else if n < 3584 then if n - 3456 < 8 then f (n - 1920) else 0
  else if n - 3584 < 8 then f (1536 + (n - 3584 + 4) % 8) else 0

/-- A row's product with the wide projection is the wide layout of its product with the projection. -/
theorem sum_wide (b : Fin 8) (t : Fin 4096) (n : ℕ) :
    ∑ k : Fin 1024, a.row b t k * wide (fun n => a.w (ix2 k (col n))) n = wide (a.z b t) n := by
  unfold wide
  split
  · split
    · rfl
    · simp
  · split
    · rfl
    · split
      · split
        · rfl
        · simp
      · split
        · rfl
        · simp

theorem wide_lanes (b : Fin 8) (t : Fin 4096) (o p n : ℕ) (hn : n = 128 * o + p) (h : n < 2048) : wide (a.z b t) n = a.lanes (96 * o) b t p := by
  subst hn
  unfold wide lanes
  rw [if_pos h, show (128 * o + p) % 128 = p % 128 by omega, show 96 * ((128 * o + p) / 128) + p % 128 = 96 * o + (96 * (p / 128) + p % 128) by omega]

theorem wide_mid (f : ℕ → EReal) (n : ℕ) (h1 : 1544 ≤ n) (h2 : n < 2952) : wide f (n + 504) = f n := by
  unfold wide
  rw [if_neg (by omega), if_pos (by omega), Nat.add_sub_cancel]

theorem wide_gate (f : ℕ → EReal) (r : ℕ) (h : r < 8) : wide f (3456 + r) = f (1536 + r) := by
  unfold wide
  rw [if_neg (by omega), if_neg (by omega), if_pos (by omega), if_pos (by omega), show 3456 + r - 1920 = 1536 + r by omega]

theorem wide_swapped (f : ℕ → EReal) (r : ℕ) (h : r < 8) : wide f (3584 + r) = f (1536 + (r + 4) % 8) := by
  unfold wide
  rw [if_neg (by omega), if_neg (by omega), if_neg (by omega), if_pos (by omega), show 3584 + r - 3584 = r by omega]

end Args

/-- A sum over 384 columns of which only one head's 64 count. -/
theorem sum_head (f : ℕ → EReal) (j : ℕ) (hj : j < 384) :
    ∑ i : Fin 384, f i.val * (if i.val / 64 = j / 64 then (1 : EReal) else 0) = ∑ i : Fin 64, f (64 * (j / 64) + i.val) := by
  simp only [mul_ite, mul_one, mul_zero]
  rw [← Finset.sum_filter]
  refine Finset.sum_nbij' (fun i => ch i.val) (fun i => (⟨64 * (j / 64) + i.val, by have := i.isLt; omega⟩ : Fin 384)) ?_ ?_ ?_ ?_ ?_
  · intro i _; exact Finset.mem_univ _
  · intro i _
    have := i.isLt
    rw [Finset.mem_filter]
    exact ⟨Finset.mem_univ _, by show (64 * (j / 64) + i.val) / 64 = j / 64; omega⟩
  · intro i hi
    rw [Finset.mem_filter] at hi
    have := hi.2
    exact Fin.ext (by show 64 * (j / 64) + i.val % 64 = i.val; omega)
  · intro i _
    have := i.isLt
    exact Fin.ext (by show (64 * (j / 64) + i.val) % 64 = i.val; omega)
  · intro i hi
    rw [Finset.mem_filter] at hi
    have := hi.2
    show f i.val = f (64 * (j / 64) + i.val % 64)
    congr 1
    omega

end Cert.InMath

end
-- ==== Proof.InPay.lean ====
/-
  One grid point of the input-projection kernel, as functions of the point's operand blocks: what each of the eleven
  output blocks holds at an index.
-/
module

public import proofs.«01_k».proof.Proof.InSpec
public import proofs.«01_k».proof.Proof.Gen.KernelInIdeal.Frame
public import Idealize.ShloMosaic.Lib.Pipeline.ValueKit
public import Idealize.ShloMosaic.Lib.Tactic
public import Idealize.ShloMosaic.Lib.Pointwise

@[expose] public section

set_option maxRecDepth 16384

noncomputable section

namespace Cert.KernelInIdeal.Hand

open Cert.KernelInIdeal Cert.KernelInIdeal.Gen Cert.InMath Cert.FfnMath
open Idealize.ShloMosaic Idealize.ShloMosaic.TcCoe Idealize.SL.Sem

/-! ## The blocks of a grid point, and what the point computes of them -/

/-- The operand blocks of one grid point: rows, gain, wide projection, the matrix of equal heads, the queries' gain and
    the keys' gain. -/
structure Blk where
  x0 : Vec Ideal S1x512x1024 .f32
  x1 : Vec Ideal S1x1024 .f32
  x2 : Vec Ideal S1024x3712 .bf16
  x3 : Vec Ideal S384x384 .bf16
  x4 : Vec Ideal S1x384 .f32
  x5 : Vec Ideal S1x384 .f32

namespace Blk

variable (b : Blk)

/-- The normalized row. -/
def nrm (r : Fin 512) (k : Fin 1024) : EReal := normed (fun k => b.x0 (ix3 0 r k)) (fun k => b.x1 (ix2 0 k)) k

/-- The projection, at a column of the wide layout. -/
def proj (r : Fin 512) (n : Fin 3712) : EReal := ∑ k : Fin 1024, b.nrm r k * b.x2 (ix2 k n)

/-- The head norm of a column of those from column `o` on. -/
def head (o : ℕ) (ho : o + 384 ≤ 3712) (gain : Vec Ideal S1x384 .f32) (r : Fin 512) (j : Fin 384) : EReal :=
  scaled (b.proj r ⟨o + j.val, by have := j.isLt; omega⟩)
    (∑ i : Fin 384, b.proj r ⟨o + i.val, by have := i.isLt; omega⟩ * b.proj r ⟨o + i.val, by have := i.isLt; omega⟩ * b.x3 (ix2 i j))
    * gain (ix2 0 j)

end Blk

variable (b : Blk)

/-! ## The loads -/

theorem ld_x0 : View.ld b.x0 r0_0 = b.x0 := View.ld_unit_lit' _ _ (by decide)
theorem ld_x1 : View.ld b.x1 r0_1 = b.x1 := View.ld_unit_lit' _ _ (by decide)
theorem ld_x3 : View.ld b.x3 r0_8 = b.x3 := View.ld_unit_lit' _ _ (by decide)
theorem ld_gain (x : Vec Ideal S1x384 .f32) : View.ld x r0_7 = x := View.ld_unit_lit' _ _ (by decide)

/-- A load of columns of the wide projection. -/
theorem ld_w (X : Vec Ideal S1024x3712 .bf16) (o n : ℕ) (inb) (k : Fin 1024) (j : Fin n) (h : o + j.val < 3712) :
    View.ld X (Rect.unit (s := S1024x3712) ![0, o] (⟨2, ![1024, n]⟩ : Shape).size inb) (ix2 k j) = X (ix2 k ⟨o + j.val, h⟩) :=
  View.ld_unit_apply_of X ![0, o] _ inb (ix2 k j) (ix2 k ⟨o + j.val, h⟩) (fun a => by match a with | 0 => exact (Nat.zero_add _).symm | 1 => rfl)

/-! ## The stored values -/

/-- The normalized rows. -/
theorem pay5_apply (x0 : Vec Ideal S1x512x1024 .f32) (x1 : Vec Ideal S1x1024 .f32) (r : Fin 512) (k : Fin 1024) :
    k0_pay5 (F := Ideal) x0 x1 (ix2 r k) = normed (fun k => x0 (ix3 0 r k)) (fun k => x1 (ix2 0 k)) k := by
  have h : k0_pay5 (F := Ideal) x0 x1 (ix2 r k) = (x0 (ix3 0 r k) : EReal)
      * Ideal.rsqrt (Ideal.div (∑ k : Fin 1024, (x0 (ix3 0 r k) : EReal) * x0 (ix3 0 r k)) (Ideal.ofBits FTy.f32 0x44800000#32) + Ideal.ofBits FTy.f32 0x358637BD#32)
      * x1 (ix2 0 k) := by
    pointwise [k0_pay5]
  exact h

theorem v16_apply (r : Fin 512) (k : Fin 1024) : k0_pay21 (F := Ideal) b.x0 b.x1 b.x2 b.x3 b.x4 b.x5 (ix2 r k) = b.nrm r k := by
  unfold k0_pay21
  rw [ld_x0, ld_x1]
  exact pay5_apply b.x0 b.x1 r k

theorem pay6_apply (x0 : Vec Ideal S1x512x1024 .f32) (x1 : Vec Ideal S1x1024 .f32) (w : Vec Ideal S1024x1024 .bf16) (r : Fin 512) (j : Fin 1024) :
    k0_pay6 (F := Ideal) x0 x1 w (ix3 0 r j) = ∑ k : Fin 1024, (k0_pay5 (F := Ideal) x0 x1 (ix2 r k) : EReal) * w (ix2 k j) := by
  pointwise [k0_pay6]

theorem pay7_apply (x0 : Vec Ideal S1x512x1024 .f32) (x1 : Vec Ideal S1x1024 .f32) (w : Vec Ideal S1024x512 .bf16) (r : Fin 512) (j : Fin 512) :
    k0_pay7 (F := Ideal) x0 x1 w (ix3 0 r j) = ∑ k : Fin 1024, (k0_pay5 (F := Ideal) x0 x1 (ix2 r k) : EReal) * w (ix2 k j) := by
  pointwise [k0_pay7]

theorem pay9_apply (x0 : Vec Ideal S1x512x1024 .f32) (x1 : Vec Ideal S1x1024 .f32) (w : Vec Ideal S1024x512 .bf16) (r : Fin 512) (j : Fin 512) :
    k0_pay9 (F := Ideal) (k0_pay8 x0 x1 w) (ix3 0 r j) = ∑ k : Fin 1024, (k0_pay5 (F := Ideal) x0 x1 (ix2 r k) : EReal) * w (ix2 k j) := by
  pointwise [k0_pay9, k0_pay8]

theorem pay11_apply (h : FVec Ideal S512x1024 .bf16) (w : Vec Ideal S1024x384 .bf16) (r : Fin 512) (j : Fin 384) :
    k0_pay11 (F := Ideal) h w (ix2 r j) = ∑ k : Fin 1024, (h (ix2 r k) : EReal) * w (ix2 k j) := by
  pointwise [k0_pay11]

theorem pay16_apply (h : FVec Ideal S512x1024 .bf16) (w : Vec Ideal S1024x384 .bf16) (r : Fin 512) (j : Fin 384) :
    k0_pay16 (F := Ideal) h w (ix3 0 r j) = ∑ k : Fin 1024, (h (ix2 r k) : EReal) * w (ix2 k j) := by
  pointwise [k0_pay16]

theorem pay17_apply (h : FVec Ideal S512x1024 .bf16) (w : Vec Ideal S1024x256 .bf16) (r : Fin 512) (j : Fin 256) :
    k0_pay17 (F := Ideal) h w (ix3 0 r j) = ∑ k : Fin 1024, (h (ix2 r k) : EReal) * w (ix2 k j) := by
  pointwise [k0_pay17]

theorem pay18_apply (h : FVec Ideal S512x1024 .bf16) (w : Vec Ideal S1024x128 .bf16) (r : Fin 512) (j : Fin 128) :
    k0_pay18 (F := Ideal) h w (ix2 r j) = ∑ k : Fin 1024, (h (ix2 r k) : EReal) * w (ix2 k j) := by
  pointwise [k0_pay18]

theorem pay19_apply (h : FVec Ideal S512x1024 .bf16) (w : Vec Ideal S1024x128 .bf16) (r : Fin 512) (j : Fin 128) :
    k0_pay19 (F := Ideal) h w (ix2 r j) = ∑ k : Fin 1024, (h (ix2 r k) : EReal) * w (ix2 k j) := by
  pointwise [k0_pay19]

theorem pay1_apply (h : FVec Ideal S512x1024 .bf16) (w : Vec Ideal S1024x128 .bf16) (r : Fin 512) (j : Fin 8) :
    k0_pay1 (F := Ideal) (k0_pay20 h w) (ix3 0 r j) = k0_pay18 (F := Ideal) h w (ix2 r ⟨j.val, by have := j.isLt; omega⟩) := by
  pointwise [k0_pay1, k0_pay20]

theorem pay2_apply (v : FVec Ideal S512x128 .f32) (r : Fin 512) (j : Fin 8) :
    k0_pay2 (F := Ideal) v (ix3 0 r j) = v (ix2 r ⟨j.val, by have := j.isLt; omega⟩) := by
  pointwise [k0_pay2]

theorem pay3_apply (v : FVec Ideal S512x128 .f32) (r : Fin 512) (j : Fin 8) :
    k0_pay3 (F := Ideal) v (ix3 0 j r) = v (ix2 r ⟨j.val, by have := j.isLt; omega⟩) := by
  pointwise [k0_pay3]

theorem pay4_apply (v : FVec Ideal S512x128 .f32) (r : Fin 512) (j : Fin 8) :
    k0_pay4 (F := Ideal) v (ix3 0 j r) = v (ix2 r ⟨j.val, by have := j.isLt; omega⟩) := by
  pointwise [k0_pay4]

/-- A head norm, of a product of rows and columns. -/
theorem pay15_apply (p : FVec Ideal S512x384 .f32) (q : FVec Ideal S512x384 .bf16) (g : Vec Ideal S1x384 .f32) (s : Vec Ideal S384x384 .bf16) (r : Fin 512) (j : Fin 384) :
    k0_pay15 (F := Ideal) p (k0_pay12 g) q (k0_pay14 s) (ix3 0 r j)
      = (p (ix2 r j) : EReal) * Ideal.rsqrt ((∑ i : Fin 384, (q (ix2 r i) : EReal) * s (ix2 i j)) * Ideal.ofBits FTy.f32 0x3C800000#32
        + Ideal.ofBits FTy.f32 0x358637BD#32) * g (ix2 0 j) := by
  pointwise [k0_pay15, k0_pay12, k0_pay14]

theorem pay13_apply (h : FVec Ideal S512x1024 .bf16) (w : Vec Ideal S1024x384 .bf16) (r : Fin 512) (j : Fin 384) :
    k0_pay13 (F := Ideal) h w (ix2 r j) = (k0_pay11 (F := Ideal) h w (ix2 r j) : EReal) * k0_pay11 (F := Ideal) h w (ix2 r j) := by
  pointwise [k0_pay13]

theorem pay10_eq (h : FVec Ideal S512x1024 .bf16) (w : Vec Ideal S1024x384 .bf16) (g : Vec Ideal S1x384 .f32) (s : Vec Ideal S384x384 .bf16) :
    k0_pay10 (F := Ideal) h w g s = k0_pay15 (k0_pay11 h w) (k0_pay12 g) (k0_pay13 h w) (k0_pay14 s) := rfl

/-- A product of the normalized rows with columns of the wide projection. -/
theorem sum_nrm (o n : ℕ) (inb) (r : Fin 512) (j : Fin n) (h : o + j.val < 3712) :
    ∑ k : Fin 1024, (k0_pay21 (F := Ideal) b.x0 b.x1 b.x2 b.x3 b.x4 b.x5 (ix2 r k) : EReal)
        * View.ld b.x2 (Rect.unit (s := S1024x3712) ![0, o] (⟨2, ![1024, n]⟩ : Shape).size inb) (ix2 k j)
      = b.proj r ⟨o + j.val, h⟩ :=
  Finset.sum_congr rfl fun k _ => by rw [v16_apply, ld_w b.x2 o n inb k j h]

theorem sum_nrm' (o n : ℕ) (inb) (r : Fin 512) (j : Fin n) (h : o + j.val < 3712) :
    ∑ k : Fin 1024, (k0_pay5 (F := Ideal) (View.ld b.x0 r0_0) (View.ld b.x1 r0_1) (ix2 r k) : EReal)
        * View.ld b.x2 (Rect.unit (s := S1024x3712) ![0, o] (⟨2, ![1024, n]⟩ : Shape).size inb) (ix2 k j)
      = b.proj r ⟨o + j.val, h⟩ := sum_nrm b o n inb r j h

/-! ## The output blocks -/

theorem out6_apply (r : Fin 512) (j : Fin 1024) : out0_6 (F := Ideal) b.x0 b.x1 b.x2 b.x3 b.x4 b.x5 (ix3 0 r j) = b.proj r ⟨0 + j.val, by have := j.isLt; omega⟩ := by
  unfold out0_6
  rw [View.canon_cons_unit_lit' _ _ _ (by decide), pay6_apply]
  exact sum_nrm' b 0 1024 _ r j _

theorem out7_apply (r : Fin 512) (j : Fin 512) : out0_7 (F := Ideal) b.x0 b.x1 b.x2 b.x3 b.x4 b.x5 (ix3 0 r j) = b.proj r ⟨1024 + j.val, by have := j.isLt; omega⟩ := by
  unfold out0_7
  rw [View.canon_cons_unit_lit' _ _ _ (by decide), pay7_apply]
  exact sum_nrm' b 1024 512 _ r j _

theorem out8_apply (r : Fin 512) (j : Fin 512) : out0_8 (F := Ideal) b.x0 b.x1 b.x2 b.x3 b.x4 b.x5 (ix3 0 r j) = b.proj r ⟨1536 + j.val, by have := j.isLt; omega⟩ := by
  unfold out0_8
  rw [View.canon_cons_unit_lit' _ _ _ (by decide), pay9_apply]
  exact sum_nrm' b 1536 512 _ r j _

theorem out9_apply (r : Fin 512) (j : Fin 384) : out0_9 (F := Ideal) b.x0 b.x1 b.x2 b.x3 b.x4 b.x5 (ix3 0 r j) = b.head 2048 (by decide) b.x4 r j := by
  unfold out0_9
  rw [View.canon_cons_unit_lit' _ _ _ (by decide), ld_x3, ld_gain, pay10_eq, pay15_apply]
  have e : ∀ i : Fin 384, k0_pay11 (F := Ideal) (k0_pay21 b.x0 b.x1 b.x2 b.x3 b.x4 b.x5) (View.ld b.x2 r0_6) (ix2 r i) = b.proj r ⟨2048 + i.val, by have := i.isLt; omega⟩ :=
    fun i => (pay11_apply _ _ r i).trans (sum_nrm b 2048 384 _ r i _)
  simp only [pay13_apply, e]
  rfl

theorem out10_apply (r : Fin 512) (j : Fin 384) : out0_10 (F := Ideal) b.x0 b.x1 b.x2 b.x3 b.x4 b.x5 (ix3 0 r j) = b.head 2432 (by decide) b.x5 r j := by
  unfold out0_10
  rw [View.canon_cons_unit_lit' _ _ _ (by decide), ld_x3, ld_gain, pay15_apply]
  have e : ∀ i : Fin 384, k0_pay11 (F := Ideal) (k0_pay21 b.x0 b.x1 b.x2 b.x3 b.x4 b.x5) (View.ld b.x2 r0_10) (ix2 r i) = b.proj r ⟨2432 + i.val, by have := i.isLt; omega⟩ :=
    fun i => (pay11_apply _ _ r i).trans (sum_nrm b 2432 384 _ r i _)
  simp only [pay13_apply, e]
  rfl

theorem out11_apply (r : Fin 512) (j : Fin 384) : out0_11 (F := Ideal) b.x0 b.x1 b.x2 b.x3 b.x4 b.x5 (ix3 0 r j) = b.proj r ⟨2816 + j.val, by have := j.isLt; omega⟩ := by
  unfold out0_11
  rw [View.canon_cons_unit_lit' _ _ _ (by decide), pay16_apply]
  exact sum_nrm b 2816 384 _ r j _

theorem out12_apply (r : Fin 512) (j : Fin 256) : out0_12 (F := Ideal) b.x0 b.x1 b.x2 b.x3 b.x4 b.x5 (ix3 0 r j) = b.proj r ⟨3200 + j.val, by have := j.isLt; omega⟩ := by
  unfold out0_12
  rw [View.canon_cons_unit_lit' _ _ _ (by decide), pay17_apply]
  exact sum_nrm b 3200 256 _ r j _

theorem out13_apply (r : Fin 512) (j : Fin 8) : out0_13 (F := Ideal) b.x0 b.x1 b.x2 b.x3 b.x4 b.x5 (ix3 0 j r) = b.proj r ⟨3456 + j.val, by have := j.isLt; omega⟩ := by
  unfold out0_13
  rw [View.canon_cons_unit_lit' _ _ _ (by decide), pay3_apply, pay18_apply]
  exact sum_nrm b 3456 128 _ r ⟨j.val, by have := j.isLt; omega⟩ _

theorem out14_apply (r : Fin 512) (j : Fin 8) : out0_14 (F := Ideal) b.x0 b.x1 b.x2 b.x3 b.x4 b.x5 (ix3 0 j r) = b.proj r ⟨3584 + j.val, by have := j.isLt; omega⟩ := by
  unfold out0_14 k0_pay22
  rw [View.canon_cons_unit_lit' _ _ _ (by decide), pay4_apply, pay19_apply]
  exact sum_nrm b 3584 128 _ r ⟨j.val, by have := j.isLt; omega⟩ _

theorem out15_apply (r : Fin 512) (j : Fin 8) : out0_15 (F := Ideal) b.x0 b.x1 b.x2 b.x3 b.x4 b.x5 (ix3 0 r j) = b.proj r ⟨3456 + j.val, by have := j.isLt; omega⟩ := by
  unfold out0_15
  rw [View.canon_cons_unit_lit' _ _ _ (by decide), pay1_apply, pay18_apply]
  exact sum_nrm b 3456 128 _ r ⟨j.val, by have := j.isLt; omega⟩ _

theorem out16_apply (r : Fin 512) (j : Fin 8) : out0_16 (F := Ideal) b.x0 b.x1 b.x2 b.x3 b.x4 b.x5 (ix3 0 r j) = b.proj r ⟨3584 + j.val, by have := j.isLt; omega⟩ := by
  unfold out0_16 k0_pay22
  rw [View.canon_cons_unit_lit' _ _ _ (by decide), pay2_apply, pay19_apply]
  exact sum_nrm b 3584 128 _ r ⟨j.val, by have := j.isLt; omega⟩ _

end Cert.KernelInIdeal.Hand

end
-- ==== Proof.InHost.lean ====
/-
  What the input-projection call's host code hands its kernel: the columns of the projection in the wide layout, the
  matrix telling which columns are of one head, and the gains as rows.
-/
module

public import proofs.«01_k».proof.Proof.InSpec
public import proofs.«01_k».proof.Proof.Gen.KernelInIdeal.Frame
public import Idealize.ShloMosaic.Lib.Pipeline.ValueKit
public import Idealize.ShloMosaic.Lib.Pipeline.Value
public import Idealize.ShloMosaic.Lib.KernelVsHost
public import Idealize.ShloMosaic.Lib.Tactic
public import Idealize.ShloMosaic.Lib.Pointwise

@[expose] public section

set_option maxRecDepth 16384

noncomputable section

namespace Cert.KernelInIdeal.Hand

open Cert.KernelInIdeal Cert.KernelInIdeal.Gen Cert.InMath
open Idealize.ShloMosaic Idealize.ShloMosaic.TcCoe Idealize.SL.Sem

variable (m : (ℓ : Loc nD τ sig) → Buf (Elt Ideal) ℓ) (c : Dev nD)

/-- The call's arguments. -/
def argsOf : Args where
  x := m ((c : Thread nD τ).loc main_arg0)
  g := m ((c : Thread nD τ).loc main_arg1)
  w := m ((c : Thread nD τ).loc main_arg2)
  qg := m ((c : Thread nD τ).loc main_arg3)
  kg := m ((c : Thread nD τ).loc main_arg4)

/-! ## The wide projection -/

section Wide

variable (w : S1024x2952.Idx → EReal)

/-- Columns of the projection. -/
def cut (o n : ℕ) (h : S1024x2952.Slices ![0, o] ⟨2, ![1024, n]⟩) : (⟨2, ![1024, n]⟩ : Shape).Idx → EReal := extractStridedSlice ⟨2, ![1024, n]⟩ ![0, o] w h

theorem cut_apply (o n : ℕ) (h) (k : Fin 1024) (j : Fin n) (hj : o + j.val < 2952) : cut w o n h (ix2 k j) = w (ix2 k (col (o + j.val))) := by
  show w _ = w _
  congr 1
  funext d
  match d with
  | ⟨0, _⟩ => exact Fin.ext (by show 0 + k.val = k.val; omega)
  | ⟨1, _⟩ => exact Fin.ext (by show o + j.val = (o + j.val) % 2952; omega)

/-- The zero the padding is made of. -/
def zero : S_.Idx → EReal := sitofp (F := Ideal) .f32 (constantI S_ 32 0#32)

theorem zero_apply (i : S_.Idx) : zero i = 0 := by
  show ((((0#32 : BitVec 32).toInt : ℤ) : ℝ) : EReal) = 0
  simp

/-- Four heads of 96 columns, each padded to 128. -/
def heads (u : S1024x384.Idx → EReal) : S1024x512.Idx → EReal :=
  shapeCast S1024x512 (pad S1024x4x128 ![0, 0, 0] ![0, 0, 32] ![0, 0, 0] (shapeCast S1024x4x96 u shapeCasts_S1024x384_S1024x4x96) zero
    pads_S1024x4x96_S1024x4x128_000_000_0320 h_S_) shapeCasts_S1024x4x128_S1024x512

theorem heads_apply (u : S1024x384.Idx → EReal) (k : Fin 1024) (j : Fin 512) (o : ℕ) (f : ℕ → EReal) (hu : ∀ i : Fin 384, u (ix2 k i) = f (o + i.val)) :
    heads u (ix2 k j) = if j.val % 128 < 96 then f (o + (96 * (j.val / 128) + j.val % 128)) else 0 := by
  have hk := k.isLt
  have hj := j.isLt
  unfold heads
  refine (shapeCast_apply (s := S1024x4x128) (t := S1024x512) _ _ (ix2 k j) (ix3 k (⟨j.val / 128, by omega⟩ : Fin 4) (⟨j.val % 128, Nat.mod_lt _ (by decide)⟩ : Fin 128)) ?_).trans ?_
  · rw [Shape.rowMajor_val_three, Shape.rowMajor_val_two]
    show (k.val * 4 + j.val / 128) * 128 + j.val % 128 = k.val * 512 + j.val
    omega
  by_cases hp : j.val % 128 < 96
  · rw [if_pos hp]
    refine (pad_apply_of_inside (t := S1024x4x128) ![0, 0, 0] ![0, 0, 32] ![0, 0, 0] _ _ pads_S1024x4x96_S1024x4x128_000_000_0320 h_S_ _
      (ix3 k (⟨j.val / 128, by omega⟩ : Fin 4) (⟨j.val % 128, hp⟩ : Fin 96)) (fun d => by
        match d with
        | ⟨0, _⟩ => show k.val = 0 + k.val * (0 + 1); omega
        | ⟨1, _⟩ => show j.val / 128 = 0 + j.val / 128 * (0 + 1); omega
        | ⟨2, _⟩ => show j.val % 128 = 0 + j.val % 128 * (0 + 1); omega)).trans ?_
    refine (shapeCast_apply (s := S1024x384) (t := S1024x4x96) _ _ _ (ix2 k (⟨96 * (j.val / 128) + j.val % 128, by omega⟩ : Fin 384)) ?_).trans (hu _)
    rw [Shape.rowMajor_val_three, Shape.rowMajor_val_two]
    show k.val * 384 + (96 * (j.val / 128) + j.val % 128) = (k.val * 4 + j.val / 128) * 96 + j.val % 128
    omega
  · rw [if_neg hp]
    refine (pad_apply_of_not_inside (s := S1024x4x96) (t := S1024x4x128) ![0, 0, 0] ![0, 0, 32] ![0, 0, 0] _ _ pads_S1024x4x96_S1024x4x128_000_000_0320 h_S_ _ 2
      (fun hc => by
        have h2 : (j.val % 128 - 0) / (0 + 1) < 96 := hc.2.2
        omega)).trans (zero_apply _)

/-- Eight columns padded to 128. -/
def eight (u : S1024x8.Idx → EReal) : S1024x128.Idx → EReal :=
  pad S1024x128 ![0, 0] ![0, 120] ![0, 0] u zero pads_S1024x8_S1024x128_000_01200 h_S_

theorem eight_apply (u : S1024x8.Idx → EReal) (k : Fin 1024) (j : Fin 128) (f : ℕ → EReal) (hu : ∀ i : Fin 8, u (ix2 k i) = f i.val) :
    eight u (ix2 k j) = if j.val < 8 then f j.val else 0 := by
  unfold eight
  by_cases hp : j.val < 8
  · rw [if_pos hp]
    refine (pad_apply_of_inside (t := S1024x128) ![0, 0] ![0, 120] ![0, 0] _ _ pads_S1024x8_S1024x128_000_01200 h_S_ (ix2 k j)
      (ix2 k (⟨j.val, hp⟩ : Fin 8)) (fun d => by
        match d with
        | ⟨0, _⟩ => show k.val = 0 + k.val * (0 + 1); omega
        | ⟨1, _⟩ => show j.val = 0 + j.val * (0 + 1); omega)).trans (hu _)
  · rw [if_neg hp]
    refine (pad_apply_of_not_inside (s := S1024x8) (t := S1024x128) ![0, 0] ![0, 120] ![0, 0] _ _ pads_S1024x8_S1024x128_000_01200 h_S_ _ 1
      (fun hc => by
        have h2 : (j.val - 0) / (0 + 1) < 8 := hc.2.2
        omega)).trans (zero_apply _)

/-- The two halves of the gates' columns, the second first. -/
abbrev halves (u : S1024x8.Idx → EReal) : List ((s : Shape) × (s.Idx → EReal)) :=
  [⟨S1024x4, extractStridedSlice S1024x4 ![0, 4] u slices_S1024x8_S1024x4_0_4⟩, ⟨S1024x4, extractStridedSlice S1024x4 ![0, 0] u slices_S1024x8_S1024x4_0_0⟩]

/-- The gates' columns with their two halves exchanged. -/
def exchanged (u : S1024x8.Idx → EReal) : S1024x8.Idx → EReal :=
  concatenate S1024x8 1 (halves u) concatenates_S1024x4_S1024x4_S1024x8_d1

theorem exchanged_apply (u : S1024x8.Idx → EReal) (k : Fin 1024) (j : Fin 8) : exchanged u (ix2 k j) = u (ix2 k (⟨(j.val + 4) % 8, Nat.mod_lt _ (by decide)⟩ : Fin 8)) := by
  have hj := j.isLt
  unfold exchanged
  by_cases h : j.val < 4
  · refine (concatenate_apply_piece (t := S1024x8) 1 (halves u) concatenates_S1024x4_S1024x4_S1024x8_d1 (ix2 k j) 0 (by show 0 < 2; decide) S1024x4 _ rfl rfl 0 rfl
      (ix2 k (⟨j.val, h⟩ : Fin 4)) (fun d hd => ?_) (Nat.zero_add _)).trans ?_
    · match d with
      | ⟨0, _⟩ => rfl
      | ⟨1, _⟩ => exact absurd rfl hd
    · show u _ = u _
      congr 1
      funext d
      match d with
      | ⟨0, _⟩ => exact Fin.ext (by show 0 + k.val = k.val; omega)
      | ⟨1, _⟩ => exact Fin.ext (by show 4 + j.val = (j.val + 4) % 8; omega)
  · refine (concatenate_apply_piece (t := S1024x8) 1 (halves u) concatenates_S1024x4_S1024x4_S1024x8_d1 (ix2 k j) 1 (by show 1 < 2; decide) S1024x4 _ rfl rfl 4 rfl
      (ix2 k (⟨j.val - 4, by omega⟩ : Fin 4)) (fun d hd => ?_) (by show 4 + (j.val - 4) = j.val; omega)).trans ?_
    · match d with
      | ⟨0, _⟩ => rfl
      | ⟨1, _⟩ => exact absurd rfl hd
    · show u _ = u _
      congr 1
      funext d
      match d with
      | ⟨0, _⟩ => exact Fin.ext (by show 0 + k.val = k.val; omega)
      | ⟨1, _⟩ => exact Fin.ext (by show 0 + (j.val - 4) = (j.val + 4) % 8; omega)

/-- The pieces of the wide projection. -/
abbrev widePieces : List ((s : Shape) × (s.Idx → EReal)) :=
  [⟨S1024x512, heads (cut w 0 384 slices_S1024x2952_S1024x384_0_0)⟩, ⟨S1024x512, heads (cut w 384 384 slices_S1024x2952_S1024x384_0_384)⟩,
    ⟨S1024x512, heads (cut w 768 384 slices_S1024x2952_S1024x384_0_768)⟩, ⟨S1024x512, heads (cut w 1152 384 slices_S1024x2952_S1024x384_0_1152)⟩,
    ⟨S1024x384, cut w 1544 384 slices_S1024x2952_S1024x384_0_1544⟩, ⟨S1024x384, cut w 1928 384 slices_S1024x2952_S1024x384_0_1928⟩,
    ⟨S1024x384, cut w 2312 384 slices_S1024x2952_S1024x384_0_2312⟩, ⟨S1024x256, cut w 2696 256 slices_S1024x2952_S1024x256_0_2696⟩,
    ⟨S1024x128, eight (cut w 1536 8 slices_S1024x2952_S1024x8_0_1536)⟩, ⟨S1024x128, eight (exchanged (cut w 1536 8 slices_S1024x2952_S1024x8_0_1536))⟩]

/-- The wide projection. -/
def wideW : S1024x3712.Idx → EReal :=
  concatenate S1024x3712 1 (widePieces w)
    concatenates_S1024x512_S1024x512_S1024x512_S1024x512_S1024x384_S1024x384_S1024x384_S1024x256_S1024x128_S1024x128_S1024x3712_d1

/-- The wide projection in one of its pieces. -/
theorem wideW_piece (p : ℕ) (hp : p < 10) (n : ℕ) (x : (⟨2, ![1024, n]⟩ : Shape).Idx → EReal) (hx : (widePieces w)[p]'hp = ⟨⟨2, ![1024, n]⟩, x⟩) (pre : ℕ)
    (hpre : ((((widePieces w).take p).map (·.1)).map fun s => if h : s.rank = S1024x3712.rank then s.size ((1 : Fin S1024x3712.rank).cast h.symm) else 0).sum = pre)
    (k : Fin 1024) (j : Fin n) (i : Fin 3712) (h : pre + j.val = i.val) : wideW w (ix2 k i) = x (ix2 k j) := by
  unfold wideW
  refine concatenate_apply_piece (t := S1024x3712) 1 (widePieces w) _ (ix2 k i) p hp ⟨2, ![1024, n]⟩ x hx rfl pre hpre (ix2 k j) (fun d hd => ?_) h
  match d with
  | ⟨0, _⟩ => rfl
  | ⟨1, _⟩ => exact absurd rfl hd

theorem wideW_apply (k : Fin 1024) (i : Fin 3712) : wideW w (ix2 k i) = Args.wide (fun n => w (ix2 k (col n))) i.val := by
  have hi := i.isLt
  have hh : ∀ (o : ℕ) (hs) (j : Fin 512), o + 384 ≤ 2952 → heads (cut w o 384 hs) (ix2 k j)
      = if j.val % 128 < 96 then w (ix2 k (col (o + (96 * (j.val / 128) + j.val % 128)))) else 0 := fun o hs j ho =>
    heads_apply (cut w o 384 hs) k j o (fun n => w (ix2 k (col n))) (fun i => cut_apply w o 384 hs k i (by have := i.isLt; omega))
  unfold Args.wide
  by_cases h0 : i.val < 2048
  · rw [if_pos h0]
    have key : ∀ (q o p : ℕ) (hq : q = 512 * p) (ho : o = 384 * p) (hs) (hqi : q ≤ i.val) (hlt : i.val - q < 512),
        wideW w (ix2 k i) = heads (cut w o 384 hs) (ix2 k (⟨i.val - q, hlt⟩ : Fin 512)) → o + 384 ≤ 2952 →
        wideW w (ix2 k i) = if i.val % 128 < 96 then w (ix2 k (col (96 * (i.val / 128) + i.val % 128))) else 0 := by
      intro q o p hq ho hs hqi hlt e hoo
      rw [e, hh o hs _ hoo]
      show (if (i.val - q) % 128 < 96 then w (ix2 k (col (o + (96 * ((i.val - q) / 128) + (i.val - q) % 128)))) else 0) = _
      rw [show (i.val - q) % 128 = i.val % 128 by omega, show o + (96 * ((i.val - q) / 128) + i.val % 128) = 96 * (i.val / 128) + i.val % 128 by omega]
    by_cases h1 : i.val < 512
    · exact key 0 0 0 rfl rfl _ (by omega) (by omega) (wideW_piece w 0 (by decide) 512 _ rfl 0 rfl k _ i (by show 0 + (i.val - 0) = i.val; omega)) (by decide)
    · by_cases h2 : i.val < 1024
      · exact key 512 384 1 rfl rfl _ (by omega) (by omega) (wideW_piece w 1 (by decide) 512 _ rfl 512 rfl k _ i (by show 512 + (i.val - 512) = i.val; omega)) (by decide)
      · by_cases h3 : i.val < 1536
        · exact key 1024 768 2 rfl rfl _ (by omega) (by omega) (wideW_piece w 2 (by decide) 512 _ rfl 1024 rfl k _ i (by show 1024 + (i.val - 1024) = i.val; omega)) (by decide)
        · exact key 1536 1152 3 rfl rfl _ (by omega) (by omega) (wideW_piece w 3 (by decide) 512 _ rfl 1536 rfl k _ i (by show 1536 + (i.val - 1536) = i.val; omega)) (by decide)
  · rw [if_neg h0]
    by_cases h5 : i.val < 3456
    · rw [if_pos h5]
      have key : ∀ (q o n : ℕ) (hq : q = o + 504) (hs) (hqi : q ≤ i.val) (hlt : i.val - q < n),
          wideW w (ix2 k i) = cut w o n hs (ix2 k (⟨i.val - q, hlt⟩ : Fin n)) → wideW w (ix2 k i) = w (ix2 k (col (i.val - 504))) := by
        intro q o n hq hs hqi hlt e
        rw [e, cut_apply w o n hs k ⟨i.val - q, hlt⟩ (by show o + (i.val - q) < 2952; omega)]
        show w (ix2 k (col (o + (i.val - q)))) = _
        rw [show o + (i.val - q) = i.val - 504 by omega]
      by_cases h1 : i.val < 2432
      · exact key 2048 1544 384 rfl _ (by omega) (by omega) (wideW_piece w 4 (by decide) 384 _ rfl 2048 rfl k _ i (by show 2048 + (i.val - 2048) = i.val; omega))
      · by_cases h2 : i.val < 2816
        · exact key 2432 1928 384 rfl _ (by omega) (by omega) (wideW_piece w 5 (by decide) 384 _ rfl 2432 rfl k _ i (by show 2432 + (i.val - 2432) = i.val; omega))
        · by_cases h3 : i.val < 3200
          · exact key 2816 2312 384 rfl _ (by omega) (by omega) (wideW_piece w 6 (by decide) 384 _ rfl 2816 rfl k _ i (by show 2816 + (i.val - 2816) = i.val; omega))
          · exact key 3200 2696 256 rfl _ (by omega) (by omega) (wideW_piece w 7 (by decide) 256 _ rfl 3200 rfl k _ i (by show 3200 + (i.val - 3200) = i.val; omega))
    · rw [if_neg h5]
      have hc : ∀ j : Fin 8, cut w 1536 8 slices_S1024x2952_S1024x8_0_1536 (ix2 k j) = w (ix2 k (col (1536 + j.val))) := fun j =>
        cut_apply w 1536 8 _ k j (by have := j.isLt; omega)
      by_cases h6 : i.val < 3584
      · rw [if_pos h6, wideW_piece w 8 (by decide) 128 _ rfl 3456 rfl k (⟨i.val - 3456, by omega⟩ : Fin 128) i (by show 3456 + (i.val - 3456) = i.val; omega),
          eight_apply _ k _ (fun n => w (ix2 k (col (1536 + n)))) hc]
        show (if i.val - 3456 < 8 then w (ix2 k (col (1536 + (i.val - 3456)))) else 0) = _
        rw [show 1536 + (i.val - 3456) = i.val - 1920 by omega]
      · rw [if_neg h6, wideW_piece w 9 (by decide) 128 _ rfl 3584 rfl k (⟨i.val - 3584, by omega⟩ : Fin 128) i (by show 3584 + (i.val - 3584) = i.val; omega),
          eight_apply _ k _ (fun n => w (ix2 k (col (1536 + (n + 4) % 8)))) (fun j => (exchanged_apply _ k j).trans (hc _))]

end Wide

/-- The wide projection, as the kernel receives it. -/
theorem V_w (k : Fin 1024) (i : Fin 3712) : V m c main_v36 (ix2 k i) = Args.wide (fun n => (argsOf m c).w (ix2 k (col n))) i.val := by
  have h : (V m c main_v36 : S1024x3712.Idx → EReal) = truncf (F := Ideal) (φ := .f32) .bf16 (wideW (m ((c : Thread nD τ).loc main_arg2))) bitsLt_bf16_f32 := by
    show StableHlo.after (List.flatten [hostOps0, hostOps0_1, hostOps0_2, hostOps0_3, hostOps0_4, hostOps0_5, hostOps0_6, hostOps0_7, hostOps0_8, hostOps0_9,
      hostOps0_10, hostOps0_11, hostOps0_12, hostOps0_13, hostOps0_14]) (fun b => m (c, b)) _ = _
    after_region_results
    rfl
  rw [h]
  exact wideW_apply (m ((c : Thread nD τ).loc main_arg2)) k i

/-! ## The gains and the matrix of equal heads -/

/-- The gain of the rows' norm, as one row. -/
theorem V_g (k : Fin 1024) : V m c main_v47 (ix2 0 k) = (argsOf m c).g (ix1 k) := by
  have h : V m c main_v47 = broadcastInDim S1x1024 ![1] bcast_S1024_S1x1024_1 (m ((c : Thread nD τ).loc main_arg1)) := by
    show StableHlo.after (List.flatten [hostOps0, hostOps0_1, hostOps0_2, hostOps0_3, hostOps0_4, hostOps0_5, hostOps0_6, hostOps0_7, hostOps0_8, hostOps0_9,
      hostOps0_10, hostOps0_11, hostOps0_12, hostOps0_13, hostOps0_14]) (fun b => m (c, b)) _ = _
    after_region_results
    rfl
  rw [h]
  show m ((c : Thread nD τ).loc main_arg1) _ = m ((c : Thread nD τ).loc main_arg1) _
  congr 1
  funext d
  match d with
  | ⟨0, _⟩ => rfl

/-- A gain of 64 channels, repeated for six heads. -/
def repeated (g : S64.Idx → EReal) : S1x384.Idx → EReal :=
  broadcastInDim S1x384 ![1] bcast_S384_S1x384_1 (shapeCast S384 (broadcastInDim S6x64 ![0, 1] bcast_S1x64_S6x64_0_1 (shapeCast S1x64 g shapeCasts_S64_S1x64)) shapeCasts_S6x64_S384)

theorem repeated_apply (g : S64.Idx → EReal) (j : Fin 384) : repeated g (ix2 0 j) = g (ix1 (ch j.val)) := by
  have hj := j.isLt
  have e : repeated g (ix2 0 j) = shapeCast S384 (broadcastInDim S6x64 ![0, 1] bcast_S1x64_S6x64_0_1 (shapeCast S1x64 g shapeCasts_S64_S1x64)) shapeCasts_S6x64_S384 (ix1 j) := by
    show shapeCast S384 _ _ _ = shapeCast S384 _ _ _
    congr 1
    funext d
    match d with
    | ⟨0, _⟩ => rfl
  rw [e]
  refine (shapeCast_apply (s := S6x64) (t := S384) _ _ (ix1 j) (ix2 (⟨j.val / 64, by omega⟩ : Fin 6) (ch j.val)) ?_).trans ?_
  · rw [Shape.rowMajor_val_two, Shape.rowMajor_val_one]
    show j.val / 64 * 64 + j.val % 64 = j.val
    omega
  have e2 : broadcastInDim S6x64 ![0, 1] bcast_S1x64_S6x64_0_1 (shapeCast S1x64 g shapeCasts_S64_S1x64) (ix2 (⟨j.val / 64, by omega⟩ : Fin 6) (ch j.val))
      = shapeCast S1x64 g shapeCasts_S64_S1x64 (ix2 0 (ch j.val)) := by
    show shapeCast S1x64 _ _ _ = shapeCast S1x64 _ _ _
    congr 1
    funext d
    match d with
    | ⟨0, _⟩ => rfl
    | ⟨1, _⟩ => rfl
  rw [e2]
  refine shapeCast_apply (s := S64) (t := S1x64) _ _ (ix2 0 (ch j.val)) (ix1 (ch j.val)) ?_
  rw [Shape.rowMajor_val_two, Shape.rowMajor_val_one]
  show (ch j.val).val = 0 * 64 + (ch j.val).val
  omega

/-- The queries' gain. -/
theorem V_qg (j : Fin 384) : V m c main_v42 (ix2 0 j) = ((argsOf m c).qg (ix1 (ch j.val)) * Ideal.ofBits FTy.f32 0x3E000000#32 : EReal) := by
  have h : (V m c main_v42 : S1x384.Idx → EReal) = mulf (F := Ideal) (φ := .f32) (repeated (m ((c : Thread nD τ).loc main_arg3)))
      (broadcastInDim S1x384 ![] bcast_S_S1x384 (constant (F := Ideal) S_ .f32 0x3E000000#32)) := by
    show StableHlo.after (List.flatten [hostOps0, hostOps0_1, hostOps0_2, hostOps0_3, hostOps0_4, hostOps0_5, hostOps0_6, hostOps0_7, hostOps0_8, hostOps0_9,
      hostOps0_10, hostOps0_11, hostOps0_12, hostOps0_13, hostOps0_14]) (fun b => m (c, b)) _ = _
    after_region_results
    rfl
  rw [h]
  show repeated _ (ix2 0 j) * Ideal.ofBits FTy.f32 0x3E000000#32 = _
  rw [repeated_apply]
  rfl

/-- The keys' gain. -/
theorem V_kg (j : Fin 384) : V m c main_v46 (ix2 0 j) = (argsOf m c).kg (ix1 (ch j.val)) := by
  have h : (V m c main_v46 : S1x384.Idx → EReal) = repeated (m ((c : Thread nD τ).loc main_arg4)) := by
    show StableHlo.after (List.flatten [hostOps0, hostOps0_1, hostOps0_2, hostOps0_3, hostOps0_4, hostOps0_5, hostOps0_6, hostOps0_7, hostOps0_8, hostOps0_9,
      hostOps0_10, hostOps0_11, hostOps0_12, hostOps0_13, hostOps0_14]) (fun b => m (c, b)) _ = _
    after_region_results
    rfl
  rw [h]
  exact repeated_apply _ j

/-- Which of six numbers are equal. -/
def eqBits : S6x6.Idx → BitVec 1 := cmpi .eq (addi (iotaInDim S6x6 32 0) (broadcastInDim S6x6 ![] bcast_S_S6x6 (constantI S_ 32 0#32))) (iotaInDim S6x6 32 1)

theorem eqBits_apply : ∀ p q : Fin 6, eqBits (ix2 p q) = if p = q then 1#1 else 0#1 := by decide +kernel

/-- One at equal numbers, spread over blocks of 64 by 64. -/
def segMat : S384x384.Idx → EReal :=
  shapeCast S384x384 (mulf (F := Ideal) (φ := .f32)
    (broadcastInDim S6x64x6x64 ![0, 1, 2, 3] bcast_S6x1x6x1_S6x64x6x64_0_1_2_3 (broadcastInDim S6x1x6x1 ![0, 2] bcast_S6x6_S6x1x6x1_0_2 (uitofp (F := Ideal) .f32 eqBits)))
    (broadcastInDim S6x64x6x64 ![0, 1, 2, 3] bcast_S1x64x1x64_S6x64x6x64_0_1_2_3 (broadcastInDim S1x64x1x64 ![1, 3] bcast_S64x64_S1x64x1x64_1_3
      (broadcastInDim S64x64 ![] bcast_S_S64x64 (constant (F := Ideal) S_ .f32 0x3F800000#32))))) shapeCasts_S6x64x6x64_S384x384

theorem segMat_apply (i j : Fin 384) : segMat (ix2 i j) = if i.val / 64 = j.val / 64 then 1 else 0 := by
  have hi := i.isLt
  have hj := j.isLt
  unfold segMat
  refine (shapeCast_apply (s := S6x64x6x64) (t := S384x384) _ _ (ix2 i j) (ix4 (⟨i.val / 64, by omega⟩ : Fin 6) (ch i.val) (⟨j.val / 64, by omega⟩ : Fin 6) (ch j.val)) ?_).trans ?_
  · rw [Shape.rowMajor_val_two, Shape.rowMajor_val_four]
    show ((i.val / 64 * 64 + i.val % 64) * 6 + j.val / 64) * 64 + j.val % 64 = i.val * 384 + j.val
    omega
  have e : ∀ p q : Fin 6, uitofp (F := Ideal) .f32 eqBits (ix2 p q) = if p = q then (1 : EReal) else 0 := by
    intro p q
    show ((((eqBits (ix2 p q)).toNat : ℕ) : ℝ) : EReal) = _
    rw [eqBits_apply]
    split <;> simp
  have e2 := e ⟨i.val / 64, by omega⟩ ⟨j.val / 64, by omega⟩
  have h1 : Ideal.ofBits FTy.f32 0x3F800000#32 = 1 := by
    simp [Ideal.ofBits, Ideal.ieee, -EReal.coe_mul]; norm_num
  refine Eq.trans (b := (uitofp (F := Ideal) .f32 eqBits (ix2 (⟨i.val / 64, by omega⟩ : Fin 6) (⟨j.val / 64, by omega⟩ : Fin 6)) : EReal) * Ideal.ofBits FTy.f32 0x3F800000#32) ?_ ?_
  · show (uitofp (F := Ideal) .f32 eqBits _ : EReal) * Ideal.ofBits FTy.f32 0x3F800000#32 = _
    congr 2
    funext d
    match d with
    | ⟨0, _⟩ => rfl
    | ⟨1, _⟩ => rfl
  · rw [e2, h1, mul_one]
    simp only [Fin.mk.injEq]

/-- The matrix of equal heads. -/
theorem V_seg (i j : Fin 384) : V m c main_v8 (ix2 i j) = (if i.val / 64 = j.val / 64 then 1 else 0 : EReal) := by
  have h : (V m c main_v8 : S384x384.Idx → EReal) = truncf (F := Ideal) (φ := .f32) .bf16 segMat bitsLt_bf16_f32 := by
    show StableHlo.after (List.flatten [hostOps0, hostOps0_1, hostOps0_2, hostOps0_3, hostOps0_4, hostOps0_5, hostOps0_6, hostOps0_7, hostOps0_8, hostOps0_9,
      hostOps0_10, hostOps0_11, hostOps0_12, hostOps0_13, hostOps0_14]) (fun b => m (c, b)) _ = _
    after_region_results
    rfl
  rw [h]
  exact segMat_apply i j

end Cert.KernelInIdeal.Hand

end
-- ==== Proof.InBlk.lean ====
/-
  The input-projection kernel's operand blocks, of the call's arguments, and what its body makes of them.
-/
module

public import proofs.«01_k».proof.Proof.InPay
public import proofs.«01_k».proof.Proof.InHost

@[expose] public section

set_option maxRecDepth 16384

noncomputable section

namespace Cert.KernelInIdeal.Hand

open Cert.KernelInIdeal Cert.KernelInIdeal.Gen Cert.InMath
open Idealize.ShloMosaic Idealize.ShloMosaic.TcCoe Idealize.SL.Sem

variable (m : (ℓ : Loc nD τ sig) → Buf (Elt Ideal) ℓ) (c : Dev nD)

/-- The sequence of a grid point. -/
abbrev bAt (t : Fin cfg0.N) : Fin 8 := grid0.coords t 0
/-- The block of rows of a grid point. -/
abbrev iAt (t : Fin cfg0.N) : Fin 8 := grid0.coords t 1

/-- The position of a row of a grid point. -/
def pos (t : Fin cfg0.N) (r : Fin 512) : Fin 4096 := ⟨512 * (iAt t).val + r.val, by have : (iAt t).val < 8 := (iAt t).isLt; have := r.isLt; omega⟩

/-- The operand blocks of a grid point. -/
def blkOf (t : Fin cfg0.N) : Blk := ⟨iblk m c 0 t, iblk m c 1 t, iblk m c 2 t, iblk m c 3 t, iblk m c 4 t, iblk m c 5 t⟩

/-! ## The blocks at an index -/

theorem blk_x0 (t : Fin cfg0.N) (r : Fin 512) (j : Fin 1024) : (blkOf m c t).x0 (ix3 0 r j) = (argsOf m c).x (ix3 (bAt t) (pos t r) j) := by
  have h0 : (bAt t).val < 8 := (bAt t).isLt
  have h1 : (iAt t).val < 8 := (iAt t).isLt
  show (iblk m c 0 t : Vec Ideal S1x512x1024 .f32) (ix3 0 r j) = m ((c : Thread nD τ).loc main_arg0) _
  unfold iblk
  rw [View.read_apply]
  show V m c main_arg0 _ = _
  rw [V_main_arg0]
  congr 1
  funext a
  apply Fin.ext
  match a with
  | ⟨0, _⟩ =>
    show (BitVec.ofNat 32 (bAt t).val).toNat * 1 + 1 * 0 = (bAt t).val
    rw [BitVec.toNat_ofNat]; omega
  | ⟨1, _⟩ =>
    show (BitVec.ofNat 32 (iAt t).val).toNat * 512 + 1 * r.val = 512 * (iAt t).val + r.val
    rw [BitVec.toNat_ofNat]; omega
  | ⟨2, _⟩ =>
    show 0 * 1024 + 1 * j.val = j.val
    omega

theorem blk_x1 (t : Fin cfg0.N) (j : Fin 1024) : (blkOf m c t).x1 (ix2 0 j) = ((argsOf m c).g (ix1 j) : EReal) := by
  show (iblk m c 1 t : Vec Ideal S1x1024 .f32) (ix2 0 j) = _
  unfold iblk
  rw [View.read_apply]
  have e : V m c main_v47 (ix2 0 j) = ((argsOf m c).g (ix1 j) : EReal) := by exact V_g m c j
  refine Eq.trans ?_ e
  show V m c main_v47 _ = _
  congr 1
  funext a
  apply Fin.ext
  match a with
  | ⟨0, _⟩ => show 0 * 1 + 1 * 0 = 0; omega
  | ⟨1, _⟩ => show 0 * 1024 + 1 * j.val = j.val; omega

theorem blk_x2 (t : Fin cfg0.N) (i : Fin 1024) (j : Fin 3712) : (blkOf m c t).x2 (ix2 i j) = (Args.wide (fun n => (argsOf m c).w (ix2 i (col n))) j.val : EReal) := by
  show (iblk m c 2 t : Vec Ideal S1024x3712 .bf16) (ix2 i j) = _
  unfold iblk
  rw [View.read_apply]
  have e : V m c main_v36 (ix2 i j) = (Args.wide (fun n => (argsOf m c).w (ix2 i (col n))) j.val : EReal) := by exact V_w m c i j
  refine Eq.trans ?_ e
  show V m c main_v36 _ = _
  congr 1
  funext a
  apply Fin.ext
  match a with
  | ⟨0, _⟩ => show 0 * 1024 + 1 * i.val = i.val; omega
  | ⟨1, _⟩ => show 0 * 3712 + 1 * j.val = j.val; omega

theorem blk_x3 (t : Fin cfg0.N) (i : Fin 384) (j : Fin 384) : (blkOf m c t).x3 (ix2 i j) = (if i.val / 64 = j.val / 64 then 1 else 0 : EReal) := by
  show (iblk m c 3 t : Vec Ideal S384x384 .bf16) (ix2 i j) = _
  unfold iblk
  rw [View.read_apply]
  have e : V m c main_v8 (ix2 i j) = (if i.val / 64 = j.val / 64 then 1 else 0 : EReal) := by exact V_seg m c i j
  refine Eq.trans ?_ e
  show V m c main_v8 _ = _
  congr 1
  funext a
  apply Fin.ext
  match a with
  | ⟨0, _⟩ => show 0 * 384 + 1 * i.val = i.val; omega
  | ⟨1, _⟩ => show 0 * 384 + 1 * j.val = j.val; omega

theorem blk_x4 (t : Fin cfg0.N) (j : Fin 384) : (blkOf m c t).x4 (ix2 0 j) = ((argsOf m c).qg (ix1 (ch j.val)) * Ideal.ofBits FTy.f32 0x3E000000#32 : EReal) := by
  show (iblk m c 4 t : Vec Ideal S1x384 .f32) (ix2 0 j) = _
  unfold iblk
  rw [View.read_apply]
  have e : V m c main_v42 (ix2 0 j) = ((argsOf m c).qg (ix1 (ch j.val)) * Ideal.ofBits FTy.f32 0x3E000000#32 : EReal) := by exact V_qg m c j
  refine Eq.trans ?_ e
  show V m c main_v42 _ = _
  congr 1
  funext a
  apply Fin.ext
  match a with
  | ⟨0, _⟩ => show 0 * 1 + 1 * 0 = 0; omega
  | ⟨1, _⟩ => show 0 * 384 + 1 * j.val = j.val; omega

theorem blk_x5 (t : Fin cfg0.N) (j : Fin 384) : (blkOf m c t).x5 (ix2 0 j) = ((argsOf m c).kg (ix1 (ch j.val)) : EReal) := by
  show (iblk m c 5 t : Vec Ideal S1x384 .f32) (ix2 0 j) = _
  unfold iblk
  rw [View.read_apply]
  have e : V m c main_v46 (ix2 0 j) = ((argsOf m c).kg (ix1 (ch j.val)) : EReal) := by exact V_kg m c j
  refine Eq.trans ?_ e
  show V m c main_v46 _ = _
  congr 1
  funext a
  apply Fin.ext
  match a with
  | ⟨0, _⟩ => show 0 * 1 + 1 * 0 = 0; omega
  | ⟨1, _⟩ => show 0 * 384 + 1 * j.val = j.val; omega

/-! ## The output blocks, of the call's arguments -/

/-- The projection of a grid point's row. -/
theorem proj_eq (t : Fin cfg0.N) (r : Fin 512) (n : Fin 3712) :
    (blkOf m c t).proj r n = Args.wide ((argsOf m c).z (bAt t) (pos t r)) n.val := by
  rw [← Args.sum_wide]
  unfold Blk.proj
  refine Finset.sum_congr rfl fun k _ => ?_
  rw [blk_x2]
  congr 1
  unfold Blk.nrm Args.row
  congr 1
  · funext k; exact blk_x0 m c t r k
  · funext k; exact blk_x1 m c t k

/-- An unpadded column of the projection. -/
theorem proj_mid (t : Fin cfg0.N) (r : Fin 512) (o n : ℕ) (hn : o + n + 504 < 3712) (h1 : 1544 ≤ o + n) (h2 : o + n < 2952) (q : ℕ) (hq : q = o + 504) (hlt : q + n < 3712) :
    (blkOf m c t).proj r ⟨q + n, hlt⟩ = (argsOf m c).cols o (bAt t) (pos t r) n := by
  rw [proj_eq]
  show Args.wide _ (q + n) = _
  rw [show q + n = (o + n) + 504 by omega, Args.wide_mid _ _ h1 h2]
  rfl

/-- A padded head's column of the projection. -/
theorem proj_lanes (t : Fin cfg0.N) (r : Fin 512) (o p q w : ℕ) (hq : q = 128 * o) (hw : w = 96 * o) (h : q + p < 2048) (hlt : q + p < 3712) :
    (blkOf m c t).proj r ⟨q + p, hlt⟩ = (argsOf m c).lanes w (bAt t) (pos t r) p := by
  subst hq hw
  rw [proj_eq]
  exact Args.wide_lanes (argsOf m c) _ _ o p _ rfl h

/-- A head norm of the projection. -/
theorem head_eq (t : Fin cfg0.N) (r : Fin 512) (q o : ℕ) (hq : q = o + 504) (h1 : 1544 ≤ o) (h2 : o + 384 ≤ 2952) (ho) (gain : Vec Ideal S1x384 .f32) (j : Fin 384) :
    (blkOf m c t).head q ho gain r j
      = scaled ((argsOf m c).z (bAt t) (pos t r) (o + j.val)) ((argsOf m c).headSq o (bAt t) (pos t r) j.val) * gain (ix2 0 j) := by
  have hj := j.isLt
  have e : ∀ i : Fin 384, (blkOf m c t).proj r ⟨q + i.val, by have := i.isLt; omega⟩ = (argsOf m c).z (bAt t) (pos t r) (o + i.val) := fun i =>
    proj_mid m c t r o i.val (by have := i.isLt; omega) (by omega) (by have := i.isLt; omega) q hq _
  unfold Blk.head
  have es : ∑ i : Fin 384, (blkOf m c t).proj r ⟨q + i.val, by have := i.isLt; omega⟩ * (blkOf m c t).proj r ⟨q + i.val, by have := i.isLt; omega⟩ * (blkOf m c t).x3 (ix2 i j)
      = (argsOf m c).headSq o (bAt t) (pos t r) j.val := by
    refine Eq.trans (Finset.sum_congr rfl fun i _ => ?_)
      (sum_head (fun n => (argsOf m c).z (bAt t) (pos t r) (o + n) * (argsOf m c).z (bAt t) (pos t r) (o + n)) j.val hj)
    rw [e, blk_x3]
  rw [es, e]

end Cert.KernelInIdeal.Hand

end

end
-- ==== Proof.InOut.lean ====
/-
  The input-projection kernel's output blocks, of the call's arguments.
-/
module

public import proofs.«01_k».proof.Proof.InBlk

@[expose] public section

set_option maxRecDepth 16384

noncomputable section

namespace Cert.KernelInIdeal.Hand

open Cert.KernelInIdeal Cert.KernelInIdeal.Gen Cert.InMath
open Idealize.ShloMosaic Idealize.ShloMosaic.TcCoe Idealize.SL.Sem

variable (m : (ℓ : Loc nD τ sig) → Buf (Elt Ideal) ℓ) (c : Dev nD)

/-- The output block of the first padded heads. -/
theorem blk_out6 (t : Fin cfg0.N) (r : Fin 512) (j : Fin 1024) :
    out0_6 (F := Ideal) (iblk m c 0 t) (iblk m c 1 t) (iblk m c 2 t) (iblk m c 3 t) (iblk m c 4 t) (iblk m c 5 t) (ix3 0 r j) = (argsOf m c).lanes 0 (bAt t) (pos t r) j.val := by
  have e : out0_6 (F := Ideal) (iblk m c 0 t) (iblk m c 1 t) (iblk m c 2 t) (iblk m c 3 t) (iblk m c 4 t) (iblk m c 5 t)
      = out0_6 (F := Ideal) (blkOf m c t).x0 (blkOf m c t).x1 (blkOf m c t).x2 (blkOf m c t).x3 (blkOf m c t).x4 (blkOf m c t).x5 := by
    dsimp only [blkOf]
  rw [e]
  exact (out6_apply (blkOf m c t) r j).trans (proj_lanes m c t r 0 j.val 0 0 rfl rfl (by have := j.isLt; omega) _)

/-- The output block of the second padded heads. -/
theorem blk_out7 (t : Fin cfg0.N) (r : Fin 512) (j : Fin 512) :
    out0_7 (F := Ideal) (iblk m c 0 t) (iblk m c 1 t) (iblk m c 2 t) (iblk m c 3 t) (iblk m c 4 t) (iblk m c 5 t) (ix3 0 r j) = (argsOf m c).lanes 768 (bAt t) (pos t r) j.val := by
  have e : out0_7 (F := Ideal) (iblk m c 0 t) (iblk m c 1 t) (iblk m c 2 t) (iblk m c 3 t) (iblk m c 4 t) (iblk m c 5 t)
      = out0_7 (F := Ideal) (blkOf m c t).x0 (blkOf m c t).x1 (blkOf m c t).x2 (blkOf m c t).x3 (blkOf m c t).x4 (blkOf m c t).x5 := by
    dsimp only [blkOf]
  rw [e]
  exact (out7_apply (blkOf m c t) r j).trans (proj_lanes m c t r 8 j.val 1024 768 rfl rfl (by have := j.isLt; omega) _)

/-- The output block of the third padded heads. -/
theorem blk_out8 (t : Fin cfg0.N) (r : Fin 512) (j : Fin 512) :
    out0_8 (F := Ideal) (iblk m c 0 t) (iblk m c 1 t) (iblk m c 2 t) (iblk m c 3 t) (iblk m c 4 t) (iblk m c 5 t) (ix3 0 r j) = (argsOf m c).lanes 1152 (bAt t) (pos t r) j.val := by
  have e : out0_8 (F := Ideal) (iblk m c 0 t) (iblk m c 1 t) (iblk m c 2 t) (iblk m c 3 t) (iblk m c 4 t) (iblk m c 5 t)
      = out0_8 (F := Ideal) (blkOf m c t).x0 (blkOf m c t).x1 (blkOf m c t).x2 (blkOf m c t).x3 (blkOf m c t).x4 (blkOf m c t).x5 := by
    dsimp only [blkOf]
  rw [e]
  exact (out8_apply (blkOf m c t) r j).trans (proj_lanes m c t r 12 j.val 1536 1152 rfl rfl (by have := j.isLt; omega) _)

/-- The output block of the queries. -/
theorem blk_out9 (t : Fin cfg0.N) (r : Fin 512) (j : Fin 384) :
    out0_9 (F := Ideal) (iblk m c 0 t) (iblk m c 1 t) (iblk m c 2 t) (iblk m c 3 t) (iblk m c 4 t) (iblk m c 5 t) (ix3 0 r j) = (argsOf m c).sq (bAt t) (pos t r) j.val := by
  have e : out0_9 (F := Ideal) (iblk m c 0 t) (iblk m c 1 t) (iblk m c 2 t) (iblk m c 3 t) (iblk m c 4 t) (iblk m c 5 t)
      = out0_9 (F := Ideal) (blkOf m c t).x0 (blkOf m c t).x1 (blkOf m c t).x2 (blkOf m c t).x3 (blkOf m c t).x4 (blkOf m c t).x5 := by
    dsimp only [blkOf]
  rw [e]
  refine (out9_apply (blkOf m c t) r j).trans ((head_eq m c t r 2048 1544 rfl (by omega) (by omega) _ _ j).trans ?_)
  rw [blk_x4, ← mul_assoc]
  rfl

/-- The output block of the keys. -/
theorem blk_out10 (t : Fin cfg0.N) (r : Fin 512) (j : Fin 384) :
    out0_10 (F := Ideal) (iblk m c 0 t) (iblk m c 1 t) (iblk m c 2 t) (iblk m c 3 t) (iblk m c 4 t) (iblk m c 5 t) (ix3 0 r j) = (argsOf m c).sk (bAt t) (pos t r) j.val := by
  have e : out0_10 (F := Ideal) (iblk m c 0 t) (iblk m c 1 t) (iblk m c 2 t) (iblk m c 3 t) (iblk m c 4 t) (iblk m c 5 t)
      = out0_10 (F := Ideal) (blkOf m c t).x0 (blkOf m c t).x1 (blkOf m c t).x2 (blkOf m c t).x3 (blkOf m c t).x4 (blkOf m c t).x5 := by
    dsimp only [blkOf]
  rw [e]
  refine (out10_apply (blkOf m c t) r j).trans ((head_eq m c t r 2432 1928 rfl (by omega) (by omega) _ _ j).trans ?_)
  rw [blk_x5]
  rfl

/-- The output block of the values. -/
theorem blk_out11 (t : Fin cfg0.N) (r : Fin 512) (j : Fin 384) :
    out0_11 (F := Ideal) (iblk m c 0 t) (iblk m c 1 t) (iblk m c 2 t) (iblk m c 3 t) (iblk m c 4 t) (iblk m c 5 t) (ix3 0 r j) = (argsOf m c).cols 2312 (bAt t) (pos t r) j.val := by
  have e : out0_11 (F := Ideal) (iblk m c 0 t) (iblk m c 1 t) (iblk m c 2 t) (iblk m c 3 t) (iblk m c 4 t) (iblk m c 5 t)
      = out0_11 (F := Ideal) (blkOf m c t).x0 (blkOf m c t).x1 (blkOf m c t).x2 (blkOf m c t).x3 (blkOf m c t).x4 (blkOf m c t).x5 := by
    dsimp only [blkOf]
  rw [e]
  exact (out11_apply (blkOf m c t) r j).trans (proj_mid m c t r 2312 j.val (by have := j.isLt; omega) (by omega) (by have := j.isLt; omega) 2816 rfl _)

/-- The output block of the last columns. -/
theorem blk_out12 (t : Fin cfg0.N) (r : Fin 512) (j : Fin 256) :
    out0_12 (F := Ideal) (iblk m c 0 t) (iblk m c 1 t) (iblk m c 2 t) (iblk m c 3 t) (iblk m c 4 t) (iblk m c 5 t) (ix3 0 r j) = (argsOf m c).cols 2696 (bAt t) (pos t r) j.val := by
  have e : out0_12 (F := Ideal) (iblk m c 0 t) (iblk m c 1 t) (iblk m c 2 t) (iblk m c 3 t) (iblk m c 4 t) (iblk m c 5 t)
      = out0_12 (F := Ideal) (blkOf m c t).x0 (blkOf m c t).x1 (blkOf m c t).x2 (blkOf m c t).x3 (blkOf m c t).x4 (blkOf m c t).x5 := by
    dsimp only [blkOf]
  rw [e]
  exact (out12_apply (blkOf m c t) r j).trans (proj_mid m c t r 2696 j.val (by have := j.isLt; omega) (by omega) (by have := j.isLt; omega) 3200 rfl _)

/-- The output block of the transposed gates. -/
theorem blk_out13 (t : Fin cfg0.N) (r : Fin 512) (j : Fin 8) :
    out0_13 (F := Ideal) (iblk m c 0 t) (iblk m c 1 t) (iblk m c 2 t) (iblk m c 3 t) (iblk m c 4 t) (iblk m c 5 t) (ix3 0 j r) = (argsOf m c).cols 1536 (bAt t) (pos t r) j.val := by
  have e : out0_13 (F := Ideal) (iblk m c 0 t) (iblk m c 1 t) (iblk m c 2 t) (iblk m c 3 t) (iblk m c 4 t) (iblk m c 5 t)
      = out0_13 (F := Ideal) (blkOf m c t).x0 (blkOf m c t).x1 (blkOf m c t).x2 (blkOf m c t).x3 (blkOf m c t).x4 (blkOf m c t).x5 := by
    dsimp only [blkOf]
  rw [e]
  exact (out13_apply (blkOf m c t) r j).trans ((proj_eq m c t r _).trans (Args.wide_gate _ j.val j.isLt))

/-- The output block of the transposed exchanged gates. -/
theorem blk_out14 (t : Fin cfg0.N) (r : Fin 512) (j : Fin 8) :
    out0_14 (F := Ideal) (iblk m c 0 t) (iblk m c 1 t) (iblk m c 2 t) (iblk m c 3 t) (iblk m c 4 t) (iblk m c 5 t) (ix3 0 j r) = (argsOf m c).swapped (bAt t) (pos t r) j.val := by
  have e : out0_14 (F := Ideal) (iblk m c 0 t) (iblk m c 1 t) (iblk m c 2 t) (iblk m c 3 t) (iblk m c 4 t) (iblk m c 5 t)
      = out0_14 (F := Ideal) (blkOf m c t).x0 (blkOf m c t).x1 (blkOf m c t).x2 (blkOf m c t).x3 (blkOf m c t).x4 (blkOf m c t).x5 := by
    dsimp only [blkOf]
  rw [e]
  exact (out14_apply (blkOf m c t) r j).trans ((proj_eq m c t r _).trans (Args.wide_swapped _ j.val j.isLt))

/-- The output block of the gates. -/
theorem blk_out15 (t : Fin cfg0.N) (r : Fin 512) (j : Fin 8) :
    out0_15 (F := Ideal) (iblk m c 0 t) (iblk m c 1 t) (iblk m c 2 t) (iblk m c 3 t) (iblk m c 4 t) (iblk m c 5 t) (ix3 0 r j) = (argsOf m c).cols 1536 (bAt t) (pos t r) j.val := by
  have e : out0_15 (F := Ideal) (iblk m c 0 t) (iblk m c 1 t) (iblk m c 2 t) (iblk m c 3 t) (iblk m c 4 t) (iblk m c 5 t)
      = out0_15 (F := Ideal) (blkOf m c t).x0 (blkOf m c t).x1 (blkOf m c t).x2 (blkOf m c t).x3 (blkOf m c t).x4 (blkOf m c t).x5 := by
    dsimp only [blkOf]
  rw [e]
  exact (out15_apply (blkOf m c t) r j).trans ((proj_eq m c t r _).trans (Args.wide_gate _ j.val j.isLt))

/-- The output block of the exchanged gates. -/
theorem blk_out16 (t : Fin cfg0.N) (r : Fin 512) (j : Fin 8) :
    out0_16 (F := Ideal) (iblk m c 0 t) (iblk m c 1 t) (iblk m c 2 t) (iblk m c 3 t) (iblk m c 4 t) (iblk m c 5 t) (ix3 0 r j) = (argsOf m c).swapped (bAt t) (pos t r) j.val := by
  have e : out0_16 (F := Ideal) (iblk m c 0 t) (iblk m c 1 t) (iblk m c 2 t) (iblk m c 3 t) (iblk m c 4 t) (iblk m c 5 t)
      = out0_16 (F := Ideal) (blkOf m c t).x0 (blkOf m c t).x1 (blkOf m c t).x2 (blkOf m c t).x3 (blkOf m c t).x4 (blkOf m c t).x5 := by
    dsimp only [blkOf]
  rw [e]
  exact (out16_apply (blkOf m c t) r j).trans ((proj_eq m c t r _).trans (Args.wide_swapped _ j.val j.isLt))

end Cert.KernelInIdeal.Hand

end

end
-- ==== Proof.InArray.lean ====
/-
  The input-projection kernel's eleven result arrays: the output blocks tile each of them.
-/
module

public import proofs.«01_k».proof.Proof.InOut
public import proofs.«01_k».proof.Proof.Gen.KernelInIdeal.Value
public import Idealize.ShloMosaic.Lib.Pipeline.Covers

@[expose] public section

set_option maxRecDepth 16384

noncomputable section

namespace Cert.KernelInIdeal.Hand

open Cert.KernelInIdeal Cert.KernelInIdeal.Gen Cert.InMath
open Idealize.ShloMosaic Idealize.ShloMosaic.TcCoe Idealize.SL.Sem

variable (m : (ℓ : Loc nD τ sig) → Buf (Elt Ideal) ℓ) (c : Dev nD)

theorem arrAt_6 : (dats m 0 c).arrAt 6 cfg0.N = (fun y => (argsOf m c).lanes 0 (y 0) (y 1) (y 2).val : S8x4096x1024.Idx → EReal) := by
  refine (dats m 0 c).arrAt_eq_of_cover 6 (fun y => (argsOf m c).lanes 0 (y 0) (y 1) (y 2).val : S8x4096x1024.Idx → EReal) (fun t _ => ?_) fun y => ?_
  · rw [Cert.KernelInIdeal.Value.flushed6]
    have h0 : (bAt t).val < 8 := (bAt t).isLt
    have h1 : (iAt t).val < 8 := (iAt t).isLt
    funext j
    rw [View.read_apply]
    show out0_6 (F := Ideal) (iblk m c 0 t) (iblk m c 1 t) (iblk m c 2 t) (iblk m c 3 t) (iblk m c 4 t) (iblk m c 5 t) (j : S1x512x1024.Idx) = _
    obtain ⟨a, r, l, rfl⟩ : ∃ (a : Fin 1) (r : Fin 512) (l : Fin 1024), (j : S1x512x1024.Idx) = ix3 a r l := ⟨j 0, j 1, j 2, by funext d; match d with | 0 => rfl | 1 => rfl | 2 => rfl⟩
    obtain rfl : a = 0 := Fin.eq_zero a
    have hr := r.isLt
    have hl := l.isLt
    refine (blk_out6 m c t r l).trans ?_
    congr 1
    · apply Fin.ext
      show (bAt t).val = (BitVec.ofNat 32 (bAt t).val).toNat * 1 + 1 * 0
      rw [BitVec.toNat_ofNat]; omega
    · apply Fin.ext
      show 512 * (iAt t).val + r.val = (BitVec.ofNat 32 (iAt t).val).toNat * 512 + 1 * r.val
      rw [BitVec.toNat_ofNat]; omega
    · show l.val = 0 * 1024 + 1 * l.val
      omega
  · have h0 : (y 0 : Nat) < 8 := (y 0).isLt
    have h1 : (y 1 : Nat) < 4096 := (y 1).isLt
    have h2 : (y 2 : Nat) < 1024 := (y 2).isLt
    obtain ⟨t, ht⟩ := Pipeline.Grid.coords_surjective grid0 (fun a => match a with
      | 0 => (⟨(y 0 : Nat), h0⟩ : Fin 8)
      | 1 => (⟨(y 1 : Nat) / 512, by omega⟩ : Fin 8))
    refine ⟨t, flush0_6 t, ?_⟩
    have e0 : (bAt t).val = (y 0 : Nat) := by show (grid0.coords t 0).val = _; rw [ht]
    have e1 : (iAt t).val = (y 1 : Nat) / 512 := by show (grid0.coords t 1).val = _; rw [ht]
    show y ∈ ((View.whole main_v48_0).slice (win0_6.rect t)).set
    rw [View.set_slice_whole, Rect.mem_set_unit]
    intro a
    match a with
    | ⟨0, _⟩ =>
      show (BitVec.ofNat 32 (bAt t).val).toNat * 1 ≤ (y 0 : Nat) ∧ (y 0 : Nat) < (BitVec.ofNat 32 (bAt t).val).toNat * 1 + 1
      rw [BitVec.toNat_ofNat]; omega
    | ⟨1, _⟩ =>
      show (BitVec.ofNat 32 (iAt t).val).toNat * 512 ≤ (y 1 : Nat) ∧ (y 1 : Nat) < (BitVec.ofNat 32 (iAt t).val).toNat * 512 + 512
      rw [BitVec.toNat_ofNat]; omega
    | ⟨2, _⟩ =>
      show 0 * 1024 ≤ (y 2 : Nat) ∧ (y 2 : Nat) < 0 * 1024 + 1024
      omega

theorem arrAt_7 : (dats m 0 c).arrAt 7 cfg0.N = (fun y => (argsOf m c).lanes 768 (y 0) (y 1) (y 2).val : S8x4096x512.Idx → EReal) := by
  refine (dats m 0 c).arrAt_eq_of_cover 7 (fun y => (argsOf m c).lanes 768 (y 0) (y 1) (y 2).val : S8x4096x512.Idx → EReal) (fun t _ => ?_) fun y => ?_
  · rw [Cert.KernelInIdeal.Value.flushed7]
    have h0 : (bAt t).val < 8 := (bAt t).isLt
    have h1 : (iAt t).val < 8 := (iAt t).isLt
    funext j
    rw [View.read_apply]
    show out0_7 (F := Ideal) (iblk m c 0 t) (iblk m c 1 t) (iblk m c 2 t) (iblk m c 3 t) (iblk m c 4 t) (iblk m c 5 t) (j : S1x512x512.Idx) = _
    obtain ⟨a, r, l, rfl⟩ : ∃ (a : Fin 1) (r : Fin 512) (l : Fin 512), (j : S1x512x512.Idx) = ix3 a r l := ⟨j 0, j 1, j 2, by funext d; match d with | 0 => rfl | 1 => rfl | 2 => rfl⟩
    obtain rfl : a = 0 := Fin.eq_zero a
    have hr := r.isLt
    have hl := l.isLt
    refine (blk_out7 m c t r l).trans ?_
    congr 1
    · apply Fin.ext
      show (bAt t).val = (BitVec.ofNat 32 (bAt t).val).toNat * 1 + 1 * 0
      rw [BitVec.toNat_ofNat]; omega
    · apply Fin.ext
      show 512 * (iAt t).val + r.val = (BitVec.ofNat 32 (iAt t).val).toNat * 512 + 1 * r.val
      rw [BitVec.toNat_ofNat]; omega
    · show l.val = 0 * 512 + 1 * l.val
      omega
  · have h0 : (y 0 : Nat) < 8 := (y 0).isLt
    have h1 : (y 1 : Nat) < 4096 := (y 1).isLt
    have h2 : (y 2 : Nat) < 512 := (y 2).isLt
    obtain ⟨t, ht⟩ := Pipeline.Grid.coords_surjective grid0 (fun a => match a with
      | 0 => (⟨(y 0 : Nat), h0⟩ : Fin 8)
      | 1 => (⟨(y 1 : Nat) / 512, by omega⟩ : Fin 8))
    refine ⟨t, flush0_7 t, ?_⟩
    have e0 : (bAt t).val = (y 0 : Nat) := by show (grid0.coords t 0).val = _; rw [ht]
    have e1 : (iAt t).val = (y 1 : Nat) / 512 := by show (grid0.coords t 1).val = _; rw [ht]
    show y ∈ ((View.whole main_v48_1).slice (win0_7.rect t)).set
    rw [View.set_slice_whole, Rect.mem_set_unit]
    intro a
    match a with
    | ⟨0, _⟩ =>
      show (BitVec.ofNat 32 (bAt t).val).toNat * 1 ≤ (y 0 : Nat) ∧ (y 0 : Nat) < (BitVec.ofNat 32 (bAt t).val).toNat * 1 + 1
      rw [BitVec.toNat_ofNat]; omega
    | ⟨1, _⟩ =>
      show (BitVec.ofNat 32 (iAt t).val).toNat * 512 ≤ (y 1 : Nat) ∧ (y 1 : Nat) < (BitVec.ofNat 32 (iAt t).val).toNat * 512 + 512
      rw [BitVec.toNat_ofNat]; omega
    | ⟨2, _⟩ =>
      show 0 * 512 ≤ (y 2 : Nat) ∧ (y 2 : Nat) < 0 * 512 + 512
      omega

theorem arrAt_8 : (dats m 0 c).arrAt 8 cfg0.N = (fun y => (argsOf m c).lanes 1152 (y 0) (y 1) (y 2).val : S8x4096x512.Idx → EReal) := by
  refine (dats m 0 c).arrAt_eq_of_cover 8 (fun y => (argsOf m c).lanes 1152 (y 0) (y 1) (y 2).val : S8x4096x512.Idx → EReal) (fun t _ => ?_) fun y => ?_
  · rw [Cert.KernelInIdeal.Value.flushed8]
    have h0 : (bAt t).val < 8 := (bAt t).isLt
    have h1 : (iAt t).val < 8 := (iAt t).isLt
    funext j
    rw [View.read_apply]
    show out0_8 (F := Ideal) (iblk m c 0 t) (iblk m c 1 t) (iblk m c 2 t) (iblk m c 3 t) (iblk m c 4 t) (iblk m c 5 t) (j : S1x512x512.Idx) = _
    obtain ⟨a, r, l, rfl⟩ : ∃ (a : Fin 1) (r : Fin 512) (l : Fin 512), (j : S1x512x512.Idx) = ix3 a r l := ⟨j 0, j 1, j 2, by funext d; match d with | 0 => rfl | 1 => rfl | 2 => rfl⟩
    obtain rfl : a = 0 := Fin.eq_zero a
    have hr := r.isLt
    have hl := l.isLt
    refine (blk_out8 m c t r l).trans ?_
    congr 1
    · apply Fin.ext
      show (bAt t).val = (BitVec.ofNat 32 (bAt t).val).toNat * 1 + 1 * 0
      rw [BitVec.toNat_ofNat]; omega
    · apply Fin.ext
      show 512 * (iAt t).val + r.val = (BitVec.ofNat 32 (iAt t).val).toNat * 512 + 1 * r.val
      rw [BitVec.toNat_ofNat]; omega
    · show l.val = 0 * 512 + 1 * l.val
      omega
  · have h0 : (y 0 : Nat) < 8 := (y 0).isLt
    have h1 : (y 1 : Nat) < 4096 := (y 1).isLt
    have h2 : (y 2 : Nat) < 512 := (y 2).isLt
    obtain ⟨t, ht⟩ := Pipeline.Grid.coords_surjective grid0 (fun a => match a with
      | 0 => (⟨(y 0 : Nat), h0⟩ : Fin 8)
      | 1 => (⟨(y 1 : Nat) / 512, by omega⟩ : Fin 8))
    refine ⟨t, flush0_8 t, ?_⟩
    have e0 : (bAt t).val = (y 0 : Nat) := by show (grid0.coords t 0).val = _; rw [ht]
    have e1 : (iAt t).val = (y 1 : Nat) / 512 := by show (grid0.coords t 1).val = _; rw [ht]
    show y ∈ ((View.whole main_v48_2).slice (win0_8.rect t)).set
    rw [View.set_slice_whole, Rect.mem_set_unit]
    intro a
    match a with
    | ⟨0, _⟩ =>
      show (BitVec.ofNat 32 (bAt t).val).toNat * 1 ≤ (y 0 : Nat) ∧ (y 0 : Nat) < (BitVec.ofNat 32 (bAt t).val).toNat * 1 + 1
      rw [BitVec.toNat_ofNat]; omega
    | ⟨1, _⟩ =>
      show (BitVec.ofNat 32 (iAt t).val).toNat * 512 ≤ (y 1 : Nat) ∧ (y 1 : Nat) < (BitVec.ofNat 32 (iAt t).val).toNat * 512 + 512
      rw [BitVec.toNat_ofNat]; omega
    | ⟨2, _⟩ =>
      show 0 * 512 ≤ (y 2 : Nat) ∧ (y 2 : Nat) < 0 * 512 + 512
      omega

theorem arrAt_9 : (dats m 0 c).arrAt 9 cfg0.N = (fun y => (argsOf m c).sq (y 0) (y 1) (y 2).val : S8x4096x384.Idx → EReal) := by
  refine (dats m 0 c).arrAt_eq_of_cover 9 (fun y => (argsOf m c).sq (y 0) (y 1) (y 2).val : S8x4096x384.Idx → EReal) (fun t _ => ?_) fun y => ?_
  · rw [Cert.KernelInIdeal.Value.flushed9]
    have h0 : (bAt t).val < 8 := (bAt t).isLt
    have h1 : (iAt t).val < 8 := (iAt t).isLt
    funext j
    rw [View.read_apply]
    show out0_9 (F := Ideal) (iblk m c 0 t) (iblk m c 1 t) (iblk m c 2 t) (iblk m c 3 t) (iblk m c 4 t) (iblk m c 5 t) (j : S1x512x384.Idx) = _
    obtain ⟨a, r, l, rfl⟩ : ∃ (a : Fin 1) (r : Fin 512) (l : Fin 384), (j : S1x512x384.Idx) = ix3 a r l := ⟨j 0, j 1, j 2, by funext d; match d with | 0 => rfl | 1 => rfl | 2 => rfl⟩
    obtain rfl : a = 0 := Fin.eq_zero a
    have hr := r.isLt
    have hl := l.isLt
    refine (blk_out9 m c t r l).trans ?_
    congr 1
    · apply Fin.ext
      show (bAt t).val = (BitVec.ofNat 32 (bAt t).val).toNat * 1 + 1 * 0
      rw [BitVec.toNat_ofNat]; omega
    · apply Fin.ext
      show 512 * (iAt t).val + r.val = (BitVec.ofNat 32 (iAt t).val).toNat * 512 + 1 * r.val
      rw [BitVec.toNat_ofNat]; omega
    · show l.val = 0 * 384 + 1 * l.val
      omega
  · have h0 : (y 0 : Nat) < 8 := (y 0).isLt
    have h1 : (y 1 : Nat) < 4096 := (y 1).isLt
    have h2 : (y 2 : Nat) < 384 := (y 2).isLt
    obtain ⟨t, ht⟩ := Pipeline.Grid.coords_surjective grid0 (fun a => match a with
      | 0 => (⟨(y 0 : Nat), h0⟩ : Fin 8)
      | 1 => (⟨(y 1 : Nat) / 512, by omega⟩ : Fin 8))
    refine ⟨t, flush0_9 t, ?_⟩
    have e0 : (bAt t).val = (y 0 : Nat) := by show (grid0.coords t 0).val = _; rw [ht]
    have e1 : (iAt t).val = (y 1 : Nat) / 512 := by show (grid0.coords t 1).val = _; rw [ht]
    show y ∈ ((View.whole main_v48_3).slice (win0_9.rect t)).set
    rw [View.set_slice_whole, Rect.mem_set_unit]
    intro a
    match a with
    | ⟨0, _⟩ =>
      show (BitVec.ofNat 32 (bAt t).val).toNat * 1 ≤ (y 0 : Nat) ∧ (y 0 : Nat) < (BitVec.ofNat 32 (bAt t).val).toNat * 1 + 1
      rw [BitVec.toNat_ofNat]; omega
    | ⟨1, _⟩ =>
      show (BitVec.ofNat 32 (iAt t).val).toNat * 512 ≤ (y 1 : Nat) ∧ (y 1 : Nat) < (BitVec.ofNat 32 (iAt t).val).toNat * 512 + 512
      rw [BitVec.toNat_ofNat]; omega
    | ⟨2, _⟩ =>
      show 0 * 384 ≤ (y 2 : Nat) ∧ (y 2 : Nat) < 0 * 384 + 384
      omega

theorem arrAt_10 : (dats m 0 c).arrAt 10 cfg0.N = (fun y => (argsOf m c).sk (y 0) (y 1) (y 2).val : S8x4096x384.Idx → EReal) := by
  refine (dats m 0 c).arrAt_eq_of_cover 10 (fun y => (argsOf m c).sk (y 0) (y 1) (y 2).val : S8x4096x384.Idx → EReal) (fun t _ => ?_) fun y => ?_
  · rw [Cert.KernelInIdeal.Value.flushed10]
    have h0 : (bAt t).val < 8 := (bAt t).isLt
    have h1 : (iAt t).val < 8 := (iAt t).isLt
    funext j
    rw [View.read_apply]
    show out0_10 (F := Ideal) (iblk m c 0 t) (iblk m c 1 t) (iblk m c 2 t) (iblk m c 3 t) (iblk m c 4 t) (iblk m c 5 t) (j : S1x512x384.Idx) = _
    obtain ⟨a, r, l, rfl⟩ : ∃ (a : Fin 1) (r : Fin 512) (l : Fin 384), (j : S1x512x384.Idx) = ix3 a r l := ⟨j 0, j 1, j 2, by funext d; match d with | 0 => rfl | 1 => rfl | 2 => rfl⟩
    obtain rfl : a = 0 := Fin.eq_zero a
    have hr := r.isLt
    have hl := l.isLt
    refine (blk_out10 m c t r l).trans ?_
    congr 1
    · apply Fin.ext
      show (bAt t).val = (BitVec.ofNat 32 (bAt t).val).toNat * 1 + 1 * 0
      rw [BitVec.toNat_ofNat]; omega
    · apply Fin.ext
      show 512 * (iAt t).val + r.val = (BitVec.ofNat 32 (iAt t).val).toNat * 512 + 1 * r.val
      rw [BitVec.toNat_ofNat]; omega
    · show l.val = 0 * 384 + 1 * l.val
      omega
  · have h0 : (y 0 : Nat) < 8 := (y 0).isLt
    have h1 : (y 1 : Nat) < 4096 := (y 1).isLt
    have h2 : (y 2 : Nat) < 384 := (y 2).isLt
    obtain ⟨t, ht⟩ := Pipeline.Grid.coords_surjective grid0 (fun a => match a with
      | 0 => (⟨(y 0 : Nat), h0⟩ : Fin 8)
      | 1 => (⟨(y 1 : Nat) / 512, by omega⟩ : Fin 8))
    refine ⟨t, flush0_10 t, ?_⟩
    have e0 : (bAt t).val = (y 0 : Nat) := by show (grid0.coords t 0).val = _; rw [ht]
    have e1 : (iAt t).val = (y 1 : Nat) / 512 := by show (grid0.coords t 1).val = _; rw [ht]
    show y ∈ ((View.whole main_v48_4).slice (win0_10.rect t)).set
    rw [View.set_slice_whole, Rect.mem_set_unit]
    intro a
    match a with
    | ⟨0, _⟩ =>
      show (BitVec.ofNat 32 (bAt t).val).toNat * 1 ≤ (y 0 : Nat) ∧ (y 0 : Nat) < (BitVec.ofNat 32 (bAt t).val).toNat * 1 + 1
      rw [BitVec.toNat_ofNat]; omega
    | ⟨1, _⟩ =>
      show (BitVec.ofNat 32 (iAt t).val).toNat * 512 ≤ (y 1 : Nat) ∧ (y 1 : Nat) < (BitVec.ofNat 32 (iAt t).val).toNat * 512 + 512
      rw [BitVec.toNat_ofNat]; omega
    | ⟨2, _⟩ =>
      show 0 * 384 ≤ (y 2 : Nat) ∧ (y 2 : Nat) < 0 * 384 + 384
      omega

theorem arrAt_11 : (dats m 0 c).arrAt 11 cfg0.N = (fun y => (argsOf m c).cols 2312 (y 0) (y 1) (y 2).val : S8x4096x384.Idx → EReal) := by
  refine (dats m 0 c).arrAt_eq_of_cover 11 (fun y => (argsOf m c).cols 2312 (y 0) (y 1) (y 2).val : S8x4096x384.Idx → EReal) (fun t _ => ?_) fun y => ?_
  · rw [Cert.KernelInIdeal.Value.flushed11]
    have h0 : (bAt t).val < 8 := (bAt t).isLt
    have h1 : (iAt t).val < 8 := (iAt t).isLt
    funext j
    rw [View.read_apply]
    show out0_11 (F := Ideal) (iblk m c 0 t) (iblk m c 1 t) (iblk m c 2 t) (iblk m c 3 t) (iblk m c 4 t) (iblk m c 5 t) (j : S1x512x384.Idx) = _
    obtain ⟨a, r, l, rfl⟩ : ∃ (a : Fin 1) (r : Fin 512) (l : Fin 384), (j : S1x512x384.Idx) = ix3 a r l := ⟨j 0, j 1, j 2, by funext d; match d with | 0 => rfl | 1 => rfl | 2 => rfl⟩
    obtain rfl : a = 0 := Fin.eq_zero a
    have hr := r.isLt
    have hl := l.isLt
    refine (blk_out11 m c t r l).trans ?_
    congr 1
    · apply Fin.ext
      show (bAt t).val = (BitVec.ofNat 32 (bAt t).val).toNat * 1 + 1 * 0
      rw [BitVec.toNat_ofNat]; omega
    · apply Fin.ext
      show 512 * (iAt t).val + r.val = (BitVec.ofNat 32 (iAt t).val).toNat * 512 + 1 * r.val
      rw [BitVec.toNat_ofNat]; omega
    · show l.val = 0 * 384 + 1 * l.val
      omega
  · have h0 : (y 0 : Nat) < 8 := (y 0).isLt
    have h1 : (y 1 : Nat) < 4096 := (y 1).isLt
    have h2 : (y 2 : Nat) < 384 := (y 2).isLt
    obtain ⟨t, ht⟩ := Pipeline.Grid.coords_surjective grid0 (fun a => match a with
      | 0 => (⟨(y 0 : Nat), h0⟩ : Fin 8)
      | 1 => (⟨(y 1 : Nat) / 512, by omega⟩ : Fin 8))
    refine ⟨t, flush0_11 t, ?_⟩
    have e0 : (bAt t).val = (y 0 : Nat) := by show (grid0.coords t 0).val = _; rw [ht]
    have e1 : (iAt t).val = (y 1 : Nat) / 512 := by show (grid0.coords t 1).val = _; rw [ht]
    show y ∈ ((View.whole main_v48_5).slice (win0_11.rect t)).set
    rw [View.set_slice_whole, Rect.mem_set_unit]
    intro a
    match a with
    | ⟨0, _⟩ =>
      show (BitVec.ofNat 32 (bAt t).val).toNat * 1 ≤ (y 0 : Nat) ∧ (y 0 : Nat) < (BitVec.ofNat 32 (bAt t).val).toNat * 1 + 1
      rw [BitVec.toNat_ofNat]; omega
    | ⟨1, _⟩ =>
      show (BitVec.ofNat 32 (iAt t).val).toNat * 512 ≤ (y 1 : Nat) ∧ (y 1 : Nat) < (BitVec.ofNat 32 (iAt t).val).toNat * 512 + 512
      rw [BitVec.toNat_ofNat]; omega
    | ⟨2, _⟩ =>
      show 0 * 384 ≤ (y 2 : Nat) ∧ (y 2 : Nat) < 0 * 384 + 384
      omega

theorem arrAt_12 : (dats m 0 c).arrAt 12 cfg0.N = (fun y => (argsOf m c).cols 2696 (y 0) (y 1) (y 2).val : S8x4096x256.Idx → EReal) := by
  refine (dats m 0 c).arrAt_eq_of_cover 12 (fun y => (argsOf m c).cols 2696 (y 0) (y 1) (y 2).val : S8x4096x256.Idx → EReal) (fun t _ => ?_) fun y => ?_
  · rw [Cert.KernelInIdeal.Value.flushed12]
    have h0 : (bAt t).val < 8 := (bAt t).isLt
    have h1 : (iAt t).val < 8 := (iAt t).isLt
    funext j
    rw [View.read_apply]
    show out0_12 (F := Ideal) (iblk m c 0 t) (iblk m c 1 t) (iblk m c 2 t) (iblk m c 3 t) (iblk m c 4 t) (iblk m c 5 t) (j : S1x512x256.Idx) = _
    obtain ⟨a, r, l, rfl⟩ : ∃ (a : Fin 1) (r : Fin 512) (l : Fin 256), (j : S1x512x256.Idx) = ix3 a r l := ⟨j 0, j 1, j 2, by funext d; match d with | 0 => rfl | 1 => rfl | 2 => rfl⟩
    obtain rfl : a = 0 := Fin.eq_zero a
    have hr := r.isLt
    have hl := l.isLt
    refine (blk_out12 m c t r l).trans ?_
    congr 1
    · apply Fin.ext
      show (bAt t).val = (BitVec.ofNat 32 (bAt t).val).toNat * 1 + 1 * 0
      rw [BitVec.toNat_ofNat]; omega
    · apply Fin.ext
      show 512 * (iAt t).val + r.val = (BitVec.ofNat 32 (iAt t).val).toNat * 512 + 1 * r.val
      rw [BitVec.toNat_ofNat]; omega
    · show l.val = 0 * 256 + 1 * l.val
      omega
  · have h0 : (y 0 : Nat) < 8 := (y 0).isLt
    have h1 : (y 1 : Nat) < 4096 := (y 1).isLt
    have h2 : (y 2 : Nat) < 256 := (y 2).isLt
    obtain ⟨t, ht⟩ := Pipeline.Grid.coords_surjective grid0 (fun a => match a with
      | 0 => (⟨(y 0 : Nat), h0⟩ : Fin 8)
      | 1 => (⟨(y 1 : Nat) / 512, by omega⟩ : Fin 8))
    refine ⟨t, flush0_12 t, ?_⟩
    have e0 : (bAt t).val = (y 0 : Nat) := by show (grid0.coords t 0).val = _; rw [ht]
    have e1 : (iAt t).val = (y 1 : Nat) / 512 := by show (grid0.coords t 1).val = _; rw [ht]
    show y ∈ ((View.whole main_v48_6).slice (win0_12.rect t)).set
    rw [View.set_slice_whole, Rect.mem_set_unit]
    intro a
    match a with
    | ⟨0, _⟩ =>
      show (BitVec.ofNat 32 (bAt t).val).toNat * 1 ≤ (y 0 : Nat) ∧ (y 0 : Nat) < (BitVec.ofNat 32 (bAt t).val).toNat * 1 + 1
      rw [BitVec.toNat_ofNat]; omega
    | ⟨1, _⟩ =>
      show (BitVec.ofNat 32 (iAt t).val).toNat * 512 ≤ (y 1 : Nat) ∧ (y 1 : Nat) < (BitVec.ofNat 32 (iAt t).val).toNat * 512 + 512
      rw [BitVec.toNat_ofNat]; omega
    | ⟨2, _⟩ =>
      show 0 * 256 ≤ (y 2 : Nat) ∧ (y 2 : Nat) < 0 * 256 + 256
      omega

theorem arrAt_13 : (dats m 0 c).arrAt 13 cfg0.N = (fun y => (argsOf m c).cols 1536 (y 0) (y 2) (y 1).val : S8x8x4096.Idx → EReal) := by
  refine (dats m 0 c).arrAt_eq_of_cover 13 (fun y => (argsOf m c).cols 1536 (y 0) (y 2) (y 1).val : S8x8x4096.Idx → EReal) (fun t _ => ?_) fun y => ?_
  · rw [Cert.KernelInIdeal.Value.flushed13]
    have h0 : (bAt t).val < 8 := (bAt t).isLt
    have h1 : (iAt t).val < 8 := (iAt t).isLt
    funext j
    rw [View.read_apply]
    show out0_13 (F := Ideal) (iblk m c 0 t) (iblk m c 1 t) (iblk m c 2 t) (iblk m c 3 t) (iblk m c 4 t) (iblk m c 5 t) (j : S1x8x512.Idx) = _
    obtain ⟨a, l, r, rfl⟩ : ∃ (a : Fin 1) (l : Fin 8) (r : Fin 512), (j : S1x8x512.Idx) = ix3 a l r := ⟨j 0, j 1, j 2, by funext d; match d with | 0 => rfl | 1 => rfl | 2 => rfl⟩
    obtain rfl : a = 0 := Fin.eq_zero a
    have hr := r.isLt
    have hl := l.isLt
    refine (blk_out13 m c t r l).trans ?_
    congr 1
    · apply Fin.ext
      show (bAt t).val = (BitVec.ofNat 32 (bAt t).val).toNat * 1 + 1 * 0
      rw [BitVec.toNat_ofNat]; omega
    · apply Fin.ext
      show 512 * (iAt t).val + r.val = (BitVec.ofNat 32 (iAt t).val).toNat * 512 + 1 * r.val
      rw [BitVec.toNat_ofNat]; omega
    · show l.val = 0 * 8 + 1 * l.val
      omega
  · have h0 : (y 0 : Nat) < 8 := (y 0).isLt
    have h1 : (y 2 : Nat) < 4096 := (y 2).isLt
    have h2 : (y 1 : Nat) < 8 := (y 1).isLt
    obtain ⟨t, ht⟩ := Pipeline.Grid.coords_surjective grid0 (fun a => match a with
      | 0 => (⟨(y 0 : Nat), h0⟩ : Fin 8)
      | 1 => (⟨(y 2 : Nat) / 512, by omega⟩ : Fin 8))
    refine ⟨t, flush0_13 t, ?_⟩
    have e0 : (bAt t).val = (y 0 : Nat) := by show (grid0.coords t 0).val = _; rw [ht]
    have e1 : (iAt t).val = (y 2 : Nat) / 512 := by show (grid0.coords t 1).val = _; rw [ht]
    show y ∈ ((View.whole main_v48_7).slice (win0_13.rect t)).set
    rw [View.set_slice_whole, Rect.mem_set_unit]
    intro a
    match a with
    | ⟨0, _⟩ =>
      show (BitVec.ofNat 32 (bAt t).val).toNat * 1 ≤ (y 0 : Nat) ∧ (y 0 : Nat) < (BitVec.ofNat 32 (bAt t).val).toNat * 1 + 1
      rw [BitVec.toNat_ofNat]; omega
    | ⟨1, _⟩ =>
      show 0 * 8 ≤ (y 1 : Nat) ∧ (y 1 : Nat) < 0 * 8 + 8
      omega
    | ⟨2, _⟩ =>
      show (BitVec.ofNat 32 (iAt t).val).toNat * 512 ≤ (y 2 : Nat) ∧ (y 2 : Nat) < (BitVec.ofNat 32 (iAt t).val).toNat * 512 + 512
      rw [BitVec.toNat_ofNat]; omega

theorem arrAt_14 : (dats m 0 c).arrAt 14 cfg0.N = (fun y => (argsOf m c).swapped (y 0) (y 2) (y 1).val : S8x8x4096.Idx → EReal) := by
  refine (dats m 0 c).arrAt_eq_of_cover 14 (fun y => (argsOf m c).swapped (y 0) (y 2) (y 1).val : S8x8x4096.Idx → EReal) (fun t _ => ?_) fun y => ?_
  · rw [Cert.KernelInIdeal.Value.flushed14]
    have h0 : (bAt t).val < 8 := (bAt t).isLt
    have h1 : (iAt t).val < 8 := (iAt t).isLt
    funext j
    rw [View.read_apply]
    show out0_14 (F := Ideal) (iblk m c 0 t) (iblk m c 1 t) (iblk m c 2 t) (iblk m c 3 t) (iblk m c 4 t) (iblk m c 5 t) (j : S1x8x512.Idx) = _
    obtain ⟨a, l, r, rfl⟩ : ∃ (a : Fin 1) (l : Fin 8) (r : Fin 512), (j : S1x8x512.Idx) = ix3 a l r := ⟨j 0, j 1, j 2, by funext d; match d with | 0 => rfl | 1 => rfl | 2 => rfl⟩
    obtain rfl : a = 0 := Fin.eq_zero a
    have hr := r.isLt
    have hl := l.isLt
    refine (blk_out14 m c t r l).trans ?_
    congr 1
    · apply Fin.ext
      show (bAt t).val = (BitVec.ofNat 32 (bAt t).val).toNat * 1 + 1 * 0
      rw [BitVec.toNat_ofNat]; omega
    · apply Fin.ext
      show 512 * (iAt t).val + r.val = (BitVec.ofNat 32 (iAt t).val).toNat * 512 + 1 * r.val
      rw [BitVec.toNat_ofNat]; omega
    · show l.val = 0 * 8 + 1 * l.val
      omega
  · have h0 : (y 0 : Nat) < 8 := (y 0).isLt
    have h1 : (y 2 : Nat) < 4096 := (y 2).isLt
    have h2 : (y 1 : Nat) < 8 := (y 1).isLt
    obtain ⟨t, ht⟩ := Pipeline.Grid.coords_surjective grid0 (fun a => match a with
      | 0 => (⟨(y 0 : Nat), h0⟩ : Fin 8)
      | 1 => (⟨(y 2 : Nat) / 512, by omega⟩ : Fin 8))
    refine ⟨t, flush0_14 t, ?_⟩
    have e0 : (bAt t).val = (y 0 : Nat) := by show (grid0.coords t 0).val = _; rw [ht]
    have e1 : (iAt t).val = (y 2 : Nat) / 512 := by show (grid0.coords t 1).val = _; rw [ht]
    show y ∈ ((View.whole main_v48_8).slice (win0_14.rect t)).set
    rw [View.set_slice_whole, Rect.mem_set_unit]
    intro a
    match a with
    | ⟨0, _⟩ =>
      show (BitVec.ofNat 32 (bAt t).val).toNat * 1 ≤ (y 0 : Nat) ∧ (y 0 : Nat) < (BitVec.ofNat 32 (bAt t).val).toNat * 1 + 1
      rw [BitVec.toNat_ofNat]; omega
    | ⟨1, _⟩ =>
      show 0 * 8 ≤ (y 1 : Nat) ∧ (y 1 : Nat) < 0 * 8 + 8
      omega
    | ⟨2, _⟩ =>
      show (BitVec.ofNat 32 (iAt t).val).toNat * 512 ≤ (y 2 : Nat) ∧ (y 2 : Nat) < (BitVec.ofNat 32 (iAt t).val).toNat * 512 + 512
      rw [BitVec.toNat_ofNat]; omega

theorem arrAt_15 : (dats m 0 c).arrAt 15 cfg0.N = (fun y => (argsOf m c).cols 1536 (y 0) (y 1) (y 2).val : S8x4096x8.Idx → EReal) := by
  refine (dats m 0 c).arrAt_eq_of_cover 15 (fun y => (argsOf m c).cols 1536 (y 0) (y 1) (y 2).val : S8x4096x8.Idx → EReal) (fun t _ => ?_) fun y => ?_
  · rw [Cert.KernelInIdeal.Value.flushed15]
    have h0 : (bAt t).val < 8 := (bAt t).isLt
    have h1 : (iAt t).val < 8 := (iAt t).isLt
    funext j
    rw [View.read_apply]
    show out0_15 (F := Ideal) (iblk m c 0 t) (iblk m c 1 t) (iblk m c 2 t) (iblk m c 3 t) (iblk m c 4 t) (iblk m c 5 t) (j : S1x512x8.Idx) = _
    obtain ⟨a, r, l, rfl⟩ : ∃ (a : Fin 1) (r : Fin 512) (l : Fin 8), (j : S1x512x8.Idx) = ix3 a r l := ⟨j 0, j 1, j 2, by funext d; match d with | 0 => rfl | 1 => rfl | 2 => rfl⟩
    obtain rfl : a = 0 := Fin.eq_zero a
    have hr := r.isLt
    have hl := l.isLt
    refine (blk_out15 m c t r l).trans ?_
    congr 1
    · apply Fin.ext
      show (bAt t).val = (BitVec.ofNat 32 (bAt t).val).toNat * 1 + 1 * 0
      rw [BitVec.toNat_ofNat]; omega
    · apply Fin.ext
      show 512 * (iAt t).val + r.val = (BitVec.ofNat 32 (iAt t).val).toNat * 512 + 1 * r.val
      rw [BitVec.toNat_ofNat]; omega
    · show l.val = 0 * 8 + 1 * l.val
      omega
  · have h0 : (y 0 : Nat) < 8 := (y 0).isLt
    have h1 : (y 1 : Nat) < 4096 := (y 1).isLt
    have h2 : (y 2 : Nat) < 8 := (y 2).isLt
    obtain ⟨t, ht⟩ := Pipeline.Grid.coords_surjective grid0 (fun a => match a with
      | 0 => (⟨(y 0 : Nat), h0⟩ : Fin 8)
      | 1 => (⟨(y 1 : Nat) / 512, by omega⟩ : Fin 8))
    refine ⟨t, flush0_15 t, ?_⟩
    have e0 : (bAt t).val = (y 0 : Nat) := by show (grid0.coords t 0).val = _; rw [ht]
    have e1 : (iAt t).val = (y 1 : Nat) / 512 := by show (grid0.coords t 1).val = _; rw [ht]
    show y ∈ ((View.whole main_v48_9).slice (win0_15.rect t)).set
    rw [View.set_slice_whole, Rect.mem_set_unit]
    intro a
    match a with
    | ⟨0, _⟩ =>
      show (BitVec.ofNat 32 (bAt t).val).toNat * 1 ≤ (y 0 : Nat) ∧ (y 0 : Nat) < (BitVec.ofNat 32 (bAt t).val).toNat * 1 + 1
      rw [BitVec.toNat_ofNat]; omega
    | ⟨1, _⟩ =>
      show (BitVec.ofNat 32 (iAt t).val).toNat * 512 ≤ (y 1 : Nat) ∧ (y 1 : Nat) < (BitVec.ofNat 32 (iAt t).val).toNat * 512 + 512
      rw [BitVec.toNat_ofNat]; omega
    | ⟨2, _⟩ =>
      show 0 * 8 ≤ (y 2 : Nat) ∧ (y 2 : Nat) < 0 * 8 + 8
      omega

theorem arrAt_16 : (dats m 0 c).arrAt 16 cfg0.N = (fun y => (argsOf m c).swapped (y 0) (y 1) (y 2).val : S8x4096x8.Idx → EReal) := by
  refine (dats m 0 c).arrAt_eq_of_cover 16 (fun y => (argsOf m c).swapped (y 0) (y 1) (y 2).val : S8x4096x8.Idx → EReal) (fun t _ => ?_) fun y => ?_
  · rw [Cert.KernelInIdeal.Value.flushed16]
    have h0 : (bAt t).val < 8 := (bAt t).isLt
    have h1 : (iAt t).val < 8 := (iAt t).isLt
    funext j
    rw [View.read_apply]
    show out0_16 (F := Ideal) (iblk m c 0 t) (iblk m c 1 t) (iblk m c 2 t) (iblk m c 3 t) (iblk m c 4 t) (iblk m c 5 t) (j : S1x512x8.Idx) = _
    obtain ⟨a, r, l, rfl⟩ : ∃ (a : Fin 1) (r : Fin 512) (l : Fin 8), (j : S1x512x8.Idx) = ix3 a r l := ⟨j 0, j 1, j 2, by funext d; match d with | 0 => rfl | 1 => rfl | 2 => rfl⟩
    obtain rfl : a = 0 := Fin.eq_zero a
    have hr := r.isLt
    have hl := l.isLt
    refine (blk_out16 m c t r l).trans ?_
    congr 1
    · apply Fin.ext
      show (bAt t).val = (BitVec.ofNat 32 (bAt t).val).toNat * 1 + 1 * 0
      rw [BitVec.toNat_ofNat]; omega
    · apply Fin.ext
      show 512 * (iAt t).val + r.val = (BitVec.ofNat 32 (iAt t).val).toNat * 512 + 1 * r.val
      rw [BitVec.toNat_ofNat]; omega
    · show l.val = 0 * 8 + 1 * l.val
      omega
  · have h0 : (y 0 : Nat) < 8 := (y 0).isLt
    have h1 : (y 1 : Nat) < 4096 := (y 1).isLt
    have h2 : (y 2 : Nat) < 8 := (y 2).isLt
    obtain ⟨t, ht⟩ := Pipeline.Grid.coords_surjective grid0 (fun a => match a with
      | 0 => (⟨(y 0 : Nat), h0⟩ : Fin 8)
      | 1 => (⟨(y 1 : Nat) / 512, by omega⟩ : Fin 8))
    refine ⟨t, flush0_16 t, ?_⟩
    have e0 : (bAt t).val = (y 0 : Nat) := by show (grid0.coords t 0).val = _; rw [ht]
    have e1 : (iAt t).val = (y 1 : Nat) / 512 := by show (grid0.coords t 1).val = _; rw [ht]
    show y ∈ ((View.whole main_v48_10).slice (win0_16.rect t)).set
    rw [View.set_slice_whole, Rect.mem_set_unit]
    intro a
    match a with
    | ⟨0, _⟩ =>
      show (BitVec.ofNat 32 (bAt t).val).toNat * 1 ≤ (y 0 : Nat) ∧ (y 0 : Nat) < (BitVec.ofNat 32 (bAt t).val).toNat * 1 + 1
      rw [BitVec.toNat_ofNat]; omega
    | ⟨1, _⟩ =>
      show (BitVec.ofNat 32 (iAt t).val).toNat * 512 ≤ (y 1 : Nat) ∧ (y 1 : Nat) < (BitVec.ofNat 32 (iAt t).val).toNat * 512 + 512
      rw [BitVec.toNat_ofNat]; omega
    | ⟨2, _⟩ =>
      show 0 * 8 ≤ (y 2 : Nat) ∧ (y 2 : Nat) < 0 * 8 + 8
      omega

end Cert.KernelInIdeal.Hand

end

end
-- ==== Proof.InRef.lean ====
/-
  The input-projection reference at an index is the projection of the arguments.
-/
module

public import proofs.«01_k».proof.Proof.InSpec
public import proofs.«01_k».proof.Proof.Gen.ReferenceInIdeal.Read
public import Idealize.ShloMosaic.Lib.Pipeline.Value
public import Idealize.ShloMosaic.Lib.KernelVsHost

@[expose] public section

set_option maxRecDepth 16384

noncomputable section

namespace Cert.ReferenceInIdeal.Hand

open Cert.ReferenceInIdeal Cert.ReferenceInIdeal.Gen Cert.ReferenceInIdeal.Read Cert.InMath
open Idealize.ShloMosaic Idealize.ShloMosaic.TcCoe Idealize.SL.Sem

variable (a : Args)

/-- The normalized row. -/
theorem v12_apply (b : Fin 8) (t : Fin 4096) (j : Fin 1024) : val_main_v12 (F := Ideal) a.x a.g (ix3 b t j) = a.row b t j := by
  have e8 : idx_main_v8 (ix3 b t j) = ix3 b t (0 : Fin 1) := by funext d; match d with | ⟨0, _⟩ => rfl | ⟨1, _⟩ => rfl | ⟨2, _⟩ => rfl
  have e2 : idx_main_v2 (ix3 b t (0 : Fin 1)) = ix2 b t := by funext d; match d with | ⟨0, _⟩ => rfl | ⟨1, _⟩ => rfl
  have e1 : ∀ k : Fin 1024, idx_main_v1 (ix2 b t) k = ix3 b t k := fun k => by funext d; match d with | ⟨0, _⟩ => rfl | ⟨1, _⟩ => rfl | ⟨2, _⟩ => rfl
  have e10 : idx_main_v10 (idx_main_v11 (ix3 b t j)) = ix1 j := by funext d; match d with | ⟨0, _⟩ => rfl
  have hs : val_main_v1 (F := Ideal) a.x (ix2 b t) = ∑ k : Fin 1024, a.x (ix3 b t k) * a.x (ix3 b t k) := by
    rw [val_main_v1_apply, show (val_main_cst (F := Ideal) (Shape.Idx.first h_S_) : EReal) = 0 from Ideal.ofBits_zero_f32, zero_add]
    refine Finset.sum_congr rfl fun k _ => ?_
    rw [e1, val_main_v0_apply]
    rfl
  rw [val_main_v12_apply, val_main_v9_apply, val_main_v11_apply, val_main_v10_apply, e10, val_main_v8_apply, e8,
    val_main_v7_apply, val_main_v6_apply, val_main_v4_apply, val_main_v2_apply, e2, hs]
  rfl

/-- The projection. -/
theorem v13_apply (b : Fin 8) (t : Fin 4096) (n : Fin 2952) : val_main_v13 (F := Ideal) a.x a.g a.w (ix3 b t n) = a.z b t n.val := by
  rw [val_main_v13_apply]
  unfold Args.z
  refine Finset.sum_congr rfl fun k _ => ?_
  have e0 : lidx_main_v13 (ix3 b t n) k = ix3 b t k := by funext d; match d with | ⟨0, _⟩ => rfl | ⟨1, _⟩ => rfl | ⟨2, _⟩ => rfl
  have e1 : ridx_main_v13 (ix3 b t n) k = ix2 k (col n.val) := by
    funext d
    match d with
    | ⟨0, _⟩ => rfl
    | ⟨1, _⟩ => exact Fin.ext (Nat.mod_eq_of_lt n.isLt).symm
  rw [e0, e1, v12_apply]

/-! ## Slices of the projection -/

/-- The first heads. -/
theorem v14_apply (b : Fin 8) (t : Fin 4096) (j : Fin 384) : val_main_v14 (F := Ideal) a.x a.g a.w (ix3 b t j) = a.cols 0 b t j.val := by
  have e : idx_main_v14 (ix3 b t j) = ix3 b t (⟨0 + j.val, by have := j.isLt; omega⟩ : Fin 2952) := by
    funext d
    match d with
    | ⟨0, _⟩ => rfl
    | ⟨1, _⟩ => rfl
    | ⟨2, _⟩ => exact Fin.ext (by show j.val = 0 + j.val; omega)
  rw [val_main_v14_apply, e]
  exact v13_apply a b t _

/-- The second heads. -/
theorem v18_apply (b : Fin 8) (t : Fin 4096) (j : Fin 384) : val_main_v18 (F := Ideal) a.x a.g a.w (ix3 b t j) = a.cols 384 b t j.val := by
  have e : idx_main_v18 (ix3 b t j) = ix3 b t (⟨384 + j.val, by have := j.isLt; omega⟩ : Fin 2952) := by
    funext d
    match d with
    | ⟨0, _⟩ => rfl
    | ⟨1, _⟩ => rfl
    | ⟨2, _⟩ => exact Fin.ext (by show 384 + j.val = 384 + j.val; omega)
  rw [val_main_v18_apply, e]
  exact v13_apply a b t _

/-- The gates. -/
theorem v23_apply (b : Fin 8) (t : Fin 4096) (j : Fin 8) : val_main_v23 (F := Ideal) a.x a.g a.w (ix3 b t j) = a.cols 1536 b t j.val := by
  have e : idx_main_v23 (ix3 b t j) = ix3 b t (⟨1536 + j.val, by have := j.isLt; omega⟩ : Fin 2952) := by
    funext d
    match d with
    | ⟨0, _⟩ => rfl
    | ⟨1, _⟩ => rfl
    | ⟨2, _⟩ => exact Fin.ext (by show 1536 + j.val = 1536 + j.val; omega)
  rw [val_main_v23_apply, e]
  exact v13_apply a b t _

/-- The queries before their norm. -/
theorem v27_apply (b : Fin 8) (t : Fin 4096) (j : Fin 384) : val_main_v27 (F := Ideal) a.x a.g a.w (ix3 b t j) = a.cols 1544 b t j.val := by
  have e : idx_main_v27 (ix3 b t j) = ix3 b t (⟨1544 + j.val, by have := j.isLt; omega⟩ : Fin 2952) := by
    funext d
    match d with
    | ⟨0, _⟩ => rfl
    | ⟨1, _⟩ => rfl
    | ⟨2, _⟩ => exact Fin.ext (by show 1544 + j.val = 1544 + j.val; omega)
  rw [val_main_v27_apply, e]
  exact v13_apply a b t _

/-- The keys before their norm. -/
theorem v45_apply (b : Fin 8) (t : Fin 4096) (j : Fin 384) : val_main_v45 (F := Ideal) a.x a.g a.w (ix3 b t j) = a.cols 1928 b t j.val := by
  have e : idx_main_v45 (ix3 b t j) = ix3 b t (⟨1928 + j.val, by have := j.isLt; omega⟩ : Fin 2952) := by
    funext d
    match d with
    | ⟨0, _⟩ => rfl
    | ⟨1, _⟩ => rfl
    | ⟨2, _⟩ => exact Fin.ext (by show 1928 + j.val = 1928 + j.val; omega)
  rw [val_main_v45_apply, e]
  exact v13_apply a b t _

/-- The third heads. -/
theorem v61_apply (b : Fin 8) (t : Fin 4096) (j : Fin 384) : val_main_v61 (F := Ideal) a.x a.g a.w (ix3 b t j) = a.cols 768 b t j.val := by
  have e : idx_main_v61 (ix3 b t j) = ix3 b t (⟨768 + j.val, by have := j.isLt; omega⟩ : Fin 2952) := by
    funext d
    match d with
    | ⟨0, _⟩ => rfl
    | ⟨1, _⟩ => rfl
    | ⟨2, _⟩ => exact Fin.ext (by show 768 + j.val = 768 + j.val; omega)
  rw [val_main_v61_apply, e]
  exact v13_apply a b t _

/-- The fourth heads. -/
theorem v66_apply (b : Fin 8) (t : Fin 4096) (j : Fin 384) : val_main_v66 (F := Ideal) a.x a.g a.w (ix3 b t j) = a.cols 1152 b t j.val := by
  have e : idx_main_v66 (ix3 b t j) = ix3 b t (⟨1152 + j.val, by have := j.isLt; omega⟩ : Fin 2952) := by
    funext d
    match d with
    | ⟨0, _⟩ => rfl
    | ⟨1, _⟩ => rfl
    | ⟨2, _⟩ => exact Fin.ext (by show 1152 + j.val = 1152 + j.val; omega)
  rw [val_main_v66_apply, e]
  exact v13_apply a b t _

/-- The values. -/
theorem v73_apply (b : Fin 8) (t : Fin 4096) (j : Fin 384) : val_main_v73 (F := Ideal) a.x a.g a.w (ix3 b t j) = a.cols 2312 b t j.val := by
  have e : idx_main_v73 (ix3 b t j) = ix3 b t (⟨2312 + j.val, by have := j.isLt; omega⟩ : Fin 2952) := by
    funext d
    match d with
    | ⟨0, _⟩ => rfl
    | ⟨1, _⟩ => rfl
    | ⟨2, _⟩ => exact Fin.ext (by show 2312 + j.val = 2312 + j.val; omega)
  rw [val_main_v73_apply, e]
  exact v13_apply a b t _

/-- The last columns. -/
theorem v75_apply (b : Fin 8) (t : Fin 4096) (j : Fin 256) : val_main_v75 (F := Ideal) a.x a.g a.w (ix3 b t j) = a.cols 2696 b t j.val := by
  have e : idx_main_v75 (ix3 b t j) = ix3 b t (⟨2696 + j.val, by have := j.isLt; omega⟩ : Fin 2952) := by
    funext d
    match d with
    | ⟨0, _⟩ => rfl
    | ⟨1, _⟩ => rfl
    | ⟨2, _⟩ => exact Fin.ext (by show 2696 + j.val = 2696 + j.val; omega)
  rw [val_main_v75_apply, e]
  exact v13_apply a b t _

/-- The values, stored. -/
theorem v74_apply (b : Fin 8) (t : Fin 4096) (j : Fin 384) : val_main_v74 (F := Ideal) a.x a.g a.w (ix3 b t j) = a.cols 2312 b t j.val :=
  v73_apply a b t j

/-! ## The padded heads -/

/-- Heads of 96 channels padded by zeros. -/
theorem pad_heads (u : S8x4096x4x96.Idx → EReal) (z : S_.Idx → EReal) (hz : z (Shape.Idx.first h_S_) = 0) (b : Fin 8) (t : Fin 4096) (h : Fin 4) (e : Fin 128)
    (f : ℕ → EReal) (hu : ∀ i : Fin 96, u (ix4 b t h i) = f i.val) :
    pad S8x4096x4x128 ![0, 0, 0, 0] ![0, 0, 0, 32] ![0, 0, 0, 0] u z pads_S8x4096x4x96_S8x4096x4x128_000_000_000_0320 h_S_ (ix4 b t h e)
      = if e.val < 96 then f e.val else 0 := by
  by_cases hp : e.val < 96
  · rw [if_pos hp]
    refine (pad_apply_of_inside (t := S8x4096x4x128) ![0, 0, 0, 0] ![0, 0, 0, 32] ![0, 0, 0, 0] _ _ pads_S8x4096x4x96_S8x4096x4x128_000_000_000_0320 h_S_ (ix4 b t h e)
      (ix4 b t h (⟨e.val, hp⟩ : Fin 96)) (fun d => by
        match d with
        | ⟨0, _⟩ => show b.val = 0 + b.val * (0 + 1); omega
        | ⟨1, _⟩ => show t.val = 0 + t.val * (0 + 1); omega
        | ⟨2, _⟩ => show h.val = 0 + h.val * (0 + 1); omega
        | ⟨3, _⟩ => show e.val = 0 + e.val * (0 + 1); omega)).trans (hu _)
  · rw [if_neg hp]
    refine (pad_apply_of_not_inside (s := S8x4096x4x96) (t := S8x4096x4x128) ![0, 0, 0, 0] ![0, 0, 0, 32] ![0, 0, 0, 0] _ _ pads_S8x4096x4x96_S8x4096x4x128_000_000_000_0320 h_S_ (ix4 b t h e) 3
      (fun hc => by
        have h2 : (e.val - 0) / (0 + 1) < 96 := hc.2.2
        omega)).trans hz

/-- The padding value. -/
theorem pad_zero : ((((0#32).toInt : ℤ) : ℝ) : EReal) = 0 := by simp

theorem v15_apply (b : Fin 8) (t : Fin 4096) (h : Fin 4) (e : Fin 96) : val_main_v15 (F := Ideal) a.x a.g a.w (ix4 b t h e) = a.cols 0 b t (96 * h.val + e.val) := by
  have hb := b.isLt
  have ht := t.isLt
  have hh := h.isLt
  have he := e.isLt
  have ei : idx_main_v15 (ix4 b t h e) = ix3 b t (⟨96 * h.val + e.val, by omega⟩ : Fin 384) := by
    funext d
    apply Fin.ext
    match d with
    | ⟨0, _⟩ => show (((b.val * 4096 + t.val) * 4 + h.val) * 96 + e.val) / 1572864 = b.val; omega
    | ⟨1, _⟩ => show (((b.val * 4096 + t.val) * 4 + h.val) * 96 + e.val) / 384 % 4096 = t.val; omega
    | ⟨2, _⟩ => show (((b.val * 4096 + t.val) * 4 + h.val) * 96 + e.val) % 384 = 96 * h.val + e.val; omega
  rw [val_main_v15_apply, ei]
  exact v14_apply a b t _

/-- The first heads, padded. -/
theorem v17_apply (b : Fin 8) (t : Fin 4096) (p : Fin 512) : val_main_v17 (F := Ideal) a.x a.g a.w (ix3 b t p) = a.lanes 0 b t p.val := by
  have hb := b.isLt
  have ht := t.isLt
  have hp := p.isLt
  have ei : idx_main_v17 (ix3 b t p) = ix4 b t (⟨p.val / 128, by omega⟩ : Fin 4) (⟨p.val % 128, Nat.mod_lt _ (by decide)⟩ : Fin 128) := by
    funext d
    apply Fin.ext
    match d with
    | ⟨0, _⟩ => show ((b.val * 4096 + t.val) * 512 + p.val) / 2097152 = b.val; omega
    | ⟨1, _⟩ => show ((b.val * 4096 + t.val) * 512 + p.val) / 512 % 4096 = t.val; omega
    | ⟨2, _⟩ => show ((b.val * 4096 + t.val) * 512 + p.val) / 128 % 4 = p.val / 128; omega
    | ⟨3, _⟩ => show ((b.val * 4096 + t.val) * 512 + p.val) % 128 = p.val % 128; omega
  rw [val_main_v17_apply, ei]
  unfold val_main_v16
  exact pad_heads (val_main_v15 (F := Ideal) a.x a.g a.w) (val_main_call0_v0 (F := Ideal)) pad_zero b t _ _ (fun n => a.cols 0 b t (96 * (p.val / 128) + n)) (fun i => v15_apply a b t _ i)

theorem v19_apply (b : Fin 8) (t : Fin 4096) (h : Fin 4) (e : Fin 96) : val_main_v19 (F := Ideal) a.x a.g a.w (ix4 b t h e) = a.cols 384 b t (96 * h.val + e.val) := by
  have hb := b.isLt
  have ht := t.isLt
  have hh := h.isLt
  have he := e.isLt
  have ei : idx_main_v19 (ix4 b t h e) = ix3 b t (⟨96 * h.val + e.val, by omega⟩ : Fin 384) := by
    funext d
    apply Fin.ext
    match d with
    | ⟨0, _⟩ => show (((b.val * 4096 + t.val) * 4 + h.val) * 96 + e.val) / 1572864 = b.val; omega
    | ⟨1, _⟩ => show (((b.val * 4096 + t.val) * 4 + h.val) * 96 + e.val) / 384 % 4096 = t.val; omega
    | ⟨2, _⟩ => show (((b.val * 4096 + t.val) * 4 + h.val) * 96 + e.val) % 384 = 96 * h.val + e.val; omega
  rw [val_main_v19_apply, ei]
  exact v18_apply a b t _

/-- The second heads, padded. -/
theorem v21_apply (b : Fin 8) (t : Fin 4096) (p : Fin 512) : val_main_v21 (F := Ideal) a.x a.g a.w (ix3 b t p) = a.lanes 384 b t p.val := by
  have hb := b.isLt
  have ht := t.isLt
  have hp := p.isLt
  have ei : idx_main_v21 (ix3 b t p) = ix4 b t (⟨p.val / 128, by omega⟩ : Fin 4) (⟨p.val % 128, Nat.mod_lt _ (by decide)⟩ : Fin 128) := by
    funext d
    apply Fin.ext
    match d with
    | ⟨0, _⟩ => show ((b.val * 4096 + t.val) * 512 + p.val) / 2097152 = b.val; omega
    | ⟨1, _⟩ => show ((b.val * 4096 + t.val) * 512 + p.val) / 512 % 4096 = t.val; omega
    | ⟨2, _⟩ => show ((b.val * 4096 + t.val) * 512 + p.val) / 128 % 4 = p.val / 128; omega
    | ⟨3, _⟩ => show ((b.val * 4096 + t.val) * 512 + p.val) % 128 = p.val % 128; omega
  rw [val_main_v21_apply, ei]
  unfold val_main_v20
  exact pad_heads (val_main_v19 (F := Ideal) a.x a.g a.w) (val_main_call1_v0 (F := Ideal)) pad_zero b t _ _ (fun n => a.cols 384 b t (96 * (p.val / 128) + n)) (fun i => v19_apply a b t _ i)

theorem v62_apply (b : Fin 8) (t : Fin 4096) (h : Fin 4) (e : Fin 96) : val_main_v62 (F := Ideal) a.x a.g a.w (ix4 b t h e) = a.cols 768 b t (96 * h.val + e.val) := by
  have hb := b.isLt
  have ht := t.isLt
  have hh := h.isLt
  have he := e.isLt
  have ei : idx_main_v62 (ix4 b t h e) = ix3 b t (⟨96 * h.val + e.val, by omega⟩ : Fin 384) := by
    funext d
    apply Fin.ext
    match d with
    | ⟨0, _⟩ => show (((b.val * 4096 + t.val) * 4 + h.val) * 96 + e.val) / 1572864 = b.val; omega
    | ⟨1, _⟩ => show (((b.val * 4096 + t.val) * 4 + h.val) * 96 + e.val) / 384 % 4096 = t.val; omega
    | ⟨2, _⟩ => show (((b.val * 4096 + t.val) * 4 + h.val) * 96 + e.val) % 384 = 96 * h.val + e.val; omega
  rw [val_main_v62_apply, ei]
  exact v61_apply a b t _

/-- The third heads, padded. -/
theorem v64_apply (b : Fin 8) (t : Fin 4096) (p : Fin 512) : val_main_v64 (F := Ideal) a.x a.g a.w (ix3 b t p) = a.lanes 768 b t p.val := by
  have hb := b.isLt
  have ht := t.isLt
  have hp := p.isLt
  have ei : idx_main_v64 (ix3 b t p) = ix4 b t (⟨p.val / 128, by omega⟩ : Fin 4) (⟨p.val % 128, Nat.mod_lt _ (by decide)⟩ : Fin 128) := by
    funext d
    apply Fin.ext
    match d with
    | ⟨0, _⟩ => show ((b.val * 4096 + t.val) * 512 + p.val) / 2097152 = b.val; omega
    | ⟨1, _⟩ => show ((b.val * 4096 + t.val) * 512 + p.val) / 512 % 4096 = t.val; omega
    | ⟨2, _⟩ => show ((b.val * 4096 + t.val) * 512 + p.val) / 128 % 4 = p.val / 128; omega
    | ⟨3, _⟩ => show ((b.val * 4096 + t.val) * 512 + p.val) % 128 = p.val % 128; omega
  rw [val_main_v64_apply, ei]
  unfold val_main_v63
  exact pad_heads (val_main_v62 (F := Ideal) a.x a.g a.w) (val_main_call2_v0 (F := Ideal)) pad_zero b t _ _ (fun n => a.cols 768 b t (96 * (p.val / 128) + n)) (fun i => v62_apply a b t _ i)

theorem v65_apply (b : Fin 8) (t : Fin 4096) (p : Fin 512) : val_main_v65 (F := Ideal) a.x a.g a.w (ix3 b t p) = a.lanes 768 b t p.val :=
  v64_apply a b t p

theorem v67_apply (b : Fin 8) (t : Fin 4096) (h : Fin 4) (e : Fin 96) : val_main_v67 (F := Ideal) a.x a.g a.w (ix4 b t h e) = a.cols 1152 b t (96 * h.val + e.val) := by
  have hb := b.isLt
  have ht := t.isLt
  have hh := h.isLt
  have he := e.isLt
  have ei : idx_main_v67 (ix4 b t h e) = ix3 b t (⟨96 * h.val + e.val, by omega⟩ : Fin 384) := by
    funext d
    apply Fin.ext
    match d with
    | ⟨0, _⟩ => show (((b.val * 4096 + t.val) * 4 + h.val) * 96 + e.val) / 1572864 = b.val; omega
    | ⟨1, _⟩ => show (((b.val * 4096 + t.val) * 4 + h.val) * 96 + e.val) / 384 % 4096 = t.val; omega
    | ⟨2, _⟩ => show (((b.val * 4096 + t.val) * 4 + h.val) * 96 + e.val) % 384 = 96 * h.val + e.val; omega
  rw [val_main_v67_apply, ei]
  exact v66_apply a b t _

/-- The fourth heads, padded. -/
theorem v69_apply (b : Fin 8) (t : Fin 4096) (p : Fin 512) : val_main_v69 (F := Ideal) a.x a.g a.w (ix3 b t p) = a.lanes 1152 b t p.val := by
  have hb := b.isLt
  have ht := t.isLt
  have hp := p.isLt
  have ei : idx_main_v69 (ix3 b t p) = ix4 b t (⟨p.val / 128, by omega⟩ : Fin 4) (⟨p.val % 128, Nat.mod_lt _ (by decide)⟩ : Fin 128) := by
    funext d
    apply Fin.ext
    match d with
    | ⟨0, _⟩ => show ((b.val * 4096 + t.val) * 512 + p.val) / 2097152 = b.val; omega
    | ⟨1, _⟩ => show ((b.val * 4096 + t.val) * 512 + p.val) / 512 % 4096 = t.val; omega
    | ⟨2, _⟩ => show ((b.val * 4096 + t.val) * 512 + p.val) / 128 % 4 = p.val / 128; omega
    | ⟨3, _⟩ => show ((b.val * 4096 + t.val) * 512 + p.val) % 128 = p.val % 128; omega
  rw [val_main_v69_apply, ei]
  unfold val_main_v68
  exact pad_heads (val_main_v67 (F := Ideal) a.x a.g a.w) (val_main_call3_v0 (F := Ideal)) pad_zero b t _ _ (fun n => a.cols 1152 b t (96 * (p.val / 128) + n)) (fun i => v67_apply a b t _ i)

theorem v70_apply (b : Fin 8) (t : Fin 4096) (p : Fin 512) : val_main_v70 (F := Ideal) a.x a.g a.w (ix3 b t p) = a.lanes 1152 b t p.val :=
  v69_apply a b t p

/-- The first and the second heads. -/
abbrev pair : List ((s : Shape) × (s.Idx → EReal)) :=
  [⟨S8x4096x512, val_main_v17 (F := Ideal) a.x a.g a.w⟩, ⟨S8x4096x512, val_main_v21 (F := Ideal) a.x a.g a.w⟩]

/-- The first and the second heads side by side. -/
theorem v22_apply (b : Fin 8) (t : Fin 4096) (p : Fin 1024) : val_main_v22 (F := Ideal) a.x a.g a.w (ix3 b t p) = a.lanes 0 b t p.val := by
  have hp := p.isLt
  unfold val_main_v22
  by_cases h1 : p.val < 512
  · refine (concatenate_apply_piece (t := S8x4096x1024) 2 (pair a) concatenates_S8x4096x512_S8x4096x512_S8x4096x1024_d2 (ix3 b t p) 0 (by show 0 < 2; decide) S8x4096x512 (val_main_v17 (F := Ideal) a.x a.g a.w) rfl rfl 0 rfl
      (ix3 b t (⟨p.val, h1⟩ : Fin 512)) (fun d hd => ?_) (Nat.zero_add _)).trans (v17_apply a b t _)
    match d with
    | ⟨0, _⟩ => rfl
    | ⟨1, _⟩ => rfl
    | ⟨2, _⟩ => exact absurd rfl hd
  · refine (concatenate_apply_piece (t := S8x4096x1024) 2 (pair a) concatenates_S8x4096x512_S8x4096x512_S8x4096x1024_d2 (ix3 b t p) 1 (by show 1 < 2; decide) S8x4096x512 (val_main_v21 (F := Ideal) a.x a.g a.w) rfl rfl 512 rfl
      (ix3 b t (⟨p.val - 512, by omega⟩ : Fin 512)) (fun d hd => ?_) (by show 512 + (p.val - 512) = p.val; omega)).trans ?_
    · match d with
      | ⟨0, _⟩ => rfl
      | ⟨1, _⟩ => rfl
      | ⟨2, _⟩ => exact absurd rfl hd
    · refine (v21_apply a b t _).trans ?_
      show (if (p.val - 512) % 128 < 96 then a.z b t (384 + (96 * ((p.val - 512) / 128) + (p.val - 512) % 128)) else 0)
        = if p.val % 128 < 96 then a.z b t (0 + (96 * (p.val / 128) + p.val % 128)) else 0
      rw [show (p.val - 512) % 128 = p.val % 128 by omega,
        show 384 + (96 * ((p.val - 512) / 128) + p.val % 128) = 0 + (96 * (p.val / 128) + p.val % 128) by omega]

/-! ## The gates -/

/-- The gates' two halves, the second first. -/
abbrev halves : List ((s : Shape) × (s.Idx → EReal)) :=
  [⟨S8x4096x4, val_main_v24 (F := Ideal) a.x a.g a.w⟩, ⟨S8x4096x4, val_main_v25 (F := Ideal) a.x a.g a.w⟩]

/-- The gates with their halves exchanged. -/
theorem v26_apply (b : Fin 8) (t : Fin 4096) (r : Fin 8) : val_main_v26 (F := Ideal) a.x a.g a.w (ix3 b t r) = a.swapped b t r.val := by
  have hr := r.isLt
  unfold val_main_v26
  by_cases h1 : r.val < 4
  · refine (concatenate_apply_piece (t := S8x4096x8) 2 (halves a) concatenates_S8x4096x4_S8x4096x4_S8x4096x8_d2 (ix3 b t r) 0 (by show 0 < 2; decide) S8x4096x4 (val_main_v24 (F := Ideal) a.x a.g a.w) rfl rfl 0 rfl
      (ix3 b t (⟨r.val, h1⟩ : Fin 4)) (fun d hd => ?_) (Nat.zero_add _)).trans ?_
    · match d with
      | ⟨0, _⟩ => rfl
      | ⟨1, _⟩ => rfl
      | ⟨2, _⟩ => exact absurd rfl hd
    · have e : idx_main_v24 (ix3 b t (⟨r.val, h1⟩ : Fin 4)) = ix3 b t (⟨(r.val + 4) % 8, by omega⟩ : Fin 8) := by
        funext d
        match d with
        | ⟨0, _⟩ => rfl
        | ⟨1, _⟩ => rfl
        | ⟨2, _⟩ => exact Fin.ext (by show 4 + r.val = (r.val + 4) % 8; omega)
      rw [val_main_v24_apply, e]
      exact v23_apply a b t _
  · refine (concatenate_apply_piece (t := S8x4096x8) 2 (halves a) concatenates_S8x4096x4_S8x4096x4_S8x4096x8_d2 (ix3 b t r) 1 (by show 1 < 2; decide) S8x4096x4 (val_main_v25 (F := Ideal) a.x a.g a.w) rfl rfl 4 rfl
      (ix3 b t (⟨r.val - 4, by omega⟩ : Fin 4)) (fun d hd => ?_) (by show 4 + (r.val - 4) = r.val; omega)).trans ?_
    · match d with
      | ⟨0, _⟩ => rfl
      | ⟨1, _⟩ => rfl
      | ⟨2, _⟩ => exact absurd rfl hd
    · have e : idx_main_v25 (ix3 b t (⟨r.val - 4, by omega⟩ : Fin 4)) = ix3 b t (⟨(r.val + 4) % 8, by omega⟩ : Fin 8) := by
        funext d
        match d with
        | ⟨0, _⟩ => rfl
        | ⟨1, _⟩ => rfl
        | ⟨2, _⟩ => exact Fin.ext (by show r.val - 4 = (r.val + 4) % 8; omega)
      rw [val_main_v25_apply, e]
      exact v23_apply a b t _

/-- The gates, transposed. -/
theorem v76_apply (b : Fin 8) (r : Fin 8) (t : Fin 4096) : val_main_v76 (F := Ideal) a.x a.g a.w (ix3 b r t) = a.cols 1536 b t r.val := by
  have e : idx_main_v76 (ix3 b r t) = ix3 b t r := by funext d; match d with | ⟨0, _⟩ => rfl | ⟨1, _⟩ => rfl | ⟨2, _⟩ => rfl
  rw [val_main_v76_apply, e]
  exact v23_apply a b t r

/-- The exchanged gates, transposed. -/
theorem v77_apply (b : Fin 8) (r : Fin 8) (t : Fin 4096) : val_main_v77 (F := Ideal) a.x a.g a.w (ix3 b r t) = a.swapped b t r.val := by
  have e : idx_main_v77 (ix3 b r t) = ix3 b t r := by funext d; match d with | ⟨0, _⟩ => rfl | ⟨1, _⟩ => rfl | ⟨2, _⟩ => rfl
  rw [val_main_v77_apply, e]
  exact v26_apply a b t r

/-! ## The normalized heads -/

theorem v28_apply (b : Fin 8) (t : Fin 4096) (h : Fin 6) (e : Fin 64) : val_main_v28 (F := Ideal) a.x a.g a.w (ix4 b t h e) = a.cols 1544 b t (64 * h.val + e.val) := by
  have hb := b.isLt
  have ht := t.isLt
  have hh := h.isLt
  have he := e.isLt
  have ei : idx_main_v28 (ix4 b t h e) = ix3 b t (⟨64 * h.val + e.val, by omega⟩ : Fin 384) := by
    funext d
    apply Fin.ext
    match d with
    | ⟨0, _⟩ => show (((b.val * 4096 + t.val) * 6 + h.val) * 64 + e.val) / 1572864 = b.val; omega
    | ⟨1, _⟩ => show (((b.val * 4096 + t.val) * 6 + h.val) * 64 + e.val) / 384 % 4096 = t.val; omega
    | ⟨2, _⟩ => show (((b.val * 4096 + t.val) * 6 + h.val) * 64 + e.val) % 384 = 64 * h.val + e.val; omega
  rw [val_main_v28_apply, ei]
  exact v27_apply a b t _

/-- The sum of squares of a head. -/
theorem v30_apply (b : Fin 8) (t : Fin 4096) (h : Fin 6) : val_main_v30 (F := Ideal) a.x a.g a.w (ix3 b t h)
    = ∑ i : Fin 64, a.z b t (1544 + (64 * h.val + i.val)) * a.z b t (1544 + (64 * h.val + i.val)) := by
  rw [val_main_v30_apply, show (val_main_cst_3 (F := Ideal) (Shape.Idx.first h_S_) : EReal) = 0 from Ideal.ofBits_zero_f32, zero_add]
  refine Finset.sum_congr rfl fun i _ => ?_
  have ei : idx_main_v30 (ix3 b t h) i = ix4 b t h i := by funext d; match d with | ⟨0, _⟩ => rfl | ⟨1, _⟩ => rfl | ⟨2, _⟩ => rfl | ⟨3, _⟩ => rfl
  rw [ei, val_main_v29_apply, v28_apply]
  rfl

/-- The normalized queries, by heads. -/
theorem v41_apply (b : Fin 8) (t : Fin 4096) (h : Fin 6) (e : Fin 64) : val_main_v41 (F := Ideal) a.x a.g a.w a.qg (ix4 b t h e)
    = scaled (a.z b t (1544 + (64 * h.val + e.val))) (∑ i : Fin 64, a.z b t (1544 + (64 * h.val + i.val)) * a.z b t (1544 + (64 * h.val + i.val))) * a.qg (ix1 e) := by
  have eb : idx_main_v37 (ix4 b t h e) = ix4 b t h (0 : Fin 1) := by funext d; match d with | ⟨0, _⟩ => rfl | ⟨1, _⟩ => rfl | ⟨2, _⟩ => rfl | ⟨3, _⟩ => rfl
  have ec : idx_main_v31 (ix4 b t h (0 : Fin 1)) = ix3 b t h := by funext d; match d with | ⟨0, _⟩ => rfl | ⟨1, _⟩ => rfl | ⟨2, _⟩ => rfl
  have eg : idx_main_v39 (idx_main_v40 (ix4 b t h e)) = ix1 e := by funext d; match d with | ⟨0, _⟩ => rfl
  rw [val_main_v41_apply, val_main_v38_apply, val_main_v40_apply, val_main_v39_apply, eg, v28_apply, val_main_v37_apply, eb,
    val_main_v36_apply, val_main_v35_apply, val_main_v33_apply, val_main_v31_apply, ec, v30_apply]
  unfold scaled
  rw [← div_head]
  rfl

theorem v42_apply (b : Fin 8) (t : Fin 4096) (j : Fin 384) : val_main_v42 (F := Ideal) a.x a.g a.w a.qg (ix3 b t j)
    = scaled (a.z b t (1544 + j.val)) (a.headSq 1544 b t j.val) * a.qg (ix1 (ch j.val)) := by
  have hb := b.isLt
  have ht := t.isLt
  have hj := j.isLt
  have ei : idx_main_v42 (ix3 b t j) = ix4 b t (⟨j.val / 64, by omega⟩ : Fin 6) (⟨j.val % 64, Nat.mod_lt _ (by decide)⟩ : Fin 64) := by
    funext d
    apply Fin.ext
    match d with
    | ⟨0, _⟩ => show ((b.val * 4096 + t.val) * 384 + j.val) / 1572864 = b.val; omega
    | ⟨1, _⟩ => show ((b.val * 4096 + t.val) * 384 + j.val) / 384 % 4096 = t.val; omega
    | ⟨2, _⟩ => show ((b.val * 4096 + t.val) * 384 + j.val) / 64 % 6 = j.val / 64; omega
    | ⟨3, _⟩ => show ((b.val * 4096 + t.val) * 384 + j.val) % 64 = j.val % 64; omega
  rw [val_main_v42_apply, ei, v41_apply]
  show scaled (a.z b t (1544 + (64 * (j.val / 64) + j.val % 64))) _ * _ = _
  rw [show 64 * (j.val / 64) + j.val % 64 = j.val by omega]
  rfl

/-- The queries, scaled and stored. -/
theorem v71_apply (b : Fin 8) (t : Fin 4096) (j : Fin 384) : val_main_v71 (F := Ideal) a.x a.g a.w a.qg (ix3 b t j) = a.sq b t j.val := by
  rw [val_main_v71_apply, val_main_v44_apply, v42_apply]
  rfl

theorem v46_apply (b : Fin 8) (t : Fin 4096) (h : Fin 6) (e : Fin 64) : val_main_v46 (F := Ideal) a.x a.g a.w (ix4 b t h e) = a.cols 1928 b t (64 * h.val + e.val) := by
  have hb := b.isLt
  have ht := t.isLt
  have hh := h.isLt
  have he := e.isLt
  have ei : idx_main_v46 (ix4 b t h e) = ix3 b t (⟨64 * h.val + e.val, by omega⟩ : Fin 384) := by
    funext d
    apply Fin.ext
    match d with
    | ⟨0, _⟩ => show (((b.val * 4096 + t.val) * 6 + h.val) * 64 + e.val) / 1572864 = b.val; omega
    | ⟨1, _⟩ => show (((b.val * 4096 + t.val) * 6 + h.val) * 64 + e.val) / 384 % 4096 = t.val; omega
    | ⟨2, _⟩ => show (((b.val * 4096 + t.val) * 6 + h.val) * 64 + e.val) % 384 = 64 * h.val + e.val; omega
  rw [val_main_v46_apply, ei]
  exact v45_apply a b t _

/-- The sum of squares of a head. -/
theorem v48_apply (b : Fin 8) (t : Fin 4096) (h : Fin 6) : val_main_v48 (F := Ideal) a.x a.g a.w (ix3 b t h)
    = ∑ i : Fin 64, a.z b t (1928 + (64 * h.val + i.val)) * a.z b t (1928 + (64 * h.val + i.val)) := by
  rw [val_main_v48_apply, show (val_main_cst_7 (F := Ideal) (Shape.Idx.first h_S_) : EReal) = 0 from Ideal.ofBits_zero_f32, zero_add]
  refine Finset.sum_congr rfl fun i _ => ?_
  have ei : idx_main_v48 (ix3 b t h) i = ix4 b t h i := by funext d; match d with | ⟨0, _⟩ => rfl | ⟨1, _⟩ => rfl | ⟨2, _⟩ => rfl | ⟨3, _⟩ => rfl
  rw [ei, val_main_v47_apply, v46_apply]
  rfl

/-- The normalized keys, by heads. -/
theorem v59_apply (b : Fin 8) (t : Fin 4096) (h : Fin 6) (e : Fin 64) : val_main_v59 (F := Ideal) a.x a.g a.w a.kg (ix4 b t h e)
    = scaled (a.z b t (1928 + (64 * h.val + e.val))) (∑ i : Fin 64, a.z b t (1928 + (64 * h.val + i.val)) * a.z b t (1928 + (64 * h.val + i.val))) * a.kg (ix1 e) := by
  have eb : idx_main_v55 (ix4 b t h e) = ix4 b t h (0 : Fin 1) := by funext d; match d with | ⟨0, _⟩ => rfl | ⟨1, _⟩ => rfl | ⟨2, _⟩ => rfl | ⟨3, _⟩ => rfl
  have ec : idx_main_v49 (ix4 b t h (0 : Fin 1)) = ix3 b t h := by funext d; match d with | ⟨0, _⟩ => rfl | ⟨1, _⟩ => rfl | ⟨2, _⟩ => rfl
  have eg : idx_main_v57 (idx_main_v58 (ix4 b t h e)) = ix1 e := by funext d; match d with | ⟨0, _⟩ => rfl
  rw [val_main_v59_apply, val_main_v56_apply, val_main_v58_apply, val_main_v57_apply, eg, v46_apply, val_main_v55_apply, eb,
    val_main_v54_apply, val_main_v53_apply, val_main_v51_apply, val_main_v49_apply, ec, v48_apply]
  unfold scaled
  rw [← div_head]
  rfl

theorem v60_apply (b : Fin 8) (t : Fin 4096) (j : Fin 384) : val_main_v60 (F := Ideal) a.x a.g a.w a.kg (ix3 b t j)
    = scaled (a.z b t (1928 + j.val)) (a.headSq 1928 b t j.val) * a.kg (ix1 (ch j.val)) := by
  have hb := b.isLt
  have ht := t.isLt
  have hj := j.isLt
  have ei : idx_main_v60 (ix3 b t j) = ix4 b t (⟨j.val / 64, by omega⟩ : Fin 6) (⟨j.val % 64, Nat.mod_lt _ (by decide)⟩ : Fin 64) := by
    funext d
    apply Fin.ext
    match d with
    | ⟨0, _⟩ => show ((b.val * 4096 + t.val) * 384 + j.val) / 1572864 = b.val; omega
    | ⟨1, _⟩ => show ((b.val * 4096 + t.val) * 384 + j.val) / 384 % 4096 = t.val; omega
    | ⟨2, _⟩ => show ((b.val * 4096 + t.val) * 384 + j.val) / 64 % 6 = j.val / 64; omega
    | ⟨3, _⟩ => show ((b.val * 4096 + t.val) * 384 + j.val) % 64 = j.val % 64; omega
  rw [val_main_v60_apply, ei, v59_apply]
  show scaled (a.z b t (1928 + (64 * (j.val / 64) + j.val % 64))) _ * _ = _
  rw [show 64 * (j.val / 64) + j.val % 64 = j.val by omega]
  rfl

/-- The keys, stored. -/
theorem v72_apply (b : Fin 8) (t : Fin 4096) (j : Fin 384) : val_main_v72 (F := Ideal) a.x a.g a.w a.kg (ix3 b t j) = a.sk b t j.val :=
  v60_apply a b t j

end Cert.ReferenceInIdeal.Hand

end

end
-- ==== Proof.InClaim.lean ====
/-
  The input-projection call's value claim: the kernel's eleven result arrays are its reference's.
-/
module

public import proofs.«01_k».proof.Defs
public import proofs.«01_k».proof.Proof.InArray
public import proofs.«01_k».proof.Proof.InRef
public import proofs.«01_k».proof.Proof.Gen.ReferenceInIdeal.Run

@[expose] public section

noncomputable section

namespace Cert.InClaim

open Idealize.ShloMosaic Idealize.ShloMosaic.TcCoe Idealize.SL.Sem
open Cert.InMath

/-- An index of a rank-three array is its three coordinates. -/
theorem coords3 {p q r : ℕ} (y : (⟨3, ![p, q, r]⟩ : Shape).Idx) : ∃ (b : Fin p) (t : Fin q) (x : Fin r), y = ix3 b t x :=
  ⟨y 0, y 1, y 2, by
    funext a
    match a with
    | 0 => rfl
    | 1 => rfl
    | 2 => rfl⟩

set_option maxHeartbeats 2000000 in
/-- Kernel and reference end with equal results, whatever the arguments. -/
theorem algebraic : @Cert.algebraic_KernelInIdeal_ReferenceInIdeal Cert.KernelInIdeal.Gen.facts Cert.ReferenceInIdeal.Gen.facts := by
  intro m ρ m' ρ' _ hag
  refine ⟨fun c => (Cert.KernelInIdeal.Gen.dats m 0 c).arrAt 6 Cert.KernelInIdeal.cfg0.N, fun c => (Cert.KernelInIdeal.Gen.dats m 0 c).arrAt 7 Cert.KernelInIdeal.cfg0.N, fun c => (Cert.KernelInIdeal.Gen.dats m 0 c).arrAt 8 Cert.KernelInIdeal.cfg0.N, fun c => (Cert.KernelInIdeal.Gen.dats m 0 c).arrAt 9 Cert.KernelInIdeal.cfg0.N, fun c => (Cert.KernelInIdeal.Gen.dats m 0 c).arrAt 10 Cert.KernelInIdeal.cfg0.N, fun c => (Cert.KernelInIdeal.Gen.dats m 0 c).arrAt 11 Cert.KernelInIdeal.cfg0.N, fun c => (Cert.KernelInIdeal.Gen.dats m 0 c).arrAt 12 Cert.KernelInIdeal.cfg0.N, fun c => (Cert.KernelInIdeal.Gen.dats m 0 c).arrAt 13 Cert.KernelInIdeal.cfg0.N, fun c => (Cert.KernelInIdeal.Gen.dats m 0 c).arrAt 14 Cert.KernelInIdeal.cfg0.N, fun c => (Cert.KernelInIdeal.Gen.dats m 0 c).arrAt 15 Cert.KernelInIdeal.cfg0.N, fun c => (Cert.KernelInIdeal.Gen.dats m 0 c).arrAt 16 Cert.KernelInIdeal.cfg0.N,
    Cert.KernelInIdeal.Value.run_blocks m ρ,
    (θ_run Cert.ReferenceInIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2⟩) (Cert.ReferenceInIdeal.Value.run (F := Ideal) m' ρ')⟩
  · refine Eq.trans ?_ (Cert.KernelInIdeal.Hand.arrAt_6 m c).symm
    rw [Cert.ReferenceInIdeal.Read.val_main_v22_eq, (hag c).1, (hag c).2.1, (hag c).2.2.1]
    funext y
    obtain ⟨b, t, x, rfl⟩ := coords3 (p := 8) (q := 4096) (r := 1024) y
    exact Cert.ReferenceInIdeal.Hand.v22_apply (Cert.KernelInIdeal.Hand.argsOf m c) b t x
  · refine Eq.trans ?_ (Cert.KernelInIdeal.Hand.arrAt_7 m c).symm
    rw [Cert.ReferenceInIdeal.Read.val_main_v65_eq, (hag c).1, (hag c).2.1, (hag c).2.2.1]
    funext y
    obtain ⟨b, t, x, rfl⟩ := coords3 (p := 8) (q := 4096) (r := 512) y
    exact Cert.ReferenceInIdeal.Hand.v65_apply (Cert.KernelInIdeal.Hand.argsOf m c) b t x
  · refine Eq.trans ?_ (Cert.KernelInIdeal.Hand.arrAt_8 m c).symm
    rw [Cert.ReferenceInIdeal.Read.val_main_v70_eq, (hag c).1, (hag c).2.1, (hag c).2.2.1]
    funext y
    obtain ⟨b, t, x, rfl⟩ := coords3 (p := 8) (q := 4096) (r := 512) y
    exact Cert.ReferenceInIdeal.Hand.v70_apply (Cert.KernelInIdeal.Hand.argsOf m c) b t x
  · refine Eq.trans ?_ (Cert.KernelInIdeal.Hand.arrAt_9 m c).symm
    rw [Cert.ReferenceInIdeal.Read.val_main_v71_eq, (hag c).1, (hag c).2.1, (hag c).2.2.1, (hag c).2.2.2.1]
    funext y
    obtain ⟨b, t, x, rfl⟩ := coords3 (p := 8) (q := 4096) (r := 384) y
    exact Cert.ReferenceInIdeal.Hand.v71_apply (Cert.KernelInIdeal.Hand.argsOf m c) b t x
  · refine Eq.trans ?_ (Cert.KernelInIdeal.Hand.arrAt_10 m c).symm
    rw [Cert.ReferenceInIdeal.Read.val_main_v72_eq, (hag c).1, (hag c).2.1, (hag c).2.2.1, (hag c).2.2.2.2]
    funext y
    obtain ⟨b, t, x, rfl⟩ := coords3 (p := 8) (q := 4096) (r := 384) y
    exact Cert.ReferenceInIdeal.Hand.v72_apply (Cert.KernelInIdeal.Hand.argsOf m c) b t x
  · refine Eq.trans ?_ (Cert.KernelInIdeal.Hand.arrAt_11 m c).symm
    rw [Cert.ReferenceInIdeal.Read.val_main_v74_eq, (hag c).1, (hag c).2.1, (hag c).2.2.1]
    funext y
    obtain ⟨b, t, x, rfl⟩ := coords3 (p := 8) (q := 4096) (r := 384) y
    exact Cert.ReferenceInIdeal.Hand.v74_apply (Cert.KernelInIdeal.Hand.argsOf m c) b t x
  · refine Eq.trans ?_ (Cert.KernelInIdeal.Hand.arrAt_12 m c).symm
    rw [Cert.ReferenceInIdeal.Read.val_main_v75_eq, (hag c).1, (hag c).2.1, (hag c).2.2.1]
    funext y
    obtain ⟨b, t, x, rfl⟩ := coords3 (p := 8) (q := 4096) (r := 256) y
    exact Cert.ReferenceInIdeal.Hand.v75_apply (Cert.KernelInIdeal.Hand.argsOf m c) b t x
  · refine Eq.trans ?_ (Cert.KernelInIdeal.Hand.arrAt_13 m c).symm
    rw [Cert.ReferenceInIdeal.Read.val_main_v76_eq, (hag c).1, (hag c).2.1, (hag c).2.2.1]
    funext y
    obtain ⟨b, t, x, rfl⟩ := coords3 (p := 8) (q := 8) (r := 4096) y
    exact Cert.ReferenceInIdeal.Hand.v76_apply (Cert.KernelInIdeal.Hand.argsOf m c) b t x
  · refine Eq.trans ?_ (Cert.KernelInIdeal.Hand.arrAt_14 m c).symm
    rw [Cert.ReferenceInIdeal.Read.val_main_v77_eq, (hag c).1, (hag c).2.1, (hag c).2.2.1]
    funext y
    obtain ⟨b, t, x, rfl⟩ := coords3 (p := 8) (q := 8) (r := 4096) y
    exact Cert.ReferenceInIdeal.Hand.v77_apply (Cert.KernelInIdeal.Hand.argsOf m c) b t x
  · refine Eq.trans ?_ (Cert.KernelInIdeal.Hand.arrAt_15 m c).symm
    rw [Cert.ReferenceInIdeal.Read.val_main_v23_eq, (hag c).1, (hag c).2.1, (hag c).2.2.1]
    funext y
    obtain ⟨b, t, x, rfl⟩ := coords3 (p := 8) (q := 4096) (r := 8) y
    exact Cert.ReferenceInIdeal.Hand.v23_apply (Cert.KernelInIdeal.Hand.argsOf m c) b t x
  · refine Eq.trans ?_ (Cert.KernelInIdeal.Hand.arrAt_16 m c).symm
    rw [Cert.ReferenceInIdeal.Read.val_main_v26_eq, (hag c).1, (hag c).2.1, (hag c).2.2.1]
    funext y
    obtain ⟨b, t, x, rfl⟩ := coords3 (p := 8) (q := 4096) (r := 8) y
    exact Cert.ReferenceInIdeal.Hand.v26_apply (Cert.KernelInIdeal.Hand.argsOf m c) b t x

end Cert.InClaim

end

end
-- ==== Proof.lean ====
/-
  The proof of the certificate's claim: the frames of the programs, that idealizing printed the same program again,
  and the equality of results of the attention call, of the output-projection-and-MLP call and of the input-projection
  call with their references.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.ReferenceFfnIdeal
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelFfnIdeal.Value
public import proofs.«01_k».proof.Proof.Gen.ReferenceFfnIdeal.Run
public import proofs.«01_k».proof.Proof.Gen.ReferenceFfnIdeal.Read
public import proofs.«01_k».proof.Proof.Gen.KernelInIdeal.Value
public import proofs.«01_k».proof.Proof.Gen.ReferenceInIdeal.Run
public import proofs.«01_k».proof.Proof.Gen.ReferenceInIdeal.Read
public import proofs.«01_k».proof.Proof.SbClaim
public import proofs.«01_k».proof.Proof.FfnClaim
public import proofs.«01_k».proof.Proof.InClaim
public import Idealize.ShloMosaic.Adequacy
public import Idealize.ShloMosaic.Init

@[expose] public section

noncomputable section

namespace Cert.Proof

open Idealize.ShloMosaic Idealize.SL.Sem

/-- The reference of the feed-forward call runs, leaves its arguments unchanged and holds no semaphore. -/
theorem frame_ref_ffn : @Cert.quiescent_ReferenceFfnIdeal Cert.ReferenceFfnIdeal.Gen.facts := fun m ρ _ =>
  (θ_run Cert.ReferenceFfnIdeal.defs _ _).mono (fun r h => ⟨fun c => (h c).2, sem_eq_zero_of_no_sems (by decide) r.2⟩)
    (Cert.ReferenceFfnIdeal.Value.run (F := Ideal) m ρ)

/-- The reference of the input-projection call runs, leaves its arguments unchanged and holds no semaphore. -/
theorem frame_ref_in : @Cert.quiescent_ReferenceInIdeal Cert.ReferenceInIdeal.Gen.facts := fun m ρ _ =>
  (θ_run Cert.ReferenceInIdeal.defs _ _).mono (fun r h => ⟨fun c => (h c).2.2.2.2.2.2.2.2.2.2.2, sem_eq_zero_of_no_sems (by decide) r.2⟩)
    (Cert.ReferenceInIdeal.Value.run (F := Ideal) m ρ)

/-- Every claim of the certificate. -/
theorem claim : Cert.Claim :=
  ⟨Cert.Kernel.Gen.facts, Cert.KernelIdeal.Gen.facts, Cert.ReferenceIdeal.Gen.facts, Cert.KernelFfn.Gen.facts,
    Cert.KernelFfnIdeal.Gen.facts, Cert.ReferenceFfnIdeal.Gen.facts, Cert.KernelIn.Gen.facts, Cert.KernelInIdeal.Gen.facts,
    Cert.ReferenceInIdeal.Gen.facts, Cert.SbClaim.preFacts,
    fun m ρ _ => Cert.Kernel.Gen.frame m ρ,
    fun m ρ _ => Cert.KernelIdeal.Gen.frame m ρ,
    fun m ρ _ => Cert.KernelIdeal.Gen.frame m ρ,
    Cert.SbClaim.frame_ref,
    fun m ρ _ => Cert.SbClaim.frame_ref m ρ trivial,
    fun m ρ _ => Cert.KernelFfn.Gen.frame m ρ,
    fun m ρ _ => Cert.KernelFfnIdeal.Gen.frame m ρ,
    frame_ref_ffn,
    fun m ρ _ => Cert.KernelIn.Gen.frame m ρ,
    fun m ρ _ => Cert.KernelInIdeal.Gen.frame m ρ,
    frame_ref_in,
    trivial,
    Cert.SbClaim.algebraic,
    trivial,
    Cert.FfnClaim.algebraic,
    trivial,
    Cert.InClaim.algebraic⟩

end Cert.Proof

end
